-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v179)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v179) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v179)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v179) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v40_0)) (v1 : (c : Dev Cert.Kernel4Ideal.nD) → Buf (Elt Ideal) ((c.tc : Thread Cert.Kernel4Ideal.nD Cert.Kernel4Ideal.τ).loc Cert.Kernel4Ideal.main_v43)) (v2 : (c : Dev Cert.Kernel4Ideal.nD) → Buf (Elt Ideal) ((c.tc : Thread Cert.Kernel4Ideal.nD Cert.Kernel4Ideal.τ).loc Cert.Kernel4Ideal.main_v44)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v40_0) = v0 c
          ∧ r.2.mem ((c.tc : Thread Cert.Kernel4Ideal.nD Cert.Kernel4Ideal.τ).loc Cert.Kernel4Ideal.main_v43) = v1 c
          ∧ r.2.mem ((c.tc : Thread Cert.Kernel4Ideal.nD Cert.Kernel4Ideal.τ).loc Cert.Kernel4Ideal.main_v44) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_v28) = v1 c
          ∧ r.2.mem ((c.tc : Thread Cert.Reference4Ideal.nD Cert.Reference4Ideal.τ).loc Cert.Reference4Ideal.main_v29) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v38)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v38) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite2.lean ====
abbrev S8x112x112x128 : Shape := ⟨4, ![8, 112, 112, 128]⟩
abbrev S64x128x3x3 : Shape := ⟨4, ![64, 128, 3, 3]⟩
abbrev S64 : Shape := ⟨1, ![64]⟩
abbrev S_ : Shape := ⟨0, ![]⟩

class Facts : Prop where
  bcast_S_S8x112x112x128 : S_.BroadcastsInDim S8x112x112x128 (![] : Fin 0 → Fin S8x112x112x128.rank)
  reducesTo_S8x112x112x128_S_d0_1_2_3 : S8x112x112x128.ReducesTo [0, 1, 2, 3] S_
  h_S_ : 0 < S_.numel
  bcast_S_S64x128x3x3 : S_.BroadcastsInDim S64x128x3x3 (![] : Fin 0 → Fin S64x128x3x3.rank)
  reducesTo_S64x128x3x3_S_d0_1_2_3 : S64x128x3x3.ReducesTo [0, 1, 2, 3] S_

variable [Facts]

def fn {F : FTy → Type} [FloatOps F] (main_arg0 : FVec F S8x112x112x128 .bf16) (main_arg1 : FVec F S64x128x3x3 .f32) (main_arg2 : FVec F S64 .f32) : IVec S_ 1 :=
  let main_v0 : FVec F S8x112x112x128 .bf16 := Host.absf main_arg0
  let main_cst : FVec F S_ .bf16 := constant S_ .bf16 0x7F80#16
  let main_v1 : FVec F S8x112x112x128 .bf16 := broadcastInDim S8x112x112x128 ![] bcast_S_S8x112x112x128 main_cst
  let main_v2 : IVec S8x112x112x128 1 := cmpf .olt main_v0 main_v1
  let main_c : IVec S_ 1 := constantI S_ 1 1#1
  let main_v3 : IVec S_ 1 := (fun x v => Host.reduce IntOp.andi x v reducesTo_S8x112x112x128_S_d0_1_2_3 h_S_) main_v2 main_c
  let main_v4 : FVec F S64x128x3x3 .f32 := Host.absf main_arg1
  let main_cst_0 : FVec F S_ .f32 := constant S_ .f32 0x7F800000#32
  let main_v5 : FVec F S64x128x3x3 .f32 := broadcastInDim S64x128x3x3 ![] bcast_S_S64x128x3x3 main_cst_0
  let main_v6 : IVec S64x128x3x3 1 := cmpf .olt main_v4 main_v5
  let main_c_1 : IVec S_ 1 := constantI S_ 1 1#1
  let main_v7 : IVec S_ 1 := (fun x v => Host.reduce IntOp.andi x v reducesTo_S64x128x3x3_S_d0_1_2_3 h_S_) main_v6 main_c_1
  let main_v8 : IVec S_ 1 := andi main_v3 main_v7
  main_v8
-- ==== Pre_finite3.lean ====
abbrev S8x56x56x128 : Shape := ⟨4, ![8, 56, 56, 128]⟩
abbrev S128x128x3x3 : Shape := ⟨4, ![128, 128, 3, 3]⟩
abbrev S128 : Shape := ⟨1, ![128]⟩
abbrev S_ : Shape := ⟨0, ![]⟩

class Facts : Prop where
  bcast_S_S8x56x56x128 : S_.BroadcastsInDim S8x56x56x128 (![] : Fin 0 → Fin S8x56x56x128.rank)
  reducesTo_S8x56x56x128_S_d0_1_2_3 : S8x56x56x128.ReducesTo [0, 1, 2, 3] S_
  h_S_ : 0 < S_.numel
  bcast_S_S128x128x3x3 : S_.BroadcastsInDim S128x128x3x3 (![] : Fin 0 → Fin S128x128x3x3.rank)
  reducesTo_S128x128x3x3_S_d0_1_2_3 : S128x128x3x3.ReducesTo [0, 1, 2, 3] S_

variable [Facts]

def fn {F : FTy → Type} [FloatOps F] (main_arg0 : FVec F S8x56x56x128 .f32) (main_arg1 : FVec F S128x128x3x3 .f32) (main_arg2 : FVec F S128 .f32) : IVec S_ 1 :=
  let main_v0 : FVec F S8x56x56x128 .f32 := Host.absf main_arg0
  let main_cst : FVec F S_ .f32 := constant S_ .f32 0x7F800000#32
  let main_v1 : FVec F S8x56x56x128 .f32 := broadcastInDim S8x56x56x128 ![] bcast_S_S8x56x56x128 main_cst
  let main_v2 : IVec S8x56x56x128 1 := cmpf .olt main_v0 main_v1
  let main_c : IVec S_ 1 := constantI S_ 1 1#1
  let main_v3 : IVec S_ 1 := (fun x v => Host.reduce IntOp.andi x v reducesTo_S8x56x56x128_S_d0_1_2_3 h_S_) main_v2 main_c
  let main_v4 : FVec F S128x128x3x3 .f32 := Host.absf main_arg1
  let main_cst_0 : FVec F S_ .f32 := constant S_ .f32 0x7F800000#32
  let main_v5 : FVec F S128x128x3x3 .f32 := broadcastInDim S128x128x3x3 ![] bcast_S_S128x128x3x3 main_cst_0
  let main_v6 : IVec S128x128x3x3 1 := cmpf .olt main_v4 main_v5
  let main_c_1 : IVec S_ 1 := constantI S_ 1 1#1
  let main_v7 : IVec S_ 1 := (fun x v => Host.reduce IntOp.andi x v reducesTo_S128x128x3x3_S_d0_1_2_3 h_S_) main_v6 main_c_1
  let main_v8 : IVec S_ 1 := andi main_v3 main_v7
  main_v8
-- ==== Kernel.lean ====
abbrev S8x3x224x224 : Shape := ⟨4, ![8, 3, 224, 224]⟩
abbrev S128x3x3x3 : Shape := ⟨4, ![128, 3, 3, 3]⟩
abbrev S128 : Shape := ⟨1, ![128]⟩
abbrev S128x128x3x3 : Shape := ⟨4, ![128, 128, 3, 3]⟩
abbrev S128x128x1x1 : Shape := ⟨4, ![128, 128, 1, 1]⟩
abbrev S128x128 : Shape := ⟨2, ![128, 128]⟩
abbrev S64x128x3x3 : Shape := ⟨4, ![64, 128, 3, 3]⟩
abbrev S64 : Shape := ⟨1, ![64]⟩
abbrev S3x64x3x3 : Shape := ⟨4, ![3, 64, 3, 3]⟩
abbrev S3 : Shape := ⟨1, ![3]⟩
abbrev S3x3x3x128 : Shape := ⟨4, ![3, 3, 3, 128]⟩
abbrev S_ : Shape := ⟨0, ![]⟩
abbrev S3x3x8x128 : Shape := ⟨4, ![3, 3, 8, 128]⟩
abbrev S72x128 : Shape := ⟨2, ![72, 128]⟩
abbrev S1x128 : Shape := ⟨2, ![1, 128]⟩
abbrev S8x112x112x128 : Shape := ⟨4, ![8, 112, 112, 128]⟩
abbrev S1x3x8x224 : Shape := ⟨4, ![1, 3, 8, 224]⟩
abbrev S1x3x56x224 : Shape := ⟨4, ![1, 3, 56, 224]⟩
abbrev S1x28x112x128 : Shape := ⟨4, ![1, 28, 112, 128]⟩
abbrev S1x3x1x224 : Shape := ⟨4, ![1, 3, 1, 224]⟩
abbrev S3x1x224 : Shape := ⟨3, ![3, 1, 224]⟩
abbrev S3x56x224 : Shape := ⟨3, ![3, 56, 224]⟩
abbrev S3x58x224 : Shape := ⟨3, ![3, 58, 224]⟩
abbrev S3x58x1 : Shape := ⟨3, ![3, 58, 1]⟩
abbrev S3x58x226 : Shape := ⟨3, ![3, 58, 226]⟩
abbrev S5x58x226 : Shape := ⟨3, ![5, 58, 226]⟩
abbrev S8x58x226 : Shape := ⟨3, ![8, 58, 226]⟩
abbrev S58x226x8 : Shape := ⟨3, ![58, 226, 8]⟩
abbrev S58x226x120 : Shape := ⟨3, ![58, 226, 120]⟩
abbrev S58x226x128 : Shape := ⟨3, ![58, 226, 128]⟩
abbrev S29x2x113x256 : Shape := ⟨4, ![29, 2, 113, 256]⟩
abbrev S28x1x113x256 : Shape := ⟨4, ![28, 1, 113, 256]⟩
abbrev S28x113x256 : Shape := ⟨3, ![28, 113, 256]⟩
abbrev S28x112x8 : Shape := ⟨3, ![28, 112, 8]⟩
abbrev S28x112x72 : Shape := ⟨3, ![28, 112, 72]⟩
abbrev S3136x72 : Shape := ⟨2, ![3136, 72]⟩
abbrev S3136x128 : Shape := ⟨2, ![3136, 128]⟩
abbrev S28x112x128 : Shape := ⟨3, ![28, 112, 128]⟩
abbrev S1x128x128 : Shape := ⟨3, ![1, 128, 128]⟩
abbrev S9x128x128 : Shape := ⟨3, ![9, 128, 128]⟩
abbrev S8x56x56x128 : Shape := ⟨4, ![8, 56, 56, 128]⟩
abbrev S1x1x112x128 : Shape := ⟨4, ![1, 1, 112, 128]⟩
abbrev S1x56x112x128 : Shape := ⟨4, ![1, 56, 112, 128]⟩
abbrev S1x28x56x128 : Shape := ⟨4, ![1, 28, 56, 128]⟩
abbrev S1x112x128 : Shape := ⟨3, ![1, 112, 128]⟩
abbrev S56x112x128 : Shape := ⟨3, ![56, 112, 128]⟩
abbrev S58x112x128 : Shape := ⟨3, ![58, 112, 128]⟩
abbrev S58x1x128 : Shape := ⟨3, ![58, 1, 128]⟩
abbrev S58x114x128 : Shape := ⟨3, ![58, 114, 128]⟩
abbrev S29x2x57x256 : Shape := ⟨4, ![29, 2, 57, 256]⟩
abbrev S1568x128 : Shape := ⟨2, ![1568, 128]⟩
abbrev S28x1x57x256 : Shape := ⟨4, ![28, 1, 57, 256]⟩
abbrev S28x57x256 : Shape := ⟨3, ![28, 57, 256]⟩
abbrev S28x56x128 : Shape := ⟨3, ![28, 56, 128]⟩
abbrev S25088x128 : Shape := ⟨2, ![25088, 128]⟩
abbrev S3136 : Shape := ⟨1, ![3136]⟩
abbrev S3136x1 : Shape := ⟨2, ![3136, 1]⟩
abbrev S16x128x128 : Shape := ⟨3, ![16, 128, 128]⟩
abbrev S8x56x2x56x256 : Shape := ⟨5, ![8, 56, 2, 56, 256]⟩
abbrev S1x1x56x128 : Shape := ⟨4, ![1, 1, 56, 128]⟩
abbrev S1x28x2x56x256 : Shape := ⟨5, ![1, 28, 2, 56, 256]⟩
abbrev S1x56x128 : Shape := ⟨3, ![1, 56, 128]⟩
abbrev S30x56x128 : Shape := ⟨3, ![30, 56, 128]⟩
abbrev S30x1x128 : Shape := ⟨3, ![30, 1, 128]⟩
abbrev S30x58x128 : Shape := ⟨3, ![30, 58, 128]⟩
abbrev S28x56x256 : Shape := ⟨3, ![28, 56, 256]⟩
abbrev S1x28x1x56x256 : Shape := ⟨5, ![1, 28, 1, 56, 256]⟩
abbrev S64x128x1x1 : Shape := ⟨4, ![64, 128, 1, 1]⟩
abbrev S64x128 : Shape := ⟨2, ![64, 128]⟩
abbrev S128x64 : Shape := ⟨2, ![128, 64]⟩
abbrev S1x128x64 : Shape := ⟨3, ![1, 128, 64]⟩
abbrev S16x128x64 : Shape := ⟨3, ![16, 128, 64]⟩
abbrev S1x64 : Shape := ⟨2, ![1, 64]⟩
abbrev S8x112x2x112x128 : Shape := ⟨5, ![8, 112, 2, 112, 128]⟩
abbrev S1x28x2x112x128 : Shape := ⟨5, ![1, 28, 2, 112, 128]⟩
abbrev S30x112x128 : Shape := ⟨3, ![30, 112, 128]⟩
abbrev S30x114x128 : Shape := ⟨3, ![30, 114, 128]⟩
abbrev S3136x64 : Shape := ⟨2, ![3136, 64]⟩
abbrev S28x112x64 : Shape := ⟨3, ![28, 112, 64]⟩
abbrev S1x28x1x112x128 : Shape := ⟨5, ![1, 28, 1, 112, 128]⟩
abbrev S8x224x224x64 : Shape := ⟨4, ![8, 224, 224, 64]⟩
abbrev S8x64x3x3 : Shape := ⟨4, ![8, 64, 3, 3]⟩
abbrev S8x64x1x1 : Shape := ⟨4, ![8, 64, 1, 1]⟩
abbrev S8x64 : Shape := ⟨2, ![8, 64]⟩
abbrev S64x8 : Shape := ⟨2, ![64, 8]⟩
abbrev S1x64x8 : Shape := ⟨3, ![1, 64, 8]⟩
abbrev S9x64x8 : Shape := ⟨3, ![9, 64, 8]⟩
abbrev S8 : Shape := ⟨1, ![8]⟩
abbrev S1x8 : Shape := ⟨2, ![1, 8]⟩
abbrev S8x7x8x128 : Shape := ⟨4, ![8, 7, 8, 128]⟩
abbrev S1x1x224x64 : Shape := ⟨4, ![1, 1, 224, 64]⟩
abbrev S1x32x224x64 : Shape := ⟨4, ![1, 32, 224, 64]⟩
abbrev S1x3x32x224 : Shape := ⟨4, ![1, 3, 32, 224]⟩
abbrev S1x1x8x128 : Shape := ⟨4, ![1, 1, 8, 128]⟩
abbrev S1x224x64 : Shape := ⟨3, ![1, 224, 64]⟩
abbrev S32x224x64 : Shape := ⟨3, ![32, 224, 64]⟩
abbrev S34x224x64 : Shape := ⟨3, ![34, 224, 64]⟩
abbrev S34x1x64 : Shape := ⟨3, ![34, 1, 64]⟩
abbrev S34x226x64 : Shape := ⟨3, ![34, 226, 64]⟩
abbrev S7168x8 : Shape := ⟨2, ![7168, 8]⟩
abbrev S7168x64 : Shape := ⟨2, ![7168, 64]⟩
abbrev S8x7168 : Shape := ⟨2, ![8, 7168]⟩
abbrev S8x32x224 : Shape := ⟨3, ![8, 32, 224]⟩
abbrev S3x32x224 : Shape := ⟨3, ![3, 32, 224]⟩
abbrev S1 : Shape := ⟨1, ![1]⟩
abbrev S1x1x1x1 : Shape := ⟨4, ![1, 1, 1, 1]⟩
abbrev S8x128 : Shape := ⟨2, ![8, 128]⟩

abbrev nBuf : Space → Nat
  | .hbm => 517
  | .vmem => 63
  | .smem => 0
  | _ => 0

abbrev hbmTy0_0 (i : Nat) : BufTy := match i % 128 with
  | 0 => ⟨S8x3x224x224, .f32⟩
  | 1 => ⟨S128x3x3x3, .f32⟩
  | 2 => ⟨S128, .f32⟩
  | 3 => ⟨S128x128x3x3, .f32⟩
  | 4 => ⟨S128, .f32⟩
  | 5 => ⟨S128x128x1x1, .f32⟩
  | 6 => ⟨S128, .f32⟩
  | 7 => ⟨S128x128, .f32⟩
  | 8 => ⟨S128x128x1x1, .f32⟩
  | 9 => ⟨S128, .f32⟩
  | 10 => ⟨S128x128x3x3, .f32⟩
  | 11 => ⟨S128, .f32⟩
  | 12 => ⟨S64x128x3x3, .f32⟩
  | 13 => ⟨S64, .f32⟩
  | 14 => ⟨S3x64x3x3, .f32⟩
  | 15 => ⟨S3, .f32⟩
  | 16 => ⟨S3x3x3x128, .f32⟩
  | 17 => ⟨S_, .i32⟩
  | 18 => ⟨S_, .f32⟩
  | 19 => ⟨S3x3x8x128, .f32⟩
  | 20 => ⟨S72x128, .f32⟩
  | 21 => ⟨S1x128, .f32⟩
  | 22 => ⟨S8x112x112x128, .f32⟩
  | 23 => ⟨S128x128x1x1, .f32⟩
  | 24 => ⟨S128x128, .f32⟩
  | 25 => ⟨S128x128, .f32⟩
  | 26 => ⟨S128x128x1x1, .f32⟩
  | 27 => ⟨S128x128, .f32⟩
  | 28 => ⟨S128x128, .f32⟩
  | 29 => ⟨S128x128x1x1, .f32⟩
  | 30 => ⟨S128x128, .f32⟩
  | 31 => ⟨S128x128, .f32⟩
  | 32 => ⟨S128x128x1x1, .f32⟩
  | 33 => ⟨S128x128, .f32⟩
  | 34 => ⟨S128x128, .f32⟩
  | 35 => ⟨S128x128x1x1, .f32⟩
  | 36 => ⟨S128x128, .f32⟩
  | 37 => ⟨S128x128, .f32⟩
  | 38 => ⟨S128x128x1x1, .f32⟩
  | 39 => ⟨S128x128, .f32⟩
  | 40 => ⟨S128x128, .f32⟩
  | 41 => ⟨S128x128x1x1, .f32⟩
  | 42 => ⟨S128x128, .f32⟩
  | 43 => ⟨S128x128, .f32⟩
  | 44 => ⟨S128x128x1x1, .f32⟩
  | 45 => ⟨S128x128, .f32⟩
  | 46 => ⟨S128x128, .f32⟩
  | 47 => ⟨S128x128x1x1, .f32⟩
  | 48 => ⟨S128x128, .f32⟩
  | 49 => ⟨S128x128, .f32⟩
  | 50 => ⟨S1x128x128, .f32⟩
  | 51 => ⟨S1x128x128, .f32⟩
  | 52 => ⟨S1x128x128, .f32⟩
  | 53 => ⟨S1x128x128, .f32⟩
  | 54 => ⟨S1x128x128, .f32⟩
  | 55 => ⟨S1x128x128, .f32⟩
  | 56 => ⟨S1x128x128, .f32⟩
  | 57 => ⟨S1x128x128, .f32⟩
  | 58 => ⟨S1x128x128, .f32⟩
  | 59 => ⟨S9x128x128, .f32⟩
  | 60 => ⟨S1x128, .f32⟩
  | 61 => ⟨S8x56x56x128, .f32⟩
  | 62 => ⟨S25088x128, .f32⟩
  | 63 => ⟨S128x128, .f32⟩
  | 64 => ⟨S128x128, .f32⟩
  | 65 => ⟨S128x128, .f32⟩
  | 66 => ⟨S128x128, .f32⟩
  | 67 => ⟨S1x128, .f32⟩
  | 68 => ⟨S1x128, .f32⟩
  | 69 => ⟨S25088x128, .f32⟩
  | 70 => ⟨S8x56x56x128, .f32⟩
  | 71 => ⟨S128x128x1x1, .f32⟩
  | 72 => ⟨S128x128, .f32⟩
  | 73 => ⟨S128x128, .f32⟩
  | 74 => ⟨S_, .f32⟩
  | 75 => ⟨S128x128, .f32⟩
  | 76 => ⟨S128x128, .f32⟩
  | 77 => ⟨S128x128x1x1, .f32⟩
  | 78 => ⟨S128x128, .f32⟩
  | 79 => ⟨S128x128, .f32⟩
  | 80 => ⟨S_, .f32⟩
  | 81 => ⟨S128x128, .f32⟩
  | 82 => ⟨S128x128, .f32⟩
  | 83 => ⟨S128x128x1x1, .f32⟩
  | 84 => ⟨S128x128, .f32⟩
  | 85 => ⟨S128x128, .f32⟩
  | 86 => ⟨S128x128, .f32⟩
  | 87 => ⟨S128x128x1x1, .f32⟩
  | 88 => ⟨S128x128, .f32⟩
  | 89 => ⟨S128x128, .f32⟩
  | 90 => ⟨S_, .f32⟩
  | 91 => ⟨S128x128, .f32⟩
  | 92 => ⟨S128x128, .f32⟩
  | 93 => ⟨S128x128x1x1, .f32⟩
  | 94 => ⟨S128x128, .f32⟩
  | 95 => ⟨S128x128, .f32⟩
  | 96 => ⟨S128x128, .f32⟩
  | 97 => ⟨S128x128x1x1, .f32⟩
  | 98 => ⟨S128x128, .f32⟩
  | 99 => ⟨S128x128, .f32⟩
  | 100 => ⟨S_, .f32⟩
  | 101 => ⟨S128x128, .f32⟩
  | 102 => ⟨S128x128, .f32⟩
  | 103 => ⟨S128x128x1x1, .f32⟩
  | 104 => ⟨S128x128, .f32⟩
  | 105 => ⟨S128x128, .f32⟩
  | 106 => ⟨S128x128, .f32⟩
  | 107 => ⟨S128x128x1x1, .f32⟩
  | 108 => ⟨S128x128, .f32⟩
  | 109 => ⟨S128x128, .f32⟩
  | 110 => ⟨S128x128, .f32⟩
  | 111 => ⟨S128x128x1x1, .f32⟩
  | 112 => ⟨S128x128, .f32⟩
  | 113 => ⟨S128x128, .f32⟩
  | 114 => ⟨S128x128, .f32⟩
  | 115 => ⟨S128x128x1x1, .f32⟩
  | 116 => ⟨S128x128, .f32⟩
  | 117 => ⟨S128x128, .f32⟩
  | 118 => ⟨S_, .f32⟩
  | 119 => ⟨S128x128, .f32⟩
  | 120 => ⟨S128x128, .f32⟩
  | 121 => ⟨S128x128x1x1, .f32⟩
  | 122 => ⟨S128x128, .f32⟩
  | 123 => ⟨S128x128, .f32⟩
  | 124 => ⟨S128x128, .f32⟩
  | 125 => ⟨S128x128x1x1, .f32⟩
  | 126 => ⟨S128x128, .f32⟩
  | 127 => ⟨S128x128, .f32⟩
  | _ => ⟨S8x3x224x224, .f32⟩

abbrev hbmTy0_1 (i : Nat) : BufTy := match i % 128 with
  | 0 => ⟨S_, .f32⟩
  | 1 => ⟨S128x128, .f32⟩
  | 2 => ⟨S128x128, .f32⟩
  | 3 => ⟨S128x128x1x1, .f32⟩
  | 4 => ⟨S128x128, .f32⟩
  | 5 => ⟨S128x128, .f32⟩
  | 6 => ⟨S_, .f32⟩
  | 7 => ⟨S128x128, .f32⟩
  | 8 => ⟨S128x128, .f32⟩
  | 9 => ⟨S128x128x1x1, .f32⟩
  | 10 => ⟨S128x128, .f32⟩
  | 11 => ⟨S128x128, .f32⟩
  | 12 => ⟨S128x128, .f32⟩
  | 13 => ⟨S128x128x1x1, .f32⟩
  | 14 => ⟨S128x128, .f32⟩
  | 15 => ⟨S128x128, .f32⟩
  | 16 => ⟨S128x128, .f32⟩
  | 17 => ⟨S128x128x1x1, .f32⟩
  | 18 => ⟨S128x128, .f32⟩
  | 19 => ⟨S128x128, .f32⟩
  | 20 => ⟨S128x128, .f32⟩
  | 21 => ⟨S128x128x1x1, .f32⟩
  | 22 => ⟨S128x128, .f32⟩
  | 23 => ⟨S128x128, .f32⟩
  | 24 => ⟨S_, .f32⟩
  | 25 => ⟨S128x128, .f32⟩
  | 26 => ⟨S128x128, .f32⟩
  | 27 => ⟨S128x128x1x1, .f32⟩
  | 28 => ⟨S128x128, .f32⟩
  | 29 => ⟨S128x128, .f32⟩
  | 30 => ⟨S128x128, .f32⟩
  | 31 => ⟨S128x128x1x1, .f32⟩
  | 32 => ⟨S128x128, .f32⟩
  | 33 => ⟨S128x128, .f32⟩
  | 34 => ⟨S_, .f32⟩
  | 35 => ⟨S128x128, .f32⟩
  | 36 => ⟨S128x128, .f32⟩
  | 37 => ⟨S128x128x1x1, .f32⟩
  | 38 => ⟨S128x128, .f32⟩
  | 39 => ⟨S128x128, .f32⟩
  | 40 => ⟨S128x128, .f32⟩
  | 41 => ⟨S128x128x1x1, .f32⟩
  | 42 => ⟨S128x128, .f32⟩
  | 43 => ⟨S128x128, .f32⟩
  | 44 => ⟨S_, .f32⟩
  | 45 => ⟨S128x128, .f32⟩
  | 46 => ⟨S128x128, .f32⟩
  | 47 => ⟨S128x128x1x1, .f32⟩
  | 48 => ⟨S128x128, .f32⟩
  | 49 => ⟨S128x128, .f32⟩
  | 50 => ⟨S128x128, .f32⟩
  | 51 => ⟨S128x128x1x1, .f32⟩
  | 52 => ⟨S128x128, .f32⟩
  | 53 => ⟨S128x128, .f32⟩
  | 54 => ⟨S128x128, .f32⟩
  | 55 => ⟨S128x128x1x1, .f32⟩
  | 56 => ⟨S128x128, .f32⟩
  | 57 => ⟨S128x128, .f32⟩
  | 58 => ⟨S128x128, .f32⟩
  | 59 => ⟨S128x128x1x1, .f32⟩
  | 60 => ⟨S128x128, .f32⟩
  | 61 => ⟨S128x128, .f32⟩
  | 62 => ⟨S_, .f32⟩
  | 63 => ⟨S128x128, .f32⟩
  | 64 => ⟨S128x128, .f32⟩
  | 65 => ⟨S128x128x1x1, .f32⟩
  | 66 => ⟨S128x128, .f32⟩
  | 67 => ⟨S128x128, .f32⟩
  | 68 => ⟨S_, .f32⟩
  | 69 => ⟨S128x128, .f32⟩
  | 70 => ⟨S128x128, .f32⟩
  | 71 => ⟨S128x128x1x1, .f32⟩
  | 72 => ⟨S128x128, .f32⟩
  | 73 => ⟨S128x128, .f32⟩
  | 74 => ⟨S128x128, .f32⟩
  | 75 => ⟨S128x128x1x1, .f32⟩
  | 76 => ⟨S128x128, .f32⟩
  | 77 => ⟨S128x128, .f32⟩
  | 78 => ⟨S_, .f32⟩
  | 79 => ⟨S128x128, .f32⟩
  | 80 => ⟨S128x128, .f32⟩
  | 81 => ⟨S128x128x1x1, .f32⟩
  | 82 => ⟨S128x128, .f32⟩
  | 83 => ⟨S128x128, .f32⟩
  | 84 => ⟨S128x128, .f32⟩
  | 85 => ⟨S128x128x1x1, .f32⟩
  | 86 => ⟨S128x128, .f32⟩
  | 87 => ⟨S128x128, .f32⟩
  | 88 => ⟨S128x128, .f32⟩
  | 89 => ⟨S128x128x1x1, .f32⟩
  | 90 => ⟨S128x128, .f32⟩
  | 91 => ⟨S128x128, .f32⟩
  | 92 => ⟨S128x128, .f32⟩
  | 93 => ⟨S128x128x1x1, .f32⟩
  | 94 => ⟨S128x128, .f32⟩
  | 95 => ⟨S128x128, .f32⟩
  | 96 => ⟨S_, .f32⟩
  | 97 => ⟨S128x128, .f32⟩
  | 98 => ⟨S128x128, .f32⟩
  | 99 => ⟨S128x128x1x1, .f32⟩
  | 100 => ⟨S128x128, .f32⟩
  | 101 => ⟨S128x128, .f32⟩
  | 102 => ⟨S128x128, .f32⟩
  | 103 => ⟨S128x128x1x1, .f32⟩
  | 104 => ⟨S128x128, .f32⟩
  | 105 => ⟨S128x128, .f32⟩
  | 106 => ⟨S_, .f32⟩
  | 107 => ⟨S128x128, .f32⟩
  | 108 => ⟨S128x128, .f32⟩
  | 109 => ⟨S128x128x1x1, .f32⟩
  | 110 => ⟨S128x128, .f32⟩
  | 111 => ⟨S128x128, .f32⟩
  | 112 => ⟨S128x128, .f32⟩
  | 113 => ⟨S128x128x1x1, .f32⟩
  | 114 => ⟨S128x128, .f32⟩
  | 115 => ⟨S128x128, .f32⟩
  | 116 => ⟨S_, .f32⟩
  | 117 => ⟨S128x128, .f32⟩
  | 118 => ⟨S128x128, .f32⟩
  | 119 => ⟨S1x128x128, .f32⟩
  | 120 => ⟨S1x128x128, .f32⟩
  | 121 => ⟨S1x128x128, .f32⟩
  | 122 => ⟨S1x128x128, .f32⟩
  | 123 => ⟨S1x128x128, .f32⟩
  | 124 => ⟨S1x128x128, .f32⟩
  | 125 => ⟨S1x128x128, .f32⟩
  | 126 => ⟨S1x128x128, .f32⟩
  | 127 => ⟨S1x128x128, .f32⟩
  | _ => ⟨S8x3x224x224, .f32⟩

abbrev hbmTy0_2 (i : Nat) : BufTy := match i % 128 with
  | 0 => ⟨S1x128x128, .f32⟩
  | 1 => ⟨S1x128x128, .f32⟩
  | 2 => ⟨S1x128x128, .f32⟩
  | 3 => ⟨S1x128x128, .f32⟩
  | 4 => ⟨S1x128x128, .f32⟩
  | 5 => ⟨S1x128x128, .f32⟩
  | 6 => ⟨S1x128x128, .f32⟩
  | 7 => ⟨S16x128x128, .f32⟩
  | 8 => ⟨S1x128, .f32⟩
  | 9 => ⟨S8x56x2x56x256, .bf16⟩
  | 10 => ⟨S8x112x112x128, .bf16⟩
  | 11 => ⟨S64x128x1x1, .f32⟩
  | 12 => ⟨S64x128, .f32⟩
  | 13 => ⟨S128x64, .f32⟩
  | 14 => ⟨S_, .f32⟩
  | 15 => ⟨S128x64, .f32⟩
  | 16 => ⟨S128x64, .f32⟩
  | 17 => ⟨S64x128x1x1, .f32⟩
  | 18 => ⟨S64x128, .f32⟩
  | 19 => ⟨S128x64, .f32⟩
  | 20 => ⟨S_, .f32⟩
  | 21 => ⟨S128x64, .f32⟩
  | 22 => ⟨S128x64, .f32⟩
  | 23 => ⟨S64x128x1x1, .f32⟩
  | 24 => ⟨S64x128, .f32⟩
  | 25 => ⟨S128x64, .f32⟩
  | 26 => ⟨S128x64, .f32⟩
  | 27 => ⟨S64x128x1x1, .f32⟩
  | 28 => ⟨S64x128, .f32⟩
  | 29 => ⟨S128x64, .f32⟩
  | 30 => ⟨S_, .f32⟩
  | 31 => ⟨S128x64, .f32⟩
  | 32 => ⟨S128x64, .f32⟩
  | 33 => ⟨S64x128x1x1, .f32⟩
  | 34 => ⟨S64x128, .f32⟩
  | 35 => ⟨S128x64, .f32⟩
  | 36 => ⟨S128x64, .f32⟩
  | 37 => ⟨S64x128x1x1, .f32⟩
  | 38 => ⟨S64x128, .f32⟩
  | 39 => ⟨S128x64, .f32⟩
  | 40 => ⟨S_, .f32⟩
  | 41 => ⟨S128x64, .f32⟩
  | 42 => ⟨S128x64, .f32⟩
  | 43 => ⟨S64x128x1x1, .f32⟩
  | 44 => ⟨S64x128, .f32⟩
  | 45 => ⟨S128x64, .f32⟩
  | 46 => ⟨S128x64, .f32⟩
  | 47 => ⟨S64x128x1x1, .f32⟩
  | 48 => ⟨S64x128, .f32⟩
  | 49 => ⟨S128x64, .f32⟩
  | 50 => ⟨S128x64, .f32⟩
  | 51 => ⟨S64x128x1x1, .f32⟩
  | 52 => ⟨S64x128, .f32⟩
  | 53 => ⟨S128x64, .f32⟩
  | 54 => ⟨S128x64, .f32⟩
  | 55 => ⟨S64x128x1x1, .f32⟩
  | 56 => ⟨S64x128, .f32⟩
  | 57 => ⟨S128x64, .f32⟩
  | 58 => ⟨S_, .f32⟩
  | 59 => ⟨S128x64, .f32⟩
  | 60 => ⟨S128x64, .f32⟩
  | 61 => ⟨S64x128x1x1, .f32⟩
  | 62 => ⟨S64x128, .f32⟩
  | 63 => ⟨S128x64, .f32⟩
  | 64 => ⟨S128x64, .f32⟩
  | 65 => ⟨S64x128x1x1, .f32⟩
  | 66 => ⟨S64x128, .f32⟩
  | 67 => ⟨S128x64, .f32⟩
  | 68 => ⟨S_, .f32⟩
  | 69 => ⟨S128x64, .f32⟩
  | 70 => ⟨S128x64, .f32⟩
  | 71 => ⟨S64x128x1x1, .f32⟩
  | 72 => ⟨S64x128, .f32⟩
  | 73 => ⟨S128x64, .f32⟩
  | 74 => ⟨S_, .f32⟩
  | 75 => ⟨S128x64, .f32⟩
  | 76 => ⟨S128x64, .f32⟩
  | 77 => ⟨S64x128x1x1, .f32⟩
  | 78 => ⟨S64x128, .f32⟩
  | 79 => ⟨S128x64, .f32⟩
  | 80 => ⟨S128x64, .f32⟩
  | 81 => ⟨S64x128x1x1, .f32⟩
  | 82 => ⟨S64x128, .f32⟩
  | 83 => ⟨S128x64, .f32⟩
  | 84 => ⟨S128x64, .f32⟩
  | 85 => ⟨S64x128x1x1, .f32⟩
  | 86 => ⟨S64x128, .f32⟩
  | 87 => ⟨S128x64, .f32⟩
  | 88 => ⟨S128x64, .f32⟩
  | 89 => ⟨S64x128x1x1, .f32⟩
  | 90 => ⟨S64x128, .f32⟩
  | 91 => ⟨S128x64, .f32⟩
  | 92 => ⟨S_, .f32⟩
  | 93 => ⟨S128x64, .f32⟩
  | 94 => ⟨S128x64, .f32⟩
  | 95 => ⟨S64x128x1x1, .f32⟩
  | 96 => ⟨S64x128, .f32⟩
  | 97 => ⟨S128x64, .f32⟩
  | 98 => ⟨S128x64, .f32⟩
  | 99 => ⟨S64x128x1x1, .f32⟩
  | 100 => ⟨S64x128, .f32⟩
  | 101 => ⟨S128x64, .f32⟩
  | 102 => ⟨S_, .f32⟩
  | 103 => ⟨S128x64, .f32⟩
  | 104 => ⟨S128x64, .f32⟩
  | 105 => ⟨S64x128x1x1, .f32⟩
  | 106 => ⟨S64x128, .f32⟩
  | 107 => ⟨S128x64, .f32⟩
  | 108 => ⟨S128x64, .f32⟩
  | 109 => ⟨S64x128x1x1, .f32⟩
  | 110 => ⟨S64x128, .f32⟩
  | 111 => ⟨S128x64, .f32⟩
  | 112 => ⟨S_, .f32⟩
  | 113 => ⟨S128x64, .f32⟩
  | 114 => ⟨S128x64, .f32⟩
  | 115 => ⟨S64x128x1x1, .f32⟩
  | 116 => ⟨S64x128, .f32⟩
  | 117 => ⟨S128x64, .f32⟩
  | 118 => ⟨S128x64, .f32⟩
  | 119 => ⟨S64x128x1x1, .f32⟩
  | 120 => ⟨S64x128, .f32⟩
  | 121 => ⟨S128x64, .f32⟩
  | 122 => ⟨S128x64, .f32⟩
  | 123 => ⟨S64x128x1x1, .f32⟩
  | 124 => ⟨S64x128, .f32⟩
  | 125 => ⟨S128x64, .f32⟩
  | 126 => ⟨S128x64, .f32⟩
  | 127 => ⟨S64x128x1x1, .f32⟩
  | _ => ⟨S8x3x224x224, .f32⟩

abbrev hbmTy0_3 (i : Nat) : BufTy := match i % 128 with
  | 0 => ⟨S64x128, .f32⟩
  | 1 => ⟨S128x64, .f32⟩
  | 2 => ⟨S_, .f32⟩
  | 3 => ⟨S128x64, .f32⟩
  | 4 => ⟨S128x64, .f32⟩
  | 5 => ⟨S64x128x1x1, .f32⟩
  | 6 => ⟨S64x128, .f32⟩
  | 7 => ⟨S128x64, .f32⟩
  | 8 => ⟨S_, .f32⟩
  | 9 => ⟨S128x64, .f32⟩
  | 10 => ⟨S128x64, .f32⟩
  | 11 => ⟨S64x128x1x1, .f32⟩
  | 12 => ⟨S64x128, .f32⟩
  | 13 => ⟨S128x64, .f32⟩
  | 14 => ⟨S128x64, .f32⟩
  | 15 => ⟨S64x128x1x1, .f32⟩
  | 16 => ⟨S64x128, .f32⟩
  | 17 => ⟨S128x64, .f32⟩
  | 18 => ⟨S_, .f32⟩
  | 19 => ⟨S128x64, .f32⟩
  | 20 => ⟨S128x64, .f32⟩
  | 21 => ⟨S64x128x1x1, .f32⟩
  | 22 => ⟨S64x128, .f32⟩
  | 23 => ⟨S128x64, .f32⟩
  | 24 => ⟨S128x64, .f32⟩
  | 25 => ⟨S64x128x1x1, .f32⟩
  | 26 => ⟨S64x128, .f32⟩
  | 27 => ⟨S128x64, .f32⟩
  | 28 => ⟨S128x64, .f32⟩
  | 29 => ⟨S64x128x1x1, .f32⟩
  | 30 => ⟨S64x128, .f32⟩
  | 31 => ⟨S128x64, .f32⟩
  | 32 => ⟨S128x64, .f32⟩
  | 33 => ⟨S64x128x1x1, .f32⟩
  | 34 => ⟨S64x128, .f32⟩
  | 35 => ⟨S128x64, .f32⟩
  | 36 => ⟨S_, .f32⟩
  | 37 => ⟨S128x64, .f32⟩
  | 38 => ⟨S128x64, .f32⟩
  | 39 => ⟨S64x128x1x1, .f32⟩
  | 40 => ⟨S64x128, .f32⟩
  | 41 => ⟨S128x64, .f32⟩
  | 42 => ⟨S128x64, .f32⟩
  | 43 => ⟨S64x128x1x1, .f32⟩
  | 44 => ⟨S64x128, .f32⟩
  | 45 => ⟨S128x64, .f32⟩
  | 46 => ⟨S_, .f32⟩
  | 47 => ⟨S128x64, .f32⟩
  | 48 => ⟨S128x64, .f32⟩
  | 49 => ⟨S64x128x1x1, .f32⟩
  | 50 => ⟨S64x128, .f32⟩
  | 51 => ⟨S128x64, .f32⟩
  | 52 => ⟨S128x64, .f32⟩
  | 53 => ⟨S64x128x1x1, .f32⟩
  | 54 => ⟨S64x128, .f32⟩
  | 55 => ⟨S128x64, .f32⟩
  | 56 => ⟨S_, .f32⟩
  | 57 => ⟨S128x64, .f32⟩
  | 58 => ⟨S128x64, .f32⟩
  | 59 => ⟨S1x128x64, .f32⟩
  | 60 => ⟨S1x128x64, .f32⟩
  | 61 => ⟨S1x128x64, .f32⟩
  | 62 => ⟨S1x128x64, .f32⟩
  | 63 => ⟨S1x128x64, .f32⟩
  | 64 => ⟨S1x128x64, .f32⟩
  | 65 => ⟨S1x128x64, .f32⟩
  | 66 => ⟨S1x128x64, .f32⟩
  | 67 => ⟨S1x128x64, .f32⟩
  | 68 => ⟨S1x128x64, .f32⟩
  | 69 => ⟨S1x128x64, .f32⟩
  | 70 => ⟨S1x128x64, .f32⟩
  | 71 => ⟨S1x128x64, .f32⟩
  | 72 => ⟨S1x128x64, .f32⟩
  | 73 => ⟨S1x128x64, .f32⟩
  | 74 => ⟨S1x128x64, .f32⟩
  | 75 => ⟨S16x128x64, .f32⟩
  | 76 => ⟨S1x64, .f32⟩
  | 77 => ⟨S8x112x2x112x128, .bf16⟩
  | 78 => ⟨S8x224x224x64, .bf16⟩
  | 79 => ⟨S_, .i32⟩
  | 80 => ⟨S_, .f32⟩
  | 81 => ⟨S8x64x3x3, .f32⟩
  | 82 => ⟨S8x64x1x1, .f32⟩
  | 83 => ⟨S8x64, .f32⟩
  | 84 => ⟨S64x8, .f32⟩
  | 85 => ⟨S8x64x1x1, .f32⟩
  | 86 => ⟨S8x64, .f32⟩
  | 87 => ⟨S64x8, .f32⟩
  | 88 => ⟨S8x64x1x1, .f32⟩
  | 89 => ⟨S8x64, .f32⟩
  | 90 => ⟨S64x8, .f32⟩
  | 91 => ⟨S8x64x1x1, .f32⟩
  | 92 => ⟨S8x64, .f32⟩
  | 93 => ⟨S64x8, .f32⟩
  | 94 => ⟨S8x64x1x1, .f32⟩
  | 95 => ⟨S8x64, .f32⟩
  | 96 => ⟨S64x8, .f32⟩
  | 97 => ⟨S8x64x1x1, .f32⟩
  | 98 => ⟨S8x64, .f32⟩
  | 99 => ⟨S64x8, .f32⟩
  | 100 => ⟨S8x64x1x1, .f32⟩
  | 101 => ⟨S8x64, .f32⟩
  | 102 => ⟨S64x8, .f32⟩
  | 103 => ⟨S8x64x1x1, .f32⟩
  | 104 => ⟨S8x64, .f32⟩
  | 105 => ⟨S64x8, .f32⟩
  | 106 => ⟨S8x64x1x1, .f32⟩
  | 107 => ⟨S8x64, .f32⟩
  | 108 => ⟨S64x8, .f32⟩
  | 109 => ⟨S1x64x8, .f32⟩
  | 110 => ⟨S1x64x8, .f32⟩
  | 111 => ⟨S1x64x8, .f32⟩
  | 112 => ⟨S1x64x8, .f32⟩
  | 113 => ⟨S1x64x8, .f32⟩
  | 114 => ⟨S1x64x8, .f32⟩
  | 115 => ⟨S1x64x8, .f32⟩
  | 116 => ⟨S1x64x8, .f32⟩
  | 117 => ⟨S1x64x8, .f32⟩
  | 118 => ⟨S9x64x8, .f32⟩
  | 119 => ⟨S_, .i32⟩
  | 120 => ⟨S_, .f32⟩
  | 121 => ⟨S8, .f32⟩
  | 122 => ⟨S1x8, .f32⟩
  | 123 => ⟨S8x3x224x224, .f32⟩
  | 124 => ⟨S8x7x8x128, .f32⟩
  | 125 => ⟨S_, .f32⟩
  | 126 => ⟨S_, .f32⟩
  | 127 => ⟨S_, .f32⟩
  | _ => ⟨S8x3x224x224, .f32⟩

abbrev hbmTy0_4 (i : Nat) : BufTy := match i % 128 with
  | 0 => ⟨S_, .f32⟩
  | 1 => ⟨S_, .f32⟩
  | 2 => ⟨S_, .f32⟩
  | 3 => ⟨S_, .f32⟩
  | 4 => ⟨S_, .f32⟩
  | _ => ⟨S8x3x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x3x224x224, .f32⟩

abbrev bufTy : (tb : Table) → Fin (tcTables nBuf tb) → BufTy
  | .hbm, ⟨i, _⟩ => hbmTy i
  | .local _ .vmem, ⟨0, _⟩ => ⟨S1x3x8x224, .f32⟩
  | .local _ .vmem, ⟨1, _⟩ => ⟨S1x3x8x224, .f32⟩
  | .local _ .vmem, ⟨2, _⟩ => ⟨S1x3x56x224, .f32⟩
  | .local _ .vmem, ⟨3, _⟩ => ⟨S1x3x56x224, .f32⟩
  | .local _ .vmem, ⟨4, _⟩ => ⟨S1x3x8x224, .f32⟩
  | .local _ .vmem, ⟨5, _⟩ => ⟨S1x3x8x224, .f32⟩
  | .local _ .vmem, ⟨6, _⟩ => ⟨S72x128, .f32⟩
  | .local _ .vmem, ⟨7, _⟩ => ⟨S1x128, .f32⟩
  | .local _ .vmem, ⟨8, _⟩ => ⟨S1x28x112x128, .f32⟩
  | .local _ .vmem, ⟨9, _⟩ => ⟨S1x28x112x128, .f32⟩
  | .local _ .vmem, ⟨10, _⟩ => ⟨S1x1x112x128, .f32⟩
  | .local _ .vmem, ⟨11, _⟩ => ⟨S1x1x112x128, .f32⟩
  | .local _ .vmem, ⟨12, _⟩ => ⟨S1x56x112x128, .f32⟩
  | .local _ .vmem, ⟨13, _⟩ => ⟨S1x56x112x128, .f32⟩
  | .local _ .vmem, ⟨14, _⟩ => ⟨S1x1x112x128, .f32⟩
  | .local _ .vmem, ⟨15, _⟩ => ⟨S1x1x112x128, .f32⟩
  | .local _ .vmem, ⟨16, _⟩ => ⟨S9x128x128, .f32⟩
  | .local _ .vmem, ⟨17, _⟩ => ⟨S1x128, .f32⟩
  | .local _ .vmem, ⟨18, _⟩ => ⟨S1x28x56x128, .f32⟩
  | .local _ .vmem, ⟨19, _⟩ => ⟨S1x28x56x128, .f32⟩
  | .local _ .vmem, ⟨20, _⟩ => ⟨S3136x128, .f32⟩
  | .local _ .vmem, ⟨21, _⟩ => ⟨S3136x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S128x128, .f32⟩
  | .local _ .vmem, ⟨26, _⟩ => ⟨S1x128, .f32⟩
  | .local _ .vmem, ⟨27, _⟩ => ⟨S3136x128, .f32⟩
  | .local _ .vmem, ⟨28, _⟩ => ⟨S3136x128, .f32⟩
  | .local _ .vmem, ⟨29, _⟩ => ⟨S1x1x56x128, .f32⟩
  | .local _ .vmem, ⟨30, _⟩ => ⟨S1x1x56x128, .f32⟩
  | .local _ .vmem, ⟨31, _⟩ => ⟨S1x28x56x128, .f32⟩
  | .local _ .vmem, ⟨32, _⟩ => ⟨S1x28x56x128, .f32⟩
  | .local _ .vmem, ⟨33, _⟩ => ⟨S1x1x56x128, .f32⟩
  | .local _ .vmem, ⟨34, _⟩ => ⟨S1x1x56x128, .f32⟩
  | .local _ .vmem, ⟨35, _⟩ => ⟨S16x128x128, .f32⟩
  | .local _ .vmem, ⟨36, _⟩ => ⟨S1x128, .f32⟩
  | .local _ .vmem, ⟨37, _⟩ => ⟨S1x28x2x56x256, .bf16⟩
  | .local _ .vmem, ⟨38, _⟩ => ⟨S1x28x2x56x256, .bf16⟩
  | .local _ .vmem, ⟨39, _⟩ => ⟨S1x1x112x128, .bf16⟩
  | .local _ .vmem, ⟨40, _⟩ => ⟨S1x1x112x128, .bf16⟩
  | .local _ .vmem, ⟨41, _⟩ => ⟨S1x28x112x128, .bf16⟩
  | .local _ .vmem, ⟨42, _⟩ => ⟨S1x28x112x128, .bf16⟩
  | .local _ .vmem, ⟨43, _⟩ => ⟨S1x1x112x128, .bf16⟩
  | .local _ .vmem, ⟨44, _⟩ => ⟨S1x1x112x128, .bf16⟩
  | .local _ .vmem, ⟨45, _⟩ => ⟨S16x128x64, .f32⟩
  | .local _ .vmem, ⟨46, _⟩ => ⟨S1x64, .f32⟩
  | .local _ .vmem, ⟨47, _⟩ => ⟨S1x28x2x112x128, .bf16⟩
  | .local _ .vmem, ⟨48, _⟩ => ⟨S1x28x2x112x128, .bf16⟩
  | .local _ .vmem, ⟨49, _⟩ => ⟨S1x1x224x64, .bf16⟩
  | .local _ .vmem, ⟨50, _⟩ => ⟨S1x1x224x64, .bf16⟩
  | .local _ .vmem, ⟨51, _⟩ => ⟨S1x32x224x64, .bf16⟩
  | .local _ .vmem, ⟨52, _⟩ => ⟨S1x32x224x64, .bf16⟩
  | .local _ .vmem, ⟨53, _⟩ => ⟨S1x1x224x64, .bf16⟩
  | .local _ .vmem, ⟨54, _⟩ => ⟨S1x1x224x64, .bf16⟩
  | .local _ .vmem, ⟨55, _⟩ => ⟨S9x64x8, .f32⟩
  | .local _ .vmem, ⟨56, _⟩ => ⟨S1x8, .f32⟩
  | .local _ .vmem, ⟨57, _⟩ => ⟨S1x3x32x224, .f32⟩
  | .local _ .vmem, ⟨58, _⟩ => ⟨S1x3x32x224, .f32⟩
  | .local _ .vmem, ⟨59, _⟩ => ⟨S1x3x32x224, .f32⟩
  | .local _ .vmem, ⟨60, _⟩ => ⟨S1x3x32x224, .f32⟩
  | .local _ .vmem, ⟨61, _⟩ => ⟨S1x1x8x128, .f32⟩
  | .local _ .vmem, ⟨62, _⟩ => ⟨S1x1x8x128, .f32⟩
  | _, _ => ⟨S8x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_0 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_1 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_2 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_cst_3 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_cst_4 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_cst_5 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_cst_6 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_cst_7 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_cst_8 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_cst_9 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_cst_10 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_cst_11 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_cst_12 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_cst_13 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_cst_14 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_cst_15 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_cst_16 : Ref sig .tc := ⟨.hbm, 276, rfl⟩
abbrev main_v241 : Ref sig .tc := ⟨.hbm, 277, rfl⟩
abbrev main_v242 : Ref sig .tc := ⟨.hbm, 278, rfl⟩
abbrev main_v243 : Ref sig .tc := ⟨.hbm, 279, rfl⟩
abbrev main_v244 : Ref sig .tc := ⟨.hbm, 280, rfl⟩
abbrev main_v245 : Ref sig .tc := ⟨.hbm, 281, rfl⟩
abbrev main_v246 : Ref sig .tc := ⟨.hbm, 282, rfl⟩
abbrev main_v247 : Ref sig .tc := ⟨.hbm, 283, rfl⟩
abbrev main_v248 : Ref sig .tc := ⟨.hbm, 284, rfl⟩
abbrev main_v249 : Ref sig .tc := ⟨.hbm, 285, rfl⟩
abbrev main_cst_17 : Ref sig .tc := ⟨.hbm, 286, rfl⟩
abbrev main_v250 : Ref sig .tc := ⟨.hbm, 287, rfl⟩
abbrev main_v251 : Ref sig .tc := ⟨.hbm, 288, rfl⟩
abbrev main_v252 : Ref sig .tc := ⟨.hbm, 289, rfl⟩
abbrev main_v253 : Ref sig .tc := ⟨.hbm, 290, rfl⟩
abbrev main_v254 : Ref sig .tc := ⟨.hbm, 291, rfl⟩
abbrev main_v255 : Ref sig .tc := ⟨.hbm, 292, rfl⟩
abbrev main_v256 : Ref sig .tc := ⟨.hbm, 293, rfl⟩
abbrev main_v257 : Ref sig .tc := ⟨.hbm, 294, rfl⟩
abbrev main_v258 : Ref sig .tc := ⟨.hbm, 295, rfl⟩
abbrev main_cst_18 : Ref sig .tc := ⟨.hbm, 296, rfl⟩
abbrev main_v259 : Ref sig .tc := ⟨.hbm, 297, rfl⟩
abbrev main_v260 : Ref sig .tc := ⟨.hbm, 298, rfl⟩
abbrev main_v261 : Ref sig .tc := ⟨.hbm, 299, rfl⟩
abbrev main_v262 : Ref sig .tc := ⟨.hbm, 300, rfl⟩
abbrev main_v263 : Ref sig .tc := ⟨.hbm, 301, rfl⟩
abbrev main_v264 : Ref sig .tc := ⟨.hbm, 302, rfl⟩
abbrev main_v265 : Ref sig .tc := ⟨.hbm, 303, rfl⟩
abbrev main_v266 : Ref sig .tc := ⟨.hbm, 304, rfl⟩
abbrev main_v267 : Ref sig .tc := ⟨.hbm, 305, rfl⟩
abbrev main_v268 : Ref sig .tc := ⟨.hbm, 306, rfl⟩
abbrev main_v269 : Ref sig .tc := ⟨.hbm, 307, rfl⟩
abbrev main_v270 : Ref sig .tc := ⟨.hbm, 308, rfl⟩
abbrev main_v271 : Ref sig .tc := ⟨.hbm, 309, rfl⟩
abbrev main_v272 : Ref sig .tc := ⟨.hbm, 310, rfl⟩
abbrev main_v273 : Ref sig .tc := ⟨.hbm, 311, rfl⟩
abbrev main_v274 : Ref sig .tc := ⟨.hbm, 312, rfl⟩
abbrev main_v275 : Ref sig .tc := ⟨.hbm, 313, rfl⟩
abbrev main_cst_19 : Ref sig .tc := ⟨.hbm, 314, rfl⟩
abbrev main_v276 : Ref sig .tc := ⟨.hbm, 315, rfl⟩
abbrev main_v277 : Ref sig .tc := ⟨.hbm, 316, rfl⟩
abbrev main_v278 : Ref sig .tc := ⟨.hbm, 317, rfl⟩
abbrev main_v279 : Ref sig .tc := ⟨.hbm, 318, rfl⟩
abbrev main_v280 : Ref sig .tc := ⟨.hbm, 319, rfl⟩
abbrev main_v281 : Ref sig .tc := ⟨.hbm, 320, rfl⟩
abbrev main_v282 : Ref sig .tc := ⟨.hbm, 321, rfl⟩
abbrev main_v283 : Ref sig .tc := ⟨.hbm, 322, rfl⟩
abbrev main_v284 : Ref sig .tc := ⟨.hbm, 323, rfl⟩
abbrev main_cst_20 : Ref sig .tc := ⟨.hbm, 324, rfl⟩
abbrev main_v285 : Ref sig .tc := ⟨.hbm, 325, rfl⟩
abbrev main_v286 : Ref sig .tc := ⟨.hbm, 326, rfl⟩
abbrev main_v287 : Ref sig .tc := ⟨.hbm, 327, rfl⟩
abbrev main_v288 : Ref sig .tc := ⟨.hbm, 328, rfl⟩
abbrev main_v289 : Ref sig .tc := ⟨.hbm, 329, rfl⟩
abbrev main_cst_21 : Ref sig .tc := ⟨.hbm, 330, rfl⟩
abbrev main_v290 : Ref sig .tc := ⟨.hbm, 331, rfl⟩
abbrev main_v291 : Ref sig .tc := ⟨.hbm, 332, rfl⟩
abbrev main_v292 : Ref sig .tc := ⟨.hbm, 333, rfl⟩
abbrev main_v293 : Ref sig .tc := ⟨.hbm, 334, rfl⟩
abbrev main_v294 : Ref sig .tc := ⟨.hbm, 335, rfl⟩
abbrev main_v295 : Ref sig .tc := ⟨.hbm, 336, rfl⟩
abbrev main_v296 : Ref sig .tc := ⟨.hbm, 337, rfl⟩
abbrev main_v297 : Ref sig .tc := ⟨.hbm, 338, rfl⟩
abbrev main_v298 : Ref sig .tc := ⟨.hbm, 339, rfl⟩
abbrev main_v299 : Ref sig .tc := ⟨.hbm, 340, rfl⟩
abbrev main_v300 : Ref sig .tc := ⟨.hbm, 341, rfl⟩
abbrev main_v301 : Ref sig .tc := ⟨.hbm, 342, rfl⟩
abbrev main_v302 : Ref sig .tc := ⟨.hbm, 343, rfl⟩
abbrev main_v303 : Ref sig .tc := ⟨.hbm, 344, rfl⟩
abbrev main_v304 : Ref sig .tc := ⟨.hbm, 345, rfl⟩
abbrev main_v305 : Ref sig .tc := ⟨.hbm, 346, rfl⟩
abbrev main_v306 : Ref sig .tc := ⟨.hbm, 347, rfl⟩
abbrev main_cst_22 : Ref sig .tc := ⟨.hbm, 348, rfl⟩
abbrev main_v307 : Ref sig .tc := ⟨.hbm, 349, rfl⟩
abbrev main_v308 : Ref sig .tc := ⟨.hbm, 350, rfl⟩
abbrev main_v309 : Ref sig .tc := ⟨.hbm, 351, rfl⟩
abbrev main_v310 : Ref sig .tc := ⟨.hbm, 352, rfl⟩
abbrev main_v311 : Ref sig .tc := ⟨.hbm, 353, rfl⟩
abbrev main_v312 : Ref sig .tc := ⟨.hbm, 354, rfl⟩
abbrev main_v313 : Ref sig .tc := ⟨.hbm, 355, rfl⟩
abbrev main_v314 : Ref sig .tc := ⟨.hbm, 356, rfl⟩
abbrev main_v315 : Ref sig .tc := ⟨.hbm, 357, rfl⟩
abbrev main_cst_23 : Ref sig .tc := ⟨.hbm, 358, rfl⟩
abbrev main_v316 : Ref sig .tc := ⟨.hbm, 359, rfl⟩
abbrev main_v317 : Ref sig .tc := ⟨.hbm, 360, rfl⟩
abbrev main_v318 : Ref sig .tc := ⟨.hbm, 361, rfl⟩
abbrev main_v319 : Ref sig .tc := ⟨.hbm, 362, rfl⟩
abbrev main_v320 : Ref sig .tc := ⟨.hbm, 363, rfl⟩
abbrev main_v321 : Ref sig .tc := ⟨.hbm, 364, rfl⟩
abbrev main_v322 : Ref sig .tc := ⟨.hbm, 365, rfl⟩
abbrev main_v323 : Ref sig .tc := ⟨.hbm, 366, rfl⟩
abbrev main_v324 : Ref sig .tc := ⟨.hbm, 367, rfl⟩
abbrev main_cst_24 : Ref sig .tc := ⟨.hbm, 368, rfl⟩
abbrev main_v325 : Ref sig .tc := ⟨.hbm, 369, rfl⟩
abbrev main_v326 : Ref sig .tc := ⟨.hbm, 370, rfl⟩
abbrev main_v327 : Ref sig .tc := ⟨.hbm, 371, rfl⟩
abbrev main_v328 : Ref sig .tc := ⟨.hbm, 372, rfl⟩
abbrev main_v329 : Ref sig .tc := ⟨.hbm, 373, rfl⟩
abbrev main_v330 : Ref sig .tc := ⟨.hbm, 374, rfl⟩
abbrev main_v331 : Ref sig .tc := ⟨.hbm, 375, rfl⟩
abbrev main_v332 : Ref sig .tc := ⟨.hbm, 376, rfl⟩
abbrev main_v333 : Ref sig .tc := ⟨.hbm, 377, rfl⟩
abbrev main_v334 : Ref sig .tc := ⟨.hbm, 378, rfl⟩
abbrev main_v335 : Ref sig .tc := ⟨.hbm, 379, rfl⟩
abbrev main_v336 : Ref sig .tc := ⟨.hbm, 380, rfl⟩
abbrev main_v337 : Ref sig .tc := ⟨.hbm, 381, rfl⟩
abbrev main_v338 : Ref sig .tc := ⟨.hbm, 382, rfl⟩
abbrev main_v339 : Ref sig .tc := ⟨.hbm, 383, rfl⟩
abbrev main_v340 : Ref sig .tc := ⟨.hbm, 384, rfl⟩
abbrev main_v341 : Ref sig .tc := ⟨.hbm, 385, rfl⟩
abbrev main_cst_25 : Ref sig .tc := ⟨.hbm, 386, rfl⟩
abbrev main_v342 : Ref sig .tc := ⟨.hbm, 387, rfl⟩
abbrev main_v343 : Ref sig .tc := ⟨.hbm, 388, rfl⟩
abbrev main_v344 : Ref sig .tc := ⟨.hbm, 389, rfl⟩
abbrev main_v345 : Ref sig .tc := ⟨.hbm, 390, rfl⟩
abbrev main_v346 : Ref sig .tc := ⟨.hbm, 391, rfl⟩
abbrev main_cst_26 : Ref sig .tc := ⟨.hbm, 392, rfl⟩
abbrev main_v347 : Ref sig .tc := ⟨.hbm, 393, rfl⟩
abbrev main_v348 : Ref sig .tc := ⟨.hbm, 394, rfl⟩
abbrev main_v349 : Ref sig .tc := ⟨.hbm, 395, rfl⟩
abbrev main_v350 : Ref sig .tc := ⟨.hbm, 396, rfl⟩
abbrev main_v351 : Ref sig .tc := ⟨.hbm, 397, rfl⟩
abbrev main_v352 : Ref sig .tc := ⟨.hbm, 398, rfl⟩
abbrev main_v353 : Ref sig .tc := ⟨.hbm, 399, rfl⟩
abbrev main_v354 : Ref sig .tc := ⟨.hbm, 400, rfl⟩
abbrev main_v355 : Ref sig .tc := ⟨.hbm, 401, rfl⟩
abbrev main_cst_27 : Ref sig .tc := ⟨.hbm, 402, rfl⟩
abbrev main_v356 : Ref sig .tc := ⟨.hbm, 403, rfl⟩
abbrev main_v357 : Ref sig .tc := ⟨.hbm, 404, rfl⟩
abbrev main_v358 : Ref sig .tc := ⟨.hbm, 405, rfl⟩
abbrev main_v359 : Ref sig .tc := ⟨.hbm, 406, rfl⟩
abbrev main_v360 : Ref sig .tc := ⟨.hbm, 407, rfl⟩
abbrev main_v361 : Ref sig .tc := ⟨.hbm, 408, rfl⟩
abbrev main_v362 : Ref sig .tc := ⟨.hbm, 409, rfl⟩
abbrev main_v363 : Ref sig .tc := ⟨.hbm, 410, rfl⟩
abbrev main_v364 : Ref sig .tc := ⟨.hbm, 411, rfl⟩
abbrev main_v365 : Ref sig .tc := ⟨.hbm, 412, rfl⟩
abbrev main_v366 : Ref sig .tc := ⟨.hbm, 413, rfl⟩
abbrev main_v367 : Ref sig .tc := ⟨.hbm, 414, rfl⟩
abbrev main_v368 : Ref sig .tc := ⟨.hbm, 415, rfl⟩
abbrev main_v369 : Ref sig .tc := ⟨.hbm, 416, rfl⟩
abbrev main_v370 : Ref sig .tc := ⟨.hbm, 417, rfl⟩
abbrev main_v371 : Ref sig .tc := ⟨.hbm, 418, rfl⟩
abbrev main_v372 : Ref sig .tc := ⟨.hbm, 419, rfl⟩
abbrev main_cst_28 : Ref sig .tc := ⟨.hbm, 420, rfl⟩
abbrev main_v373 : Ref sig .tc := ⟨.hbm, 421, rfl⟩
abbrev main_v374 : Ref sig .tc := ⟨.hbm, 422, rfl⟩
abbrev main_v375 : Ref sig .tc := ⟨.hbm, 423, rfl⟩
abbrev main_v376 : Ref sig .tc := ⟨.hbm, 424, rfl⟩
abbrev main_v377 : Ref sig .tc := ⟨.hbm, 425, rfl⟩
abbrev main_v378 : Ref sig .tc := ⟨.hbm, 426, rfl⟩
abbrev main_v379 : Ref sig .tc := ⟨.hbm, 427, rfl⟩
abbrev main_v380 : Ref sig .tc := ⟨.hbm, 428, rfl⟩
abbrev main_v381 : Ref sig .tc := ⟨.hbm, 429, rfl⟩
abbrev main_cst_29 : Ref sig .tc := ⟨.hbm, 430, rfl⟩
abbrev main_v382 : Ref sig .tc := ⟨.hbm, 431, rfl⟩
abbrev main_v383 : Ref sig .tc := ⟨.hbm, 432, rfl⟩
abbrev main_v384 : Ref sig .tc := ⟨.hbm, 433, rfl⟩
abbrev main_v385 : Ref sig .tc := ⟨.hbm, 434, rfl⟩
abbrev main_v386 : Ref sig .tc := ⟨.hbm, 435, rfl⟩
abbrev main_v387 : Ref sig .tc := ⟨.hbm, 436, rfl⟩
abbrev main_v388 : Ref sig .tc := ⟨.hbm, 437, rfl⟩
abbrev main_v389 : Ref sig .tc := ⟨.hbm, 438, rfl⟩
abbrev main_v390 : Ref sig .tc := ⟨.hbm, 439, rfl⟩
abbrev main_cst_30 : Ref sig .tc := ⟨.hbm, 440, rfl⟩
abbrev main_v391 : Ref sig .tc := ⟨.hbm, 441, rfl⟩
abbrev main_v392 : Ref sig .tc := ⟨.hbm, 442, rfl⟩
abbrev main_v393 : Ref sig .tc := ⟨.hbm, 443, rfl⟩
abbrev main_v394 : Ref sig .tc := ⟨.hbm, 444, rfl⟩
abbrev main_v395 : Ref sig .tc := ⟨.hbm, 445, rfl⟩
abbrev main_v396 : Ref sig .tc := ⟨.hbm, 446, rfl⟩
abbrev main_v397 : Ref sig .tc := ⟨.hbm, 447, rfl⟩
abbrev main_v398 : Ref sig .tc := ⟨.hbm, 448, rfl⟩
abbrev main_v399 : Ref sig .tc := ⟨.hbm, 449, rfl⟩
abbrev main_v400 : Ref sig .tc := ⟨.hbm, 450, rfl⟩
abbrev main_v401 : Ref sig .tc := ⟨.hbm, 451, rfl⟩
abbrev main_v402 : Ref sig .tc := ⟨.hbm, 452, rfl⟩
abbrev main_v403 : Ref sig .tc := ⟨.hbm, 453, rfl⟩
abbrev main_v404 : Ref sig .tc := ⟨.hbm, 454, rfl⟩
abbrev main_v405 : Ref sig .tc := ⟨.hbm, 455, rfl⟩
abbrev main_v406 : Ref sig .tc := ⟨.hbm, 456, rfl⟩
abbrev main_v407 : Ref sig .tc := ⟨.hbm, 457, rfl⟩
abbrev main_v408 : Ref sig .tc := ⟨.hbm, 458, rfl⟩
abbrev main_v409 : Ref sig .tc := ⟨.hbm, 459, rfl⟩
abbrev main_v410 : Ref sig .tc := ⟨.hbm, 460, rfl⟩
abbrev main_v411 : Ref sig .tc := ⟨.hbm, 461, rfl⟩
abbrev main_v412 : Ref sig .tc := ⟨.hbm, 462, rfl⟩
abbrev main_c_31 : Ref sig .tc := ⟨.hbm, 463, rfl⟩
abbrev main_call1_v0 : Ref sig .tc := ⟨.hbm, 464, rfl⟩
abbrev main_v413 : Ref sig .tc := ⟨.hbm, 465, rfl⟩
abbrev main_v414 : Ref sig .tc := ⟨.hbm, 466, rfl⟩
abbrev main_v415 : Ref sig .tc := ⟨.hbm, 467, rfl⟩
abbrev main_v416 : Ref sig .tc := ⟨.hbm, 468, rfl⟩
abbrev main_v417 : Ref sig .tc := ⟨.hbm, 469, rfl⟩
abbrev main_v418 : Ref sig .tc := ⟨.hbm, 470, rfl⟩
abbrev main_v419 : Ref sig .tc := ⟨.hbm, 471, rfl⟩
abbrev main_v420 : Ref sig .tc := ⟨.hbm, 472, rfl⟩
abbrev main_v421 : Ref sig .tc := ⟨.hbm, 473, rfl⟩
abbrev main_v422 : Ref sig .tc := ⟨.hbm, 474, rfl⟩
abbrev main_v423 : Ref sig .tc := ⟨.hbm, 475, rfl⟩
abbrev main_v424 : Ref sig .tc := ⟨.hbm, 476, rfl⟩
abbrev main_v425 : Ref sig .tc := ⟨.hbm, 477, rfl⟩
abbrev main_v426 : Ref sig .tc := ⟨.hbm, 478, rfl⟩
abbrev main_v427 : Ref sig .tc := ⟨.hbm, 479, rfl⟩
abbrev main_v428 : Ref sig .tc := ⟨.hbm, 480, rfl⟩
abbrev main_v429 : Ref sig .tc := ⟨.hbm, 481, rfl⟩
abbrev main_v430 : Ref sig .tc := ⟨.hbm, 482, rfl⟩
abbrev main_v431 : Ref sig .tc := ⟨.hbm, 483, rfl⟩
abbrev main_v432 : Ref sig .tc := ⟨.hbm, 484, rfl⟩
abbrev main_v433 : Ref sig .tc := ⟨.hbm, 485, rfl⟩
abbrev main_v434 : Ref sig .tc := ⟨.hbm, 486, rfl⟩
abbrev main_v435 : Ref sig .tc := ⟨.hbm, 487, rfl⟩
abbrev main_v436 : Ref sig .tc := ⟨.hbm, 488, rfl⟩
abbrev main_v437 : Ref sig .tc := ⟨.hbm, 489, rfl⟩
abbrev main_v438 : Ref sig .tc := ⟨.hbm, 490, rfl⟩
abbrev main_v439 : Ref sig .tc := ⟨.hbm, 491, rfl⟩
abbrev main_v440 : Ref sig .tc := ⟨.hbm, 492, rfl⟩
abbrev main_v441 : Ref sig .tc := ⟨.hbm, 493, rfl⟩
abbrev main_v442 : Ref sig .tc := ⟨.hbm, 494, rfl⟩
abbrev main_v443 : Ref sig .tc := ⟨.hbm, 495, rfl⟩
abbrev main_v444 : Ref sig .tc := ⟨.hbm, 496, rfl⟩
abbrev main_v445 : Ref sig .tc := ⟨.hbm, 497, rfl⟩
abbrev main_v446 : Ref sig .tc := ⟨.hbm, 498, rfl⟩
abbrev main_v447 : Ref sig .tc := ⟨.hbm, 499, rfl⟩
abbrev main_v448 : Ref sig .tc := ⟨.hbm, 500, rfl⟩
abbrev main_v449 : Ref sig .tc := ⟨.hbm, 501, rfl⟩
abbrev main_v450 : Ref sig .tc := ⟨.hbm, 502, rfl⟩
abbrev main_c_32 : Ref sig .tc := ⟨.hbm, 503, rfl⟩
abbrev main_call2_v0 : Ref sig .tc := ⟨.hbm, 504, rfl⟩
abbrev main_v451 : Ref sig .tc := ⟨.hbm, 505, rfl⟩
abbrev main_v452 : Ref sig .tc := ⟨.hbm, 506, rfl⟩
abbrev main_v453_0 : Ref sig .tc := ⟨.hbm, 507, rfl⟩
abbrev main_v453_1 : Ref sig .tc := ⟨.hbm, 508, rfl⟩
abbrev main_cst_33 : Ref sig .tc := ⟨.hbm, 509, rfl⟩
abbrev main_v454 : Ref sig .tc := ⟨.hbm, 510, rfl⟩
abbrev main_cst_34 : Ref sig .tc := ⟨.hbm, 511, rfl⟩
abbrev main_v455 : Ref sig .tc := ⟨.hbm, 512, rfl⟩
abbrev main_cst_35 : Ref sig .tc := ⟨.hbm, 513, rfl⟩
abbrev main_v456 : Ref sig .tc := ⟨.hbm, 514, rfl⟩
abbrev main_cst_36 : Ref sig .tc := ⟨.hbm, 515, rfl⟩
abbrev main_v457 : Ref sig .tc := ⟨.hbm, 516, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg6_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg5_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg2_1 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg5_1 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg1_1 : Ref sig .tc := ⟨.vmem, 52, rfl⟩
abbrev cc5_stg2_0 : Ref sig .tc := ⟨.vmem, 53, rfl⟩
abbrev cc5_stg2_1 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg5_1 : Ref sig .tc := ⟨.vmem, 58, rfl⟩
abbrev cc5_stg6_0 : Ref sig .tc := ⟨.vmem, 59, rfl⟩
abbrev cc5_stg6_1 : Ref sig .tc := ⟨.vmem, 60, rfl⟩
abbrev cc5_stg7_0 : Ref sig .tc := ⟨.vmem, 61, rfl⟩
abbrev cc5_stg7_1 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem6_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem4_0 : DmaSem sig := 36
abbrev cc3_sem5_0 : DmaSem sig := 37
abbrev cc3_sem5_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem2_1 : DmaSem sig := 44
abbrev cc4_sem3_0 : DmaSem sig := 45
abbrev cc4_sem4_0 : DmaSem sig := 46
abbrev cc4_sem5_0 : DmaSem sig := 47
abbrev cc4_sem5_1 : DmaSem sig := 48
abbrev cc5_sem0_0 : DmaSem sig := 49
abbrev cc5_sem0_1 : DmaSem sig := 50
abbrev cc5_sem1_0 : DmaSem sig := 51
abbrev cc5_sem1_1 : DmaSem sig := 52
abbrev cc5_sem2_0 : DmaSem sig := 53
abbrev cc5_sem2_1 : DmaSem sig := 54
abbrev cc5_sem3_0 : DmaSem sig := 55
abbrev cc5_sem4_0 : DmaSem sig := 56
abbrev cc5_sem5_0 : DmaSem sig := 57
abbrev cc5_sem5_1 : DmaSem sig := 58
abbrev cc5_sem6_0 : DmaSem sig := 59
abbrev cc5_sem6_1 : DmaSem sig := 60
abbrev cc5_sem7_0 : DmaSem sig := 61
abbrev cc5_sem7_1 : DmaSem sig := 62

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c56_i32 : BitVec 32 := 56#32
  let v0 : BitVec 32 := Scalar.muli c56_i32 arg1
  let c1_i32 : BitVec 32 := 1#32
  let v1 : BitVec 32 := Scalar.subi v0 c1_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let v19 : BitVec 32 := Scalar.maxsi v18 c0_i32_5
  let c0_i32_6 : BitVec 32 := 0#32
  let c0_i32_7 : BitVec 32 := 0#32
  let c0_i32_8 : BitVec 32 := 0#32
  ![arg0.toNat, c0_i32_6.toNat, v19.toNat, c0_i32_7.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c56_i32 : BitVec 32 := 56#32
  let v0 : BitVec 32 := Scalar.muli c56_i32 arg1
  let c56_i32_0 : BitVec 32 := 56#32
  let v1 : BitVec 32 := Scalar.addi v0 c56_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c27_i32 : BitVec 32 := 27#32
  let v19 : BitVec 32 := Scalar.minsi v18 c27_i32
  let c0_i32_5 : BitVec 32 := 0#32
  let c0_i32_6 : BitVec 32 := 0#32
  let c0_i32_7 : BitVec 32 := 0#32
  ![arg0.toNat, c0_i32_5.toNat, v19.toNat, c0_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x3x8x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x56x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x8x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S72x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x28x112x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 2], ![false, false]⟩

def cc1_transform_0 (i : grid1.Coords) : Fin 4 → Nat :=
  let arg0 : BitVec 32 := BitVec.ofNat 32 (i 0).val
  let arg1 : BitVec 32 := BitVec.ofNat 32 (i 1).val
  let c56_i32 : BitVec 32 := 56#32
  let v0 : BitVec 32 := Scalar.muli c56_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c56_i32 : BitVec 32 := 56#32
  let v0 : BitVec 32 := Scalar.muli c56_i32 arg1
  let c56_i32_0 : BitVec 32 := 56#32
  let v1 : BitVec 32 := Scalar.addi v0 c56_i32_0
  let c111_i32 : BitVec 32 := 111#32
  let v2 : BitVec 32 := Scalar.minsi v1 c111_i32
  let c0_i32 : BitVec 32 := 0#32
  let c0_i32_1 : BitVec 32 := 0#32
  let c0_i32_2 : BitVec 32 := 0#32
  ![arg0.toNat, v2.toNat, c0_i32.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x112x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x56x112x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x112x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S9x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x28x56x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3136x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S3136x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨2, ![8, 2], ![false, false]⟩

def cc3_transform_0 (i : grid3.Coords) : Fin 4 → Nat :=
  let arg0 : BitVec 32 := BitVec.ofNat 32 (i 0).val
  let arg1 : BitVec 32 := BitVec.ofNat 32 (i 1).val
  let c28_i32 : BitVec 32 := 28#32
  let v0 : BitVec 32 := Scalar.muli c28_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let c28_i32 : BitVec 32 := 28#32
  let v0 : BitVec 32 := Scalar.muli c28_i32 arg1
  let c28_i32_0 : BitVec 32 := 28#32
  let v1 : BitVec 32 := Scalar.addi v0 c28_i32_0
  let c55_i32 : BitVec 32 := 55#32
  let v2 : BitVec 32 := Scalar.minsi v1 c55_i32
  let c0_i32 : BitVec 32 := 0#32
  let c0_i32_1 : BitVec 32 := 0#32
  let c0_i32_2 : BitVec 32 := 0#32
  ![arg0.toNat, v2.toNat, c0_i32.toNat, c0_i32_1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage3_0 : Fin 2 → Memref sig .tc .vmem S1x1x56x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x28x56x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x1x56x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S16x128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x28x2x56x256 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨2, ![8, 4], ![false, false]⟩

def cc4_transform_0 (i : grid4.Coords) : Fin 4 → Nat :=
  let arg0 : BitVec 32 := BitVec.ofNat 32 (i 0).val
  let arg1 : BitVec 32 := BitVec.ofNat 32 (i 1).val
  let c28_i32 : BitVec 32 := 28#32
  let v0 : BitVec 32 := Scalar.muli c28_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc4_transform_1 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc4_transform_2 (i : grid4.Coords) : Fin 4 → Nat :=
  let arg0 : BitVec 32 := BitVec.ofNat 32 (i 0).val
  let arg1 : BitVec 32 := BitVec.ofNat 32 (i 1).val
  let c28_i32 : BitVec 32 := 28#32
  let v0 : BitVec 32 := Scalar.muli c28_i32 arg1
  let c28_i32_0 : BitVec 32 := 28#32
  let v1 : BitVec 32 := Scalar.addi v0 c28_i32_0
  let c111_i32 : BitVec 32 := 111#32
  let v2 : BitVec 32 := Scalar.minsi v1 c111_i32
  let c0_i32 : BitVec 32 := 0#32
  let c0_i32_1 : BitVec 32 := 0#32
  let c0_i32_2 : BitVec 32 := 0#32
  ![arg0.toNat, v2.toNat, c0_i32.toNat, c0_i32_1.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage4_0 : Fin 2 → Memref sig .tc .vmem S1x1x112x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x28x112x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x1x112x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 1 → Memref sig .tc .vmem S16x128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 2 → Memref sig .tc .vmem S1x28x2x112x128 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev grid5 : Pipeline.Grid := ⟨2, ![8, 7], ![false, false]⟩

def cc5_transform_0 (i : grid5.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli c32_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc5_transform_1 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc5_transform_2 (i : grid5.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli c32_i32 arg1
  let c32_i32_0 : BitVec 32 := 32#32
  let v1 : BitVec 32 := Scalar.addi v0 c32_i32_0
  let c223_i32 : BitVec 32 := 223#32
  let v2 : BitVec 32 := Scalar.minsi v1 c223_i32
  let c0_i32 : BitVec 32 := 0#32
  let c0_i32_1 : BitVec 32 := 0#32
  let c0_i32_2 : BitVec 32 := 0#32
  ![arg0.toNat, v2.toNat, c0_i32.toNat, c0_i32_1.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc5_transform_6 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc5_transform_7 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage5_0 : Fin 2 → Memref sig .tc .vmem S1x1x224x64 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x32x224x64 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1x1x224x64 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 1 → Memref sig .tc .vmem S9x64x8 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S1x8 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 2 → Memref sig .tc .vmem S1x3x32x224 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev stage5_6 : Fin 2 → Memref sig .tc .vmem S1x3x32x224 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true]

abbrev stage5_7 : Fin 2 → Memref sig .tc .vmem S1x1x8x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, true]
-- ==== ReferenceIdeal.lean ====
abbrev S8x3x224x224 : Shape := ⟨4, ![8, 3, 224, 224]⟩
abbrev S128x3x3x3 : Shape := ⟨4, ![128, 3, 3, 3]⟩
abbrev S128 : Shape := ⟨1, ![128]⟩
abbrev S128x128x3x3 : Shape := ⟨4, ![128, 128, 3, 3]⟩
abbrev S128x128x1x1 : Shape := ⟨4, ![128, 128, 1, 1]⟩
abbrev S128x128 : Shape := ⟨2, ![128, 128]⟩
abbrev S64x128x3x3 : Shape := ⟨4, ![64, 128, 3, 3]⟩
abbrev S64 : Shape := ⟨1, ![64]⟩
abbrev S3x64x3x3 : Shape := ⟨4, ![3, 64, 3, 3]⟩
abbrev S3 : Shape := ⟨1, ![3]⟩
abbrev S8x224x224x3 : Shape := ⟨4, ![8, 224, 224, 3]⟩
abbrev S_ : Shape := ⟨0, ![]⟩
abbrev S8x226x226x3 : Shape := ⟨4, ![8, 226, 226, 3]⟩
abbrev S8x112x112x3 : Shape := ⟨4, ![8, 112, 112, 3]⟩
abbrev S8x112x112x27 : Shape := ⟨4, ![8, 112, 112, 27]⟩
abbrev S8x12544x27 : Shape := ⟨3, ![8, 12544, 27]⟩
abbrev S3x3x3x128 : Shape := ⟨4, ![3, 3, 3, 128]⟩
abbrev S27x128 : Shape := ⟨2, ![27, 128]⟩
abbrev S8x12544x128 : Shape := ⟨3, ![8, 12544, 128]⟩
abbrev S1x1x128 : Shape := ⟨3, ![1, 1, 128]⟩
abbrev S8x112x112x128 : Shape := ⟨4, ![8, 112, 112, 128]⟩
abbrev S8x114x114x128 : Shape := ⟨4, ![8, 114, 114, 128]⟩
abbrev S8x56x56x128 : Shape := ⟨4, ![8, 56, 56, 128]⟩
abbrev S8x56x56x1152 : Shape := ⟨4, ![8, 56, 56, 1152]⟩
abbrev S8x3136x1152 : Shape := ⟨3, ![8, 3136, 1152]⟩
abbrev S3x3x128x128 : Shape := ⟨4, ![3, 3, 128, 128]⟩
abbrev S1152x128 : Shape := ⟨2, ![1152, 128]⟩
abbrev S8x3136x128 : Shape := ⟨3, ![8, 3136, 128]⟩
abbrev S8x3136 : Shape := ⟨2, ![8, 3136]⟩
abbrev S8x3136x1 : Shape := ⟨3, ![8, 3136, 1]⟩
abbrev S1 : Shape := ⟨1, ![1]⟩
abbrev S1x1x1 : Shape := ⟨3, ![1, 1, 1]⟩
abbrev S8x56x2x56x128 : Shape := ⟨5, ![8, 56, 2, 56, 128]⟩
abbrev S8x112x56x128 : Shape := ⟨4, ![8, 112, 56, 128]⟩
abbrev S8x112x56x2x128 : Shape := ⟨5, ![8, 112, 56, 2, 128]⟩
abbrev S8x112x112x1152 : Shape := ⟨4, ![8, 112, 112, 1152]⟩
abbrev S8x12544x1152 : Shape := ⟨3, ![8, 12544, 1152]⟩
abbrev S8x112x2x112x128 : Shape := ⟨5, ![8, 112, 2, 112, 128]⟩
abbrev S8x224x112x128 : Shape := ⟨4, ![8, 224, 112, 128]⟩
abbrev S8x224x112x2x128 : Shape := ⟨5, ![8, 224, 112, 2, 128]⟩
abbrev S8x224x224x128 : Shape := ⟨4, ![8, 224, 224, 128]⟩
abbrev S8x226x226x128 : Shape := ⟨4, ![8, 226, 226, 128]⟩
abbrev S8x224x224x1152 : Shape := ⟨4, ![8, 224, 224, 1152]⟩
abbrev S8x50176x1152 : Shape := ⟨3, ![8, 50176, 1152]⟩
abbrev S3x3x128x64 : Shape := ⟨4, ![3, 3, 128, 64]⟩
abbrev S1152x64 : Shape := ⟨2, ![1152, 64]⟩
abbrev S8x50176x64 : Shape := ⟨3, ![8, 50176, 64]⟩
abbrev S1x1x64 : Shape := ⟨3, ![1, 1, 64]⟩
abbrev S8x224x224x64 : Shape := ⟨4, ![8, 224, 224, 64]⟩
abbrev S8x226x226x64 : Shape := ⟨4, ![8, 226, 226, 64]⟩
abbrev S8x224x224x576 : Shape := ⟨4, ![8, 224, 224, 576]⟩
abbrev S8x50176x576 : Shape := ⟨3, ![8, 50176, 576]⟩
abbrev S3x3x64x3 : Shape := ⟨4, ![3, 3, 64, 3]⟩
abbrev S576x3 : Shape := ⟨2, ![576, 3]⟩
abbrev S8x50176x3 : Shape := ⟨3, ![8, 50176, 3]⟩
abbrev S1x1x3 : Shape := ⟨3, ![1, 1, 3]⟩
abbrev S8x3x50176 : Shape := ⟨3, ![8, 3, 50176]⟩

abbrev nBuf : Space → Nat
  | .hbm => 219
  | .vmem => 0
  | .smem => 0
  | _ => 0

abbrev hbmTy0_0 (i : Nat) : BufTy := match i % 128 with
  | 0 => ⟨S8x3x224x224, .f32⟩
  | 1 => ⟨S128x3x3x3, .f32⟩
  | 2 => ⟨S128, .f32⟩
  | 3 => ⟨S128x128x3x3, .f32⟩
  | 4 => ⟨S128, .f32⟩
  | 5 => ⟨S128x128x1x1, .f32⟩
  | 6 => ⟨S128, .f32⟩
  | 7 => ⟨S128x128, .f32⟩
  | 8 => ⟨S128x128x1x1, .f32⟩
  | 9 => ⟨S128, .f32⟩
  | 10 => ⟨S128x128x3x3, .f32⟩
  | 11 => ⟨S128, .f32⟩
  | 12 => ⟨S64x128x3x3, .f32⟩
  | 13 => ⟨S64, .f32⟩
  | 14 => ⟨S3x64x3x3, .f32⟩
  | 15 => ⟨S3, .f32⟩
  | 16 => ⟨S8x224x224x3, .f32⟩
  | 17 => ⟨S_, .i32⟩
  | 18 => ⟨S_, .f32⟩
  | 19 => ⟨S8x226x226x3, .f32⟩
  | 20 => ⟨S8x112x112x3, .f32⟩
  | 21 => ⟨S8x112x112x3, .f32⟩
  | 22 => ⟨S8x112x112x3, .f32⟩
  | 23 => ⟨S8x112x112x3, .f32⟩
  | 24 => ⟨S8x112x112x3, .f32⟩
  | 25 => ⟨S8x112x112x3, .f32⟩
  | 26 => ⟨S8x112x112x3, .f32⟩
  | 27 => ⟨S8x112x112x3, .f32⟩
  | 28 => ⟨S8x112x112x3, .f32⟩
  | 29 => ⟨S8x112x112x27, .f32⟩
  | 30 => ⟨S8x12544x27, .f32⟩
  | 31 => ⟨S3x3x3x128, .f32⟩
  | 32 => ⟨S27x128, .f32⟩
  | 33 => ⟨S8x12544x128, .f32⟩
  | 34 => ⟨S1x1x128, .f32⟩
  | 35 => ⟨S8x12544x128, .f32⟩
  | 36 => ⟨S8x12544x128, .f32⟩
  | 37 => ⟨S_, .f32⟩
  | 38 => ⟨S8x12544x128, .f32⟩
  | 39 => ⟨S8x12544x128, .f32⟩
  | 40 => ⟨S8x112x112x128, .f32⟩
  | 41 => ⟨S_, .i32⟩
  | 42 => ⟨S_, .f32⟩
  | 43 => ⟨S8x114x114x128, .f32⟩
  | 44 => ⟨S8x56x56x128, .f32⟩
  | 45 => ⟨S8x56x56x128, .f32⟩
  | 46 => ⟨S8x56x56x128, .f32⟩
  | 47 => ⟨S8x56x56x128, .f32⟩
  | 48 => ⟨S8x56x56x128, .f32⟩
  | 49 => ⟨S8x56x56x128, .f32⟩
  | 50 => ⟨S8x56x56x128, .f32⟩
  | 51 => ⟨S8x56x56x128, .f32⟩
  | 52 => ⟨S8x56x56x128, .f32⟩
  | 53 => ⟨S8x56x56x1152, .f32⟩
  | 54 => ⟨S8x3136x1152, .f32⟩
  | 55 => ⟨S3x3x128x128, .f32⟩
  | 56 => ⟨S1152x128, .f32⟩
  | 57 => ⟨S8x3136x128, .f32⟩
  | 58 => ⟨S1x1x128, .f32⟩
  | 59 => ⟨S8x3136x128, .f32⟩
  | 60 => ⟨S8x3136x128, .f32⟩
  | 61 => ⟨S_, .f32⟩
  | 62 => ⟨S8x3136x128, .f32⟩
  | 63 => ⟨S8x3136x128, .f32⟩
  | 64 => ⟨S128x128, .f32⟩
  | 65 => ⟨S128x128, .f32⟩
  | 66 => ⟨S8x3136x128, .f32⟩
  | 67 => ⟨S1x1x128, .f32⟩
  | 68 => ⟨S8x3136x128, .f32⟩
  | 69 => ⟨S8x3136x128, .f32⟩
  | 70 => ⟨S8x3136x128, .f32⟩
  | 71 => ⟨S_, .f32⟩
  | 72 => ⟨S8x3136, .f32⟩
  | 73 => ⟨S8x3136x1, .f32⟩
  | 74 => ⟨S_, .f32⟩
  | 75 => ⟨S8x3136x128, .f32⟩
  | 76 => ⟨S8x3136x128, .f32⟩
  | 77 => ⟨S128x128, .f32⟩
  | 78 => ⟨S8x3136x128, .f32⟩
  | 79 => ⟨S8x3136x128, .f32⟩
  | 80 => ⟨S8x3136x128, .f32⟩
  | 81 => ⟨S128x128, .f32⟩
  | 82 => ⟨S_, .f32⟩
  | 83 => ⟨S128, .f32⟩
  | 84 => ⟨S1x1x128, .f32⟩
  | 85 => ⟨S8x3136x128, .f32⟩
  | 86 => ⟨S8x3136x128, .f32⟩
  | 87 => ⟨S8x3136x128, .i32⟩
  | 88 => ⟨S_, .f32⟩
  | 89 => ⟨S_, .i32⟩
  | 90 => ⟨S8x3136, .f32⟩
  | 91 => ⟨S8x3136, .i32⟩
  | 92 => ⟨S_, .i32⟩
  | 93 => ⟨S8x3136, .i32⟩
  | 94 => ⟨S8x3136, .i1⟩
  | 95 => ⟨S_, .i32⟩
  | 96 => ⟨S8x3136, .i32⟩
  | 97 => ⟨S8x3136, .i32⟩
  | 98 => ⟨S8x3136, .i32⟩
  | 99 => ⟨S8x3136x1, .i32⟩
  | 100 => ⟨S1, .i32⟩
  | 101 => ⟨S_, .i32⟩
  | 102 => ⟨S8x3136x1, .i32⟩
  | 103 => ⟨S8x3136x1, .i1⟩
  | 104 => ⟨S1x1x1, .i32⟩
  | 105 => ⟨S8x3136x1, .i32⟩
  | 106 => ⟨S8x3136x1, .i1⟩
  | 107 => ⟨S8x3136x1, .i1⟩
  | 108 => ⟨S_, .i1⟩
  | 109 => ⟨S8x3136, .i1⟩
  | 110 => ⟨S8x3136x128, .f32⟩
  | 111 => ⟨S8x3136x128, .i1⟩
  | 112 => ⟨S_, .f32⟩
  | 113 => ⟨S8x3136x128, .f32⟩
  | 114 => ⟨S8x3136x128, .f32⟩
  | 115 => ⟨S8x3136x128, .f32⟩
  | 116 => ⟨S8x3136x128, .f32⟩
  | 117 => ⟨S128x128, .f32⟩
  | 118 => ⟨S128x128, .f32⟩
  | 119 => ⟨S8x3136x128, .f32⟩
  | 120 => ⟨S1x1x128, .f32⟩
  | 121 => ⟨S8x3136x128, .f32⟩
  | 122 => ⟨S8x3136x128, .f32⟩
  | 123 => ⟨S_, .f32⟩
  | 124 => ⟨S8x3136x128, .f32⟩
  | 125 => ⟨S8x3136x128, .f32⟩
  | 126 => ⟨S8x56x56x128, .f32⟩
  | 127 => ⟨S8x56x2x56x128, .f32⟩
  | _ => ⟨S8x3x224x224, .f32⟩

abbrev hbmTy0_1 (i : Nat) : BufTy := match i % 128 with
  | 0 => ⟨S8x112x56x128, .f32⟩
  | 1 => ⟨S8x112x56x2x128, .f32⟩
  | 2 => ⟨S8x112x112x128, .f32⟩
  | 3 => ⟨S_, .i32⟩
  | 4 => ⟨S_, .f32⟩
  | 5 => ⟨S8x114x114x128, .f32⟩
  | 6 => ⟨S8x112x112x128, .f32⟩
  | 7 => ⟨S8x112x112x128, .f32⟩
  | 8 => ⟨S8x112x112x128, .f32⟩
  | 9 => ⟨S8x112x112x128, .f32⟩
  | 10 => ⟨S8x112x112x128, .f32⟩
  | 11 => ⟨S8x112x112x128, .f32⟩
  | 12 => ⟨S8x112x112x128, .f32⟩
  | 13 => ⟨S8x112x112x128, .f32⟩
  | 14 => ⟨S8x112x112x128, .f32⟩
  | 15 => ⟨S8x112x112x1152, .f32⟩
  | 16 => ⟨S8x12544x1152, .f32⟩
  | 17 => ⟨S3x3x128x128, .f32⟩
  | 18 => ⟨S1152x128, .f32⟩
  | 19 => ⟨S8x12544x128, .f32⟩
  | 20 => ⟨S1x1x128, .f32⟩
  | 21 => ⟨S8x12544x128, .f32⟩
  | 22 => ⟨S8x12544x128, .f32⟩
  | 23 => ⟨S_, .f32⟩
  | 24 => ⟨S8x12544x128, .f32⟩
  | 25 => ⟨S8x12544x128, .f32⟩
  | 26 => ⟨S8x112x112x128, .f32⟩
  | 27 => ⟨S8x112x2x112x128, .f32⟩
  | 28 => ⟨S8x224x112x128, .f32⟩
  | 29 => ⟨S8x224x112x2x128, .f32⟩
  | 30 => ⟨S8x224x224x128, .f32⟩
  | 31 => ⟨S_, .i32⟩
  | 32 => ⟨S_, .f32⟩
  | 33 => ⟨S8x226x226x128, .f32⟩
  | 34 => ⟨S8x224x224x128, .f32⟩
  | 35 => ⟨S8x224x224x128, .f32⟩
  | 36 => ⟨S8x224x224x128, .f32⟩
  | 37 => ⟨S8x224x224x128, .f32⟩
  | 38 => ⟨S8x224x224x128, .f32⟩
  | 39 => ⟨S8x224x224x128, .f32⟩
  | 40 => ⟨S8x224x224x128, .f32⟩
  | 41 => ⟨S8x224x224x128, .f32⟩
  | 42 => ⟨S8x224x224x128, .f32⟩
  | 43 => ⟨S8x224x224x1152, .f32⟩
  | 44 => ⟨S8x50176x1152, .f32⟩
  | 45 => ⟨S3x3x128x64, .f32⟩
  | 46 => ⟨S1152x64, .f32⟩
  | 47 => ⟨S8x50176x64, .f32⟩
  | 48 => ⟨S1x1x64, .f32⟩
  | 49 => ⟨S8x50176x64, .f32⟩
  | 50 => ⟨S8x50176x64, .f32⟩
  | 51 => ⟨S_, .f32⟩
  | 52 => ⟨S8x50176x64, .f32⟩
  | 53 => ⟨S8x50176x64, .f32⟩
  | 54 => ⟨S8x224x224x64, .f32⟩
  | 55 => ⟨S_, .i32⟩
  | 56 => ⟨S_, .f32⟩
  | 57 => ⟨S8x226x226x64, .f32⟩
  | 58 => ⟨S8x224x224x64, .f32⟩
  | 59 => ⟨S8x224x224x64, .f32⟩
  | 60 => ⟨S8x224x224x64, .f32⟩
  | 61 => ⟨S8x224x224x64, .f32⟩
  | 62 => ⟨S8x224x224x64, .f32⟩
  | 63 => ⟨S8x224x224x64, .f32⟩
  | 64 => ⟨S8x224x224x64, .f32⟩
  | 65 => ⟨S8x224x224x64, .f32⟩
  | 66 => ⟨S8x224x224x64, .f32⟩
  | 67 => ⟨S8x224x224x576, .f32⟩
  | 68 => ⟨S8x50176x576, .f32⟩
  | 69 => ⟨S3x3x64x3, .f32⟩
  | 70 => ⟨S576x3, .f32⟩
  | 71 => ⟨S8x50176x3, .f32⟩
  | 72 => ⟨S1x1x3, .f32⟩
  | 73 => ⟨S8x50176x3, .f32⟩
  | 74 => ⟨S8x50176x3, .f32⟩
  | 75 => ⟨S8x3x50176, .f32⟩
  | 76 => ⟨S8x3x224x224, .f32⟩
  | 77 => ⟨S8x3x224x224, .f32⟩
  | 78 => ⟨S8x3x224x224, .f32⟩
  | 79 => ⟨S_, .f32⟩
  | 80 => ⟨S_, .f32⟩
  | 81 => ⟨S_, .f32⟩
  | 82 => ⟨S_, .f32⟩
  | 83 => ⟨S8x3x224x224, .f32⟩
  | 84 => ⟨S8x3x224x224, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | _ => ⟨S8x3x224x224, .f32⟩

abbrev hbmTy (i : Nat) : BufTy := match i / 128 with
  | 0 => hbmTy0_0 i
  | 1 => hbmTy0_1 i
  | _ => ⟨S8x3x224x224, .f32⟩

abbrev bufTy : (tb : Table) → Fin (tcTables nBuf tb) → BufTy
  | .hbm, ⟨i, _⟩ => hbmTy i
  | _, _ => ⟨S8x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call1_cst : Ref sig .tc := ⟨.hbm, 37, rfl⟩
abbrev main_call1_v0 : Ref sig .tc := ⟨.hbm, 38, rfl⟩
abbrev main_v19 : Ref sig .tc := ⟨.hbm, 39, rfl⟩
abbrev main_v20 : Ref sig .tc := ⟨.hbm, 40, rfl⟩
abbrev main_c_0 : Ref sig .tc := ⟨.hbm, 41, rfl⟩
abbrev main_call2_v0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call3_cst : Ref sig .tc := ⟨.hbm, 61, rfl⟩
abbrev main_call3_v0 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst : Ref sig .tc := ⟨.hbm, 71, rfl⟩
abbrev main_v47 : Ref sig .tc := ⟨.hbm, 72, rfl⟩
abbrev main_v48 : Ref sig .tc := ⟨.hbm, 73, rfl⟩
abbrev main_cst_1 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_2 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_call4_v0 : Ref sig .tc := ⟨.hbm, 87, rfl⟩
abbrev main_call4_cst : Ref sig .tc := ⟨.hbm, 88, rfl⟩
abbrev main_call4_c : Ref sig .tc := ⟨.hbm, 89, rfl⟩
abbrev main_call4_v1_0 : Ref sig .tc := ⟨.hbm, 90, rfl⟩
abbrev main_v60 : Ref sig .tc := ⟨.hbm, 91, rfl⟩
abbrev main_call5_c : Ref sig .tc := ⟨.hbm, 92, rfl⟩
abbrev main_call5_v0 : Ref sig .tc := ⟨.hbm, 93, rfl⟩
abbrev main_call5_v1 : Ref sig .tc := ⟨.hbm, 94, rfl⟩
abbrev main_call5_c_0 : Ref sig .tc := ⟨.hbm, 95, rfl⟩
abbrev main_call5_v2 : Ref sig .tc := ⟨.hbm, 96, rfl⟩
abbrev main_call5_v3 : Ref sig .tc := ⟨.hbm, 97, rfl⟩
abbrev main_call5_v4 : Ref sig .tc := ⟨.hbm, 98, rfl⟩
abbrev main_call5_v5 : Ref sig .tc := ⟨.hbm, 99, rfl⟩
abbrev main_call5_c_1 : Ref sig .tc := ⟨.hbm, 100, rfl⟩
abbrev main_call5_c_2 : Ref sig .tc := ⟨.hbm, 101, rfl⟩
abbrev main_call5_v6 : Ref sig .tc := ⟨.hbm, 102, rfl⟩
abbrev main_call5_v7 : Ref sig .tc := ⟨.hbm, 103, rfl⟩
abbrev main_call5_v8 : Ref sig .tc := ⟨.hbm, 104, rfl⟩
abbrev main_call5_v9 : Ref sig .tc := ⟨.hbm, 105, rfl⟩
abbrev main_call5_v10 : Ref sig .tc := ⟨.hbm, 106, rfl⟩
abbrev main_call5_v11 : Ref sig .tc := ⟨.hbm, 107, rfl⟩
abbrev main_call5_c_3 : Ref sig .tc := ⟨.hbm, 108, rfl⟩
abbrev main_call5_v12 : Ref sig .tc := ⟨.hbm, 109, rfl⟩
abbrev main_call5_v13 : Ref sig .tc := ⟨.hbm, 110, rfl⟩
abbrev main_call5_v14 : Ref sig .tc := ⟨.hbm, 111, rfl⟩
abbrev main_call5_cst : Ref sig .tc := ⟨.hbm, 112, rfl⟩
abbrev main_call5_v15 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_call6_cst : Ref sig .tc := ⟨.hbm, 123, rfl⟩
abbrev main_call6_v0 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_c_3 : Ref sig .tc := ⟨.hbm, 131, rfl⟩
abbrev main_call7_v0 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_call8_cst : Ref sig .tc := ⟨.hbm, 151, rfl⟩
abbrev main_call8_v0 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_c_4 : Ref sig .tc := ⟨.hbm, 159, rfl⟩
abbrev main_call9_v0 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_call10_cst : Ref sig .tc := ⟨.hbm, 179, rfl⟩
abbrev main_call10_v0 : Ref sig .tc := ⟨.hbm, 180, rfl⟩
abbrev main_v118 : Ref sig .tc := ⟨.hbm, 181, rfl⟩
abbrev main_v119 : Ref sig .tc := ⟨.hbm, 182, rfl⟩
abbrev main_c_5 : Ref sig .tc := ⟨.hbm, 183, rfl⟩
abbrev main_call11_v0 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_cst_6 : Ref sig .tc := ⟨.hbm, 207, rfl⟩
abbrev main_v142 : Ref sig .tc := ⟨.hbm, 208, rfl⟩
abbrev main_cst_7 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_cst_8 : Ref sig .tc := ⟨.hbm, 213, rfl⟩
abbrev main_v146 : Ref sig .tc := ⟨.hbm, 214, rfl⟩
abbrev main_cst_9 : Ref sig .tc := ⟨.hbm, 215, rfl⟩
abbrev main_v147 : Ref sig .tc := ⟨.hbm, 216, rfl⟩
abbrev main_cst_10 : Ref sig .tc := ⟨.hbm, 217, rfl⟩
abbrev main_v148 : Ref sig .tc := ⟨.hbm, 218, rfl⟩

abbrev nD : Nat := 1
abbrev τ : Topo := Topo.v7x

variable {F : FTy → Type} [FloatOps F]
-- ==== Kernel2.lean ====
abbrev S8x112x112x128 : Shape := ⟨4, ![8, 112, 112, 128]⟩
abbrev S64x128x3x3 : Shape := ⟨4, ![64, 128, 3, 3]⟩
abbrev S64 : Shape := ⟨1, ![64]⟩
abbrev S64x128x1x1 : Shape := ⟨4, ![64, 128, 1, 1]⟩
abbrev S64x128 : Shape := ⟨2, ![64, 128]⟩
abbrev S128x64 : Shape := ⟨2, ![128, 64]⟩
abbrev S_ : Shape := ⟨0, ![]⟩
abbrev S1x128x64 : Shape := ⟨3, ![1, 128, 64]⟩
abbrev S16x128x64 : Shape := ⟨3, ![16, 128, 64]⟩
abbrev S1x64 : Shape := ⟨2, ![1, 64]⟩
abbrev S8x112x2x112x128 : Shape := ⟨5, ![8, 112, 2, 112, 128]⟩
abbrev S1x1x112x128 : Shape := ⟨4, ![1, 1, 112, 128]⟩
abbrev S1x28x112x128 : Shape := ⟨4, ![1, 28, 112, 128]⟩
abbrev S1x28x2x112x128 : Shape := ⟨5, ![1, 28, 2, 112, 128]⟩
abbrev S1x112x128 : Shape := ⟨3, ![1, 112, 128]⟩
abbrev S28x112x128 : Shape := ⟨3, ![28, 112, 128]⟩
abbrev S30x112x128 : Shape := ⟨3, ![30, 112, 128]⟩
abbrev S30x1x128 : Shape := ⟨3, ![30, 1, 128]⟩
abbrev S30x114x128 : Shape := ⟨3, ![30, 114, 128]⟩
abbrev S3136x64 : Shape := ⟨2, ![3136, 64]⟩
abbrev S3136x128 : Shape := ⟨2, ![3136, 128]⟩
abbrev S28x112x64 : Shape := ⟨3, ![28, 112, 64]⟩
abbrev S1x28x1x112x128 : Shape := ⟨5, ![1, 28, 1, 112, 128]⟩
abbrev S8x224x224x64 : Shape := ⟨4, ![8, 224, 224, 64]⟩

abbrev nBuf : Space → Nat
  | .hbm => 199
  | .vmem => 10
  | .smem => 0
  | _ => 0

abbrev hbmTy0_0 (i : Nat) : BufTy := match i % 128 with
  | 0 => ⟨S8x112x112x128, .bf16⟩
  | 1 => ⟨S64x128x3x3, .f32⟩
  | 2 => ⟨S64, .f32⟩
  | 3 => ⟨S64x128x1x1, .f32⟩
  | 4 => ⟨S64x128, .f32⟩
  | 5 => ⟨S128x64, .f32⟩
  | 6 => ⟨S_, .f32⟩
  | 7 => ⟨S128x64, .f32⟩
  | 8 => ⟨S128x64, .f32⟩
  | 9 => ⟨S64x128x1x1, .f32⟩
  | 10 => ⟨S64x128, .f32⟩
  | 11 => ⟨S128x64, .f32⟩
  | 12 => ⟨S_, .f32⟩
  | 13 => ⟨S128x64, .f32⟩
  | 14 => ⟨S128x64, .f32⟩
  | 15 => ⟨S64x128x1x1, .f32⟩
  | 16 => ⟨S64x128, .f32⟩
  | 17 => ⟨S128x64, .f32⟩
  | 18 => ⟨S128x64, .f32⟩
  | 19 => ⟨S64x128x1x1, .f32⟩
  | 20 => ⟨S64x128, .f32⟩
  | 21 => ⟨S128x64, .f32⟩
  | 22 => ⟨S_, .f32⟩
  | 23 => ⟨S128x64, .f32⟩
  | 24 => ⟨S128x64, .f32⟩
  | 25 => ⟨S64x128x1x1, .f32⟩
  | 26 => ⟨S64x128, .f32⟩
  | 27 => ⟨S128x64, .f32⟩
  | 28 => ⟨S128x64, .f32⟩
  | 29 => ⟨S64x128x1x1, .f32⟩
  | 30 => ⟨S64x128, .f32⟩
  | 31 => ⟨S128x64, .f32⟩
  | 32 => ⟨S_, .f32⟩
  | 33 => ⟨S128x64, .f32⟩
  | 34 => ⟨S128x64, .f32⟩
  | 35 => ⟨S64x128x1x1, .f32⟩
  | 36 => ⟨S64x128, .f32⟩
  | 37 => ⟨S128x64, .f32⟩
  | 38 => ⟨S128x64, .f32⟩
  | 39 => ⟨S64x128x1x1, .f32⟩
  | 40 => ⟨S64x128, .f32⟩
  | 41 => ⟨S128x64, .f32⟩
  | 42 => ⟨S128x64, .f32⟩
  | 43 => ⟨S64x128x1x1, .f32⟩
  | 44 => ⟨S64x128, .f32⟩
  | 45 => ⟨S128x64, .f32⟩
  | 46 => ⟨S128x64, .f32⟩
  | 47 => ⟨S64x128x1x1, .f32⟩
  | 48 => ⟨S64x128, .f32⟩
  | 49 => ⟨S128x64, .f32⟩
  | 50 => ⟨S_, .f32⟩
  | 51 => ⟨S128x64, .f32⟩
  | 52 => ⟨S128x64, .f32⟩
  | 53 => ⟨S64x128x1x1, .f32⟩
  | 54 => ⟨S64x128, .f32⟩
  | 55 => ⟨S128x64, .f32⟩
  | 56 => ⟨S128x64, .f32⟩
  | 57 => ⟨S64x128x1x1, .f32⟩
  | 58 => ⟨S64x128, .f32⟩
  | 59 => ⟨S128x64, .f32⟩
  | 60 => ⟨S_, .f32⟩
  | 61 => ⟨S128x64, .f32⟩
  | 62 => ⟨S128x64, .f32⟩
  | 63 => ⟨S64x128x1x1, .f32⟩
  | 64 => ⟨S64x128, .f32⟩
  | 65 => ⟨S128x64, .f32⟩
  | 66 => ⟨S_, .f32⟩
  | 67 => ⟨S128x64, .f32⟩
  | 68 => ⟨S128x64, .f32⟩
  | 69 => ⟨S64x128x1x1, .f32⟩
  | 70 => ⟨S64x128, .f32⟩
  | 71 => ⟨S128x64, .f32⟩
  | 72 => ⟨S128x64, .f32⟩
  | 73 => ⟨S64x128x1x1, .f32⟩
  | 74 => ⟨S64x128, .f32⟩
  | 75 => ⟨S128x64, .f32⟩
  | 76 => ⟨S128x64, .f32⟩
  | 77 => ⟨S64x128x1x1, .f32⟩
  | 78 => ⟨S64x128, .f32⟩
  | 79 => ⟨S128x64, .f32⟩
  | 80 => ⟨S128x64, .f32⟩
  | 81 => ⟨S64x128x1x1, .f32⟩
  | 82 => ⟨S64x128, .f32⟩
  | 83 => ⟨S128x64, .f32⟩
  | 84 => ⟨S_, .f32⟩
  | 85 => ⟨S128x64, .f32⟩
  | 86 => ⟨S128x64, .f32⟩
  | 87 => ⟨S64x128x1x1, .f32⟩
  | 88 => ⟨S64x128, .f32⟩
  | 89 => ⟨S128x64, .f32⟩
  | 90 => ⟨S128x64, .f32⟩
  | 91 => ⟨S64x128x1x1, .f32⟩
  | 92 => ⟨S64x128, .f32⟩
  | 93 => ⟨S128x64, .f32⟩
  | 94 => ⟨S_, .f32⟩
  | 95 => ⟨S128x64, .f32⟩
  | 96 => ⟨S128x64, .f32⟩
  | 97 => ⟨S64x128x1x1, .f32⟩
  | 98 => ⟨S64x128, .f32⟩
  | 99 => ⟨S128x64, .f32⟩
  | 100 => ⟨S128x64, .f32⟩
  | 101 => ⟨S64x128x1x1, .f32⟩
  | 102 => ⟨S64x128, .f32⟩
  | 103 => ⟨S128x64, .f32⟩
  | 104 => ⟨S_, .f32⟩
  | 105 => ⟨S128x64, .f32⟩
  | 106 => ⟨S128x64, .f32⟩
  | 107 => ⟨S64x128x1x1, .f32⟩
  | 108 => ⟨S64x128, .f32⟩
  | 109 => ⟨S128x64, .f32⟩
  | 110 => ⟨S128x64, .f32⟩
  | 111 => ⟨S64x128x1x1, .f32⟩
  | 112 => ⟨S64x128, .f32⟩
  | 113 => ⟨S128x64, .f32⟩
  | 114 => ⟨S128x64, .f32⟩
  | 115 => ⟨S64x128x1x1, .f32⟩
  | 116 => ⟨S64x128, .f32⟩
  | 117 => ⟨S128x64, .f32⟩
  | 118 => ⟨S128x64, .f32⟩
  | 119 => ⟨S64x128x1x1, .f32⟩
  | 120 => ⟨S64x128, .f32⟩
  | 121 => ⟨S128x64, .f32⟩
  | 122 => ⟨S_, .f32⟩
  | 123 => ⟨S128x64, .f32⟩
  | 124 => ⟨S128x64, .f32⟩
  | 125 => ⟨S64x128x1x1, .f32⟩
  | 126 => ⟨S64x128, .f32⟩
  | 127 => ⟨S128x64, .f32⟩
  | _ => ⟨S8x112x112x128, .bf16⟩

abbrev hbmTy0_1 (i : Nat) : BufTy := match i % 128 with
  | 0 => ⟨S_, .f32⟩
  | 1 => ⟨S128x64, .f32⟩
  | 2 => ⟨S128x64, .f32⟩
  | 3 => ⟨S64x128x1x1, .f32⟩
  | 4 => ⟨S64x128, .f32⟩
  | 5 => ⟨S128x64, .f32⟩
  | 6 => ⟨S128x64, .f32⟩
  | 7 => ⟨S64x128x1x1, .f32⟩
  | 8 => ⟨S64x128, .f32⟩
  | 9 => ⟨S128x64, .f32⟩
  | 10 => ⟨S_, .f32⟩
  | 11 => ⟨S128x64, .f32⟩
  | 12 => ⟨S128x64, .f32⟩
  | 13 => ⟨S64x128x1x1, .f32⟩
  | 14 => ⟨S64x128, .f32⟩
  | 15 => ⟨S128x64, .f32⟩
  | 16 => ⟨S128x64, .f32⟩
  | 17 => ⟨S64x128x1x1, .f32⟩
  | 18 => ⟨S64x128, .f32⟩
  | 19 => ⟨S128x64, .f32⟩
  | 20 => ⟨S128x64, .f32⟩
  | 21 => ⟨S64x128x1x1, .f32⟩
  | 22 => ⟨S64x128, .f32⟩
  | 23 => ⟨S128x64, .f32⟩
  | 24 => ⟨S128x64, .f32⟩
  | 25 => ⟨S64x128x1x1, .f32⟩
  | 26 => ⟨S64x128, .f32⟩
  | 27 => ⟨S128x64, .f32⟩
  | 28 => ⟨S_, .f32⟩
  | 29 => ⟨S128x64, .f32⟩
  | 30 => ⟨S128x64, .f32⟩
  | 31 => ⟨S64x128x1x1, .f32⟩
  | 32 => ⟨S64x128, .f32⟩
  | 33 => ⟨S128x64, .f32⟩
  | 34 => ⟨S128x64, .f32⟩
  | 35 => ⟨S64x128x1x1, .f32⟩
  | 36 => ⟨S64x128, .f32⟩
  | 37 => ⟨S128x64, .f32⟩
  | 38 => ⟨S_, .f32⟩
  | 39 => ⟨S128x64, .f32⟩
  | 40 => ⟨S128x64, .f32⟩
  | 41 => ⟨S64x128x1x1, .f32⟩
  | 42 => ⟨S64x128, .f32⟩
  | 43 => ⟨S128x64, .f32⟩
  | 44 => ⟨S128x64, .f32⟩
  | 45 => ⟨S64x128x1x1, .f32⟩
  | 46 => ⟨S64x128, .f32⟩
  | 47 => ⟨S128x64, .f32⟩
  | 48 => ⟨S_, .f32⟩
  | 49 => ⟨S128x64, .f32⟩
  | 50 => ⟨S128x64, .f32⟩
  | 51 => ⟨S1x128x64, .f32⟩
  | 52 => ⟨S1x128x64, .f32⟩
  | 53 => ⟨S1x128x64, .f32⟩
  | 54 => ⟨S1x128x64, .f32⟩
  | 55 => ⟨S1x128x64, .f32⟩
  | 56 => ⟨S1x128x64, .f32⟩
  | 57 => ⟨S1x128x64, .f32⟩
  | 58 => ⟨S1x128x64, .f32⟩
  | 59 => ⟨S1x128x64, .f32⟩
  | 60 => ⟨S1x128x64, .f32⟩
  | 61 => ⟨S1x128x64, .f32⟩
  | 62 => ⟨S1x128x64, .f32⟩
  | 63 => ⟨S1x128x64, .f32⟩
  | 64 => ⟨S1x128x64, .f32⟩
  | 65 => ⟨S1x128x64, .f32⟩
  | 66 => ⟨S1x128x64, .f32⟩
  | 67 => ⟨S16x128x64, .f32⟩
  | 68 => ⟨S1x64, .f32⟩
  | 69 => ⟨S8x112x2x112x128, .bf16⟩
  | 70 => ⟨S8x224x224x64, .bf16⟩
  | _ => ⟨S8x112x112x128, .bf16⟩

abbrev hbmTy (i : Nat) : BufTy := match i / 128 with
  | 0 => hbmTy0_0 i
  | 1 => hbmTy0_1 i
  | _ => ⟨S8x112x112x128, .bf16⟩

abbrev bufTy : (tb : Table) → Fin (tcTables nBuf tb) → BufTy
  | .hbm, ⟨i, _⟩ => hbmTy i
  | .local _ .vmem, ⟨0, _⟩ => ⟨S1x1x112x128, .bf16⟩
  | .local _ .vmem, ⟨1, _⟩ => ⟨S1x1x112x128, .bf16⟩
  | .local _ .vmem, ⟨2, _⟩ => ⟨S1x28x112x128, .bf16⟩
  | .local _ .vmem, ⟨3, _⟩ => ⟨S1x28x112x128, .bf16⟩
  | .local _ .vmem, ⟨4, _⟩ => ⟨S1x1x112x128, .bf16⟩
  | .local _ .vmem, ⟨5, _⟩ => ⟨S1x1x112x128, .bf16⟩
  | .local _ .vmem, ⟨6, _⟩ => ⟨S16x128x64, .f32⟩
  | .local _ .vmem, ⟨7, _⟩ => ⟨S1x64, .f32⟩
  | .local _ .vmem, ⟨8, _⟩ => ⟨S1x28x2x112x128, .bf16⟩
  | .local _ .vmem, ⟨9, _⟩ => ⟨S1x28x2x112x128, .bf16⟩
  | _, _ => ⟨S8x112x112x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_3 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_4 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_5 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_cst_6 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_cst_7 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_cst_8 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_cst_9 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_cst_10 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_cst_11 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_cst_12 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_cst_13 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_cst_14 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c28_i32 : BitVec 32 := 28#32
  let v0 : BitVec 32 := Scalar.muli c28_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c28_i32 : BitVec 32 := 28#32
  let v0 : BitVec 32 := Scalar.muli c28_i32 arg1
  let c28_i32_0 : BitVec 32 := 28#32
  let v1 : BitVec 32 := Scalar.addi v0 c28_i32_0
  let c111_i32 : BitVec 32 := 111#32
  let v2 : BitVec 32 := Scalar.minsi v1 c111_i32
  let c0_i32 : BitVec 32 := 0#32
  let c0_i32_1 : BitVec 32 := 0#32
  let c0_i32_2 : BitVec 32 := 0#32
  ![arg0.toNat, v2.toNat, c0_i32.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x112x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x28x112x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x112x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S16x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x28x2x112x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x112x112x128 : Shape := ⟨4, ![8, 112, 112, 128]⟩
abbrev S64x128x3x3 : Shape := ⟨4, ![64, 128, 3, 3]⟩
abbrev S64 : Shape := ⟨1, ![64]⟩
abbrev S8x112x2x112x128 : Shape := ⟨5, ![8, 112, 2, 112, 128]⟩
abbrev S8x224x112x128 : Shape := ⟨4, ![8, 224, 112, 128]⟩
abbrev S8x224x112x2x128 : Shape := ⟨5, ![8, 224, 112, 2, 128]⟩
abbrev S8x224x224x128 : Shape := ⟨4, ![8, 224, 224, 128]⟩
abbrev S_ : Shape := ⟨0, ![]⟩
abbrev S8x226x226x128 : Shape := ⟨4, ![8, 226, 226, 128]⟩
abbrev S8x224x224x1152 : Shape := ⟨4, ![8, 224, 224, 1152]⟩
abbrev S8x50176x1152 : Shape := ⟨3, ![8, 50176, 1152]⟩
abbrev S3x3x128x64 : Shape := ⟨4, ![3, 3, 128, 64]⟩
abbrev S1152x64 : Shape := ⟨2, ![1152, 64]⟩
abbrev S8x50176x64 : Shape := ⟨3, ![8, 50176, 64]⟩
abbrev S1x1x64 : Shape := ⟨3, ![1, 1, 64]⟩
abbrev S8x224x224x64 : Shape := ⟨4, ![8, 224, 224, 64]⟩

abbrev nBuf : Space → Nat
  | .hbm => 33
  | .vmem => 0
  | .smem => 0
  | _ => 0

abbrev bufTy : (tb : Table) → Fin (tcTables nBuf tb) → BufTy
  | .hbm, ⟨0, _⟩ => ⟨S8x112x112x128, .bf16⟩
  | .hbm, ⟨1, _⟩ => ⟨S64x128x3x3, .f32⟩
  | .hbm, ⟨2, _⟩ => ⟨S64, .f32⟩
  | .hbm, ⟨3, _⟩ => ⟨S8x112x112x128, .f32⟩
  | .hbm, ⟨4, _⟩ => ⟨S8x112x2x112x128, .f32⟩
  | .hbm, ⟨5, _⟩ => ⟨S8x224x112x128, .f32⟩
  | .hbm, ⟨6, _⟩ => ⟨S8x224x112x2x128, .f32⟩
  | .hbm, ⟨7, _⟩ => ⟨S8x224x224x128, .f32⟩
  | .hbm, ⟨8, _⟩ => ⟨S_, .i32⟩
  | .hbm, ⟨9, _⟩ => ⟨S_, .f32⟩
  | .hbm, ⟨10, _⟩ => ⟨S8x226x226x128, .f32⟩
  | .hbm, ⟨11, _⟩ => ⟨S8x224x224x128, .f32⟩
  | .hbm, ⟨12, _⟩ => ⟨S8x224x224x128, .f32⟩
  | .hbm, ⟨13, _⟩ => ⟨S8x224x224x128, .f32⟩
  | .hbm, ⟨14, _⟩ => ⟨S8x224x224x128, .f32⟩
  | .hbm, ⟨15, _⟩ => ⟨S8x224x224x128, .f32⟩
  | .hbm, ⟨16, _⟩ => ⟨S8x224x224x128, .f32⟩
  | .hbm, ⟨17, _⟩ => ⟨S8x224x224x128, .f32⟩
  | .hbm, ⟨18, _⟩ => ⟨S8x224x224x128, .f32⟩
  | .hbm, ⟨19, _⟩ => ⟨S8x224x224x128, .f32⟩
  | .hbm, ⟨20, _⟩ => ⟨S8x224x224x1152, .f32⟩
  | .hbm, ⟨21, _⟩ => ⟨S8x50176x1152, .f32⟩
  | .hbm, ⟨22, _⟩ => ⟨S3x3x128x64, .f32⟩
  | .hbm, ⟨23, _⟩ => ⟨S1152x64, .f32⟩
  | .hbm, ⟨24, _⟩ => ⟨S8x50176x64, .f32⟩
  | .hbm, ⟨25, _⟩ => ⟨S1x1x64, .f32⟩
  | .hbm, ⟨26, _⟩ => ⟨S8x50176x64, .f32⟩
  | .hbm, ⟨27, _⟩ => ⟨S8x50176x64, .f32⟩
  | .hbm, ⟨28, _⟩ => ⟨S_, .f32⟩
  | .hbm, ⟨29, _⟩ => ⟨S8x50176x64, .f32⟩
  | .hbm, ⟨30, _⟩ => ⟨S8x50176x64, .f32⟩
  | .hbm, ⟨31, _⟩ => ⟨S8x224x224x64, .f32⟩
  | .hbm, ⟨32, _⟩ => ⟨S8x224x224x64, .bf16⟩
  | _, _ => ⟨S8x112x112x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_call1_cst : Ref sig .tc := ⟨.hbm, 28, rfl⟩
abbrev main_call1_v0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel3.lean ====
abbrev S8x56x56x128 : Shape := ⟨4, ![8, 56, 56, 128]⟩
abbrev S128x128x3x3 : Shape := ⟨4, ![128, 128, 3, 3]⟩
abbrev S128 : Shape := ⟨1, ![128]⟩
abbrev S128x128x1x1 : Shape := ⟨4, ![128, 128, 1, 1]⟩
abbrev S128x128 : Shape := ⟨2, ![128, 128]⟩
abbrev S_ : Shape := ⟨0, ![]⟩
abbrev S1x128x128 : Shape := ⟨3, ![1, 128, 128]⟩
abbrev S16x128x128 : Shape := ⟨3, ![16, 128, 128]⟩
abbrev S1x128 : Shape := ⟨2, ![1, 128]⟩
abbrev S8x56x2x56x256 : Shape := ⟨5, ![8, 56, 2, 56, 256]⟩
abbrev S1x1x56x128 : Shape := ⟨4, ![1, 1, 56, 128]⟩
abbrev S1x28x56x128 : Shape := ⟨4, ![1, 28, 56, 128]⟩
abbrev S1x28x2x56x256 : Shape := ⟨5, ![1, 28, 2, 56, 256]⟩
abbrev S1x56x128 : Shape := ⟨3, ![1, 56, 128]⟩
abbrev S28x56x128 : Shape := ⟨3, ![28, 56, 128]⟩
abbrev S30x56x128 : Shape := ⟨3, ![30, 56, 128]⟩
abbrev S30x1x128 : Shape := ⟨3, ![30, 1, 128]⟩
abbrev S30x58x128 : Shape := ⟨3, ![30, 58, 128]⟩
abbrev S1568x128 : Shape := ⟨2, ![1568, 128]⟩
abbrev S28x56x256 : Shape := ⟨3, ![28, 56, 256]⟩
abbrev S1x28x1x56x256 : Shape := ⟨5, ![1, 28, 1, 56, 256]⟩
abbrev S8x112x112x128 : Shape := ⟨4, ![8, 112, 112, 128]⟩

abbrev nBuf : Space → Nat
  | .hbm => 199
  | .vmem => 10
  | .smem => 0
  | _ => 0

abbrev hbmTy0_0 (i : Nat) : BufTy := match i % 128 with
  | 0 => ⟨S8x56x56x128, .f32⟩
  | 1 => ⟨S128x128x3x3, .f32⟩
  | 2 => ⟨S128, .f32⟩
  | 3 => ⟨S128x128x1x1, .f32⟩
  | 4 => ⟨S128x128, .f32⟩
  | 5 => ⟨S128x128, .f32⟩
  | 6 => ⟨S_, .f32⟩
  | 7 => ⟨S128x128, .f32⟩
  | 8 => ⟨S128x128, .f32⟩
  | 9 => ⟨S128x128x1x1, .f32⟩
  | 10 => ⟨S128x128, .f32⟩
  | 11 => ⟨S128x128, .f32⟩
  | 12 => ⟨S_, .f32⟩
  | 13 => ⟨S128x128, .f32⟩
  | 14 => ⟨S128x128, .f32⟩
  | 15 => ⟨S128x128x1x1, .f32⟩
  | 16 => ⟨S128x128, .f32⟩
  | 17 => ⟨S128x128, .f32⟩
  | 18 => ⟨S128x128, .f32⟩
  | 19 => ⟨S128x128x1x1, .f32⟩
  | 20 => ⟨S128x128, .f32⟩
  | 21 => ⟨S128x128, .f32⟩
  | 22 => ⟨S_, .f32⟩
  | 23 => ⟨S128x128, .f32⟩
  | 24 => ⟨S128x128, .f32⟩
  | 25 => ⟨S128x128x1x1, .f32⟩
  | 26 => ⟨S128x128, .f32⟩
  | 27 => ⟨S128x128, .f32⟩
  | 28 => ⟨S128x128, .f32⟩
  | 29 => ⟨S128x128x1x1, .f32⟩
  | 30 => ⟨S128x128, .f32⟩
  | 31 => ⟨S128x128, .f32⟩
  | 32 => ⟨S_, .f32⟩
  | 33 => ⟨S128x128, .f32⟩
  | 34 => ⟨S128x128, .f32⟩
  | 35 => ⟨S128x128x1x1, .f32⟩
  | 36 => ⟨S128x128, .f32⟩
  | 37 => ⟨S128x128, .f32⟩
  | 38 => ⟨S128x128, .f32⟩
  | 39 => ⟨S128x128x1x1, .f32⟩
  | 40 => ⟨S128x128, .f32⟩
  | 41 => ⟨S128x128, .f32⟩
  | 42 => ⟨S128x128, .f32⟩
  | 43 => ⟨S128x128x1x1, .f32⟩
  | 44 => ⟨S128x128, .f32⟩
  | 45 => ⟨S128x128, .f32⟩
  | 46 => ⟨S128x128, .f32⟩
  | 47 => ⟨S128x128x1x1, .f32⟩
  | 48 => ⟨S128x128, .f32⟩
  | 49 => ⟨S128x128, .f32⟩
  | 50 => ⟨S_, .f32⟩
  | 51 => ⟨S128x128, .f32⟩
  | 52 => ⟨S128x128, .f32⟩
  | 53 => ⟨S128x128x1x1, .f32⟩
  | 54 => ⟨S128x128, .f32⟩
  | 55 => ⟨S128x128, .f32⟩
  | 56 => ⟨S128x128, .f32⟩
  | 57 => ⟨S128x128x1x1, .f32⟩
  | 58 => ⟨S128x128, .f32⟩
  | 59 => ⟨S128x128, .f32⟩
  | 60 => ⟨S_, .f32⟩
  | 61 => ⟨S128x128, .f32⟩
  | 62 => ⟨S128x128, .f32⟩
  | 63 => ⟨S128x128x1x1, .f32⟩
  | 64 => ⟨S128x128, .f32⟩
  | 65 => ⟨S128x128, .f32⟩
  | 66 => ⟨S_, .f32⟩
  | 67 => ⟨S128x128, .f32⟩
  | 68 => ⟨S128x128, .f32⟩
  | 69 => ⟨S128x128x1x1, .f32⟩
  | 70 => ⟨S128x128, .f32⟩
  | 71 => ⟨S128x128, .f32⟩
  | 72 => ⟨S128x128, .f32⟩
  | 73 => ⟨S128x128x1x1, .f32⟩
  | 74 => ⟨S128x128, .f32⟩
  | 75 => ⟨S128x128, .f32⟩
  | 76 => ⟨S128x128, .f32⟩
  | 77 => ⟨S128x128x1x1, .f32⟩
  | 78 => ⟨S128x128, .f32⟩
  | 79 => ⟨S128x128, .f32⟩
  | 80 => ⟨S128x128, .f32⟩
  | 81 => ⟨S128x128x1x1, .f32⟩
  | 82 => ⟨S128x128, .f32⟩
  | 83 => ⟨S128x128, .f32⟩
  | 84 => ⟨S_, .f32⟩
  | 85 => ⟨S128x128, .f32⟩
  | 86 => ⟨S128x128, .f32⟩
  | 87 => ⟨S128x128x1x1, .f32⟩
  | 88 => ⟨S128x128, .f32⟩
  | 89 => ⟨S128x128, .f32⟩
  | 90 => ⟨S128x128, .f32⟩
  | 91 => ⟨S128x128x1x1, .f32⟩
  | 92 => ⟨S128x128, .f32⟩
  | 93 => ⟨S128x128, .f32⟩
  | 94 => ⟨S_, .f32⟩
  | 95 => ⟨S128x128, .f32⟩
  | 96 => ⟨S128x128, .f32⟩
  | 97 => ⟨S128x128x1x1, .f32⟩
  | 98 => ⟨S128x128, .f32⟩
  | 99 => ⟨S128x128, .f32⟩
  | 100 => ⟨S128x128, .f32⟩
  | 101 => ⟨S128x128x1x1, .f32⟩
  | 102 => ⟨S128x128, .f32⟩
  | 103 => ⟨S128x128, .f32⟩
  | 104 => ⟨S_, .f32⟩
  | 105 => ⟨S128x128, .f32⟩
  | 106 => ⟨S128x128, .f32⟩
  | 107 => ⟨S128x128x1x1, .f32⟩
  | 108 => ⟨S128x128, .f32⟩
  | 109 => ⟨S128x128, .f32⟩
  | 110 => ⟨S128x128, .f32⟩
  | 111 => ⟨S128x128x1x1, .f32⟩
  | 112 => ⟨S128x128, .f32⟩
  | 113 => ⟨S128x128, .f32⟩
  | 114 => ⟨S128x128, .f32⟩
  | 115 => ⟨S128x128x1x1, .f32⟩
  | 116 => ⟨S128x128, .f32⟩
  | 117 => ⟨S128x128, .f32⟩
  | 118 => ⟨S128x128, .f32⟩
  | 119 => ⟨S128x128x1x1, .f32⟩
  | 120 => ⟨S128x128, .f32⟩
  | 121 => ⟨S128x128, .f32⟩
  | 122 => ⟨S_, .f32⟩
  | 123 => ⟨S128x128, .f32⟩
  | 124 => ⟨S128x128, .f32⟩
  | 125 => ⟨S128x128x1x1, .f32⟩
  | 126 => ⟨S128x128, .f32⟩
  | 127 => ⟨S128x128, .f32⟩
  | _ => ⟨S8x56x56x128, .f32⟩

abbrev hbmTy0_1 (i : Nat) : BufTy := match i % 128 with
  | 0 => ⟨S_, .f32⟩
  | 1 => ⟨S128x128, .f32⟩
  | 2 => ⟨S128x128, .f32⟩
  | 3 => ⟨S128x128x1x1, .f32⟩
  | 4 => ⟨S128x128, .f32⟩
  | 5 => ⟨S128x128, .f32⟩
  | 6 => ⟨S128x128, .f32⟩
  | 7 => ⟨S128x128x1x1, .f32⟩
  | 8 => ⟨S128x128, .f32⟩
  | 9 => ⟨S128x128, .f32⟩
  | 10 => ⟨S_, .f32⟩
  | 11 => ⟨S128x128, .f32⟩
  | 12 => ⟨S128x128, .f32⟩
  | 13 => ⟨S128x128x1x1, .f32⟩
  | 14 => ⟨S128x128, .f32⟩
  | 15 => ⟨S128x128, .f32⟩
  | 16 => ⟨S128x128, .f32⟩
  | 17 => ⟨S128x128x1x1, .f32⟩
  | 18 => ⟨S128x128, .f32⟩
  | 19 => ⟨S128x128, .f32⟩
  | 20 => ⟨S128x128, .f32⟩
  | 21 => ⟨S128x128x1x1, .f32⟩
  | 22 => ⟨S128x128, .f32⟩
  | 23 => ⟨S128x128, .f32⟩
  | 24 => ⟨S128x128, .f32⟩
  | 25 => ⟨S128x128x1x1, .f32⟩
  | 26 => ⟨S128x128, .f32⟩
  | 27 => ⟨S128x128, .f32⟩
  | 28 => ⟨S_, .f32⟩
  | 29 => ⟨S128x128, .f32⟩
  | 30 => ⟨S128x128, .f32⟩
  | 31 => ⟨S128x128x1x1, .f32⟩
  | 32 => ⟨S128x128, .f32⟩
  | 33 => ⟨S128x128, .f32⟩
  | 34 => ⟨S128x128, .f32⟩
  | 35 => ⟨S128x128x1x1, .f32⟩
  | 36 => ⟨S128x128, .f32⟩
  | 37 => ⟨S128x128, .f32⟩
  | 38 => ⟨S_, .f32⟩
  | 39 => ⟨S128x128, .f32⟩
  | 40 => ⟨S128x128, .f32⟩
  | 41 => ⟨S128x128x1x1, .f32⟩
  | 42 => ⟨S128x128, .f32⟩
  | 43 => ⟨S128x128, .f32⟩
  | 44 => ⟨S128x128, .f32⟩
  | 45 => ⟨S128x128x1x1, .f32⟩
  | 46 => ⟨S128x128, .f32⟩
  | 47 => ⟨S128x128, .f32⟩
  | 48 => ⟨S_, .f32⟩
  | 49 => ⟨S128x128, .f32⟩
  | 50 => ⟨S128x128, .f32⟩
  | 51 => ⟨S1x128x128, .f32⟩
  | 52 => ⟨S1x128x128, .f32⟩
  | 53 => ⟨S1x128x128, .f32⟩
  | 54 => ⟨S1x128x128, .f32⟩
  | 55 => ⟨S1x128x128, .f32⟩
  | 56 => ⟨S1x128x128, .f32⟩
  | 57 => ⟨S1x128x128, .f32⟩
  | 58 => ⟨S1x128x128, .f32⟩
  | 59 => ⟨S1x128x128, .f32⟩
  | 60 => ⟨S1x128x128, .f32⟩
  | 61 => ⟨S1x128x128, .f32⟩
  | 62 => ⟨S1x128x128, .f32⟩
  | 63 => ⟨S1x128x128, .f32⟩
  | 64 => ⟨S1x128x128, .f32⟩
  | 65 => ⟨S1x128x128, .f32⟩
  | 66 => ⟨S1x128x128, .f32⟩
  | 67 => ⟨S16x128x128, .f32⟩
  | 68 => ⟨S1x128, .f32⟩
  | 69 => ⟨S8x56x2x56x256, .bf16⟩
  | 70 => ⟨S8x112x112x128, .bf16⟩
  | _ => ⟨S8x56x56x128, .f32⟩

abbrev hbmTy (i : Nat) : BufTy := match i / 128 with
  | 0 => hbmTy0_0 i
  | 1 => hbmTy0_1 i
  | _ => ⟨S8x56x56x128, .f32⟩

abbrev bufTy : (tb : Table) → Fin (tcTables nBuf tb) → BufTy
  | .hbm, ⟨i, _⟩ => hbmTy i
  | .local _ .vmem, ⟨0, _⟩ => ⟨S1x1x56x128, .f32⟩
  | .local _ .vmem, ⟨1, _⟩ => ⟨S1x1x56x128, .f32⟩
  | .local _ .vmem, ⟨2, _⟩ => ⟨S1x28x56x128, .f32⟩
  | .local _ .vmem, ⟨3, _⟩ => ⟨S1x28x56x128, .f32⟩
  | .local _ .vmem, ⟨4, _⟩ => ⟨S1x1x56x128, .f32⟩
  | .local _ .vmem, ⟨5, _⟩ => ⟨S1x1x56x128, .f32⟩
  | .local _ .vmem, ⟨6, _⟩ => ⟨S16x128x128, .f32⟩
  | .local _ .vmem, ⟨7, _⟩ => ⟨S1x128, .f32⟩
  | .local _ .vmem, ⟨8, _⟩ => ⟨S1x28x2x56x256, .bf16⟩
  | .local _ .vmem, ⟨9, _⟩ => ⟨S1x28x2x56x256, .bf16⟩
  | _, _ => ⟨S8x56x56x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_3 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_4 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_5 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_cst_6 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_cst_7 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_cst_8 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_cst_9 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_cst_10 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_cst_11 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_cst_12 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_cst_13 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_cst_14 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c28_i32 : BitVec 32 := 28#32
  let v0 : BitVec 32 := Scalar.muli c28_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c28_i32 : BitVec 32 := 28#32
  let v0 : BitVec 32 := Scalar.muli c28_i32 arg1
  let c28_i32_0 : BitVec 32 := 28#32
  let v1 : BitVec 32 := Scalar.addi v0 c28_i32_0
  let c55_i32 : BitVec 32 := 55#32
  let v2 : BitVec 32 := Scalar.minsi v1 c55_i32
  let c0_i32 : BitVec 32 := 0#32
  let c0_i32_1 : BitVec 32 := 0#32
  let c0_i32_2 : BitVec 32 := 0#32
  ![arg0.toNat, v2.toNat, c0_i32.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x56x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x28x56x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x56x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S16x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x28x2x56x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8x56x56x128 : Shape := ⟨4, ![8, 56, 56, 128]⟩
abbrev S128x128x3x3 : Shape := ⟨4, ![128, 128, 3, 3]⟩
abbrev S128 : Shape := ⟨1, ![128]⟩
abbrev S8x56x2x56x128 : Shape := ⟨5, ![8, 56, 2, 56, 128]⟩
abbrev S8x112x56x128 : Shape := ⟨4, ![8, 112, 56, 128]⟩
abbrev S8x112x56x2x128 : Shape := ⟨5, ![8, 112, 56, 2, 128]⟩
abbrev S8x112x112x128 : Shape := ⟨4, ![8, 112, 112, 128]⟩
abbrev S_ : Shape := ⟨0, ![]⟩
abbrev S8x114x114x128 : Shape := ⟨4, ![8, 114, 114, 128]⟩
abbrev S8x112x112x1152 : Shape := ⟨4, ![8, 112, 112, 1152]⟩
abbrev S8x12544x1152 : Shape := ⟨3, ![8, 12544, 1152]⟩
abbrev S3x3x128x128 : Shape := ⟨4, ![3, 3, 128, 128]⟩
abbrev S1152x128 : Shape := ⟨2, ![1152, 128]⟩
abbrev S8x12544x128 : Shape := ⟨3, ![8, 12544, 128]⟩
abbrev S1x1x128 : Shape := ⟨3, ![1, 1, 128]⟩

abbrev nBuf : Space → Nat
  | .hbm => 32
  | .vmem => 0
  | .smem => 0
  | _ => 0

abbrev bufTy : (tb : Table) → Fin (tcTables nBuf tb) → BufTy
  | .hbm, ⟨0, _⟩ => ⟨S8x56x56x128, .f32⟩
  | .hbm, ⟨1, _⟩ => ⟨S128x128x3x3, .f32⟩
  | .hbm, ⟨2, _⟩ => ⟨S128, .f32⟩
  | .hbm, ⟨3, _⟩ => ⟨S8x56x2x56x128, .f32⟩
  | .hbm, ⟨4, _⟩ => ⟨S8x112x56x128, .f32⟩
  | .hbm, ⟨5, _⟩ => ⟨S8x112x56x2x128, .f32⟩
  | .hbm, ⟨6, _⟩ => ⟨S8x112x112x128, .f32⟩
  | .hbm, ⟨7, _⟩ => ⟨S_, .i32⟩
  | .hbm, ⟨8, _⟩ => ⟨S_, .f32⟩
  | .hbm, ⟨9, _⟩ => ⟨S8x114x114x128, .f32⟩
  | .hbm, ⟨10, _⟩ => ⟨S8x112x112x128, .f32⟩
  | .hbm, ⟨11, _⟩ => ⟨S8x112x112x128, .f32⟩
  | .hbm, ⟨12, _⟩ => ⟨S8x112x112x128, .f32⟩
  | .hbm, ⟨13, _⟩ => ⟨S8x112x112x128, .f32⟩
  | .hbm, ⟨14, _⟩ => ⟨S8x112x112x128, .f32⟩
  | .hbm, ⟨15, _⟩ => ⟨S8x112x112x128, .f32⟩
  | .hbm, ⟨16, _⟩ => ⟨S8x112x112x128, .f32⟩
  | .hbm, ⟨17, _⟩ => ⟨S8x112x112x128, .f32⟩
  | .hbm, ⟨18, _⟩ => ⟨S8x112x112x128, .f32⟩
  | .hbm, ⟨19, _⟩ => ⟨S8x112x112x1152, .f32⟩
  | .hbm, ⟨20, _⟩ => ⟨S8x12544x1152, .f32⟩
  | .hbm, ⟨21, _⟩ => ⟨S3x3x128x128, .f32⟩
  | .hbm, ⟨22, _⟩ => ⟨S1152x128, .f32⟩
  | .hbm, ⟨23, _⟩ => ⟨S8x12544x128, .f32⟩
  | .hbm, ⟨24, _⟩ => ⟨S1x1x128, .f32⟩
  | .hbm, ⟨25, _⟩ => ⟨S8x12544x128, .f32⟩
  | .hbm, ⟨26, _⟩ => ⟨S8x12544x128, .f32⟩
  | .hbm, ⟨27, _⟩ => ⟨S_, .f32⟩
  | .hbm, ⟨28, _⟩ => ⟨S8x12544x128, .f32⟩
  | .hbm, ⟨29, _⟩ => ⟨S8x12544x128, .f32⟩
  | .hbm, ⟨30, _⟩ => ⟨S8x112x112x128, .f32⟩
  | .hbm, ⟨31, _⟩ => ⟨S8x112x112x128, .bf16⟩
  | _, _ => ⟨S8x56x56x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_call1_cst : Ref sig .tc := ⟨.hbm, 27, rfl⟩
abbrev main_call1_v0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel4.lean ====
abbrev S8x224x224x64 : Shape := ⟨4, ![8, 224, 224, 64]⟩
abbrev S3x64x3x3 : Shape := ⟨4, ![3, 64, 3, 3]⟩
abbrev S3 : Shape := ⟨1, ![3]⟩
abbrev S8x3x224x224 : Shape := ⟨4, ![8, 3, 224, 224]⟩
abbrev S_ : Shape := ⟨0, ![]⟩
abbrev S8x64x3x3 : Shape := ⟨4, ![8, 64, 3, 3]⟩
abbrev S8x64x1x1 : Shape := ⟨4, ![8, 64, 1, 1]⟩
abbrev S8x64 : Shape := ⟨2, ![8, 64]⟩
abbrev S64x8 : Shape := ⟨2, ![64, 8]⟩
abbrev S1x64x8 : Shape := ⟨3, ![1, 64, 8]⟩
abbrev S9x64x8 : Shape := ⟨3, ![9, 64, 8]⟩
abbrev S8 : Shape := ⟨1, ![8]⟩
abbrev S1x8 : Shape := ⟨2, ![1, 8]⟩
abbrev S8x7x8x128 : Shape := ⟨4, ![8, 7, 8, 128]⟩
abbrev S1x1x224x64 : Shape := ⟨4, ![1, 1, 224, 64]⟩
abbrev S1x32x224x64 : Shape := ⟨4, ![1, 32, 224, 64]⟩
abbrev S1x3x32x224 : Shape := ⟨4, ![1, 3, 32, 224]⟩
abbrev S1x1x8x128 : Shape := ⟨4, ![1, 1, 8, 128]⟩
abbrev S1x224x64 : Shape := ⟨3, ![1, 224, 64]⟩
abbrev S32x224x64 : Shape := ⟨3, ![32, 224, 64]⟩
abbrev S34x224x64 : Shape := ⟨3, ![34, 224, 64]⟩
abbrev S34x1x64 : Shape := ⟨3, ![34, 1, 64]⟩
abbrev S34x226x64 : Shape := ⟨3, ![34, 226, 64]⟩
abbrev S7168x8 : Shape := ⟨2, ![7168, 8]⟩
abbrev S7168x64 : Shape := ⟨2, ![7168, 64]⟩
abbrev S8x7168 : Shape := ⟨2, ![8, 7168]⟩
abbrev S8x32x224 : Shape := ⟨3, ![8, 32, 224]⟩
abbrev S3x32x224 : Shape := ⟨3, ![3, 32, 224]⟩
abbrev S1 : Shape := ⟨1, ![1]⟩
abbrev S1x1x1x1 : Shape := ⟨4, ![1, 1, 1, 1]⟩
abbrev S8x128 : Shape := ⟨2, ![8, 128]⟩

abbrev nBuf : Space → Nat
  | .hbm => 58
  | .vmem => 14
  | .smem => 0
  | _ => 0

abbrev bufTy : (tb : Table) → Fin (tcTables nBuf tb) → BufTy
  | .hbm, ⟨0, _⟩ => ⟨S8x224x224x64, .bf16⟩
  | .hbm, ⟨1, _⟩ => ⟨S3x64x3x3, .f32⟩
  | .hbm, ⟨2, _⟩ => ⟨S3, .f32⟩
  | .hbm, ⟨3, _⟩ => ⟨S8x3x224x224, .f32⟩
  | .hbm, ⟨4, _⟩ => ⟨S_, .i32⟩
  | .hbm, ⟨5, _⟩ => ⟨S_, .f32⟩
  | .hbm, ⟨6, _⟩ => ⟨S8x64x3x3, .f32⟩
  | .hbm, ⟨7, _⟩ => ⟨S8x64x1x1, .f32⟩
  | .hbm, ⟨8, _⟩ => ⟨S8x64, .f32⟩
  | .hbm, ⟨9, _⟩ => ⟨S64x8, .f32⟩
  | .hbm, ⟨10, _⟩ => ⟨S8x64x1x1, .f32⟩
  | .hbm, ⟨11, _⟩ => ⟨S8x64, .f32⟩
  | .hbm, ⟨12, _⟩ => ⟨S64x8, .f32⟩
  | .hbm, ⟨13, _⟩ => ⟨S8x64x1x1, .f32⟩
  | .hbm, ⟨14, _⟩ => ⟨S8x64, .f32⟩
  | .hbm, ⟨15, _⟩ => ⟨S64x8, .f32⟩
  | .hbm, ⟨16, _⟩ => ⟨S8x64x1x1, .f32⟩
  | .hbm, ⟨17, _⟩ => ⟨S8x64, .f32⟩
  | .hbm, ⟨18, _⟩ => ⟨S64x8, .f32⟩
  | .hbm, ⟨19, _⟩ => ⟨S8x64x1x1, .f32⟩
  | .hbm, ⟨20, _⟩ => ⟨S8x64, .f32⟩
  | .hbm, ⟨21, _⟩ => ⟨S64x8, .f32⟩
  | .hbm, ⟨22, _⟩ => ⟨S8x64x1x1, .f32⟩
  | .hbm, ⟨23, _⟩ => ⟨S8x64, .f32⟩
  | .hbm, ⟨24, _⟩ => ⟨S64x8, .f32⟩
  | .hbm, ⟨25, _⟩ => ⟨S8x64x1x1, .f32⟩
  | .hbm, ⟨26, _⟩ => ⟨S8x64, .f32⟩
  | .hbm, ⟨27, _⟩ => ⟨S64x8, .f32⟩
  | .hbm, ⟨28, _⟩ => ⟨S8x64x1x1, .f32⟩
  | .hbm, ⟨29, _⟩ => ⟨S8x64, .f32⟩
  | .hbm, ⟨30, _⟩ => ⟨S64x8, .f32⟩
  | .hbm, ⟨31, _⟩ => ⟨S8x64x1x1, .f32⟩
  | .hbm, ⟨32, _⟩ => ⟨S8x64, .f32⟩
  | .hbm, ⟨33, _⟩ => ⟨S64x8, .f32⟩
  | .hbm, ⟨34, _⟩ => ⟨S1x64x8, .f32⟩
  | .hbm, ⟨35, _⟩ => ⟨S1x64x8, .f32⟩
  | .hbm, ⟨36, _⟩ => ⟨S1x64x8, .f32⟩
  | .hbm, ⟨37, _⟩ => ⟨S1x64x8, .f32⟩
  | .hbm, ⟨38, _⟩ => ⟨S1x64x8, .f32⟩
  | .hbm, ⟨39, _⟩ => ⟨S1x64x8, .f32⟩
  | .hbm, ⟨40, _⟩ => ⟨S1x64x8, .f32⟩
  | .hbm, ⟨41, _⟩ => ⟨S1x64x8, .f32⟩
  | .hbm, ⟨42, _⟩ => ⟨S1x64x8, .f32⟩
  | .hbm, ⟨43, _⟩ => ⟨S9x64x8, .f32⟩
  | .hbm, ⟨44, _⟩ => ⟨S_, .i32⟩
  | .hbm, ⟨45, _⟩ => ⟨S_, .f32⟩
  | .hbm, ⟨46, _⟩ => ⟨S8, .f32⟩
  | .hbm, ⟨47, _⟩ => ⟨S1x8, .f32⟩
  | .hbm, ⟨48, _⟩ => ⟨S8x3x224x224, .f32⟩
  | .hbm, ⟨49, _⟩ => ⟨S8x7x8x128, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S1x1x224x64, .bf16⟩
  | .local _ .vmem, ⟨1, _⟩ => ⟨S1x1x224x64, .bf16⟩
  | .local _ .vmem, ⟨2, _⟩ => ⟨S1x32x224x64, .bf16⟩
  | .local _ .vmem, ⟨3, _⟩ => ⟨S1x32x224x64, .bf16⟩
  | .local _ .vmem, ⟨4, _⟩ => ⟨S1x1x224x64, .bf16⟩
  | .local _ .vmem, ⟨5, _⟩ => ⟨S1x1x224x64, .bf16⟩
  | .local _ .vmem, ⟨6, _⟩ => ⟨S9x64x8, .f32⟩
  | .local _ .vmem, ⟨7, _⟩ => ⟨S1x8, .f32⟩
  | .local _ .vmem, ⟨8, _⟩ => ⟨S1x3x32x224, .f32⟩
  | .local _ .vmem, ⟨9, _⟩ => ⟨S1x3x32x224, .f32⟩
  | .local _ .vmem, ⟨10, _⟩ => ⟨S1x3x32x224, .f32⟩
  | .local _ .vmem, ⟨11, _⟩ => ⟨S1x3x32x224, .f32⟩
  | .local _ .vmem, ⟨12, _⟩ => ⟨S1x1x8x128, .f32⟩
  | .local _ .vmem, ⟨13, _⟩ => ⟨S1x1x8x128, .f32⟩
  | _, _ => ⟨S8x224x224x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_c_0 : Ref sig .tc := ⟨.hbm, 44, rfl⟩
abbrev main_call1_v0 : Ref sig .tc := ⟨.hbm, 45, rfl⟩
abbrev main_v38 : Ref sig .tc := ⟨.hbm, 46, rfl⟩
abbrev main_v39 : Ref sig .tc := ⟨.hbm, 47, rfl⟩
abbrev main_v40_0 : Ref sig .tc := ⟨.hbm, 48, rfl⟩
abbrev main_v40_1 : Ref sig .tc := ⟨.hbm, 49, rfl⟩
abbrev main_cst : Ref sig .tc := ⟨.hbm, 50, rfl⟩
abbrev main_v41 : Ref sig .tc := ⟨.hbm, 51, rfl⟩
abbrev main_cst_1 : Ref sig .tc := ⟨.hbm, 52, rfl⟩
abbrev main_v42 : Ref sig .tc := ⟨.hbm, 53, rfl⟩
abbrev main_cst_2 : Ref sig .tc := ⟨.hbm, 54, rfl⟩
abbrev main_v43 : Ref sig .tc := ⟨.hbm, 55, rfl⟩
abbrev main_cst_3 : Ref sig .tc := ⟨.hbm, 56, rfl⟩
abbrev main_v44 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 7], ![false, false]⟩

def cc0_transform_0 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli c32_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli c32_i32 arg1
  let c32_i32_0 : BitVec 32 := 32#32
  let v1 : BitVec 32 := Scalar.addi v0 c32_i32_0
  let c223_i32 : BitVec 32 := 223#32
  let v2 : BitVec 32 := Scalar.minsi v1 c223_i32
  let c0_i32 : BitVec 32 := 0#32
  let c0_i32_1 : BitVec 32 := 0#32
  let c0_i32_2 : BitVec 32 := 0#32
  ![arg0.toNat, v2.toNat, c0_i32.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x224x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x224x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x224x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S9x64x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x3x32x224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x32x224 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S8x224x224x64 : Shape := ⟨4, ![8, 224, 224, 64]⟩
abbrev S3x64x3x3 : Shape := ⟨4, ![3, 64, 3, 3]⟩
abbrev S3 : Shape := ⟨1, ![3]⟩
abbrev S8x3x224x224 : Shape := ⟨4, ![8, 3, 224, 224]⟩
abbrev S_ : Shape := ⟨0, ![]⟩
abbrev S8x226x226x64 : Shape := ⟨4, ![8, 226, 226, 64]⟩
abbrev S8x224x224x576 : Shape := ⟨4, ![8, 224, 224, 576]⟩
abbrev S8x50176x576 : Shape := ⟨3, ![8, 50176, 576]⟩
abbrev S3x3x64x3 : Shape := ⟨4, ![3, 3, 64, 3]⟩
abbrev S576x3 : Shape := ⟨2, ![576, 3]⟩
abbrev S8x50176x3 : Shape := ⟨3, ![8, 50176, 3]⟩
abbrev S1x1x3 : Shape := ⟨3, ![1, 1, 3]⟩
abbrev S8x3x50176 : Shape := ⟨3, ![8, 3, 50176]⟩

abbrev nBuf : Space → Nat
  | .hbm => 41
  | .vmem => 0
  | .smem => 0
  | _ => 0

abbrev bufTy : (tb : Table) → Fin (tcTables nBuf tb) → BufTy
  | .hbm, ⟨0, _⟩ => ⟨S8x224x224x64, .bf16⟩
  | .hbm, ⟨1, _⟩ => ⟨S3x64x3x3, .f32⟩
  | .hbm, ⟨2, _⟩ => ⟨S3, .f32⟩
  | .hbm, ⟨3, _⟩ => ⟨S8x3x224x224, .f32⟩
  | .hbm, ⟨4, _⟩ => ⟨S8x224x224x64, .f32⟩
  | .hbm, ⟨5, _⟩ => ⟨S_, .i32⟩
  | .hbm, ⟨6, _⟩ => ⟨S_, .f32⟩
  | .hbm, ⟨7, _⟩ => ⟨S8x226x226x64, .f32⟩
  | .hbm, ⟨8, _⟩ => ⟨S8x224x224x64, .f32⟩
  | .hbm, ⟨9, _⟩ => ⟨S8x224x224x64, .f32⟩
  | .hbm, ⟨10, _⟩ => ⟨S8x224x224x64, .f32⟩
  | .hbm, ⟨11, _⟩ => ⟨S8x224x224x64, .f32⟩
  | .hbm, ⟨12, _⟩ => ⟨S8x224x224x64, .f32⟩
  | .hbm, ⟨13, _⟩ => ⟨S8x224x224x64, .f32⟩
  | .hbm, ⟨14, _⟩ => ⟨S8x224x224x64, .f32⟩
  | .hbm, ⟨15, _⟩ => ⟨S8x224x224x64, .f32⟩
  | .hbm, ⟨16, _⟩ => ⟨S8x224x224x64, .f32⟩
  | .hbm, ⟨17, _⟩ => ⟨S8x224x224x576, .f32⟩
  | .hbm, ⟨18, _⟩ => ⟨S8x50176x576, .f32⟩
  | .hbm, ⟨19, _⟩ => ⟨S3x3x64x3, .f32⟩
  | .hbm, ⟨20, _⟩ => ⟨S576x3, .f32⟩
  | .hbm, ⟨21, _⟩ => ⟨S8x50176x3, .f32⟩
  | .hbm, ⟨22, _⟩ => ⟨S1x1x3, .f32⟩
  | .hbm, ⟨23, _⟩ => ⟨S8x50176x3, .f32⟩
  | .hbm, ⟨24, _⟩ => ⟨S8x50176x3, .f32⟩
  | .hbm, ⟨25, _⟩ => ⟨S8x3x50176, .f32⟩
  | .hbm, ⟨26, _⟩ => ⟨S8x3x224x224, .f32⟩
  | .hbm, ⟨27, _⟩ => ⟨S8x3x224x224, .f32⟩
  | .hbm, ⟨28, _⟩ => ⟨S8x3x224x224, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8x3x224x224, .f32⟩
  | .hbm, ⟨34, _⟩ => ⟨S8x3x224x224, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S8x224x224x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel5.lean ====
abbrev S8x112x112x128 : Shape := ⟨4, ![8, 112, 112, 128]⟩
abbrev S128x128x3x3 : Shape := ⟨4, ![128, 128, 3, 3]⟩
abbrev S128 : Shape := ⟨1, ![128]⟩
abbrev S128x128x1x1 : Shape := ⟨4, ![128, 128, 1, 1]⟩
abbrev S128x128 : Shape := ⟨2, ![128, 128]⟩
abbrev S1x128x128 : Shape := ⟨3, ![1, 128, 128]⟩
abbrev S9x128x128 : Shape := ⟨3, ![9, 128, 128]⟩
abbrev S1x128 : Shape := ⟨2, ![1, 128]⟩
abbrev S8x56x56x128 : Shape := ⟨4, ![8, 56, 56, 128]⟩
abbrev S1x1x112x128 : Shape := ⟨4, ![1, 1, 112, 128]⟩
abbrev S1x56x112x128 : Shape := ⟨4, ![1, 56, 112, 128]⟩
abbrev S1x28x56x128 : Shape := ⟨4, ![1, 28, 56, 128]⟩
abbrev S1x112x128 : Shape := ⟨3, ![1, 112, 128]⟩
abbrev S56x112x128 : Shape := ⟨3, ![56, 112, 128]⟩
abbrev S58x112x128 : Shape := ⟨3, ![58, 112, 128]⟩
abbrev S58x1x128 : Shape := ⟨3, ![58, 1, 128]⟩
abbrev S58x114x128 : Shape := ⟨3, ![58, 114, 128]⟩
abbrev S29x2x57x256 : Shape := ⟨4, ![29, 2, 57, 256]⟩
abbrev S1568x128 : Shape := ⟨2, ![1568, 128]⟩
abbrev S28x1x57x256 : Shape := ⟨4, ![28, 1, 57, 256]⟩
abbrev S28x57x256 : Shape := ⟨3, ![28, 57, 256]⟩
abbrev S28x56x128 : Shape := ⟨3, ![28, 56, 128]⟩

abbrev nBuf : Space → Nat
  | .hbm => 42
  | .vmem => 10
  | .smem => 0
  | _ => 0

abbrev bufTy : (tb : Table) → Fin (tcTables nBuf tb) → BufTy
  | .hbm, ⟨0, _⟩ => ⟨S8x112x112x128, .f32⟩
  | .hbm, ⟨1, _⟩ => ⟨S128x128x3x3, .f32⟩
  | .hbm, ⟨2, _⟩ => ⟨S128, .f32⟩
  | .hbm, ⟨3, _⟩ => ⟨S128x128x1x1, .f32⟩
  | .hbm, ⟨4, _⟩ => ⟨S128x128, .f32⟩
  | .hbm, ⟨5, _⟩ => ⟨S128x128, .f32⟩
  | .hbm, ⟨6, _⟩ => ⟨S128x128x1x1, .f32⟩
  | .hbm, ⟨7, _⟩ => ⟨S128x128, .f32⟩
  | .hbm, ⟨8, _⟩ => ⟨S128x128, .f32⟩
  | .hbm, ⟨9, _⟩ => ⟨S128x128x1x1, .f32⟩
  | .hbm, ⟨10, _⟩ => ⟨S128x128, .f32⟩
  | .hbm, ⟨11, _⟩ => ⟨S128x128, .f32⟩
  | .hbm, ⟨12, _⟩ => ⟨S128x128x1x1, .f32⟩
  | .hbm, ⟨13, _⟩ => ⟨S128x128, .f32⟩
  | .hbm, ⟨14, _⟩ => ⟨S128x128, .f32⟩
  | .hbm, ⟨15, _⟩ => ⟨S128x128x1x1, .f32⟩
  | .hbm, ⟨16, _⟩ => ⟨S128x128, .f32⟩
  | .hbm, ⟨17, _⟩ => ⟨S128x128, .f32⟩
  | .hbm, ⟨18, _⟩ => ⟨S128x128x1x1, .f32⟩
  | .hbm, ⟨19, _⟩ => ⟨S128x128, .f32⟩
  | .hbm, ⟨20, _⟩ => ⟨S128x128, .f32⟩
  | .hbm, ⟨21, _⟩ => ⟨S128x128x1x1, .f32⟩
  | .hbm, ⟨22, _⟩ => ⟨S128x128, .f32⟩
  | .hbm, ⟨23, _⟩ => ⟨S128x128, .f32⟩
  | .hbm, ⟨24, _⟩ => ⟨S128x128x1x1, .f32⟩
  | .hbm, ⟨25, _⟩ => ⟨S128x128, .f32⟩
  | .hbm, ⟨26, _⟩ => ⟨S128x128, .f32⟩
  | .hbm, ⟨27, _⟩ => ⟨S128x128x1x1, .f32⟩
  | .hbm, ⟨28, _⟩ => ⟨S128x128, .f32⟩
  | .hbm, ⟨29, _⟩ => ⟨S128x128, .f32⟩
  | .hbm, ⟨30, _⟩ => ⟨S1x128x128, .f32⟩
  | .hbm, ⟨31, _⟩ => ⟨S1x128x128, .f32⟩
  | .hbm, ⟨32, _⟩ => ⟨S1x128x128, .f32⟩
  | .hbm, ⟨33, _⟩ => ⟨S1x128x128, .f32⟩
  | .hbm, ⟨34, _⟩ => ⟨S1x128x128, .f32⟩
  | .hbm, ⟨35, _⟩ => ⟨S1x128x128, .f32⟩
  | .hbm, ⟨36, _⟩ => ⟨S1x128x128, .f32⟩
  | .hbm, ⟨37, _⟩ => ⟨S1x128x128, .f32⟩
  | .hbm, ⟨38, _⟩ => ⟨S1x128x128, .f32⟩
  | .hbm, ⟨39, _⟩ => ⟨S9x128x128, .f32⟩
  | .hbm, ⟨40, _⟩ => ⟨S1x128, .f32⟩
  | .hbm, ⟨41, _⟩ => ⟨S8x56x56x128, .f32⟩
  | .local _ .vmem, ⟨0, _⟩ => ⟨S1x1x112x128, .f32⟩
  | .local _ .vmem, ⟨1, _⟩ => ⟨S1x1x112x128, .f32⟩
  | .local _ .vmem, ⟨2, _⟩ => ⟨S1x56x112x128, .f32⟩
  | .local _ .vmem, ⟨3, _⟩ => ⟨S1x56x112x128, .f32⟩
  | .local _ .vmem, ⟨4, _⟩ => ⟨S1x1x112x128, .f32⟩
  | .local _ .vmem, ⟨5, _⟩ => ⟨S1x1x112x128, .f32⟩
  | .local _ .vmem, ⟨6, _⟩ => ⟨S9x128x128, .f32⟩
  | .local _ .vmem, ⟨7, _⟩ => ⟨S1x128, .f32⟩
  | .local _ .vmem, ⟨8, _⟩ => ⟨S1x28x56x128, .f32⟩
  | .local _ .vmem, ⟨9, _⟩ => ⟨S1x28x56x128, .f32⟩
  | _, _ => ⟨S8x112x112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c56_i32 : BitVec 32 := 56#32
  let v0 : BitVec 32 := Scalar.muli c56_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c56_i32 : BitVec 32 := 56#32
  let v0 : BitVec 32 := Scalar.muli c56_i32 arg1
  let c56_i32_0 : BitVec 32 := 56#32
  let v1 : BitVec 32 := Scalar.addi v0 c56_i32_0
  let c111_i32 : BitVec 32 := 111#32
  let v2 : BitVec 32 := Scalar.minsi v1 c111_i32
  let c0_i32 : BitVec 32 := 0#32
  let c0_i32_1 : BitVec 32 := 0#32
  let c0_i32_2 : BitVec 32 := 0#32
  ![arg0.toNat, v2.toNat, c0_i32.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x112x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x56x112x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x112x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S9x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x28x56x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8x112x112x128 : Shape := ⟨4, ![8, 112, 112, 128]⟩
abbrev S128x128x3x3 : Shape := ⟨4, ![128, 128, 3, 3]⟩
abbrev S128 : Shape := ⟨1, ![128]⟩
abbrev S_ : Shape := ⟨0, ![]⟩
abbrev S8x114x114x128 : Shape := ⟨4, ![8, 114, 114, 128]⟩
abbrev S8x56x56x128 : Shape := ⟨4, ![8, 56, 56, 128]⟩
abbrev S8x56x56x1152 : Shape := ⟨4, ![8, 56, 56, 1152]⟩
abbrev S8x3136x1152 : Shape := ⟨3, ![8, 3136, 1152]⟩
abbrev S3x3x128x128 : Shape := ⟨4, ![3, 3, 128, 128]⟩
abbrev S1152x128 : Shape := ⟨2, ![1152, 128]⟩
abbrev S8x3136x128 : Shape := ⟨3, ![8, 3136, 128]⟩
abbrev S1x1x128 : Shape := ⟨3, ![1, 1, 128]⟩

abbrev nBuf : Space → Nat
  | .hbm => 27
  | .vmem => 0
  | .smem => 0
  | _ => 0

abbrev bufTy : (tb : Table) → Fin (tcTables nBuf tb) → BufTy
  | .hbm, ⟨0, _⟩ => ⟨S8x112x112x128, .f32⟩
  | .hbm, ⟨1, _⟩ => ⟨S128x128x3x3, .f32⟩
  | .hbm, ⟨2, _⟩ => ⟨S128, .f32⟩
  | .hbm, ⟨3, _⟩ => ⟨S_, .i32⟩
  | .hbm, ⟨4, _⟩ => ⟨S_, .f32⟩
  | .hbm, ⟨5, _⟩ => ⟨S8x114x114x128, .f32⟩
  | .hbm, ⟨6, _⟩ => ⟨S8x56x56x128, .f32⟩
  | .hbm, ⟨7, _⟩ => ⟨S8x56x56x128, .f32⟩
  | .hbm, ⟨8, _⟩ => ⟨S8x56x56x128, .f32⟩
  | .hbm, ⟨9, _⟩ => ⟨S8x56x56x128, .f32⟩
  | .hbm, ⟨10, _⟩ => ⟨S8x56x56x128, .f32⟩
  | .hbm, ⟨11, _⟩ => ⟨S8x56x56x128, .f32⟩
  | .hbm, ⟨12, _⟩ => ⟨S8x56x56x128, .f32⟩
  | .hbm, ⟨13, _⟩ => ⟨S8x56x56x128, .f32⟩
  | .hbm, ⟨14, _⟩ => ⟨S8x56x56x128, .f32⟩
  | .hbm, ⟨15, _⟩ => ⟨S8x56x56x1152, .f32⟩
  | .hbm, ⟨16, _⟩ => ⟨S8x3136x1152, .f32⟩
  | .hbm, ⟨17, _⟩ => ⟨S3x3x128x128, .f32⟩
  | .hbm, ⟨18, _⟩ => ⟨S1152x128, .f32⟩
  | .hbm, ⟨19, _⟩ => ⟨S8x3136x128, .f32⟩
  | .hbm, ⟨20, _⟩ => ⟨S1x1x128, .f32⟩
  | .hbm, ⟨21, _⟩ => ⟨S8x3136x128, .f32⟩
  | .hbm, ⟨22, _⟩ => ⟨S8x3136x128, .f32⟩
  | .hbm, ⟨23, _⟩ => ⟨S_, .f32⟩
  | .hbm, ⟨24, _⟩ => ⟨S8x3136x128, .f32⟩
  | .hbm, ⟨25, _⟩ => ⟨S8x3136x128, .f32⟩
  | .hbm, ⟨26, _⟩ => ⟨S8x56x56x128, .f32⟩
  | _, _ => ⟨S8x112x112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call1_cst : Ref sig .tc := ⟨.hbm, 23, rfl⟩
abbrev main_call1_v0 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel6.lean ====
abbrev S8x56x56x128 : Shape := ⟨4, ![8, 56, 56, 128]⟩
abbrev S128x128x1x1 : Shape := ⟨4, ![128, 128, 1, 1]⟩
abbrev S128 : Shape := ⟨1, ![128]⟩
abbrev S128x128 : Shape := ⟨2, ![128, 128]⟩
abbrev S25088x128 : Shape := ⟨2, ![25088, 128]⟩
abbrev S1x128 : Shape := ⟨2, ![1, 128]⟩
abbrev S3136x128 : Shape := ⟨2, ![3136, 128]⟩
abbrev S3136 : Shape := ⟨1, ![3136]⟩
abbrev S3136x1 : Shape := ⟨2, ![3136, 1]⟩

abbrev nBuf : Space → Nat
  | .hbm => 14
  | .vmem => 9
  | .smem => 0
  | _ => 0

abbrev bufTy : (tb : Table) → Fin (tcTables nBuf tb) → BufTy
  | .hbm, ⟨0, _⟩ => ⟨S8x56x56x128, .f32⟩
  | .hbm, ⟨1, _⟩ => ⟨S128x128x1x1, .f32⟩
  | .hbm, ⟨2, _⟩ => ⟨S128, .f32⟩
  | .hbm, ⟨3, _⟩ => ⟨S128x128, .f32⟩
  | .hbm, ⟨4, _⟩ => ⟨S128x128x1x1, .f32⟩
  | .hbm, ⟨5, _⟩ => ⟨S128, .f32⟩
  | .hbm, ⟨6, _⟩ => ⟨S25088x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S1x128, .f32⟩
  | .hbm, ⟨12, _⟩ => ⟨S1x128, .f32⟩
  | .hbm, ⟨13, _⟩ => ⟨S25088x128, .f32⟩
  | .local _ .vmem, ⟨0, _⟩ => ⟨S3136x128, .f32⟩
  | .local _ .vmem, ⟨1, _⟩ => ⟨S3136x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S3136x128, .f32⟩
  | .local _ .vmem, ⟨8, _⟩ => ⟨S3136x128, .f32⟩
  | _, _ => ⟨S8x56x56x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3136x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3136x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S8x56x56x128 : Shape := ⟨4, ![8, 56, 56, 128]⟩
abbrev S128x128x1x1 : Shape := ⟨4, ![128, 128, 1, 1]⟩
abbrev S128 : Shape := ⟨1, ![128]⟩
abbrev S128x128 : Shape := ⟨2, ![128, 128]⟩
abbrev S25088x128 : Shape := ⟨2, ![25088, 128]⟩
abbrev S1x128 : Shape := ⟨2, ![1, 128]⟩
abbrev S_ : Shape := ⟨0, ![]⟩
abbrev S25088 : Shape := ⟨1, ![25088]⟩
abbrev S25088x1 : Shape := ⟨2, ![25088, 1]⟩
abbrev S1 : Shape := ⟨1, ![1]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S8x56x56x128, .f32⟩
  | .hbm, ⟨1, _⟩ => ⟨S128x128x1x1, .f32⟩
  | .hbm, ⟨2, _⟩ => ⟨S128, .f32⟩
  | .hbm, ⟨3, _⟩ => ⟨S128x128, .f32⟩
  | .hbm, ⟨4, _⟩ => ⟨S128x128x1x1, .f32⟩
  | .hbm, ⟨5, _⟩ => ⟨S128, .f32⟩
  | .hbm, ⟨6, _⟩ => ⟨S25088x128, .f32⟩
  | .hbm, ⟨7, _⟩ => ⟨S128x128, .f32⟩
  | .hbm, ⟨8, _⟩ => ⟨S128x128, .f32⟩
  | .hbm, ⟨9, _⟩ => ⟨S25088x128, .f32⟩
  | .hbm, ⟨10, _⟩ => ⟨S1x128, .f32⟩
  | .hbm, ⟨11, _⟩ => ⟨S25088x128, .f32⟩
  | .hbm, ⟨12, _⟩ => ⟨S25088x128, .f32⟩
  | .hbm, ⟨13, _⟩ => ⟨S25088x128, .f32⟩
  | .hbm, ⟨14, _⟩ => ⟨S_, .f32⟩
  | .hbm, ⟨15, _⟩ => ⟨S25088, .f32⟩
  | .hbm, ⟨16, _⟩ => ⟨S25088x1, .f32⟩
  | .hbm, ⟨17, _⟩ => ⟨S_, .f32⟩
  | .hbm, ⟨18, _⟩ => ⟨S25088x128, .f32⟩
  | .hbm, ⟨19, _⟩ => ⟨S25088x128, .f32⟩
  | .hbm, ⟨20, _⟩ => ⟨S128x128, .f32⟩
  | .hbm, ⟨21, _⟩ => ⟨S25088x128, .f32⟩
  | .hbm, ⟨22, _⟩ => ⟨S25088x128, .f32⟩
  | .hbm, ⟨23, _⟩ => ⟨S25088x128, .f32⟩
  | .hbm, ⟨24, _⟩ => ⟨S128x128, .f32⟩
  | .hbm, ⟨25, _⟩ => ⟨S_, .f32⟩
  | .hbm, ⟨26, _⟩ => ⟨S128, .f32⟩
  | .hbm, ⟨27, _⟩ => ⟨S1x128, .f32⟩
  | .hbm, ⟨28, _⟩ => ⟨S25088x128, .f32⟩
  | .hbm, ⟨29, _⟩ => ⟨S25088x128, .f32⟩
  | .hbm, ⟨30, _⟩ => ⟨S25088x128, .i32⟩
  | .hbm, ⟨31, _⟩ => ⟨S_, .f32⟩
  | .hbm, ⟨32, _⟩ => ⟨S_, .i32⟩
  | .hbm, ⟨33, _⟩ => ⟨S25088, .f32⟩
  | .hbm, ⟨34, _⟩ => ⟨S25088, .i32⟩
  | .hbm, ⟨35, _⟩ => ⟨S_, .i32⟩
  | .hbm, ⟨36, _⟩ => ⟨S25088, .i32⟩
  | .hbm, ⟨37, _⟩ => ⟨S25088, .i1⟩
  | .hbm, ⟨38, _⟩ => ⟨S_, .i32⟩
  | .hbm, ⟨39, _⟩ => ⟨S25088, .i32⟩
  | .hbm, ⟨40, _⟩ => ⟨S25088, .i32⟩
  | .hbm, ⟨41, _⟩ => ⟨S25088, .i32⟩
  | .hbm, ⟨42, _⟩ => ⟨S25088x1, .i32⟩
  | .hbm, ⟨43, _⟩ => ⟨S1, .i32⟩
  | .hbm, ⟨44, _⟩ => ⟨S_, .i32⟩
  | .hbm, ⟨45, _⟩ => ⟨S25088x1, .i32⟩
  | .hbm, ⟨46, _⟩ => ⟨S25088x1, .i1⟩
  | .hbm, ⟨47, _⟩ => ⟨S1x1, .i32⟩
  | .hbm, ⟨48, _⟩ => ⟨S25088x1, .i32⟩
  | .hbm, ⟨49, _⟩ => ⟨S25088x1, .i1⟩
  | .hbm, ⟨50, _⟩ => ⟨S25088x1, .i1⟩
  | .hbm, ⟨51, _⟩ => ⟨S_, .i1⟩
  | .hbm, ⟨52, _⟩ => ⟨S25088, .i1⟩
  | .hbm, ⟨53, _⟩ => ⟨S25088x128, .f32⟩
  | .hbm, ⟨54, _⟩ => ⟨S25088x128, .i1⟩
  | .hbm, ⟨55, _⟩ => ⟨S_, .f32⟩
  | .hbm, ⟨56, _⟩ => ⟨S25088x128, .f32⟩
  | .hbm, ⟨57, _⟩ => ⟨S25088x128, .f32⟩
  | .hbm, ⟨58, _⟩ => ⟨S25088x128, .f32⟩
  | .hbm, ⟨59, _⟩ => ⟨S25088x128, .f32⟩
  | .hbm, ⟨60, _⟩ => ⟨S128x128, .f32⟩
  | .hbm, ⟨61, _⟩ => ⟨S128x128, .f32⟩
  | .hbm, ⟨62, _⟩ => ⟨S25088x128, .f32⟩
  | .hbm, ⟨63, _⟩ => ⟨S1x128, .f32⟩
  | .hbm, ⟨64, _⟩ => ⟨S25088x128, .f32⟩
  | .hbm, ⟨65, _⟩ => ⟨S25088x128, .f32⟩
  | .hbm, ⟨66, _⟩ => ⟨S_, .f32⟩
  | .hbm, ⟨67, _⟩ => ⟨S25088x128, .f32⟩
  | .hbm, ⟨68, _⟩ => ⟨S25088x128, .f32⟩
  | _, _ => ⟨S8x56x56x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_cst : Ref sig .tc := ⟨.hbm, 31, rfl⟩
abbrev main_call0_c : Ref sig .tc := ⟨.hbm, 32, rfl⟩
abbrev main_call0_v1_0 : Ref sig .tc := ⟨.hbm, 33, rfl⟩
abbrev main_v21 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_call2_cst : Ref sig .tc := ⟨.hbm, 66, rfl⟩
abbrev main_call2_v0 : Ref sig .tc := ⟨.hbm, 67, rfl⟩
abbrev main_v31 : Ref sig .tc := ⟨.hbm, 68, rfl⟩

abbrev nD : Nat := 1
abbrev τ : Topo := Topo.v7x

variable {F : FTy → Type} [FloatOps F]
-- ==== Kernel7.lean ====
abbrev S8x3x224x224 : Shape := ⟨4, ![8, 3, 224, 224]⟩
abbrev S128x3x3x3 : Shape := ⟨4, ![128, 3, 3, 3]⟩
abbrev S128 : Shape := ⟨1, ![128]⟩
abbrev S3x3x3x128 : Shape := ⟨4, ![3, 3, 3, 128]⟩
abbrev S_ : Shape := ⟨0, ![]⟩
abbrev S3x3x8x128 : Shape := ⟨4, ![3, 3, 8, 128]⟩
abbrev S72x128 : Shape := ⟨2, ![72, 128]⟩
abbrev S1x128 : Shape := ⟨2, ![1, 128]⟩
abbrev S8x112x112x128 : Shape := ⟨4, ![8, 112, 112, 128]⟩
abbrev S1x3x8x224 : Shape := ⟨4, ![1, 3, 8, 224]⟩
abbrev S1x3x56x224 : Shape := ⟨4, ![1, 3, 56, 224]⟩
abbrev S1x28x112x128 : Shape := ⟨4, ![1, 28, 112, 128]⟩
abbrev S1x3x1x224 : Shape := ⟨4, ![1, 3, 1, 224]⟩
abbrev S3x1x224 : Shape := ⟨3, ![3, 1, 224]⟩
abbrev S3x56x224 : Shape := ⟨3, ![3, 56, 224]⟩
abbrev S3x58x224 : Shape := ⟨3, ![3, 58, 224]⟩
abbrev S3x58x1 : Shape := ⟨3, ![3, 58, 1]⟩
abbrev S3x58x226 : Shape := ⟨3, ![3, 58, 226]⟩
abbrev S5x58x226 : Shape := ⟨3, ![5, 58, 226]⟩
abbrev S8x58x226 : Shape := ⟨3, ![8, 58, 226]⟩
abbrev S58x226x8 : Shape := ⟨3, ![58, 226, 8]⟩
abbrev S58x226x120 : Shape := ⟨3, ![58, 226, 120]⟩
abbrev S58x226x128 : Shape := ⟨3, ![58, 226, 128]⟩
abbrev S29x2x113x256 : Shape := ⟨4, ![29, 2, 113, 256]⟩
abbrev S28x1x113x256 : Shape := ⟨4, ![28, 1, 113, 256]⟩
abbrev S28x113x256 : Shape := ⟨3, ![28, 113, 256]⟩
abbrev S28x112x8 : Shape := ⟨3, ![28, 112, 8]⟩
abbrev S28x112x72 : Shape := ⟨3, ![28, 112, 72]⟩
abbrev S3136x72 : Shape := ⟨2, ![3136, 72]⟩
abbrev S3136x128 : Shape := ⟨2, ![3136, 128]⟩
abbrev S28x112x128 : Shape := ⟨3, ![28, 112, 128]⟩

abbrev nBuf : Space → Nat
  | .hbm => 10
  | .vmem => 10
  | .smem => 0
  | _ => 0

abbrev bufTy : (tb : Table) → Fin (tcTables nBuf tb) → BufTy
  | .hbm, ⟨0, _⟩ => ⟨S8x3x224x224, .f32⟩
  | .hbm, ⟨1, _⟩ => ⟨S128x3x3x3, .f32⟩
  | .hbm, ⟨2, _⟩ => ⟨S128, .f32⟩
  | .hbm, ⟨3, _⟩ => ⟨S3x3x3x128, .f32⟩
  | .hbm, ⟨4, _⟩ => ⟨S_, .i32⟩
  | .hbm, ⟨5, _⟩ => ⟨S_, .f32⟩
  | .hbm, ⟨6, _⟩ => ⟨S3x3x8x128, .f32⟩
  | .hbm, ⟨7, _⟩ => ⟨S72x128, .f32⟩
  | .hbm, ⟨8, _⟩ => ⟨S1x128, .f32⟩
  | .hbm, ⟨9, _⟩ => ⟨S8x112x112x128, .f32⟩
  | .local _ .vmem, ⟨0, _⟩ => ⟨S1x3x8x224, .f32⟩
  | .local _ .vmem, ⟨1, _⟩ => ⟨S1x3x8x224, .f32⟩
  | .local _ .vmem, ⟨2, _⟩ => ⟨S1x3x56x224, .f32⟩
  | .local _ .vmem, ⟨3, _⟩ => ⟨S1x3x56x224, .f32⟩
  | .local _ .vmem, ⟨4, _⟩ => ⟨S1x3x8x224, .f32⟩
  | .local _ .vmem, ⟨5, _⟩ => ⟨S1x3x8x224, .f32⟩
  | .local _ .vmem, ⟨6, _⟩ => ⟨S72x128, .f32⟩
  | .local _ .vmem, ⟨7, _⟩ => ⟨S1x128, .f32⟩
  | .local _ .vmem, ⟨8, _⟩ => ⟨S1x28x112x128, .f32⟩
  | .local _ .vmem, ⟨9, _⟩ => ⟨S1x28x112x128, .f32⟩
  | _, _ => ⟨S8x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c56_i32 : BitVec 32 := 56#32
  let v0 : BitVec 32 := Scalar.muli c56_i32 arg1
  let c1_i32 : BitVec 32 := 1#32
  let v1 : BitVec 32 := Scalar.subi v0 c1_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let v19 : BitVec 32 := Scalar.maxsi v18 c0_i32_5
  let c0_i32_6 : BitVec 32 := 0#32
  let c0_i32_7 : BitVec 32 := 0#32
  let c0_i32_8 : BitVec 32 := 0#32
  ![arg0.toNat, c0_i32_6.toNat, v19.toNat, c0_i32_7.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c56_i32 : BitVec 32 := 56#32
  let v0 : BitVec 32 := Scalar.muli c56_i32 arg1
  let c56_i32_0 : BitVec 32 := 56#32
  let v1 : BitVec 32 := Scalar.addi v0 c56_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c27_i32 : BitVec 32 := 27#32
  let v19 : BitVec 32 := Scalar.minsi v18 c27_i32
  let c0_i32_5 : BitVec 32 := 0#32
  let c0_i32_6 : BitVec 32 := 0#32
  let c0_i32_7 : BitVec 32 := 0#32
  ![arg0.toNat, c0_i32_5.toNat, v19.toNat, c0_i32_6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x3x8x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x56x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x8x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S72x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x28x112x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S8x3x224x224 : Shape := ⟨4, ![8, 3, 224, 224]⟩
abbrev S128x3x3x3 : Shape := ⟨4, ![128, 3, 3, 3]⟩
abbrev S128 : Shape := ⟨1, ![128]⟩
abbrev S8x224x224x3 : Shape := ⟨4, ![8, 224, 224, 3]⟩
abbrev S_ : Shape := ⟨0, ![]⟩
abbrev S8x226x226x3 : Shape := ⟨4, ![8, 226, 226, 3]⟩
abbrev S8x112x112x3 : Shape := ⟨4, ![8, 112, 112, 3]⟩
abbrev S8x112x112x27 : Shape := ⟨4, ![8, 112, 112, 27]⟩
abbrev S8x12544x27 : Shape := ⟨3, ![8, 12544, 27]⟩
abbrev S3x3x3x128 : Shape := ⟨4, ![3, 3, 3, 128]⟩
abbrev S27x128 : Shape := ⟨2, ![27, 128]⟩
abbrev S8x12544x128 : Shape := ⟨3, ![8, 12544, 128]⟩
abbrev S1x1x128 : Shape := ⟨3, ![1, 1, 128]⟩
abbrev S8x112x112x128 : Shape := ⟨4, ![8, 112, 112, 128]⟩

abbrev nBuf : Space → Nat
  | .hbm => 28
  | .vmem => 0
  | .smem => 0
  | _ => 0

abbrev bufTy : (tb : Table) → Fin (tcTables nBuf tb) → BufTy
  | .hbm, ⟨0, _⟩ => ⟨S8x3x224x224, .f32⟩
  | .hbm, ⟨1, _⟩ => ⟨S128x3x3x3, .f32⟩
  | .hbm, ⟨2, _⟩ => ⟨S128, .f32⟩
  | .hbm, ⟨3, _⟩ => ⟨S8x224x224x3, .f32⟩
  | .hbm, ⟨4, _⟩ => ⟨S_, .i32⟩
  | .hbm, ⟨5, _⟩ => ⟨S_, .f32⟩
  | .hbm, ⟨6, _⟩ => ⟨S8x226x226x3, .f32⟩
  | .hbm, ⟨7, _⟩ => ⟨S8x112x112x3, .f32⟩
  | .hbm, ⟨8, _⟩ => ⟨S8x112x112x3, .f32⟩
  | .hbm, ⟨9, _⟩ => ⟨S8x112x112x3, .f32⟩
  | .hbm, ⟨10, _⟩ => ⟨S8x112x112x3, .f32⟩
  | .hbm, ⟨11, _⟩ => ⟨S8x112x112x3, .f32⟩
  | .hbm, ⟨12, _⟩ => ⟨S8x112x112x3, .f32⟩
  | .hbm, ⟨13, _⟩ => ⟨S8x112x112x3, .f32⟩
  | .hbm, ⟨14, _⟩ => ⟨S8x112x112x3, .f32⟩
  | .hbm, ⟨15, _⟩ => ⟨S8x112x112x3, .f32⟩
  | .hbm, ⟨16, _⟩ => ⟨S8x112x112x27, .f32⟩
  | .hbm, ⟨17, _⟩ => ⟨S8x12544x27, .f32⟩
  | .hbm, ⟨18, _⟩ => ⟨S3x3x3x128, .f32⟩
  | .hbm, ⟨19, _⟩ => ⟨S27x128, .f32⟩
  | .hbm, ⟨20, _⟩ => ⟨S8x12544x128, .f32⟩
  | .hbm, ⟨21, _⟩ => ⟨S1x1x128, .f32⟩
  | .hbm, ⟨22, _⟩ => ⟨S8x12544x128, .f32⟩
  | .hbm, ⟨23, _⟩ => ⟨S8x12544x128, .f32⟩
  | .hbm, ⟨24, _⟩ => ⟨S_, .f32⟩
  | .hbm, ⟨25, _⟩ => ⟨S8x12544x128, .f32⟩
  | .hbm, ⟨26, _⟩ => ⟨S8x12544x128, .f32⟩
  | .hbm, ⟨27, _⟩ => ⟨S8x112x112x128, .f32⟩
  | _, _ => ⟨S8x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_call1_cst : Ref sig .tc := ⟨.hbm, 24, rfl⟩
abbrev main_call1_v0 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Proof.RefRun.lean ====
/- The reference program's @main as the list of its host operations, cut at the layers of the network, and its run
   (Lib/StableHlo/Run.lean `run_seq`): every buffer ends at what the operations, taken in order, leave in it. -/
module

public import proofs.«01_k».proof.Proof.Gen.ReferenceIdeal
public import Idealize.ShloMosaic.Lib.StableHlo.Run
public import Idealize.ShloMosaic.Lib.Pipeline.Frame

@[expose] public section

set_option Elab.async false
set_option maxRecDepth 8192

noncomputable section

namespace Cert.ReferenceIdeal.Layers

open Cert.ReferenceIdeal Cert.ReferenceIdeal.Gen Idealize.ShloMosaic Idealize.ShloMosaic.TcCoe Idealize.SL.Sem Idealize.ShloMosaic.StableHlo

variable {F : FTy → Type} [FloatOps F]

/-- Operations 1 to 25 of @main. -/
abbrev piece0 : List (HloOp τ sig (Elt F)) :=
  [ unary main_arg0 main_v0 ((transpose S8x224x224x3 [0, 2, 3, 1] · transposes_S8x3x224x224_S8x224x224x3_0_2_3_1) : (⟨S8x3x224x224, .f32⟩ : BufTy).Contents (Elt F) → (⟨S8x224x224x3, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S8x224x224x3, .f32⟩) main_v0) (TRef.of (T := ⟨S_, .f32⟩) main_call0_v0) (TRef.of (T := ⟨S8x226x226x3, .f32⟩) main_v1) (fun x v => pad S8x226x226x3 ![0, 1, 1, 0] ![0, 1, 1, 0] ![0, 0, 0, 0] x v pads_S8x224x224x3_S8x226x226x3_000_110_110_000 h_S_),
    unary main_v1 main_v2 ((Host.slice S8x112x112x3 ![0, 0, 0, 0] ![1, 2, 2, 1] · slicesBy_S8x226x226x3_S8x112x112x3_0s1_0s2_0s2_0s1) : (⟨S8x226x226x3, .f32⟩ : BufTy).Contents (Elt F) → (⟨S8x112x112x3, .f32⟩ : BufTy).Contents (Elt F)),
    unary main_v1 main_v3 ((Host.slice S8x112x112x3 ![0, 0, 1, 0] ![1, 2, 2, 1] · slicesBy_S8x226x226x3_S8x112x112x3_0s1_0s2_1s2_0s1) : (⟨S8x226x226x3, .f32⟩ : BufTy).Contents (Elt F) → (⟨S8x112x112x3, .f32⟩ : BufTy).Contents (Elt F)),
    unary main_v1 main_v4 ((Host.slice S8x112x112x3 ![0, 0, 2, 0] ![1, 2, 2, 1] · slicesBy_S8x226x226x3_S8x112x112x3_0s1_0s2_2s2_0s1) : (⟨S8x226x226x3, .f32⟩ : BufTy).Contents (Elt F) → (⟨S8x112x112x3, .f32⟩ : BufTy).Contents (Elt F)),
    unary main_v1 main_v5 ((Host.slice S8x112x112x3 ![0, 1, 0, 0] ![1, 2, 2, 1] · slicesBy_S8x226x226x3_S8x112x112x3_0s1_1s2_0s2_0s1) : (⟨S8x226x226x3, .f32⟩ : BufTy).Contents (Elt F) → (⟨S8x112x112x3, .f32⟩ : BufTy).Contents (Elt F)),
    unary main_v1 main_v6 ((Host.slice S8x112x112x3 ![0, 1, 1, 0] ![1, 2, 2, 1] · slicesBy_S8x226x226x3_S8x112x112x3_0s1_1s2_1s2_0s1) : (⟨S8x226x226x3, .f32⟩ : BufTy).Contents (Elt F) → (⟨S8x112x112x3, .f32⟩ : BufTy).Contents (Elt F)),
    unary main_v1 main_v7 ((Host.slice S8x112x112x3 ![0, 1, 2, 0] ![1, 2, 2, 1] · slicesBy_S8x226x226x3_S8x112x112x3_0s1_1s2_2s2_0s1) : (⟨S8x226x226x3, .f32⟩ : BufTy).Contents (Elt F) → (⟨S8x112x112x3, .f32⟩ : BufTy).Contents (Elt F)),
    unary main_v1 main_v8 ((Host.slice S8x112x112x3 ![0, 2, 0, 0] ![1, 2, 2, 1] · slicesBy_S8x226x226x3_S8x112x112x3_0s1_2s2_0s2_0s1) : (⟨S8x226x226x3, .f32⟩ : BufTy).Contents (Elt F) → (⟨S8x112x112x3, .f32⟩ : BufTy).Contents (Elt F)),
    unary main_v1 main_v9 ((Host.slice S8x112x112x3 ![0, 2, 1, 0] ![1, 2, 2, 1] · slicesBy_S8x226x226x3_S8x112x112x3_0s1_2s2_1s2_0s1) : (⟨S8x226x226x3, .f32⟩ : BufTy).Contents (Elt F) → (⟨S8x112x112x3, .f32⟩ : BufTy).Contents (Elt F)),
    unary main_v1 main_v10 ((Host.slice S8x112x112x3 ![0, 2, 2, 0] ![1, 2, 2, 1] · slicesBy_S8x226x226x3_S8x112x112x3_0s1_2s2_2s2_0s1) : (⟨S8x226x226x3, .f32⟩ : BufTy).Contents (Elt F) → (⟨S8x112x112x3, .f32⟩ : BufTy).Contents (Elt F)),
    nary ![main_v2, main_v3, main_v4, main_v5, main_v6, main_v7, main_v8, main_v9, main_v10] main_v11 (fun u => (concatenate S8x112x112x27 3 [⟨S8x112x112x3, (u 0 : (⟨S8x112x112x3, .f32⟩ : BufTy).Contents (Elt F))⟩, ⟨S8x112x112x3, (u 1 : (⟨S8x112x112x3, .f32⟩ : BufTy).Contents (Elt F))⟩, ⟨S8x112x112x3, (u 2 : (⟨S8x112x112x3, .f32⟩ : BufTy).Contents (Elt F))⟩, ⟨S8x112x112x3, (u 3 : (⟨S8x112x112x3, .f32⟩ : BufTy).Contents (Elt F))⟩, ⟨S8x112x112x3, (u 4 : (⟨S8x112x112x3, .f32⟩ : BufTy).Contents (Elt F))⟩, ⟨S8x112x112x3, (u 5 : (⟨S8x112x112x3, .f32⟩ : BufTy).Contents (Elt F))⟩, ⟨S8x112x112x3, (u 6 : (⟨S8x112x112x3, .f32⟩ : BufTy).Contents (Elt F))⟩, ⟨S8x112x112x3, (u 7 : (⟨S8x112x112x3, .f32⟩ : BufTy).Contents (Elt F))⟩, ⟨S8x112x112x3, (u 8 : (⟨S8x112x112x3, .f32⟩ : BufTy).Contents (Elt F))⟩] concatenates_S8x112x112x3_S8x112x112x3_S8x112x112x3_S8x112x112x3_S8x112x112x3_S8x112x112x3_S8x112x112x3_S8x112x112x3_S8x112x112x3_S8x112x112x27_d3 : (⟨S8x112x112x27, .f32⟩ : BufTy).Contents (Elt F))),
    reshape main_v11 main_v12 (rfl : (.f32 : EltTy) = .f32) shapeCasts_S8x112x112x27_S8x12544x27,
    unary main_arg1 main_v13 ((transpose S3x3x3x128 [2, 3, 1, 0] · transposes_S128x3x3x3_S3x3x3x128_2_3_1_0) : (⟨S128x3x3x3, .f32⟩ : BufTy).Contents (Elt F) → (⟨S3x3x3x128, .f32⟩ : BufTy).Contents (Elt F)),
    reshape main_v13 main_v14 (rfl : (.f32 : EltTy) = .f32) shapeCasts_S3x3x3x128_S27x128,
    binary main_v12 main_v14 main_v15 ((fun l r => Host.dotGeneral dot_S8x12544x27_S27x128_S8x12544x128_2_0_01_1_n_n none l r) : (⟨S8x12544x27, .f32⟩ : BufTy).Contents (Elt F) → (⟨S27x128, .f32⟩ : BufTy).Contents (Elt F) → (⟨S8x12544x128, .f32⟩ : BufTy).Contents (Elt F)),
    unary main_arg2 main_v16 (broadcastInDim S1x1x128 ![2] bcast_S128_S1x1x128_2 : (⟨S128, .f32⟩ : BufTy).Contents (Elt F) → (⟨S1x1x128, .f32⟩ : BufTy).Contents (Elt F)),
    unary main_v16 main_v17 (broadcastInDim S8x12544x128 ![0, 1, 2] bcast_S1x1x128_S8x12544x128_0_1_2 : (⟨S1x1x128, .f32⟩ : BufTy).Contents (Elt F) → (⟨S8x12544x128, .f32⟩ : BufTy).Contents (Elt F)),
    binary main_v15 main_v17 main_v18 (addf : (⟨S8x12544x128, .f32⟩ : BufTy).Contents (Elt F) → (⟨S8x12544x128, .f32⟩ : BufTy).Contents (Elt F) → (⟨S8x12544x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8x12544x128, .f32⟩) main_call1_v0) (broadcastInDim S8x12544x128 ![] bcast_S_S8x12544x128),
    TRef.binary (TRef.of (T := ⟨S8x12544x128, .f32⟩) main_v18) (TRef.of (T := ⟨S8x12544x128, .f32⟩) main_call1_v0) (TRef.of (T := ⟨S8x12544x128, .f32⟩) main_v19) maximumf,
    reshape main_v19 main_v20 (rfl : (.f32 : EltTy) = .f32) shapeCasts_S8x12544x128_S8x112x112x128 ]

/-- Operations 26 to 48 of @main. -/
abbrev piece25 : List (HloOp τ sig (Elt F)) :=
  [ nullary main_c_0 (constantI S_ 32 0#32),
    TRef.unary (TRef.of (T := ⟨S_, .i32⟩) main_c_0) (TRef.of (T := ⟨S_, .f32⟩) main_call2_v0) (sitofp .f32),
    TRef.binary (TRef.of (T := ⟨S8x112x112x128, .f32⟩) main_v20) (TRef.of (T := ⟨S_, .f32⟩) main_call2_v0) (TRef.of (T := ⟨S8x114x114x128, .f32⟩) main_v21) (fun x v => pad S8x114x114x128 ![0, 1, 1, 0] ![0, 1, 1, 0] ![0, 0, 0, 0] x v pads_S8x112x112x128_S8x114x114x128_000_110_110_000 h_S_),
    unary main_v21 main_v22 ((Host.slice S8x56x56x128 ![0, 0, 0, 0] ![1, 2, 2, 1] · slicesBy_S8x114x114x128_S8x56x56x128_0s1_0s2_0s2_0s1) : (⟨S8x114x114x128, .f32⟩ : BufTy).Contents (Elt F) → (⟨S8x56x56x128, .f32⟩ : BufTy).Contents (Elt F)),
    unary main_v21 main_v23 ((Host.slice S8x56x56x128 ![0, 0, 1, 0] ![1, 2, 2, 1] · slicesBy_S8x114x114x128_S8x56x56x128_0s1_0s2_1s2_0s1) : (⟨S8x114x114x128, .f32⟩ : BufTy).Contents (Elt F) → (⟨S8x56x56x128, .f32⟩ : BufTy).Contents (Elt F)),
    unary main_v21 main_v24 ((Host.slice S8x56x56x128 ![0, 0, 2, 0] ![1, 2, 2, 1] · slicesBy_S8x114x114x128_S8x56x56x128_0s1_0s2_2s2_0s1) : (⟨S8x114x114x128, .f32⟩ : BufTy).Contents (Elt F) → (⟨S8x56x56x128, .f32⟩ : BufTy).Contents (Elt F)),
    unary main_v21 main_v25 ((Host.slice S8x56x56x128 ![0, 1, 0, 0] ![1, 2, 2, 1] · slicesBy_S8x114x114x128_S8x56x56x128_0s1_1s2_0s2_0s1) : (⟨S8x114x114x128, .f32⟩ : BufTy).Contents (Elt F) → (⟨S8x56x56x128, .f32⟩ : BufTy).Contents (Elt F)),
    unary main_v21 main_v26 ((Host.slice S8x56x56x128 ![0, 1, 1, 0] ![1, 2, 2, 1] · slicesBy_S8x114x114x128_S8x56x56x128_0s1_1s2_1s2_0s1) : (⟨S8x114x114x128, .f32⟩ : BufTy).Contents (Elt F) → (⟨S8x56x56x128, .f32⟩ : BufTy).Contents (Elt F)),
    unary main_v21 main_v27 ((Host.slice S8x56x56x128 ![0, 1, 2, 0] ![1, 2, 2, 1] · slicesBy_S8x114x114x128_S8x56x56x128_0s1_1s2_2s2_0s1) : (⟨S8x114x114x128, .f32⟩ : BufTy).Contents (Elt F) → (⟨S8x56x56x128, .f32⟩ : BufTy).Contents (Elt F)),
    unary main_v21 main_v28 ((Host.slice S8x56x56x128 ![0, 2, 0, 0] ![1, 2, 2, 1] · slicesBy_S8x114x114x128_S8x56x56x128_0s1_2s2_0s2_0s1) : (⟨S8x114x114x128, .f32⟩ : BufTy).Contents (Elt F) → (⟨S8x56x56x128, .f32⟩ : BufTy).Contents (Elt F)),
    unary main_v21 main_v29 ((Host.slice S8x56x56x128 ![0, 2, 1, 0] ![1, 2, 2, 1] · slicesBy_S8x114x114x128_S8x56x56x128_0s1_2s2_1s2_0s1) : (⟨S8x114x114x128, .f32⟩ : BufTy).Contents (Elt F) → (⟨S8x56x56x128, .f32⟩ : BufTy).Contents (Elt F)),
    unary main_v21 main_v30 ((Host.slice S8x56x56x128 ![0, 2, 2, 0] ![1, 2, 2, 1] · slicesBy_S8x114x114x128_S8x56x56x128_0s1_2s2_2s2_0s1) : (⟨S8x114x114x128, .f32⟩ : BufTy).Contents (Elt F) → (⟨S8x56x56x128, .f32⟩ : BufTy).Contents (Elt F)),
    nary ![main_v22, main_v23, main_v24, main_v25, main_v26, main_v27, main_v28, main_v29, main_v30] main_v31 (fun u => (concatenate S8x56x56x1152 3 [⟨S8x56x56x128, (u 0 : (⟨S8x56x56x128, .f32⟩ : BufTy).Contents (Elt F))⟩, ⟨S8x56x56x128, (u 1 : (⟨S8x56x56x128, .f32⟩ : BufTy).Contents (Elt F))⟩, ⟨S8x56x56x128, (u 2 : (⟨S8x56x56x128, .f32⟩ : BufTy).Contents (Elt F))⟩, ⟨S8x56x56x128, (u 3 : (⟨S8x56x56x128, .f32⟩ : BufTy).Contents (Elt F))⟩, ⟨S8x56x56x128, (u 4 : (⟨S8x56x56x128, .f32⟩ : BufTy).Contents (Elt F))⟩, ⟨S8x56x56x128, (u 5 : (⟨S8x56x56x128, .f32⟩ : BufTy).Contents (Elt F))⟩, ⟨S8x56x56x128, (u 6 : (⟨S8x56x56x128, .f32⟩ : BufTy).Contents (Elt F))⟩, ⟨S8x56x56x128, (u 7 : (⟨S8x56x56x128, .f32⟩ : BufTy).Contents (Elt F))⟩, ⟨S8x56x56x128, (u 8 : (⟨S8x56x56x128, .f32⟩ : BufTy).Contents (Elt F))⟩] concatenates_S8x56x56x128_S8x56x56x128_S8x56x56x128_S8x56x56x128_S8x56x56x128_S8x56x56x128_S8x56x56x128_S8x56x56x128_S8x56x56x128_S8x56x56x1152_d3 : (⟨S8x56x56x1152, .f32⟩ : BufTy).Contents (Elt F))),
    reshape main_v31 main_v32 (rfl : (.f32 : EltTy) = .f32) shapeCasts_S8x56x56x1152_S8x3136x1152,
    unary main_arg3 main_v33 ((transpose S3x3x128x128 [2, 3, 1, 0] · transposes_S128x128x3x3_S3x3x128x128_2_3_1_0) : (⟨S128x128x3x3, .f32⟩ : BufTy).Contents (Elt F) → (⟨S3x3x128x128, .f32⟩ : BufTy).Contents (Elt F)),
    reshape main_v33 main_v34 (rfl : (.f32 : EltTy) = .f32) shapeCasts_S3x3x128x128_S1152x128,
    binary main_v32 main_v34 main_v35 ((fun l r => Host.dotGeneral dot_S8x3136x1152_S1152x128_S8x3136x128_2_0_01_1_n_n none l r) : (⟨S8x3136x1152, .f32⟩ : BufTy).Contents (Elt F) → (⟨S1152x128, .f32⟩ : BufTy).Contents (Elt F) → (⟨S8x3136x128, .f32⟩ : BufTy).Contents (Elt F)),
    unary main_arg4 main_v36 (broadcastInDim S1x1x128 ![2] bcast_S128_S1x1x128_2 : (⟨S128, .f32⟩ : BufTy).Contents (Elt F) → (⟨S1x1x128, .f32⟩ : BufTy).Contents (Elt F)),
    unary main_v36 main_v37 (broadcastInDim S8x3136x128 ![0, 1, 2] bcast_S1x1x128_S8x3136x128_0_1_2 : (⟨S1x1x128, .f32⟩ : BufTy).Contents (Elt F) → (⟨S8x3136x128, .f32⟩ : BufTy).Contents (Elt F)),
    binary main_v35 main_v37 main_v38 (addf : (⟨S8x3136x128, .f32⟩ : BufTy).Contents (Elt F) → (⟨S8x3136x128, .f32⟩ : BufTy).Contents (Elt F) → (⟨S8x3136x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S8x3136x128, .f32⟩) main_call3_v0) (broadcastInDim S8x3136x128 ![] bcast_S_S8x3136x128),
    TRef.binary (TRef.of (T := ⟨S8x3136x128, .f32⟩) main_v38) (TRef.of (T := ⟨S8x3136x128, .f32⟩) main_call3_v0) (TRef.of (T := ⟨S8x3136x128, .f32⟩) main_v39) maximumf ]

/-- Operations 49 to 54 of @main. -/
abbrev piece48 : List (HloOp τ sig (Elt F)) :=
  [ reshape main_arg5 main_v40 (rfl : (.f32 : EltTy) = .f32) shapeCasts_S128x128x1x1_S128x128,
    unary main_v40 main_v41 ((transpose S128x128 [1, 0] · transposes_S128x128_S128x128_1_0) : (⟨S128x128, .f32⟩ : BufTy).Contents (Elt F) → (⟨S128x128, .f32⟩ : BufTy).Contents (Elt F)),
    binary main_v39 main_v41 main_v42 ((fun l r => Host.dotGeneral dot_S8x3136x128_S128x128_S8x3136x128_2_0_01_1_n_n none l r) : (⟨S8x3136x128, .f32⟩ : BufTy).Contents (Elt F) → (⟨S128x128, .f32⟩ : BufTy).Contents (Elt F) → (⟨S8x3136x128, .f32⟩ : BufTy).Contents (Elt F)),
    unary main_arg6 main_v43 (broadcastInDim S1x1x128 ![2] bcast_S128_S1x1x128_2 : (⟨S128, .f32⟩ : BufTy).Contents (Elt F) → (⟨S1x1x128, .f32⟩ : BufTy).Contents (Elt F)),
    unary main_v43 main_v44 (broadcastInDim S8x3136x128 ![0, 1, 2] bcast_S1x1x128_S8x3136x128_0_1_2 : (⟨S1x1x128, .f32⟩ : BufTy).Contents (Elt F) → (⟨S8x3136x128, .f32⟩ : BufTy).Contents (Elt F)),
    binary main_v42 main_v44 main_v45 (addf : (⟨S8x3136x128, .f32⟩ : BufTy).Contents (Elt F) → (⟨S8x3136x128, .f32⟩ : BufTy).Contents (Elt F) → (⟨S8x3136x128, .f32⟩ : BufTy).Contents (Elt F)) ]

/-- Operations 55 to 66 of @main. -/
abbrev piece54 : List (HloOp τ sig (Elt F)) :=
  [ binary main_v45 main_v45 main_v46 (mulf : (⟨S8x3136x128, .f32⟩ : BufTy).Contents (Elt F) → (⟨S8x3136x128, .f32⟩ : BufTy).Contents (Elt F) → (⟨S8x3136x128, .f32⟩ : BufTy).Contents (Elt F)),
    nullary main_cst (constant S_ .f32 0x00000000#32),
    binary main_v46 main_cst main_v47 ((fun x v => Host.reduceAdd x v reducesTo_S8x3136x128_S8x3136_d2 h_S_) : (⟨S8x3136x128, .f32⟩ : BufTy).Contents (Elt F) → (⟨S_, .f32⟩ : BufTy).Contents (Elt F) → (⟨S8x3136, .f32⟩ : BufTy).Contents (Elt F)),
    unary main_v47 main_v48 (broadcastInDim S8x3136x1 ![0, 1] bcast_S8x3136_S8x3136x1_0_1 : (⟨S8x3136, .f32⟩ : BufTy).Contents (Elt F) → (⟨S8x3136x1, .f32⟩ : BufTy).Contents (Elt F)),
    nullary main_cst_1 (constant S_ .f32 0x40000000#32),
    unary main_cst_1 main_v49 (broadcastInDim S8x3136x128 ![] bcast_S_S8x3136x128 : (⟨S_, .f32⟩ : BufTy).Contents (Elt F) → (⟨S8x3136x128, .f32⟩ : BufTy).Contents (Elt F)),
    binary main_v49 main_v45 main_v50 (mulf : (⟨S8x3136x128, .f32⟩ : BufTy).Contents (Elt F) → (⟨S8x3136x128, .f32⟩ : BufTy).Contents (Elt F) → (⟨S8x3136x128, .f32⟩ : BufTy).Contents (Elt F)),
    unary main_arg7 main_v51 ((transpose S128x128 [1, 0] · transposes_S128x128_S128x128_1_0) : (⟨S128x128, .f32⟩ : BufTy).Contents (Elt F) → (⟨S128x128, .f32⟩ : BufTy).Contents (Elt F)),
    binary main_v50 main_v51 main_v52 ((fun l r => Host.dotGeneral dot_S8x3136x128_S128x128_S8x3136x128_2_0_01_1_n_n none l r) : (⟨S8x3136x128, .f32⟩ : BufTy).Contents (Elt F) → (⟨S128x128, .f32⟩ : BufTy).Contents (Elt F) → (⟨S8x3136x128, .f32⟩ : BufTy).Contents (Elt F)),
    unary main_v48 main_v53 (broadcastInDim S8x3136x128 ![0, 1, 2] bcast_S8x3136x1_S8x3136x128_0_1_2 : (⟨S8x3136x1, .f32⟩ : BufTy).Contents (Elt F) → (⟨S8x3136x128, .f32⟩ : BufTy).Contents (Elt F)),
    binary main_v53 main_v52 main_v54 (subf : (⟨S8x3136x128, .f32⟩ : BufTy).Contents (Elt F) → (⟨S8x3136x128, .f32⟩ : BufTy).Contents (Elt F) → (⟨S8x3136x128, .f32⟩ : BufTy).Contents (Elt F)),
    binary main_arg7 main_arg7 main_v55 (mulf : (⟨S128x128, .f32⟩ : BufTy).Contents (Elt F) → (⟨S128x128, .f32⟩ : BufTy).Contents (Elt F) → (⟨S128x128, .f32⟩ : BufTy).Contents (Elt F)) ]

/-- Operations 67 to 71 of @main. -/
abbrev piece66 : List (HloOp τ sig (Elt F)) :=
  [ nullary main_cst_2 (constant S_ .f32 0x00000000#32),
    binary main_v55 main_cst_2 main_v56 ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)),
    unary main_v56 main_v57 (broadcastInDim S1x1x128 ![2] bcast_S128_S1x1x128_2 : (⟨S128, .f32⟩ : BufTy).Contents (Elt F) → (⟨S1x1x128, .f32⟩ : BufTy).Contents (Elt F)),
    unary main_v57 main_v58 (broadcastInDim S8x3136x128 ![0, 1, 2] bcast_S1x1x128_S8x3136x128_0_1_2 : (⟨S1x1x128, .f32⟩ : BufTy).Contents (Elt F) → (⟨S8x3136x128, .f32⟩ : BufTy).Contents (Elt F)),
    binary main_v54 main_v58 main_v59 (addf : (⟨S8x3136x128, .f32⟩ : BufTy).Contents (Elt F) → (⟨S8x3136x128, .f32⟩ : BufTy).Contents (Elt F) → (⟨S8x3136x128, .f32⟩ : BufTy).Contents (Elt F)) ]

/-- Operations 72 to 101 of @main. -/
abbrev piece71 : List (HloOp τ sig (Elt F)) :=
  [ TRef.nullary (TRef.of (T := ⟨S8x3136x128, .i32⟩) main_call4_v0) (iotaInDim S8x3136x128 32 2),
    TRef.nullary (TRef.of (T := ⟨S_, .f32⟩) main_call4_cst) (constant S_ .f32 0x7F800000#32),
    TRef.nullary (TRef.of (T := ⟨S_, .i32⟩) main_call4_c) (constantI S_ 32 0#32),
    TRef.quaternary (TRef.of (T := ⟨S8x3136x128, .f32⟩) main_v59) (TRef.of (T := ⟨S8x3136x128, .i32⟩) main_call4_v0) (TRef.of (T := ⟨S_, .f32⟩) main_call4_cst) (TRef.of (T := ⟨S_, .i32⟩) main_call4_c) (TRef.of (T := ⟨S8x3136, .f32⟩) main_call4_v1_0) (fun x y u v j => (Host.argReduce reducer_argmin_f32_i32 x y u v reducesTo_S8x3136x128_S8x3136_d2 h_S_ j).1),
    TRef.quaternary (TRef.of (T := ⟨S8x3136x128, .f32⟩) main_v59) (TRef.of (T := ⟨S8x3136x128, .i32⟩) main_call4_v0) (TRef.of (T := ⟨S_, .f32⟩) main_call4_cst) (TRef.of (T := ⟨S_, .i32⟩) main_call4_c) (TRef.of (T := ⟨S8x3136, .i32⟩) main_v60) (fun x y u v j => (Host.argReduce reducer_argmin_f32_i32 x y u v reducesTo_S8x3136x128_S8x3136_d2 h_S_ j).2),
    TRef.nullary (TRef.of (T := ⟨S_, .i32⟩) main_call5_c) (constantI S_ 32 0#32),
    TRef.unary (TRef.of (T := ⟨S_, .i32⟩) main_call5_c) (TRef.of (T := ⟨S8x3136, .i32⟩) main_call5_v0) (broadcastInDim S8x3136 ![] bcast_S_S8x3136),
    TRef.binary (TRef.of (T := ⟨S8x3136, .i32⟩) main_v60) (TRef.of (T := ⟨S8x3136, .i32⟩) main_call5_v0) (TRef.of (T := ⟨S8x3136, .i1⟩) main_call5_v1) (cmpi .slt),
    TRef.nullary (TRef.of (T := ⟨S_, .i32⟩) main_call5_c_0) (constantI S_ 32 128#32),
    TRef.unary (TRef.of (T := ⟨S_, .i32⟩) main_call5_c_0) (TRef.of (T := ⟨S8x3136, .i32⟩) main_call5_v2) (broadcastInDim S8x3136 ![] bcast_S_S8x3136),
    TRef.binary (TRef.of (T := ⟨S8x3136, .i32⟩) main_v60) (TRef.of (T := ⟨S8x3136, .i32⟩) main_call5_v2) (TRef.of (T := ⟨S8x3136, .i32⟩) main_call5_v3) addi,
    TRef.ternary (TRef.of (T := ⟨S8x3136, .i1⟩) main_call5_v1) (TRef.of (T := ⟨S8x3136, .i32⟩) main_call5_v3) (TRef.of (T := ⟨S8x3136, .i32⟩) main_v60) (TRef.of (T := ⟨S8x3136, .i32⟩) main_call5_v4) select,
    TRef.unary (TRef.of (T := ⟨S8x3136, .i32⟩) main_call5_v4) (TRef.of (T := ⟨S8x3136x1, .i32⟩) main_call5_v5) (broadcastInDim S8x3136x1 ![0, 1] bcast_S8x3136_S8x3136x1_0_1),
    TRef.nullary (TRef.of (T := ⟨S1, .i32⟩) main_call5_c_1) (constantI S1 32 127#32),
    TRef.nullary (TRef.of (T := ⟨S_, .i32⟩) main_call5_c_2) (constantI S_ 32 0#32),
    TRef.unary (TRef.of (T := ⟨S_, .i32⟩) main_call5_c_2) (TRef.of (T := ⟨S8x3136x1, .i32⟩) main_call5_v6) (broadcastInDim S8x3136x1 ![] bcast_S_S8x3136x1),
    TRef.binary (TRef.of (T := ⟨S8x3136x1, .i32⟩) main_call5_v5) (TRef.of (T := ⟨S8x3136x1, .i32⟩) main_call5_v6) (TRef.of (T := ⟨S8x3136x1, .i1⟩) main_call5_v7) (cmpi .sge),
    TRef.unary (TRef.of (T := ⟨S1, .i32⟩) main_call5_c_1) (TRef.of (T := ⟨S1x1x1, .i32⟩) main_call5_v8) (broadcastInDim S1x1x1 ![2] bcast_S1_S1x1x1_2),
    TRef.unary (TRef.of (T := ⟨S1x1x1, .i32⟩) main_call5_v8) (TRef.of (T := ⟨S8x3136x1, .i32⟩) main_call5_v9) (broadcastInDim S8x3136x1 ![0, 1, 2] bcast_S1x1x1_S8x3136x1_0_1_2),
    TRef.binary (TRef.of (T := ⟨S8x3136x1, .i32⟩) main_call5_v5) (TRef.of (T := ⟨S8x3136x1, .i32⟩) main_call5_v9) (TRef.of (T := ⟨S8x3136x1, .i1⟩) main_call5_v10) (cmpi .sle),
    TRef.binary (TRef.of (T := ⟨S8x3136x1, .i1⟩) main_call5_v7) (TRef.of (T := ⟨S8x3136x1, .i1⟩) main_call5_v10) (TRef.of (T := ⟨S8x3136x1, .i1⟩) main_call5_v11) andi,
    TRef.nullary (TRef.of (T := ⟨S_, .i1⟩) main_call5_c_3) (constantI S_ 1 1#1),
    TRef.binary (TRef.of (T := ⟨S8x3136x1, .i1⟩) main_call5_v11) (TRef.of (T := ⟨S_, .i1⟩) main_call5_c_3) (TRef.of (T := ⟨S8x3136, .i1⟩) main_call5_v12) (fun x v => Host.reduce IntOp.andi x v reducesTo_S8x3136x1_S8x3136_d2 h_S_),
    TRef.binary (TRef.of (T := ⟨S128x128, .f32⟩) main_arg7) (TRef.of (T := ⟨S8x3136x1, .i32⟩) main_call5_v5) (TRef.of (T := ⟨S8x3136x128, .f32⟩) main_call5_v13) (fun x i => Host.gather gather_S128x128_S8x3136x1_S8x3136x128_2_0_n_n_0_2_1128 x i),
    TRef.unary (TRef.of (T := ⟨S8x3136, .i1⟩) main_call5_v12) (TRef.of (T := ⟨S8x3136x128, .i1⟩) main_call5_v14) (broadcastInDim S8x3136x128 ![0, 1] bcast_S8x3136_S8x3136x128_0_1),
    TRef.nullary (TRef.of (T := ⟨S_, .f32⟩) main_call5_cst) (constant S_ .f32 0x7FC00000#32),
    TRef.unary (TRef.of (T := ⟨S_, .f32⟩) main_call5_cst) (TRef.of (T := ⟨S8x3136x128, .f32⟩) main_call5_v15) (broadcastInDim S8x3136x128 ![] bcast_S_S8x3136x128),
    TRef.ternary (TRef.of (T := ⟨S8x3136x128, .i1⟩) main_call5_v14) (TRef.of (T := ⟨S8x3136x128, .f32⟩) main_call5_v13) (TRef.of (T := ⟨S8x3136x128, .f32⟩) main_call5_v15) (TRef.of (T := ⟨S8x3136x128, .f32⟩) main_v61) select,
    binary main_v61 main_v45 main_v62 (subf : (⟨S8x3136x128, .f32⟩ : BufTy).Contents (Elt F) → (⟨S8x3136x128, .f32⟩ : BufTy).Contents (Elt F) → (⟨S8x3136x128, .f32⟩ : BufTy).Contents (Elt F)),
    binary main_v45 main_v62 main_v63 (addf : (⟨S8x3136x128, .f32⟩ : BufTy).Contents (Elt F) → (⟨S8x3136x128, .f32⟩ : BufTy).Contents (Elt F) → (⟨S8x3136x128, .f32⟩ : BufTy).Contents (Elt F)) ]

/-- Operations 102 to 111 of @main. -/
abbrev piece101 : List (HloOp τ sig (Elt F)) :=
  [ reshape main_arg8 main_v64 (rfl : (.f32 : EltTy) = .f32) shapeCasts_S128x128x1x1_S128x128,
    unary main_v64 main_v65 ((transpose S128x128 [1, 0] · transposes_S128x128_S128x128_1_0) : (⟨S128x128, .f32⟩ : BufTy).Contents (Elt F) → (⟨S128x128, .f32⟩ : BufTy).Contents (Elt F)),
    binary main_v63 main_v65 main_v66 ((fun l r => Host.dotGeneral dot_S8x3136x128_S128x128_S8x3136x128_2_0_01_1_n_n none l r) : (⟨S8x3136x128, .f32⟩ : BufTy).Contents (Elt F) → (⟨S128x128, .f32⟩ : BufTy).Contents (Elt F) → (⟨S8x3136x128, .f32⟩ : BufTy).Contents (Elt F)),
    unary main_arg9 main_v67 (broadcastInDim S1x1x128 ![2] bcast_S128_S1x1x128_2 : (⟨S128, .f32⟩ : BufTy).Contents (Elt F) → (⟨S1x1x128, .f32⟩ : BufTy).Contents (Elt F)),
    unary main_v67 main_v68 (broadcastInDim S8x3136x128 ![0, 1, 2] bcast_S1x1x128_S8x3136x128_0_1_2 : (⟨S1x1x128, .f32⟩ : BufTy).Contents (Elt F) → (⟨S8x3136x128, .f32⟩ : BufTy).Contents (Elt F)),
    binary main_v66 main_v68 main_v69 (addf : (⟨S8x3136x128, .f32⟩ : BufTy).Contents (Elt F) → (⟨S8x3136x128, .f32⟩ : BufTy).Contents (Elt F) → (⟨S8x3136x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S8x3136x128, .f32⟩) main_call6_v0) (broadcastInDim S8x3136x128 ![] bcast_S_S8x3136x128),
    TRef.binary (TRef.of (T := ⟨S8x3136x128, .f32⟩) main_v69) (TRef.of (T := ⟨S8x3136x128, .f32⟩) main_call6_v0) (TRef.of (T := ⟨S8x3136x128, .f32⟩) main_v70) maximumf,
    reshape main_v70 main_v71 (rfl : (.f32 : EltTy) = .f32) shapeCasts_S8x3136x128_S8x56x56x128 ]

/-- Operations 112 to 139 of @main. -/
abbrev piece111 : List (HloOp τ sig (Elt F)) :=
  [ unary main_v71 main_v72 (broadcastInDim S8x56x2x56x128 ![0, 1, 3, 4] bcast_S8x56x56x128_S8x56x2x56x128_0_1_3_4 : (⟨S8x56x56x128, .f32⟩ : BufTy).Contents (Elt F) → (⟨S8x56x2x56x128, .f32⟩ : BufTy).Contents (Elt F)),
    reshape main_v72 main_v73 (rfl : (.f32 : EltTy) = .f32) shapeCasts_S8x56x2x56x128_S8x112x56x128,
    unary main_v73 main_v74 (broadcastInDim S8x112x56x2x128 ![0, 1, 2, 4] bcast_S8x112x56x128_S8x112x56x2x128_0_1_2_4 : (⟨S8x112x56x128, .f32⟩ : BufTy).Contents (Elt F) → (⟨S8x112x56x2x128, .f32⟩ : BufTy).Contents (Elt F)),
    reshape main_v74 main_v75 (rfl : (.f32 : EltTy) = .f32) shapeCasts_S8x112x56x2x128_S8x112x112x128,
    nullary main_c_3 (constantI S_ 32 0#32),
    TRef.unary (TRef.of (T := ⟨S_, .i32⟩) main_c_3) (TRef.of (T := ⟨S_, .f32⟩) main_call7_v0) (sitofp .f32),
    TRef.binary (TRef.of (T := ⟨S8x112x112x128, .f32⟩) main_v75) (TRef.of (T := ⟨S_, .f32⟩) main_call7_v0) (TRef.of (T := ⟨S8x114x114x128, .f32⟩) main_v76) (fun x v => pad S8x114x114x128 ![0, 1, 1, 0] ![0, 1, 1, 0] ![0, 0, 0, 0] x v pads_S8x112x112x128_S8x114x114x128_000_110_110_000 h_S_),
    unary main_v76 main_v77 ((extractStridedSlice S8x112x112x128 ![0, 0, 0, 0] · slices_S8x114x114x128_S8x112x112x128_0_0_0_0) : (⟨S8x114x114x128, .f32⟩ : BufTy).Contents (Elt F) → (⟨S8x112x112x128, .f32⟩ : BufTy).Contents (Elt F)),
    unary main_v76 main_v78 ((extractStridedSlice S8x112x112x128 ![0, 0, 1, 0] · slices_S8x114x114x128_S8x112x112x128_0_0_1_0) : (⟨S8x114x114x128, .f32⟩ : BufTy).Contents (Elt F) → (⟨S8x112x112x128, .f32⟩ : BufTy).Contents (Elt F)),
    unary main_v76 main_v79 ((extractStridedSlice S8x112x112x128 ![0, 0, 2, 0] · slices_S8x114x114x128_S8x112x112x128_0_0_2_0) : (⟨S8x114x114x128, .f32⟩ : BufTy).Contents (Elt F) → (⟨S8x112x112x128, .f32⟩ : BufTy).Contents (Elt F)),
    unary main_v76 main_v80 ((extractStridedSlice S8x112x112x128 ![0, 1, 0, 0] · slices_S8x114x114x128_S8x112x112x128_0_1_0_0) : (⟨S8x114x114x128, .f32⟩ : BufTy).Contents (Elt F) → (⟨S8x112x112x128, .f32⟩ : BufTy).Contents (Elt F)),
    unary main_v76 main_v81 ((extractStridedSlice S8x112x112x128 ![0, 1, 1, 0] · slices_S8x114x114x128_S8x112x112x128_0_1_1_0) : (⟨S8x114x114x128, .f32⟩ : BufTy).Contents (Elt F) → (⟨S8x112x112x128, .f32⟩ : BufTy).Contents (Elt F)),
    unary main_v76 main_v82 ((extractStridedSlice S8x112x112x128 ![0, 1, 2, 0] · slices_S8x114x114x128_S8x112x112x128_0_1_2_0) : (⟨S8x114x114x128, .f32⟩ : BufTy).Contents (Elt F) → (⟨S8x112x112x128, .f32⟩ : BufTy).Contents (Elt F)),
    unary main_v76 main_v83 ((extractStridedSlice S8x112x112x128 ![0, 2, 0, 0] · slices_S8x114x114x128_S8x112x112x128_0_2_0_0) : (⟨S8x114x114x128, .f32⟩ : BufTy).Contents (Elt F) → (⟨S8x112x112x128, .f32⟩ : BufTy).Contents (Elt F)),
    unary main_v76 main_v84 ((extractStridedSlice S8x112x112x128 ![0, 2, 1, 0] · slices_S8x114x114x128_S8x112x112x128_0_2_1_0) : (⟨S8x114x114x128, .f32⟩ : BufTy).Contents (Elt F) → (⟨S8x112x112x128, .f32⟩ : BufTy).Contents (Elt F)),
    unary main_v76 main_v85 ((extractStridedSlice S8x112x112x128 ![0, 2, 2, 0] · slices_S8x114x114x128_S8x112x112x128_0_2_2_0) : (⟨S8x114x114x128, .f32⟩ : BufTy).Contents (Elt F) → (⟨S8x112x112x128, .f32⟩ : BufTy).Contents (Elt F)),
    nary ![main_v77, main_v78, main_v79, main_v80, main_v81, main_v82, main_v83, main_v84, main_v85] main_v86 (fun u => (concatenate S8x112x112x1152 3 [⟨S8x112x112x128, (u 0 : (⟨S8x112x112x128, .f32⟩ : BufTy).Contents (Elt F))⟩, ⟨S8x112x112x128, (u 1 : (⟨S8x112x112x128, .f32⟩ : BufTy).Contents (Elt F))⟩, ⟨S8x112x112x128, (u 2 : (⟨S8x112x112x128, .f32⟩ : BufTy).Contents (Elt F))⟩, ⟨S8x112x112x128, (u 3 : (⟨S8x112x112x128, .f32⟩ : BufTy).Contents (Elt F))⟩, ⟨S8x112x112x128, (u 4 : (⟨S8x112x112x128, .f32⟩ : BufTy).Contents (Elt F))⟩, ⟨S8x112x112x128, (u 5 : (⟨S8x112x112x128, .f32⟩ : BufTy).Contents (Elt F))⟩, ⟨S8x112x112x128, (u 6 : (⟨S8x112x112x128, .f32⟩ : BufTy).Contents (Elt F))⟩, ⟨S8x112x112x128, (u 7 : (⟨S8x112x112x128, .f32⟩ : BufTy).Contents (Elt F))⟩, ⟨S8x112x112x128, (u 8 : (⟨S8x112x112x128, .f32⟩ : BufTy).Contents (Elt F))⟩] concatenates_S8x112x112x128_S8x112x112x128_S8x112x112x128_S8x112x112x128_S8x112x112x128_S8x112x112x128_S8x112x112x128_S8x112x112x128_S8x112x112x128_S8x112x112x1152_d3 : (⟨S8x112x112x1152, .f32⟩ : BufTy).Contents (Elt F))),
    reshape main_v86 main_v87 (rfl : (.f32 : EltTy) = .f32) shapeCasts_S8x112x112x1152_S8x12544x1152,
    unary main_arg10 main_v88 ((transpose S3x3x128x128 [2, 3, 1, 0] · transposes_S128x128x3x3_S3x3x128x128_2_3_1_0) : (⟨S128x128x3x3, .f32⟩ : BufTy).Contents (Elt F) → (⟨S3x3x128x128, .f32⟩ : BufTy).Contents (Elt F)),
    reshape main_v88 main_v89 (rfl : (.f32 : EltTy) = .f32) shapeCasts_S3x3x128x128_S1152x128,
    binary main_v87 main_v89 main_v90 ((fun l r => Host.dotGeneral dot_S8x12544x1152_S1152x128_S8x12544x128_2_0_01_1_n_n none l r) : (⟨S8x12544x1152, .f32⟩ : BufTy).Contents (Elt F) → (⟨S1152x128, .f32⟩ : BufTy).Contents (Elt F) → (⟨S8x12544x128, .f32⟩ : BufTy).Contents (Elt F)),
    unary main_arg11 main_v91 (broadcastInDim S1x1x128 ![2] bcast_S128_S1x1x128_2 : (⟨S128, .f32⟩ : BufTy).Contents (Elt F) → (⟨S1x1x128, .f32⟩ : BufTy).Contents (Elt F)),
    unary main_v91 main_v92 (broadcastInDim S8x12544x128 ![0, 1, 2] bcast_S1x1x128_S8x12544x128_0_1_2 : (⟨S1x1x128, .f32⟩ : BufTy).Contents (Elt F) → (⟨S8x12544x128, .f32⟩ : BufTy).Contents (Elt F)),
    binary main_v90 main_v92 main_v93 (addf : (⟨S8x12544x128, .f32⟩ : BufTy).Contents (Elt F) → (⟨S8x12544x128, .f32⟩ : BufTy).Contents (Elt F) → (⟨S8x12544x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S8x12544x128, .f32⟩) main_call8_v0) (broadcastInDim S8x12544x128 ![] bcast_S_S8x12544x128),
    TRef.binary (TRef.of (T := ⟨S8x12544x128, .f32⟩) main_v93) (TRef.of (T := ⟨S8x12544x128, .f32⟩) main_call8_v0) (TRef.of (T := ⟨S8x12544x128, .f32⟩) main_v94) maximumf,
    reshape main_v94 main_v95 (rfl : (.f32 : EltTy) = .f32) shapeCasts_S8x12544x128_S8x112x112x128 ]

/-- Operations 140 to 158 of @main. -/
abbrev piece139 : List (HloOp τ sig (Elt F)) :=
  [ unary main_v95 main_v96 (broadcastInDim S8x112x2x112x128 ![0, 1, 3, 4] bcast_S8x112x112x128_S8x112x2x112x128_0_1_3_4 : (⟨S8x112x112x128, .f32⟩ : BufTy).Contents (Elt F) → (⟨S8x112x2x112x128, .f32⟩ : BufTy).Contents (Elt F)),
    reshape main_v96 main_v97 (rfl : (.f32 : EltTy) = .f32) shapeCasts_S8x112x2x112x128_S8x224x112x128,
    unary main_v97 main_v98 (broadcastInDim S8x224x112x2x128 ![0, 1, 2, 4] bcast_S8x224x112x128_S8x224x112x2x128_0_1_2_4 : (⟨S8x224x112x128, .f32⟩ : BufTy).Contents (Elt F) → (⟨S8x224x112x2x128, .f32⟩ : BufTy).Contents (Elt F)),
    reshape main_v98 main_v99 (rfl : (.f32 : EltTy) = .f32) shapeCasts_S8x224x112x2x128_S8x224x224x128,
    nullary main_c_4 (constantI S_ 32 0#32),
    TRef.unary (TRef.of (T := ⟨S_, .i32⟩) main_c_4) (TRef.of (T := ⟨S_, .f32⟩) main_call9_v0) (sitofp .f32),
    TRef.binary (TRef.of (T := ⟨S8x224x224x128, .f32⟩) main_v99) (TRef.of (T := ⟨S_, .f32⟩) main_call9_v0) (TRef.of (T := ⟨S8x226x226x128, .f32⟩) main_v100) (fun x v => pad S8x226x226x128 ![0, 1, 1, 0] ![0, 1, 1, 0] ![0, 0, 0, 0] x v pads_S8x224x224x128_S8x226x226x128_000_110_110_000 h_S_),
    unary main_v100 main_v101 ((extractStridedSlice S8x224x224x128 ![0, 0, 0, 0] · slices_S8x226x226x128_S8x224x224x128_0_0_0_0) : (⟨S8x226x226x128, .f32⟩ : BufTy).Contents (Elt F) → (⟨S8x224x224x128, .f32⟩ : BufTy).Contents (Elt F)),
    unary main_v100 main_v102 ((extractStridedSlice S8x224x224x128 ![0, 0, 1, 0] · slices_S8x226x226x128_S8x224x224x128_0_0_1_0) : (⟨S8x226x226x128, .f32⟩ : BufTy).Contents (Elt F) → (⟨S8x224x224x128, .f32⟩ : BufTy).Contents (Elt F)),
    unary main_v100 main_v103 ((extractStridedSlice S8x224x224x128 ![0, 0, 2, 0] · slices_S8x226x226x128_S8x224x224x128_0_0_2_0) : (⟨S8x226x226x128, .f32⟩ : BufTy).Contents (Elt F) → (⟨S8x224x224x128, .f32⟩ : BufTy).Contents (Elt F)),
    unary main_v100 main_v104 ((extractStridedSlice S8x224x224x128 ![0, 1, 0, 0] · slices_S8x226x226x128_S8x224x224x128_0_1_0_0) : (⟨S8x226x226x128, .f32⟩ : BufTy).Contents (Elt F) → (⟨S8x224x224x128, .f32⟩ : BufTy).Contents (Elt F)),
    unary main_v100 main_v105 ((extractStridedSlice S8x224x224x128 ![0, 1, 1, 0] · slices_S8x226x226x128_S8x224x224x128_0_1_1_0) : (⟨S8x226x226x128, .f32⟩ : BufTy).Contents (Elt F) → (⟨S8x224x224x128, .f32⟩ : BufTy).Contents (Elt F)),
    unary main_v100 main_v106 ((extractStridedSlice S8x224x224x128 ![0, 1, 2, 0] · slices_S8x226x226x128_S8x224x224x128_0_1_2_0) : (⟨S8x226x226x128, .f32⟩ : BufTy).Contents (Elt F) → (⟨S8x224x224x128, .f32⟩ : BufTy).Contents (Elt F)),
    unary main_v100 main_v107 ((extractStridedSlice S8x224x224x128 ![0, 2, 0, 0] · slices_S8x226x226x128_S8x224x224x128_0_2_0_0) : (⟨S8x226x226x128, .f32⟩ : BufTy).Contents (Elt F) → (⟨S8x224x224x128, .f32⟩ : BufTy).Contents (Elt F)),
    unary main_v100 main_v108 ((extractStridedSlice S8x224x224x128 ![0, 2, 1, 0] · slices_S8x226x226x128_S8x224x224x128_0_2_1_0) : (⟨S8x226x226x128, .f32⟩ : BufTy).Contents (Elt F) → (⟨S8x224x224x128, .f32⟩ : BufTy).Contents (Elt F)),
    unary main_v100 main_v109 ((extractStridedSlice S8x224x224x128 ![0, 2, 2, 0] · slices_S8x226x226x128_S8x224x224x128_0_2_2_0) : (⟨S8x226x226x128, .f32⟩ : BufTy).Contents (Elt F) → (⟨S8x224x224x128, .f32⟩ : BufTy).Contents (Elt F)),
    nary ![main_v101, main_v102, main_v103, main_v104, main_v105, main_v106, main_v107, main_v108, main_v109] main_v110 (fun u => (concatenate S8x224x224x1152 3 [⟨S8x224x224x128, (u 0 : (⟨S8x224x224x128, .f32⟩ : BufTy).Contents (Elt F))⟩, ⟨S8x224x224x128, (u 1 : (⟨S8x224x224x128, .f32⟩ : BufTy).Contents (Elt F))⟩, ⟨S8x224x224x128, (u 2 : (⟨S8x224x224x128, .f32⟩ : BufTy).Contents (Elt F))⟩, ⟨S8x224x224x128, (u 3 : (⟨S8x224x224x128, .f32⟩ : BufTy).Contents (Elt F))⟩, ⟨S8x224x224x128, (u 4 : (⟨S8x224x224x128, .f32⟩ : BufTy).Contents (Elt F))⟩, ⟨S8x224x224x128, (u 5 : (⟨S8x224x224x128, .f32⟩ : BufTy).Contents (Elt F))⟩, ⟨S8x224x224x128, (u 6 : (⟨S8x224x224x128, .f32⟩ : BufTy).Contents (Elt F))⟩, ⟨S8x224x224x128, (u 7 : (⟨S8x224x224x128, .f32⟩ : BufTy).Contents (Elt F))⟩, ⟨S8x224x224x128, (u 8 : (⟨S8x224x224x128, .f32⟩ : BufTy).Contents (Elt F))⟩] concatenates_S8x224x224x128_S8x224x224x128_S8x224x224x128_S8x224x224x128_S8x224x224x128_S8x224x224x128_S8x224x224x128_S8x224x224x128_S8x224x224x128_S8x224x224x1152_d3 : (⟨S8x224x224x1152, .f32⟩ : BufTy).Contents (Elt F))),
    reshape main_v110 main_v111 (rfl : (.f32 : EltTy) = .f32) shapeCasts_S8x224x224x1152_S8x50176x1152,
    unary main_arg12 main_v112 ((transpose S3x3x128x64 [2, 3, 1, 0] · transposes_S64x128x3x3_S3x3x128x64_2_3_1_0) : (⟨S64x128x3x3, .f32⟩ : BufTy).Contents (Elt F) → (⟨S3x3x128x64, .f32⟩ : BufTy).Contents (Elt F)) ]

/-- Operations 159 to 167 of @main. -/
abbrev piece158 : List (HloOp τ sig (Elt F)) :=
  [ reshape main_v112 main_v113 (rfl : (.f32 : EltTy) = .f32) shapeCasts_S3x3x128x64_S1152x64,
    binary main_v111 main_v113 main_v114 ((fun l r => Host.dotGeneral dot_S8x50176x1152_S1152x64_S8x50176x64_2_0_01_1_n_n none l r) : (⟨S8x50176x1152, .f32⟩ : BufTy).Contents (Elt F) → (⟨S1152x64, .f32⟩ : BufTy).Contents (Elt F) → (⟨S8x50176x64, .f32⟩ : BufTy).Contents (Elt F)),
    unary main_arg13 main_v115 (broadcastInDim S1x1x64 ![2] bcast_S64_S1x1x64_2 : (⟨S64, .f32⟩ : BufTy).Contents (Elt F) → (⟨S1x1x64, .f32⟩ : BufTy).Contents (Elt F)),
    unary main_v115 main_v116 (broadcastInDim S8x50176x64 ![0, 1, 2] bcast_S1x1x64_S8x50176x64_0_1_2 : (⟨S1x1x64, .f32⟩ : BufTy).Contents (Elt F) → (⟨S8x50176x64, .f32⟩ : BufTy).Contents (Elt F)),
    binary main_v114 main_v116 main_v117 (addf : (⟨S8x50176x64, .f32⟩ : BufTy).Contents (Elt F) → (⟨S8x50176x64, .f32⟩ : BufTy).Contents (Elt F) → (⟨S8x50176x64, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S8x50176x64, .f32⟩) main_call10_v0) (broadcastInDim S8x50176x64 ![] bcast_S_S8x50176x64),
    TRef.binary (TRef.of (T := ⟨S8x50176x64, .f32⟩) main_v117) (TRef.of (T := ⟨S8x50176x64, .f32⟩) main_call10_v0) (TRef.of (T := ⟨S8x50176x64, .f32⟩) main_v118) maximumf,
    reshape main_v118 main_v119 (rfl : (.f32 : EltTy) = .f32) shapeCasts_S8x50176x64_S8x224x224x64 ]

/-- Operations 168 to 189 of @main. -/
abbrev piece167 : List (HloOp τ sig (Elt F)) :=
  [ nullary main_c_5 (constantI S_ 32 0#32),
    TRef.unary (TRef.of (T := ⟨S_, .i32⟩) main_c_5) (TRef.of (T := ⟨S_, .f32⟩) main_call11_v0) (sitofp .f32),
    TRef.binary (TRef.of (T := ⟨S8x224x224x64, .f32⟩) main_v119) (TRef.of (T := ⟨S_, .f32⟩) main_call11_v0) (TRef.of (T := ⟨S8x226x226x64, .f32⟩) main_v120) (fun x v => pad S8x226x226x64 ![0, 1, 1, 0] ![0, 1, 1, 0] ![0, 0, 0, 0] x v pads_S8x224x224x64_S8x226x226x64_000_110_110_000 h_S_),
    unary main_v120 main_v121 ((extractStridedSlice S8x224x224x64 ![0, 0, 0, 0] · slices_S8x226x226x64_S8x224x224x64_0_0_0_0) : (⟨S8x226x226x64, .f32⟩ : BufTy).Contents (Elt F) → (⟨S8x224x224x64, .f32⟩ : BufTy).Contents (Elt F)),
    unary main_v120 main_v122 ((extractStridedSlice S8x224x224x64 ![0, 0, 1, 0] · slices_S8x226x226x64_S8x224x224x64_0_0_1_0) : (⟨S8x226x226x64, .f32⟩ : BufTy).Contents (Elt F) → (⟨S8x224x224x64, .f32⟩ : BufTy).Contents (Elt F)),
    unary main_v120 main_v123 ((extractStridedSlice S8x224x224x64 ![0, 0, 2, 0] · slices_S8x226x226x64_S8x224x224x64_0_0_2_0) : (⟨S8x226x226x64, .f32⟩ : BufTy).Contents (Elt F) → (⟨S8x224x224x64, .f32⟩ : BufTy).Contents (Elt F)),
    unary main_v120 main_v124 ((extractStridedSlice S8x224x224x64 ![0, 1, 0, 0] · slices_S8x226x226x64_S8x224x224x64_0_1_0_0) : (⟨S8x226x226x64, .f32⟩ : BufTy).Contents (Elt F) → (⟨S8x224x224x64, .f32⟩ : BufTy).Contents (Elt F)),
    unary main_v120 main_v125 ((extractStridedSlice S8x224x224x64 ![0, 1, 1, 0] · slices_S8x226x226x64_S8x224x224x64_0_1_1_0) : (⟨S8x226x226x64, .f32⟩ : BufTy).Contents (Elt F) → (⟨S8x224x224x64, .f32⟩ : BufTy).Contents (Elt F)),
    unary main_v120 main_v126 ((extractStridedSlice S8x224x224x64 ![0, 1, 2, 0] · slices_S8x226x226x64_S8x224x224x64_0_1_2_0) : (⟨S8x226x226x64, .f32⟩ : BufTy).Contents (Elt F) → (⟨S8x224x224x64, .f32⟩ : BufTy).Contents (Elt F)),
    unary main_v120 main_v127 ((extractStridedSlice S8x224x224x64 ![0, 2, 0, 0] · slices_S8x226x226x64_S8x224x224x64_0_2_0_0) : (⟨S8x226x226x64, .f32⟩ : BufTy).Contents (Elt F) → (⟨S8x224x224x64, .f32⟩ : BufTy).Contents (Elt F)),
    unary main_v120 main_v128 ((extractStridedSlice S8x224x224x64 ![0, 2, 1, 0] · slices_S8x226x226x64_S8x224x224x64_0_2_1_0) : (⟨S8x226x226x64, .f32⟩ : BufTy).Contents (Elt F) → (⟨S8x224x224x64, .f32⟩ : BufTy).Contents (Elt F)),
    unary main_v120 main_v129 ((extractStridedSlice S8x224x224x64 ![0, 2, 2, 0] · slices_S8x226x226x64_S8x224x224x64_0_2_2_0) : (⟨S8x226x226x64, .f32⟩ : BufTy).Contents (Elt F) → (⟨S8x224x224x64, .f32⟩ : BufTy).Contents (Elt F)),
    nary ![main_v121, main_v122, main_v123, main_v124, main_v125, main_v126, main_v127, main_v128, main_v129] main_v130 (fun u => (concatenate S8x224x224x576 3 [⟨S8x224x224x64, (u 0 : (⟨S8x224x224x64, .f32⟩ : BufTy).Contents (Elt F))⟩, ⟨S8x224x224x64, (u 1 : (⟨S8x224x224x64, .f32⟩ : BufTy).Contents (Elt F))⟩, ⟨S8x224x224x64, (u 2 : (⟨S8x224x224x64, .f32⟩ : BufTy).Contents (Elt F))⟩, ⟨S8x224x224x64, (u 3 : (⟨S8x224x224x64, .f32⟩ : BufTy).Contents (Elt F))⟩, ⟨S8x224x224x64, (u 4 : (⟨S8x224x224x64, .f32⟩ : BufTy).Contents (Elt F))⟩, ⟨S8x224x224x64, (u 5 : (⟨S8x224x224x64, .f32⟩ : BufTy).Contents (Elt F))⟩, ⟨S8x224x224x64, (u 6 : (⟨S8x224x224x64, .f32⟩ : BufTy).Contents (Elt F))⟩, ⟨S8x224x224x64, (u 7 : (⟨S8x224x224x64, .f32⟩ : BufTy).Contents (Elt F))⟩, ⟨S8x224x224x64, (u 8 : (⟨S8x224x224x64, .f32⟩ : BufTy).Contents (Elt F))⟩] concatenates_S8x224x224x64_S8x224x224x64_S8x224x224x64_S8x224x224x64_S8x224x224x64_S8x224x224x64_S8x224x224x64_S8x224x224x64_S8x224x224x64_S8x224x224x576_d3 : (⟨S8x224x224x576, .f32⟩ : BufTy).Contents (Elt F))),
    reshape main_v130 main_v131 (rfl : (.f32 : EltTy) = .f32) shapeCasts_S8x224x224x576_S8x50176x576,
    unary main_arg14 main_v132 ((transpose S3x3x64x3 [2, 3, 1, 0] · transposes_S3x64x3x3_S3x3x64x3_2_3_1_0) : (⟨S3x64x3x3, .f32⟩ : BufTy).Contents (Elt F) → (⟨S3x3x64x3, .f32⟩ : BufTy).Contents (Elt F)),
    reshape main_v132 main_v133 (rfl : (.f32 : EltTy) = .f32) shapeCasts_S3x3x64x3_S576x3,
    binary main_v131 main_v133 main_v134 ((fun l r => Host.dotGeneral dot_S8x50176x576_S576x3_S8x50176x3_2_0_01_1_n_n none l r) : (⟨S8x50176x576, .f32⟩ : BufTy).Contents (Elt F) → (⟨S576x3, .f32⟩ : BufTy).Contents (Elt F) → (⟨S8x50176x3, .f32⟩ : BufTy).Contents (Elt F)),
    unary main_arg15 main_v135 (broadcastInDim S1x1x3 ![2] bcast_S3_S1x1x3_2 : (⟨S3, .f32⟩ : BufTy).Contents (Elt F) → (⟨S1x1x3, .f32⟩ : BufTy).Contents (Elt F)),
    unary main_v135 main_v136 (broadcastInDim S8x50176x3 ![0, 1, 2] bcast_S1x1x3_S8x50176x3_0_1_2 : (⟨S1x1x3, .f32⟩ : BufTy).Contents (Elt F) → (⟨S8x50176x3, .f32⟩ : BufTy).Contents (Elt F)),
    binary main_v134 main_v136 main_v137 (addf : (⟨S8x50176x3, .f32⟩ : BufTy).Contents (Elt F) → (⟨S8x50176x3, .f32⟩ : BufTy).Contents (Elt F) → (⟨S8x50176x3, .f32⟩ : BufTy).Contents (Elt F)),
    unary main_v137 main_v138 ((transpose S8x3x50176 [0, 2, 1] · transposes_S8x50176x3_S8x3x50176_0_2_1) : (⟨S8x50176x3, .f32⟩ : BufTy).Contents (Elt F) → (⟨S8x3x50176, .f32⟩ : BufTy).Contents (Elt F)),
    reshape main_v138 main_v139 (rfl : (.f32 : EltTy) = .f32) shapeCasts_S8x3x50176_S8x3x224x224 ]

/-- Operations 190 to 203 of @main. -/
abbrev piece189 : List (HloOp τ sig (Elt F)) :=
  [ binary main_v139 main_arg0 main_v140 (subf : (⟨S8x3x224x224, .f32⟩ : BufTy).Contents (Elt F) → (⟨S8x3x224x224, .f32⟩ : BufTy).Contents (Elt F) → (⟨S8x3x224x224, .f32⟩ : BufTy).Contents (Elt F)),
    binary main_v140 main_v140 main_v141 (mulf : (⟨S8x3x224x224, .f32⟩ : BufTy).Contents (Elt F) → (⟨S8x3x224x224, .f32⟩ : BufTy).Contents (Elt F) → (⟨S8x3x224x224, .f32⟩ : BufTy).Contents (Elt F)),
    nullary main_cst_6 (constant S_ .f32 0x00000000#32),
    binary main_v141 main_cst_6 main_v142 ((fun x v => Host.reduceAdd x v reducesTo_S8x3x224x224_S_d0_1_2_3 h_S_) : (⟨S8x3x224x224, .f32⟩ : BufTy).Contents (Elt F) → (⟨S_, .f32⟩ : BufTy).Contents (Elt F) → (⟨S_, .f32⟩ : BufTy).Contents (Elt F)),
    nullary main_cst_7 (constant S_ .f32 0x49930000#32),
    binary main_v142 main_cst_7 main_v143 (Host.divf : (⟨S_, .f32⟩ : BufTy).Contents (Elt F) → (⟨S_, .f32⟩ : BufTy).Contents (Elt F) → (⟨S_, .f32⟩ : BufTy).Contents (Elt F)),
    binary main_v139 main_arg0 main_v144 (subf : (⟨S8x3x224x224, .f32⟩ : BufTy).Contents (Elt F) → (⟨S8x3x224x224, .f32⟩ : BufTy).Contents (Elt F) → (⟨S8x3x224x224, .f32⟩ : BufTy).Contents (Elt F)),
    binary main_v144 main_v144 main_v145 (mulf : (⟨S8x3x224x224, .f32⟩ : BufTy).Contents (Elt F) → (⟨S8x3x224x224, .f32⟩ : BufTy).Contents (Elt F) → (⟨S8x3x224x224, .f32⟩ : BufTy).Contents (Elt F)),
    nullary main_cst_8 (constant S_ .f32 0x00000000#32),
    binary main_v145 main_cst_8 main_v146 ((fun x v => Host.reduceAdd x v reducesTo_S8x3x224x224_S_d0_1_2_3 h_S_) : (⟨S8x3x224x224, .f32⟩ : BufTy).Contents (Elt F) → (⟨S_, .f32⟩ : BufTy).Contents (Elt F) → (⟨S_, .f32⟩ : BufTy).Contents (Elt F)),
    nullary main_cst_9 (constant S_ .f32 0x49930000#32),
    binary main_v146 main_cst_9 main_v147 (Host.divf : (⟨S_, .f32⟩ : BufTy).Contents (Elt F) → (⟨S_, .f32⟩ : BufTy).Contents (Elt F) → (⟨S_, .f32⟩ : BufTy).Contents (Elt F)),
    nullary main_cst_10 (constant S_ .f32 0x3E800000#32),
    binary main_cst_10 main_v143 main_v148 (mulf : (⟨S_, .f32⟩ : BufTy).Contents (Elt F) → (⟨S_, .f32⟩ : BufTy).Contents (Elt F) → (⟨S_, .f32⟩ : BufTy).Contents (Elt F)) ]

set_option maxHeartbeats 4000000 in
/-- Window 0 of @main is its operations in order. -/
theorem main_part0_eq (c : Dev nD) : main_part0 (F := F) c = seq (piece0 ++ piece25 ++ piece48 ++ piece54) := rfl

set_option maxHeartbeats 4000000 in
/-- Window 1 of @main is its operations in order. -/
theorem main_part1_eq (c : Dev nD) : main_part1 (F := F) c = seq (piece66 ++ piece71 ++ piece101 ++ piece111 ++ piece139) := rfl

set_option maxHeartbeats 4000000 in
/-- Window 2 of @main is its operations in order. -/
theorem main_part2_eq (c : Dev nD) : main_part2 (F := F) c = seq (piece158 ++ piece167 ++ piece189) := rfl

/-- Layer 1's operations. -/
def layer1 : List (HloOp τ sig (Elt F)) := piece0

/-- Layer 2's operations. -/
def layer2 : List (HloOp τ sig (Elt F)) := piece25

/-- Layer 3's operations. -/
def layer3 : List (HloOp τ sig (Elt F)) := piece48

/-- Layer 4's operations. -/
def layer4 : List (HloOp τ sig (Elt F)) := piece54 ++ piece66

/-- Layer 5's operations. -/
def layer5 : List (HloOp τ sig (Elt F)) := piece71

/-- Layer 6's operations. -/
def layer6 : List (HloOp τ sig (Elt F)) := piece101

/-- Layer 7's operations. -/
def layer7 : List (HloOp τ sig (Elt F)) := piece111

/-- Layer 8's operations. -/
def layer8 : List (HloOp τ sig (Elt F)) := piece139 ++ piece158

/-- Layer 9's operations. -/
def layer9 : List (HloOp τ sig (Elt F)) := piece167

/-- Layer 10's operations. -/
def layer10 : List (HloOp τ sig (Elt F)) := piece189

/-- @main's operations, in order. -/
def ops : List (HloOp τ sig (Elt F)) := layer1 ++ (layer2 ++ (layer3 ++ (layer4 ++ (layer5 ++ (layer6 ++ (layer7 ++ (layer8 ++ (layer9 ++ (layer10)))))))))

/-- @main is its operations in order. -/
theorem main_eq (c : Dev nD) : main (F := F) c = seq ops := by
  have h : main (F := F) c = seq ((piece0 ++ piece25 ++ piece48 ++ piece54) ++ ((piece66 ++ piece71 ++ piece101 ++ piece111 ++ piece139) ++ ((piece158 ++ piece167 ++ piece189) ++ []))) := by
    rw [seq_append, ← main_part0_eq c, seq_append, ← main_part1_eq c, seq_append, ← main_part2_eq c]
    rfl
  rw [h]
  apply congrArg seq
  simp only [ops, layer1, layer2, layer3, layer4, layer5, layer6, layer7, layer8, layer9, layer10, List.append_assoc, List.append_nil]

/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-- A host operation that touches the core's own buffers only and draws nothing fresh. -/
def Plain (op : HloOp τ sig (Elt F)) : Prop := op.bufs ⊆ tcRefs τ sig ∧ op.fresh = ∅

/-- Operations 1 to 25 are plain. -/
theorem piece0_plain : (piece0 : List (HloOp τ sig (Elt F))).Forall Plain :=
  ⟨⟨unary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨nary_bufs_sub .., rfl⟩, ⟨reshape_bufs_sub .., rfl⟩, ⟨unary_bufs_sub .., rfl⟩, ⟨reshape_bufs_sub .., rfl⟩, ⟨binary_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨reshape_bufs_sub .., rfl⟩⟩

/-- Operations 26 to 48 are plain. -/
theorem piece25_plain : (piece25 : List (HloOp τ sig (Elt F))).Forall Plain :=
  ⟨⟨nullary_bufs_sub .., rfl⟩, ⟨unary_bufs_sub .., rfl⟩, ⟨binary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨nary_bufs_sub .., rfl⟩, ⟨reshape_bufs_sub .., rfl⟩, ⟨unary_bufs_sub .., rfl⟩, ⟨reshape_bufs_sub .., rfl⟩, ⟨binary_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩⟩

/-- Operations 49 to 54 are plain. -/
theorem piece48_plain : (piece48 : List (HloOp τ sig (Elt F))).Forall Plain :=
  ⟨⟨reshape_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

/-- Operations 55 to 66 are plain. -/
theorem piece54_plain : (piece54 : List (HloOp τ sig (Elt F))).Forall Plain :=
  ⟨⟨binary_bufs_sub .., rfl⟩, ⟨nullary_bufs_sub .., rfl⟩, ⟨binary_bufs_sub .., rfl⟩, ⟨unary_bufs_sub .., rfl⟩, ⟨nullary_bufs_sub .., rfl⟩, ⟨unary_bufs_sub .., rfl⟩, ⟨binary_bufs_sub .., rfl⟩, ⟨unary_bufs_sub .., rfl⟩, ⟨binary_bufs_sub .., rfl⟩, ⟨unary_bufs_sub .., rfl⟩, ⟨binary_bufs_sub .., rfl⟩, ⟨binary_bufs_sub .., rfl⟩⟩

/-- Operations 67 to 71 are plain. -/
theorem piece66_plain : (piece66 : List (HloOp τ sig (Elt F))).Forall Plain :=
  ⟨⟨nullary_bufs_sub .., rfl⟩, ⟨binary_bufs_sub .., rfl⟩, ⟨unary_bufs_sub .., rfl⟩, ⟨unary_bufs_sub .., rfl⟩, ⟨binary_bufs_sub .., rfl⟩⟩

/-- Operations 72 to 101 are plain. -/
theorem piece71_plain : (piece71 : List (HloOp τ sig (Elt F))).Forall Plain :=
  ⟨⟨nullary_bufs_sub .., rfl⟩, ⟨nullary_bufs_sub .., rfl⟩, ⟨nullary_bufs_sub .., rfl⟩, ⟨quaternary_bufs_sub .., rfl⟩, ⟨quaternary_bufs_sub .., rfl⟩, ⟨nullary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨ternary_bufs_sub .., rfl⟩, ⟨unary_bufs_sub .., rfl⟩, ⟨nullary_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨binary_bufs_sub .., rfl⟩, ⟨nullary_bufs_sub .., rfl⟩, ⟨binary_bufs_sub .., rfl⟩, ⟨binary_bufs_sub .., rfl⟩, ⟨unary_bufs_sub .., rfl⟩, ⟨nullary_bufs_sub .., rfl⟩, ⟨unary_bufs_sub .., rfl⟩, ⟨ternary_bufs_sub .., rfl⟩, ⟨binary_bufs_sub .., rfl⟩, ⟨binary_bufs_sub .., rfl⟩⟩

/-- Operations 102 to 111 are plain. -/
theorem piece101_plain : (piece101 : List (HloOp τ sig (Elt F))).Forall Plain :=
  ⟨⟨reshape_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨reshape_bufs_sub .., rfl⟩⟩

/-- Operations 112 to 139 are plain. -/
theorem piece111_plain : (piece111 : List (HloOp τ sig (Elt F))).Forall Plain :=
  ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨nary_bufs_sub .., rfl⟩, ⟨reshape_bufs_sub .., rfl⟩, ⟨unary_bufs_sub .., rfl⟩, ⟨reshape_bufs_sub .., rfl⟩, ⟨binary_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨reshape_bufs_sub .., rfl⟩⟩

/-- Operations 140 to 158 are plain. -/
theorem piece139_plain : (piece139 : List (HloOp τ sig (Elt F))).Forall Plain :=
  ⟨⟨unary_bufs_sub .., rfl⟩, ⟨reshape_bufs_sub .., rfl⟩, ⟨unary_bufs_sub .., rfl⟩, ⟨reshape_bufs_sub .., rfl⟩, ⟨nullary_bufs_sub .., rfl⟩, ⟨unary_bufs_sub .., rfl⟩, ⟨binary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨nary_bufs_sub .., rfl⟩, ⟨reshape_bufs_sub .., rfl⟩, ⟨unary_bufs_sub .., rfl⟩⟩

/-- Operations 159 to 167 are plain. -/
theorem piece158_plain : (piece158 : List (HloOp τ sig (Elt F))).Forall Plain :=
  ⟨⟨reshape_bufs_sub .., rfl⟩, ⟨binary_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨reshape_bufs_sub .., rfl⟩⟩

/-- Operations 168 to 189 are plain. -/
theorem piece167_plain : (piece167 : List (HloOp τ sig (Elt F))).Forall Plain :=
  ⟨⟨nullary_bufs_sub .., rfl⟩, ⟨unary_bufs_sub .., rfl⟩, ⟨binary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨unary_bufs_sub .., rfl⟩, ⟨nary_bufs_sub .., rfl⟩, ⟨reshape_bufs_sub .., rfl⟩, ⟨unary_bufs_sub .., rfl⟩, ⟨reshape_bufs_sub .., rfl⟩, ⟨binary_bufs_sub .., rfl⟩, ⟨unary_bufs_sub .., rfl⟩, ⟨unary_bufs_sub .., rfl⟩, ⟨binary_bufs_sub .., rfl⟩, ⟨unary_bufs_sub .., rfl⟩, ⟨reshape_bufs_sub .., rfl⟩⟩

/-- Operations 190 to 203 are plain. -/
theorem piece189_plain : (piece189 : List (HloOp τ sig (Elt F))).Forall Plain :=
  ⟨⟨binary_bufs_sub .., rfl⟩, ⟨binary_bufs_sub .., rfl⟩, ⟨nullary_bufs_sub .., rfl⟩, ⟨binary_bufs_sub .., rfl⟩, ⟨nullary_bufs_sub .., rfl⟩, ⟨binary_bufs_sub .., rfl⟩, ⟨binary_bufs_sub .., rfl⟩, ⟨binary_bufs_sub .., rfl⟩, ⟨nullary_bufs_sub .., rfl⟩, ⟨binary_bufs_sub .., rfl⟩, ⟨nullary_bufs_sub .., rfl⟩, ⟨binary_bufs_sub .., rfl⟩, ⟨nullary_bufs_sub .., rfl⟩, ⟨binary_bufs_sub .., rfl⟩⟩

/-- Every operation of @main is plain. -/
theorem ops_plain : ∀ op ∈ (ops : List (HloOp τ sig (Elt F))), Plain op := fun op h => by
  simp only [ops, layer1, layer2, layer3, layer4, layer5, layer6, layer7, layer8, layer9, layer10, List.mem_append, or_assoc] at h
  rcases h with h | h | h | h | h | h | h | h | h | h | h | h
  exacts [List.forall_iff_forall_mem.mp piece0_plain op h, List.forall_iff_forall_mem.mp piece25_plain op h, List.forall_iff_forall_mem.mp piece48_plain op h, List.forall_iff_forall_mem.mp piece54_plain op h, List.forall_iff_forall_mem.mp piece66_plain op h, List.forall_iff_forall_mem.mp piece71_plain op h, List.forall_iff_forall_mem.mp piece101_plain op h, List.forall_iff_forall_mem.mp piece111_plain op h, List.forall_iff_forall_mem.mp piece139_plain op h, List.forall_iff_forall_mem.mp piece158_plain op h, List.forall_iff_forall_mem.mp piece167_plain op h, List.forall_iff_forall_mem.mp piece189_plain op h]

/-- The buffers of the device at the start. -/
def upTo0 (V : Valuation τ sig (Elt F)) : Valuation τ sig (Elt F) := V

/-- The buffers of the device after layers 1 to 1. -/
def upTo1 (V : Valuation τ sig (Elt F)) : Valuation τ sig (Elt F) := after layer1 (upTo0 V)

/-- The buffers of the device after layers 1 to 2. -/
def upTo2 (V : Valuation τ sig (Elt F)) : Valuation τ sig (Elt F) := after layer2 (upTo1 V)

/-- The buffers of the device after layers 1 to 3. -/
def upTo3 (V : Valuation τ sig (Elt F)) : Valuation τ sig (Elt F) := after layer3 (upTo2 V)

/-- The buffers of the device after layers 1 to 4. -/
def upTo4 (V : Valuation τ sig (Elt F)) : Valuation τ sig (Elt F) := after layer4 (upTo3 V)

/-- The buffers of the device after layers 1 to 5. -/
def upTo5 (V : Valuation τ sig (Elt F)) : Valuation τ sig (Elt F) := after layer5 (upTo4 V)

/-- The buffers of the device after layers 1 to 6. -/
def upTo6 (V : Valuation τ sig (Elt F)) : Valuation τ sig (Elt F) := after layer6 (upTo5 V)

/-- The buffers of the device after layers 1 to 7. -/
def upTo7 (V : Valuation τ sig (Elt F)) : Valuation τ sig (Elt F) := after layer7 (upTo6 V)

/-- The buffers of the device after layers 1 to 8. -/
def upTo8 (V : Valuation τ sig (Elt F)) : Valuation τ sig (Elt F) := after layer8 (upTo7 V)

/-- The buffers of the device after layers 1 to 9. -/
def upTo9 (V : Valuation τ sig (Elt F)) : Valuation τ sig (Elt F) := after layer9 (upTo8 V)

/-- The buffers of the device after layers 1 to 10. -/
def upTo10 (V : Valuation τ sig (Elt F)) : Valuation τ sig (Elt F) := after layer10 (upTo9 V)

/-- What the whole list leaves is what the last layer leaves. -/
theorem after_ops (V : Valuation τ sig (Elt F)) : after ops V = upTo10 V := by
  simp only [ops, after_append, upTo0, upTo1, upTo2, upTo3, upTo4, upTo5, upTo6, upTo7, upTo8, upTo9, upTo10]

/-- The buffers layer 1 writes. -/
abbrev writes1 : List (Ref sig .tc) := [main_v0, main_c, main_call0_v0, main_v1, main_v2, main_v3, main_v4, main_v5, main_v6, main_v7, main_v8, main_v9, main_v10, main_v11, main_v12, main_v13, main_v14, main_v15, main_v16, main_v17, main_v18, main_call1_cst, main_call1_v0, main_v19, main_v20]

/-- Layer 1 writes no other buffer. -/
theorem layer1_writes : (layer1 : List (HloOp τ sig (Elt F))).Forall fun op => op.writes ⊆ (writes1.map (Proc.devRef (τ := τ) .tc)).toFinset := by
  unfold layer1
  simp only [List.cons_append, List.nil_append, List.Forall, nullary_writes, unary_writes, binary_writes, ternary_writes, quaternary_writes, reshape_writes, nary_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_⟩
  all_goals exact List.mem_map_of_mem (by decide)

/-- A buffer that layer 1 does not write keeps its contents. -/
theorem keep1 (V : Valuation τ sig (Elt F)) (r : Ref sig .tc) (h : r ∉ writes1) :
    upTo1 V (Proc.devRef .tc r) = upTo0 V (Proc.devRef .tc r) :=
  after_of_writes_sub layer1 _ layer1_writes h

/-- The buffers layer 2 writes. -/
abbrev writes2 : List (Ref sig .tc) := [main_c_0, main_call2_v0, main_v21, main_v22, main_v23, main_v24, main_v25, main_v26, main_v27, main_v28, main_v29, main_v30, main_v31, main_v32, main_v33, main_v34, main_v35, main_v36, main_v37, main_v38, main_call3_cst, main_call3_v0, main_v39]

/-- Layer 2 writes no other buffer. -/
theorem layer2_writes : (layer2 : List (HloOp τ sig (Elt F))).Forall fun op => op.writes ⊆ (writes2.map (Proc.devRef (τ := τ) .tc)).toFinset := by
  unfold layer2
  simp only [List.cons_append, List.nil_append, List.Forall, nullary_writes, unary_writes, binary_writes, ternary_writes, quaternary_writes, reshape_writes, nary_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_⟩
  all_goals exact List.mem_map_of_mem (by decide)

/-- A buffer that layer 2 does not write keeps its contents. -/
theorem keep2 (V : Valuation τ sig (Elt F)) (r : Ref sig .tc) (h : r ∉ writes2) :
    upTo2 V (Proc.devRef .tc r) = upTo1 V (Proc.devRef .tc r) :=
  after_of_writes_sub layer2 _ layer2_writes h

/-- The buffers layer 3 writes. -/
abbrev writes3 : List (Ref sig .tc) := [main_v40, main_v41, main_v42, main_v43, main_v44, main_v45]

/-- Layer 3 writes no other buffer. -/
theorem layer3_writes : (layer3 : List (HloOp τ sig (Elt F))).Forall fun op => op.writes ⊆ (writes3.map (Proc.devRef (τ := τ) .tc)).toFinset := by
  unfold layer3
  simp only [List.cons_append, List.nil_append, List.Forall, nullary_writes, unary_writes, binary_writes, ternary_writes, quaternary_writes, reshape_writes, nary_writes, Finset.singleton_subset_iff, List.mem_toFinset]
  refine ⟨?_, ?_, ?_, ?_, ?_, ?_⟩
  all_goals exact List.mem_map_of_mem (by decide)

/-- A buffer that layer 3 does not write keeps its contents. -/
theorem keep3 (V : Valuation τ sig (Elt F)) (r : Ref sig .tc) (h : r ∉ writes3) :
    upTo3 V (Proc.devRef .tc r) = upTo2 V (Proc.devRef .tc r) :=
  after_of_writes_sub layer3 _ layer3_writes h

/-- The buffers layer 4 writes. -/
abbrev writes4 : List (Ref sig .tc) := [main_v46, main_cst, main_v47, main_v48, main_cst_1, main_v49, main_v50, main_v51, main_v52, main_v53, main_v54, main_v55, main_cst_2, main_v56, main_v57, main_v58, main_v59]

/-- Layer 4 writes no other buffer. -/
theorem layer4_writes : (layer4 : List (HloOp τ sig (Elt F))).Forall fun op => op.writes ⊆ (writes4.map (Proc.devRef (τ := τ) .tc)).toFinset := by
  unfold layer4
  simp only [List.cons_append, List.nil_append, List.Forall, nullary_writes, unary_writes, binary_writes, ternary_writes, quaternary_writes, reshape_writes, nary_writes, Finset.singleton_subset_iff, List.mem_toFinset]
  refine ⟨?_, ?_, ?_, ?_, ?_, ?_, ?_, ?_, ?_, ?_, ?_, ?_, ?_, ?_, ?_, ?_, ?_⟩
  all_goals exact List.mem_map_of_mem (by decide)

/-- A buffer that layer 4 does not write keeps its contents. -/
theorem keep4 (V : Valuation τ sig (Elt F)) (r : Ref sig .tc) (h : r ∉ writes4) :
    upTo4 V (Proc.devRef .tc r) = upTo3 V (Proc.devRef .tc r) :=
  after_of_writes_sub layer4 _ layer4_writes h

/-- The buffers layer 5 writes. -/
abbrev writes5 : List (Ref sig .tc) := [main_call4_v0, main_call4_cst, main_call4_c, main_call4_v1_0, main_v60, main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v61, main_v62, main_v63]

/-- Layer 5 writes no other buffer. -/
theorem layer5_writes : (layer5 : List (HloOp τ sig (Elt F))).Forall fun op => op.writes ⊆ (writes5.map (Proc.devRef (τ := τ) .tc)).toFinset := by
  unfold layer5
  simp only [List.cons_append, List.nil_append, List.Forall, nullary_writes, unary_writes, binary_writes, ternary_writes, quaternary_writes, reshape_writes, nary_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals exact List.mem_map_of_mem (by decide)

/-- A buffer that layer 5 does not write keeps its contents. -/
theorem keep5 (V : Valuation τ sig (Elt F)) (r : Ref sig .tc) (h : r ∉ writes5) :
    upTo5 V (Proc.devRef .tc r) = upTo4 V (Proc.devRef .tc r) :=
  after_of_writes_sub layer5 _ layer5_writes h

/-- The buffers layer 6 writes. -/
abbrev writes6 : List (Ref sig .tc) := [main_v64, main_v65, main_v66, main_v67, main_v68, main_v69, main_call6_cst, main_call6_v0, main_v70, main_v71]

/-- Layer 6 writes no other buffer. -/
theorem layer6_writes : (layer6 : List (HloOp τ sig (Elt F))).Forall fun op => op.writes ⊆ (writes6.map (Proc.devRef (τ := τ) .tc)).toFinset := by
  unfold layer6
  simp only [List.cons_append, List.nil_append, List.Forall, nullary_writes, unary_writes, binary_writes, ternary_writes, quaternary_writes, reshape_writes, nary_writes, Finset.singleton_subset_iff, List.mem_toFinset]
  refine ⟨?_, ?_, ?_, ?_, ?_, ?_, ?_, ?_, ?_, ?_⟩
  all_goals exact List.mem_map_of_mem (by decide)

/-- A buffer that layer 6 does not write keeps its contents. -/
theorem keep6 (V : Valuation τ sig (Elt F)) (r : Ref sig .tc) (h : r ∉ writes6) :
    upTo6 V (Proc.devRef .tc r) = upTo5 V (Proc.devRef .tc r) :=
  after_of_writes_sub layer6 _ layer6_writes h

/-- The buffers layer 7 writes. -/
abbrev writes7 : List (Ref sig .tc) := [main_v72, main_v73, main_v74, main_v75, main_c_3, main_call7_v0, main_v76, main_v77, main_v78, main_v79, main_v80, main_v81, main_v82, main_v83, main_v84, main_v85, main_v86, main_v87, main_v88, main_v89, main_v90, main_v91, main_v92, main_v93, main_call8_cst, main_call8_v0, main_v94, main_v95]

/-- Layer 7 writes no other buffer. -/
theorem layer7_writes : (layer7 : List (HloOp τ sig (Elt F))).Forall fun op => op.writes ⊆ (writes7.map (Proc.devRef (τ := τ) .tc)).toFinset := by
  unfold layer7
  simp only [List.cons_append, List.nil_append, List.Forall, nullary_writes, unary_writes, binary_writes, ternary_writes, quaternary_writes, reshape_writes, nary_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_⟩
  all_goals exact List.mem_map_of_mem (by decide)

/-- A buffer that layer 7 does not write keeps its contents. -/
theorem keep7 (V : Valuation τ sig (Elt F)) (r : Ref sig .tc) (h : r ∉ writes7) :
    upTo7 V (Proc.devRef .tc r) = upTo6 V (Proc.devRef .tc r) :=
  after_of_writes_sub layer7 _ layer7_writes h

/-- The buffers layer 8 writes. -/
abbrev writes8 : List (Ref sig .tc) := [main_v96, main_v97, main_v98, main_v99, main_c_4, main_call9_v0, main_v100, main_v101, main_v102, main_v103, main_v104, main_v105, main_v106, main_v107, main_v108, main_v109, main_v110, main_v111, main_v112, main_v113, main_v114, main_v115, main_v116, main_v117, main_call10_cst, main_call10_v0, main_v118, main_v119]

/-- Layer 8 writes no other buffer. -/
theorem layer8_writes : (layer8 : List (HloOp τ sig (Elt F))).Forall fun op => op.writes ⊆ (writes8.map (Proc.devRef (τ := τ) .tc)).toFinset := by
  unfold layer8
  simp only [List.cons_append, List.nil_append, List.Forall, nullary_writes, unary_writes, binary_writes, ternary_writes, quaternary_writes, reshape_writes, nary_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_⟩
  all_goals exact List.mem_map_of_mem (by decide)

/-- A buffer that layer 8 does not write keeps its contents. -/
theorem keep8 (V : Valuation τ sig (Elt F)) (r : Ref sig .tc) (h : r ∉ writes8) :
    upTo8 V (Proc.devRef .tc r) = upTo7 V (Proc.devRef .tc r) :=
  after_of_writes_sub layer8 _ layer8_writes h

/-- The buffers layer 9 writes. -/
abbrev writes9 : List (Ref sig .tc) := [main_c_5, main_call11_v0, main_v120, main_v121, main_v122, main_v123, main_v124, main_v125, main_v126, main_v127, main_v128, main_v129, main_v130, main_v131, main_v132, main_v133, main_v134, main_v135, main_v136, main_v137, main_v138, main_v139]

/-- Layer 9 writes no other buffer. -/
theorem layer9_writes : (layer9 : List (HloOp τ sig (Elt F))).Forall fun op => op.writes ⊆ (writes9.map (Proc.devRef (τ := τ) .tc)).toFinset := by
  unfold layer9
  simp only [List.cons_append, List.nil_append, List.Forall, nullary_writes, unary_writes, binary_writes, ternary_writes, quaternary_writes, reshape_writes, nary_writes, Finset.singleton_subset_iff, List.mem_toFinset]
  refine ⟨?_, ?_, ?_, ?_, ?_, ?_, ?_, ?_, ?_, ?_, ?_, ?_, ?_, ?_, ?_, ?_, ?_, ?_, ?_, ?_, ?_, ?_⟩
  all_goals exact List.mem_map_of_mem (by decide)

/-- A buffer that layer 9 does not write keeps its contents. -/
theorem keep9 (V : Valuation τ sig (Elt F)) (r : Ref sig .tc) (h : r ∉ writes9) :
    upTo9 V (Proc.devRef .tc r) = upTo8 V (Proc.devRef .tc r) :=
  after_of_writes_sub layer9 _ layer9_writes h

/-- The buffers layer 10 writes. -/
abbrev writes10 : List (Ref sig .tc) := [main_v140, main_v141, main_cst_6, main_v142, main_cst_7, main_v143, main_v144, main_v145, main_cst_8, main_v146, main_cst_9, main_v147, main_cst_10, main_v148]

/-- Layer 10 writes no other buffer. -/
theorem layer10_writes : (layer10 : List (HloOp τ sig (Elt F))).Forall fun op => op.writes ⊆ (writes10.map (Proc.devRef (τ := τ) .tc)).toFinset := by
  unfold layer10
  simp only [List.cons_append, List.nil_append, List.Forall, nullary_writes, unary_writes, binary_writes, ternary_writes, quaternary_writes, reshape_writes, nary_writes, Finset.singleton_subset_iff, List.mem_toFinset]
  refine ⟨?_, ?_, ?_, ?_, ?_, ?_, ?_, ?_, ?_, ?_, ?_, ?_, ?_, ?_⟩
  all_goals exact List.mem_map_of_mem (by decide)

/-- A buffer that layer 10 does not write keeps its contents. -/
theorem keep10 (V : Valuation τ sig (Elt F)) (r : Ref sig .tc) (h : r ∉ writes10) :
    upTo10 V (Proc.devRef .tc r) = upTo9 V (Proc.devRef .tc r) :=
  after_of_writes_sub layer10 _ layer10_writes h

/-- The run: every buffer ends at what @main's layers leave in it. -/
theorem run (m : (ℓ : Loc nD τ sig) → Buf (Elt F) ℓ) (ρ : Dev nD → PrngReg) :
    θ_run defs (onTc (τ := τ) (main (F := F))) ⟨m, fun _ => 0, ρ⟩ fun r => ∀ c : Dev nD, ∀ b : Ref sig .tc,
      r.2.mem ((c.tc : Thread nD τ).loc b) = upTo10 (launchContents m c) (Proc.devRef .tc b) :=
  (θ_run defs _ _).mono (fun _ h c b => (h c b).trans (congrFun (after_ops (launchContents m c)) (Proc.devRef .tc b)))
    (run_seq scopedRefs_eq scopedSems_eq defs main (fun _ => ops) main_eq
      (fun _ => List.forall_iff_forall_mem.mpr fun op h => (ops_plain op h).1) m ρ fun _ op h => (ops_plain op h).2)

end Cert.ReferenceIdeal.Layers

end
-- ==== Proof.RefFrame.lean ====
/- The reference program keeps its arguments. -/
module

public import proofs.«01_k».proof.Proof.RefRun
public import Idealize.ShloMosaic.Lib.Quiescent

@[expose] public section

set_option maxRecDepth 16384

noncomputable section

namespace Cert.ReferenceIdeal.Layers

open Cert.ReferenceIdeal Cert.ReferenceIdeal.Gen Idealize.ShloMosaic Idealize.ShloMosaic.StableHlo Idealize.SL.Sem

variable {F : FTy → Type} [FloatOps F]

/-- Every buffer a layer writes. -/
abbrev written : List (Ref sig .tc) := writes1 ++ writes2 ++ writes3 ++ writes4 ++ writes5 ++ writes6 ++ writes7 ++ writes8 ++ writes9 ++ writes10

/-- A buffer no layer writes ends as it began. -/
theorem keep (V : Valuation τ sig (Elt F)) (r : Ref sig .tc) (h : r ∉ written) :
    upTo10 V (Proc.devRef .tc r) = V (Proc.devRef .tc r) := by
  simp only [written, List.mem_append, not_or] at h
  obtain ⟨⟨⟨⟨⟨⟨⟨⟨⟨h1, h2⟩, h3⟩, h4⟩, h5⟩, h6⟩, h7⟩, h8⟩, h9⟩, h10⟩ := h
  rw [keep10 V r h10, keep9 V r h9, keep8 V r h8, keep7 V r h7, keep6 V r h6, keep5 V r h5, keep4 V r h4, keep3 V r h3, keep2 V r h2, keep1 V r h1]
  rfl

/-- No layer writes an argument. -/
theorem args_not_written : ∀ b ∈ ([main_arg0, main_arg1, main_arg2, main_arg3, main_arg4, main_arg5, main_arg6, main_arg7, main_arg8, main_arg9, main_arg10, main_arg11, main_arg12, main_arg13, main_arg14, main_arg15] : List (Ref sig .tc)), b ∉ written := by decide +kernel

/-- The reference runs, its arguments end as launched, and it leaves no semaphore raised. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun r h =>
    have keeps : ∀ (c : Dev nD) (b : Ref sig .tc), b ∈ ([main_arg0, main_arg1, main_arg2, main_arg3, main_arg4, main_arg5, main_arg6, main_arg7, main_arg8, main_arg9, main_arg10, main_arg11, main_arg12, main_arg13, main_arg14, main_arg15] : List (Ref sig .tc)) → r.2.mem ((c.tc : Thread nD τ).loc b) = m ((c.tc : Thread nD τ).loc b) :=
      fun c b hb => (h c b).trans (keep (launchContents m c) b (args_not_written b hb))
    ⟨fun c => ⟨keeps c main_arg0 (by simp), keeps c main_arg1 (by simp), keeps c main_arg2 (by simp), keeps c main_arg3 (by simp), keeps c main_arg4 (by simp), keeps c main_arg5 (by simp), keeps c main_arg6 (by simp), keeps c main_arg7 (by simp), keeps c main_arg8 (by simp), keeps c main_arg9 (by simp), keeps c main_arg10 (by simp), keeps c main_arg11 (by simp), keeps c main_arg12 (by simp), keeps c main_arg13 (by simp), keeps c main_arg14 (by simp), keeps c main_arg15 (by simp)⟩,
      sem_eq_zero_of_no_sems (by decide) r.2⟩) (run m ρ)

end Cert.ReferenceIdeal.Layers

end
-- ==== Proof.RefRun6.lean ====
/- The quantisation's reference as the list of its host operations, and its run: every buffer ends at what the operations, taken
   in order, leave in it. -/
module

public import proofs.«01_k».proof.Proof.Gen.Reference6Ideal
public import Idealize.ShloMosaic.Lib.StableHlo.Run
public import Idealize.ShloMosaic.Lib.Pipeline.Frame
public import Idealize.ShloMosaic.Lib.Quiescent

@[expose] public section

set_option Elab.async false
set_option maxRecDepth 16384

noncomputable section

namespace Cert.Reference6Ideal.Layers

open Cert.Reference6Ideal Cert.Reference6Ideal.Gen Idealize.ShloMosaic Idealize.ShloMosaic.TcCoe Idealize.SL.Sem Idealize.ShloMosaic.StableHlo

variable {F : FTy → Type} [FloatOps F]

/-- The distances. -/
abbrev layer1 : List (HloOp τ sig (Elt F)) :=
  [ reshape main_arg0 main_v0 (rfl : (.f32 : EltTy) = .f32) shapeCasts_S8x56x56x128_S25088x128,
    reshape main_arg1 main_v1 (rfl : (.f32 : EltTy) = .f32) shapeCasts_S128x128x1x1_S128x128,
    unary main_v1 main_v2 ((transpose S128x128 [1, 0] · transposes_S128x128_S128x128_1_0) : (⟨S128x128, .f32⟩ : BufTy).Contents (Elt F) → (⟨S128x128, .f32⟩ : BufTy).Contents (Elt F)),
    binary main_v0 main_v2 main_v3 ((fun l r => Host.dotGeneral dot_S25088x128_S128x128_S25088x128_1_0_0_1_n_n none l r) : (⟨S25088x128, .f32⟩ : BufTy).Contents (Elt F) → (⟨S128x128, .f32⟩ : BufTy).Contents (Elt F) → (⟨S25088x128, .f32⟩ : BufTy).Contents (Elt F)),
    unary main_arg2 main_v4 (broadcastInDim S1x128 ![1] bcast_S128_S1x128_1 : (⟨S128, .f32⟩ : BufTy).Contents (Elt F) → (⟨S1x128, .f32⟩ : BufTy).Contents (Elt F)),
    unary main_v4 main_v5 (broadcastInDim S25088x128 ![0, 1] bcast_S1x128_S25088x128_0_1 : (⟨S1x128, .f32⟩ : BufTy).Contents (Elt F) → (⟨S25088x128, .f32⟩ : BufTy).Contents (Elt F)),
    binary main_v3 main_v5 main_v6 (addf : (⟨S25088x128, .f32⟩ : BufTy).Contents (Elt F) → (⟨S25088x128, .f32⟩ : BufTy).Contents (Elt F) → (⟨S25088x128, .f32⟩ : BufTy).Contents (Elt F)),
    binary main_v6 main_v6 main_v7 (mulf : (⟨S25088x128, .f32⟩ : BufTy).Contents (Elt F) → (⟨S25088x128, .f32⟩ : BufTy).Contents (Elt F) → (⟨S25088x128, .f32⟩ : BufTy).Contents (Elt F)),
    nullary main_cst (constant S_ .f32 0x00000000#32),
    binary main_v7 main_cst main_v8 ((fun x v => Host.reduceAdd x v reducesTo_S25088x128_S25088_d1 h_S_) : (⟨S25088x128, .f32⟩ : BufTy).Contents (Elt F) → (⟨S_, .f32⟩ : BufTy).Contents (Elt F) → (⟨S25088, .f32⟩ : BufTy).Contents (Elt F)),
    unary main_v8 main_v9 (broadcastInDim S25088x1 ![0] bcast_S25088_S25088x1_0 : (⟨S25088, .f32⟩ : BufTy).Contents (Elt F) → (⟨S25088x1, .f32⟩ : BufTy).Contents (Elt F)),
    nullary main_cst_0 (constant S_ .f32 0x40000000#32),
    unary main_cst_0 main_v10 (broadcastInDim S25088x128 ![] bcast_S_S25088x128 : (⟨S_, .f32⟩ : BufTy).Contents (Elt F) → (⟨S25088x128, .f32⟩ : BufTy).Contents (Elt F)),
    binary main_v10 main_v6 main_v11 (mulf : (⟨S25088x128, .f32⟩ : BufTy).Contents (Elt F) → (⟨S25088x128, .f32⟩ : BufTy).Contents (Elt F) → (⟨S25088x128, .f32⟩ : BufTy).Contents (Elt F)),
    unary main_arg3 main_v12 ((transpose S128x128 [1, 0] · transposes_S128x128_S128x128_1_0) : (⟨S128x128, .f32⟩ : BufTy).Contents (Elt F) → (⟨S128x128, .f32⟩ : BufTy).Contents (Elt F)),
    binary main_v11 main_v12 main_v13 ((fun l r => Host.dotGeneral dot_S25088x128_S128x128_S25088x128_1_0_0_1_n_n none l r) : (⟨S25088x128, .f32⟩ : BufTy).Contents (Elt F) → (⟨S128x128, .f32⟩ : BufTy).Contents (Elt F) → (⟨S25088x128, .f32⟩ : BufTy).Contents (Elt F)),
    unary main_v9 main_v14 (broadcastInDim S25088x128 ![0, 1] bcast_S25088x1_S25088x128_0_1 : (⟨S25088x1, .f32⟩ : BufTy).Contents (Elt F) → (⟨S25088x128, .f32⟩ : BufTy).Contents (Elt F)),
    binary main_v14 main_v13 main_v15 (subf : (⟨S25088x128, .f32⟩ : BufTy).Contents (Elt F) → (⟨S25088x128, .f32⟩ : BufTy).Contents (Elt F) → (⟨S25088x128, .f32⟩ : BufTy).Contents (Elt F)),
    binary main_arg3 main_arg3 main_v16 (mulf : (⟨S128x128, .f32⟩ : BufTy).Contents (Elt F) → (⟨S128x128, .f32⟩ : BufTy).Contents (Elt F) → (⟨S128x128, .f32⟩ : BufTy).Contents (Elt F)),
    nullary main_cst_1 (constant S_ .f32 0x00000000#32),
    binary main_v16 main_cst_1 main_v17 ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)),
    unary main_v17 main_v18 (broadcastInDim S1x128 ![1] bcast_S128_S1x128_1 : (⟨S128, .f32⟩ : BufTy).Contents (Elt F) → (⟨S1x128, .f32⟩ : BufTy).Contents (Elt F)),
    unary main_v18 main_v19 (broadcastInDim S25088x128 ![0, 1] bcast_S1x128_S25088x128_0_1 : (⟨S1x128, .f32⟩ : BufTy).Contents (Elt F) → (⟨S25088x128, .f32⟩ : BufTy).Contents (Elt F)),
    binary main_v15 main_v19 main_v20 (addf : (⟨S25088x128, .f32⟩ : BufTy).Contents (Elt F) → (⟨S25088x128, .f32⟩ : BufTy).Contents (Elt F) → (⟨S25088x128, .f32⟩ : BufTy).Contents (Elt F)) ]

/-- The nearest row. -/
abbrev layer2 : List (HloOp τ sig (Elt F)) :=
  [ TRef.nullary (TRef.of (T := ⟨S25088x128, .i32⟩) main_call0_v0) (iotaInDim S25088x128 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S25088x128, .f32⟩) main_v20) (TRef.of (T := ⟨S25088x128, .i32⟩) main_call0_v0) (TRef.of (T := ⟨S_, .f32⟩) main_call0_cst) (TRef.of (T := ⟨S_, .i32⟩) main_call0_c) (TRef.of (T := ⟨S25088, .f32⟩) main_call0_v1_0) (fun x y u v j => (Host.argReduce reducer_argmin_f32_i32 x y u v reducesTo_S25088x128_S25088_d1 h_S_ j).1),
    TRef.quaternary (TRef.of (T := ⟨S25088x128, .f32⟩) main_v20) (TRef.of (T := ⟨S25088x128, .i32⟩) main_call0_v0) (TRef.of (T := ⟨S_, .f32⟩) main_call0_cst) (TRef.of (T := ⟨S_, .i32⟩) main_call0_c) (TRef.of (T := ⟨S25088, .i32⟩) main_v21) (fun x y u v j => (Host.argReduce reducer_argmin_f32_i32 x y u v reducesTo_S25088x128_S25088_d1 h_S_ j).2) ]

/-- Its row of the table. -/
abbrev layer3 : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S25088, .i32⟩) main_call1_v0) (broadcastInDim S25088 ![] bcast_S_S25088),
    TRef.binary (TRef.of (T := ⟨S25088, .i32⟩) main_v21) (TRef.of (T := ⟨S25088, .i32⟩) main_call1_v0) (TRef.of (T := ⟨S25088, .i1⟩) main_call1_v1) (cmpi .slt),
    TRef.nullary (TRef.of (T := ⟨S_, .i32⟩) main_call1_c_0) (constantI S_ 32 128#32),
    TRef.unary (TRef.of (T := ⟨S_, .i32⟩) main_call1_c_0) (TRef.of (T := ⟨S25088, .i32⟩) main_call1_v2) (broadcastInDim S25088 ![] bcast_S_S25088),
    TRef.binary (TRef.of (T := ⟨S25088, .i32⟩) main_v21) (TRef.of (T := ⟨S25088, .i32⟩) main_call1_v2) (TRef.of (T := ⟨S25088, .i32⟩) main_call1_v3) addi,
    TRef.ternary (TRef.of (T := ⟨S25088, .i1⟩) main_call1_v1) (TRef.of (T := ⟨S25088, .i32⟩) main_call1_v3) (TRef.of (T := ⟨S25088, .i32⟩) main_v21) (TRef.of (T := ⟨S25088, .i32⟩) main_call1_v4) select,
    TRef.unary (TRef.of (T := ⟨S25088, .i32⟩) main_call1_v4) (TRef.of (T := ⟨S25088x1, .i32⟩) main_call1_v5) (broadcastInDim S25088x1 ![0] bcast_S25088_S25088x1_0),
    TRef.nullary (TRef.of (T := ⟨S1, .i32⟩) main_call1_c_1) (constantI S1 32 127#32),
    TRef.nullary (TRef.of (T := ⟨S_, .i32⟩) main_call1_c_2) (constantI S_ 32 0#32),
    TRef.unary (TRef.of (T := ⟨S_, .i32⟩) main_call1_c_2) (TRef.of (T := ⟨S25088x1, .i32⟩) main_call1_v6) (broadcastInDim S25088x1 ![] bcast_S_S25088x1),
    TRef.binary (TRef.of (T := ⟨S25088x1, .i32⟩) main_call1_v5) (TRef.of (T := ⟨S25088x1, .i32⟩) main_call1_v6) (TRef.of (T := ⟨S25088x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S25088x1, .i32⟩) main_call1_v9) (broadcastInDim S25088x1 ![0, 1] bcast_S1x1_S25088x1_0_1),
    TRef.binary (TRef.of (T := ⟨S25088x1, .i32⟩) main_call1_v5) (TRef.of (T := ⟨S25088x1, .i32⟩) main_call1_v9) (TRef.of (T := ⟨S25088x1, .i1⟩) main_call1_v10) (cmpi .sle),
    TRef.binary (TRef.of (T := ⟨S25088x1, .i1⟩) main_call1_v7) (TRef.of (T := ⟨S25088x1, .i1⟩) main_call1_v10) (TRef.of (T := ⟨S25088x1, .i1⟩) main_call1_v11) andi,
    TRef.nullary (TRef.of (T := ⟨S_, .i1⟩) main_call1_c_3) (constantI S_ 1 1#1),
    TRef.binary (TRef.of (T := ⟨S25088x1, .i1⟩) main_call1_v11) (TRef.of (T := ⟨S_, .i1⟩) main_call1_c_3) (TRef.of (T := ⟨S25088, .i1⟩) main_call1_v12) (fun x v => Host.reduce IntOp.andi x v reducesTo_S25088x1_S25088_d1 h_S_),
    TRef.binary (TRef.of (T := ⟨S128x128, .f32⟩) main_arg3) (TRef.of (T := ⟨S25088x1, .i32⟩) main_call1_v5) (TRef.of (T := ⟨S25088x128, .f32⟩) main_call1_v13) (fun x i => Host.gather gather_S128x128_S25088x1_S25088x128_1_0_n_n_0_1_1128 x i),
    TRef.unary (TRef.of (T := ⟨S25088, .i1⟩) main_call1_v12) (TRef.of (T := ⟨S25088x128, .i1⟩) main_call1_v14) (broadcastInDim S25088x128 ![0] bcast_S25088_S25088x128_0),
    TRef.nullary (TRef.of (T := ⟨S_, .f32⟩) main_call1_cst) (constant S_ .f32 0x7FC00000#32),
    TRef.unary (TRef.of (T := ⟨S_, .f32⟩) main_call1_cst) (TRef.of (T := ⟨S25088x128, .f32⟩) main_call1_v15) (broadcastInDim S25088x128 ![] bcast_S_S25088x128),
    TRef.ternary (TRef.of (T := ⟨S25088x128, .i1⟩) main_call1_v14) (TRef.of (T := ⟨S25088x128, .f32⟩) main_call1_v13) (TRef.of (T := ⟨S25088x128, .f32⟩) main_call1_v15) (TRef.of (T := ⟨S25088x128, .f32⟩) main_v22) select ]

/-- The layer on it. -/
abbrev layer4 : List (HloOp τ sig (Elt F)) :=
  [ binary main_v22 main_v6 main_v23 (subf : (⟨S25088x128, .f32⟩ : BufTy).Contents (Elt F) → (⟨S25088x128, .f32⟩ : BufTy).Contents (Elt F) → (⟨S25088x128, .f32⟩ : BufTy).Contents (Elt F)),
    binary main_v6 main_v23 main_v24 (addf : (⟨S25088x128, .f32⟩ : BufTy).Contents (Elt F) → (⟨S25088x128, .f32⟩ : BufTy).Contents (Elt F) → (⟨S25088x128, .f32⟩ : BufTy).Contents (Elt F)),
    reshape main_arg4 main_v25 (rfl : (.f32 : EltTy) = .f32) shapeCasts_S128x128x1x1_S128x128,
    unary main_v25 main_v26 ((transpose S128x128 [1, 0] · transposes_S128x128_S128x128_1_0) : (⟨S128x128, .f32⟩ : BufTy).Contents (Elt F) → (⟨S128x128, .f32⟩ : BufTy).Contents (Elt F)),
    binary main_v24 main_v26 main_v27 ((fun l r => Host.dotGeneral dot_S25088x128_S128x128_S25088x128_1_0_0_1_n_n none l r) : (⟨S25088x128, .f32⟩ : BufTy).Contents (Elt F) → (⟨S128x128, .f32⟩ : BufTy).Contents (Elt F) → (⟨S25088x128, .f32⟩ : BufTy).Contents (Elt F)),
    unary main_arg5 main_v28 (broadcastInDim S1x128 ![1] bcast_S128_S1x128_1 : (⟨S128, .f32⟩ : BufTy).Contents (Elt F) → (⟨S1x128, .f32⟩ : BufTy).Contents (Elt F)),
    unary main_v28 main_v29 (broadcastInDim S25088x128 ![0, 1] bcast_S1x128_S25088x128_0_1 : (⟨S1x128, .f32⟩ : BufTy).Contents (Elt F) → (⟨S25088x128, .f32⟩ : BufTy).Contents (Elt F)),
    binary main_v27 main_v29 main_v30 (addf : (⟨S25088x128, .f32⟩ : BufTy).Contents (Elt F) → (⟨S25088x128, .f32⟩ : BufTy).Contents (Elt F) → (⟨S25088x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S25088x128, .f32⟩) main_call2_v0) (broadcastInDim S25088x128 ![] bcast_S_S25088x128),
    TRef.binary (TRef.of (T := ⟨S25088x128, .f32⟩) main_v30) (TRef.of (T := ⟨S25088x128, .f32⟩) main_call2_v0) (TRef.of (T := ⟨S25088x128, .f32⟩) main_v31) maximumf ]

/-- @main's operations, in order. -/
abbrev ops : List (HloOp τ sig (Elt F)) := layer1 ++ (layer2 ++ (layer3 ++ layer4))

/-- @main is its operations in order. -/
theorem main_eq (c : Dev nD) : main (F := F) c = seq ops := rfl

/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-- A host operation that touches the core's own buffers only. -/
def Own (op : HloOp τ sig (Elt F)) : Prop := op.bufs ⊆ tcRefs τ sig

/-- The operations of layer 1 touch the core's own buffers only. -/
theorem layer1_own : (layer1 : List (HloOp τ sig (Elt F))).Forall Own :=
  ⟨reshape_bufs_sub .., reshape_bufs_sub .., unary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub ..⟩

/-- The buffers layer 1 writes. -/
abbrev writes1 : List (Ref sig .tc) := [main_v0, main_v1, main_v2, main_v3, main_v4, main_v5, main_v6, main_v7, main_cst, main_v8, main_v9, main_cst_0, main_v10, main_v11, main_v12, main_v13, main_v14, main_v15, main_v16, main_cst_1, main_v17, main_v18, main_v19, main_v20]

/-- Layer 1 writes no other buffer. -/
theorem layer1_writes : (layer1 : List (HloOp τ sig (Elt F))).Forall fun op => op.writes ⊆ (writes1.map (Proc.devRef (τ := τ) .tc)).toFinset := by
  unfold layer1
  simp only [List.Forall, nullary_writes, unary_writes, binary_writes, ternary_writes, quaternary_writes, reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_⟩
  all_goals exact List.mem_map_of_mem (by decide)

/-- A buffer that layer 1 does not write keeps its contents. -/
theorem keep1 (V : Valuation τ sig (Elt F)) (r : Ref sig .tc) (h : r ∉ writes1) :
    after layer1 V (Proc.devRef .tc r) = V (Proc.devRef .tc r) :=
  after_of_writes_sub layer1 _ layer1_writes h

/-- The operations of layer 2 touch the core's own buffers only. -/
theorem layer2_own : (layer2 : List (HloOp τ sig (Elt F))).Forall Own :=
  ⟨nullary_bufs_sub .., nullary_bufs_sub .., nullary_bufs_sub .., quaternary_bufs_sub .., quaternary_bufs_sub ..⟩

/-- The buffers layer 2 writes. -/
abbrev writes2 : List (Ref sig .tc) := [main_call0_v0, main_call0_cst, main_call0_c, main_call0_v1_0, main_v21]

/-- Layer 2 writes no other buffer. -/
theorem layer2_writes : (layer2 : List (HloOp τ sig (Elt F))).Forall fun op => op.writes ⊆ (writes2.map (Proc.devRef (τ := τ) .tc)).toFinset := by
  unfold layer2
  simp only [List.Forall, nullary_writes, unary_writes, binary_writes, ternary_writes, quaternary_writes, reshape_writes, Finset.singleton_subset_iff, List.mem_toFinset]
  refine ⟨?_, ?_, ?_, ?_, ?_⟩
  all_goals exact List.mem_map_of_mem (by decide)

/-- A buffer that layer 2 does not write keeps its contents. -/
theorem keep2 (V : Valuation τ sig (Elt F)) (r : Ref sig .tc) (h : r ∉ writes2) :
    after layer2 V (Proc.devRef .tc r) = V (Proc.devRef .tc r) :=
  after_of_writes_sub layer2 _ layer2_writes h

/-- The operations of layer 3 touch the core's own buffers only. -/
theorem layer3_own : (layer3 : List (HloOp τ sig (Elt F))).Forall Own :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The buffers layer 3 writes. -/
abbrev writes3 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v22]

/-- Layer 3 writes no other buffer. -/
theorem layer3_writes : (layer3 : List (HloOp τ sig (Elt F))).Forall fun op => op.writes ⊆ (writes3.map (Proc.devRef (τ := τ) .tc)).toFinset := by
  unfold layer3
  simp only [List.Forall, nullary_writes, unary_writes, binary_writes, ternary_writes, quaternary_writes, reshape_writes, Finset.singleton_subset_iff, List.mem_toFinset]
  refine ⟨?_, ?_, ?_, ?_, ?_, ?_, ?_, ?_, ?_, ?_, ?_, ?_, ?_, ?_, ?_, ?_, ?_, ?_, ?_, ?_, ?_, ?_, ?_⟩
  all_goals exact List.mem_map_of_mem (by decide)

/-- A buffer that layer 3 does not write keeps its contents. -/
theorem keep3 (V : Valuation τ sig (Elt F)) (r : Ref sig .tc) (h : r ∉ writes3) :
    after layer3 V (Proc.devRef .tc r) = V (Proc.devRef .tc r) :=
  after_of_writes_sub layer3 _ layer3_writes h

/-- The operations of layer 4 touch the core's own buffers only. -/
theorem layer4_own : (layer4 : List (HloOp τ sig (Elt F))).Forall Own :=
  ⟨binary_bufs_sub .., binary_bufs_sub .., reshape_bufs_sub .., unary_bufs_sub .., binary_bufs_sub .., unary_bufs_sub .., unary_bufs_sub .., binary_bufs_sub .., nullary_bufs_sub .., unary_bufs_sub .., binary_bufs_sub ..⟩

/-- The buffers layer 4 writes. -/
abbrev writes4 : List (Ref sig .tc) := [main_v23, main_v24, main_v25, main_v26, main_v27, main_v28, main_v29, main_v30, main_call2_cst, main_call2_v0, main_v31]

/-- Layer 4 writes no other buffer. -/
theorem layer4_writes : (layer4 : List (HloOp τ sig (Elt F))).Forall fun op => op.writes ⊆ (writes4.map (Proc.devRef (τ := τ) .tc)).toFinset := by
  unfold layer4
  simp only [List.Forall, nullary_writes, unary_writes, binary_writes, ternary_writes, quaternary_writes, reshape_writes, Finset.singleton_subset_iff, List.mem_toFinset]
  refine ⟨?_, ?_, ?_, ?_, ?_, ?_, ?_, ?_, ?_, ?_, ?_⟩
  all_goals exact List.mem_map_of_mem (by decide)

/-- A buffer that layer 4 does not write keeps its contents. -/
theorem keep4 (V : Valuation τ sig (Elt F)) (r : Ref sig .tc) (h : r ∉ writes4) :
    after layer4 V (Proc.devRef .tc r) = V (Proc.devRef .tc r) :=
  after_of_writes_sub layer4 _ layer4_writes h

/-- The operations touch the core's own buffers only. -/
theorem ops_own : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp layer1_own op h, List.forall_iff_forall_mem.mp layer2_own op h,
      List.forall_iff_forall_mem.mp layer3_own op h, List.forall_iff_forall_mem.mp layer4_own op h]

/-- What the whole list leaves is what the last layer leaves. -/
theorem after_ops (V : Valuation τ sig (Elt F)) : after ops V = after layer4 (after layer3 (after layer2 (after layer1 V))) := by
  rw [ops, after_append, after_append, after_append]

/-- No layer writes an argument. -/
theorem args_not_written : ∀ b ∈ ([main_arg0, main_arg1, main_arg2, main_arg3, main_arg4, main_arg5] : List (Ref sig .tc)), b ∉ writes1 ∧ b ∉ writes2 ∧ b ∉ writes3 ∧ b ∉ writes4 := by decide

/-- An argument ends as it began. -/
theorem keep_arg (V : Valuation τ sig (Elt F)) (r : Ref sig .tc) (h : r ∈ ([main_arg0, main_arg1, main_arg2, main_arg3, main_arg4, main_arg5] : List (Ref sig .tc))) :
    after ops V (Proc.devRef .tc r) = V (Proc.devRef .tc r) := by
  obtain ⟨h1, h2, h3, h4⟩ := args_not_written r h
  rw [after_ops, keep4 _ r h4, keep3 _ r h3, keep2 _ r h2, keep1 _ r h1]

/-- The reference's run: the result ends at what the operations leave in it, the arguments as launched. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v31) = after ops (fun b => m (c, b)) (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨h c main_v31,
      (h c main_arg0).trans (keep_arg _ main_arg0 (by decide)),
      (h c main_arg1).trans (keep_arg _ main_arg1 (by decide)),
      (h c main_arg2).trans (keep_arg _ main_arg2 (by decide)),
      (h c main_arg3).trans (keep_arg _ main_arg3 (by decide)),
      (h c main_arg4).trans (keep_arg _ main_arg4 (by decide)),
      (h c main_arg5).trans (keep_arg _ main_arg5 (by decide))⟩)
    (run_seq scopedRefs_eq scopedSems_eq defs main (fun _ => ops) main_eq (fun _ => ops_own) m ρ)

/-- The reference runs, its arguments end as launched, and it leaves no semaphore raised. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems (by decide) r.2⟩) (run m ρ)

end Cert.Reference6Ideal.Layers

end
-- ==== Proof.Spec.lean ====
/- A nearest upsampling by two followed by a three by three convolution, read as four phases of two by two taps.

   The image is `N × H × W × C`; its border of zeros makes row and column counts start at one. A pixel of the output is
   `(2 h + p, 2 v + q)` with `p`, `q` its phase. -/
module

public import Idealize.ShloMosaic.Lib.Pointwise

@[expose] public section

noncomputable section

namespace Cert.Upsample

open Idealize.ShloMosaic

variable {N H W C O : ℕ}

/-- The image with a ring of zeros around it: pixel `(r, c)` counts from one, and the ring is the zero. -/
def edge (x : (⟨4, ![N, H, W, C]⟩ : Shape).Idx → EReal) (n : Fin N) (r c : ℕ) (k : Fin C) : EReal :=
  if h : (1 ≤ r ∧ r ≤ H) ∧ (1 ≤ c ∧ c ≤ W) then x (ix4 n ⟨r - 1, by omega⟩ ⟨c - 1, by omega⟩ k) else 0

/-- One tap: the channels of a pixel against matrix `t`. -/
def tap (X : ℕ → ℕ → Fin C → EReal) (w : (⟨3, ![16, C, O]⟩ : Shape).Idx → EReal) (r c : ℕ) (t : Fin 16) (o : Fin O) :
    EReal :=
  ∑ k, X r c k * w (ix3 t k o)

/-- One pixel of the output: four taps, the bias, and no less than zero. -/
def upAt (X : ℕ → ℕ → Fin C → EReal) (w : (⟨3, ![16, C, O]⟩ : Shape).Idx → EReal)
    (b : (⟨2, ![1, O]⟩ : Shape).Idx → EReal) (h v : ℕ) (p q : Fin 2) (o : Fin O) : EReal :=
  max (tap X w (h + p) (v + q) ⟨8 * p + 4 * q, by omega⟩ o
      + tap X w (h + p) (v + q + 1) ⟨8 * p + 4 * q + 1, by omega⟩ o
      + tap X w (h + p + 1) (v + q) ⟨8 * p + 4 * q + 2, by omega⟩ o
      + tap X w (h + p + 1) (v + q + 1) ⟨8 * p + 4 * q + 3, by omega⟩ o
      + b (ix2 0 o)) 0

/-- The taps of a three-tap stencil that fall on row (or column) `a` of phase `p`: an upsampled row `2 h + p + d`
    outside the border is row `h + (p + d + 1) / 2` of the bordered image. -/
def taps (p a : Fin 2) : Finset (Fin 3) := Finset.univ.filter fun d => (p.val + d.val + 1) / 2 = p.val + a.val

/-- Which taps fall where. -/
theorem taps_eq : taps 0 0 = {0} ∧ taps 0 1 = {1, 2} ∧ taps 1 0 = {0, 1} ∧ taps 1 1 = {2} := by decide

/-- The two by two stencil of phase `(p, q)`: each weight is the sum of the taps that fall on it. -/
def phase (w : (⟨4, ![O, C, 3, 3]⟩ : Shape).Idx → EReal) (p q a b : Fin 2) (k : Fin C) (o : Fin O) : EReal :=
  ∑ d ∈ taps p a, ∑ e ∈ taps q b, w (ix4 o k d e)

/-- A pixel reads three rows of the image only. -/
theorem upAt_congr {X X' : ℕ → ℕ → Fin C → EReal} {h h' v : ℕ}
    (hX : ∀ a c k, a ≤ 2 → X (h + a) c k = X' (h' + a) c k)
    (w : (⟨3, ![16, C, O]⟩ : Shape).Idx → EReal) (b : (⟨2, ![1, O]⟩ : Shape).Idx → EReal) (p q : Fin 2) (o : Fin O) :
    upAt X w b h v p q o = upAt X' w b h' v p q o := by
  have hp := p.isLt
  simp only [upAt, tap]
  have h0 : ∀ c k, X (h + p) c k = X' (h' + p) c k := fun c k => hX p c k (by omega)
  have h1 : ∀ c k, X (h + p + 1) c k = X' (h' + p + 1) c k := fun c k => hX (p + 1) c k (by omega)
  simp only [h0, h1]

/-- The convolution at a pixel: nine taps of the bordered image `X`, the bias, and no less than zero. -/
def convAt (X : ℕ → ℕ → Fin C → EReal) (w : (⟨4, ![O, C, 3, 3]⟩ : Shape).Idx → EReal)
    (b : (⟨1, ![O]⟩ : Shape).Idx → EReal) (i j : ℕ) (o : Fin O) : EReal :=
  max ((∑ d : Fin 3, ∑ e : Fin 3, ∑ k, X (i + d) (j + e) k * w (ix4 o k d e)) + b (ix1 o)) 0

/-- The same before the cut at zero. -/
def linAt (X : ℕ → ℕ → Fin C → EReal) (w : (⟨4, ![O, C, 3, 3]⟩ : Shape).Idx → EReal)
    (b : (⟨1, ![O]⟩ : Shape).Idx → EReal) (i j : ℕ) (o : Fin O) : EReal :=
  (∑ d : Fin 3, ∑ e : Fin 3, ∑ k, X (i + d) (j + e) k * w (ix4 o k d e)) + b (ix1 o)

/-- Nine taps with the weights as nine matrices, and the bias. -/
def nineAt (X : ℕ → ℕ → Fin C → EReal) (w : (⟨3, ![9, C, O]⟩ : Shape).Idx → EReal)
    (b : (⟨2, ![1, O]⟩ : Shape).Idx → EReal) (i j : ℕ) (o : Fin O) : EReal :=
  (∑ d : Fin 3, ∑ e : Fin 3, ∑ k, X (i + d) (j + e) k * w (ix3 ⟨3 * d + e, by omega⟩ k o)) + b (ix2 0 o)

/-- The nine taps read three rows of the image only. -/
theorem nineAt_congr {X X' : ℕ → ℕ → Fin C → EReal} {i i' j : ℕ}
    (hX : ∀ a c k, a ≤ 2 → X (i + a) c k = X' (i' + a) c k)
    (w : (⟨3, ![9, C, O]⟩ : Shape).Idx → EReal) (b : (⟨2, ![1, O]⟩ : Shape).Idx → EReal) (o : Fin O) :
    nineAt X w b i j o = nineAt X' w b i' j o := by
  unfold nineAt
  congr 1
  refine Finset.sum_congr rfl fun d _ => Finset.sum_congr rfl fun e _ => Finset.sum_congr rfl fun k _ => ?_
  rw [hX d _ k (by omega)]

/-- Matrices that are the stencil's nine taps give the convolution. -/
theorem nineAt_eq_linAt {X : ℕ → ℕ → Fin C → EReal} {w : (⟨4, ![O, C, 3, 3]⟩ : Shape).Idx → EReal}
    {W : (⟨3, ![9, C, O]⟩ : Shape).Idx → EReal} {b' : (⟨2, ![1, O]⟩ : Shape).Idx → EReal}
    {b : (⟨1, ![O]⟩ : Shape).Idx → EReal} (o : Fin O)
    (hW : ∀ (d e : Fin 3) k, W (ix3 ⟨3 * d + e, by omega⟩ k o) = w (ix4 o k d e))
    (hb : b' (ix2 0 o) = b (ix1 o)) (i j : ℕ) : nineAt X W b' i j o = linAt X w b i j o := by
  simp only [nineAt, linAt, hW, hb]

/-- The three taps, gathered by where they fall. -/
theorem sum_taps (p : Fin 2) (f : Fin 3 → EReal) : ∑ d, f d = ∑ a, ∑ d ∈ taps p a, f d := by
  obtain ⟨t00, t01, t10, t11⟩ := taps_eq
  have h12 : (1 : Fin 3) ≠ 2 := by decide
  have h01 : (0 : Fin 3) ≠ 1 := by decide
  fin_cases p
  · simp only [Fin.zero_eta, Fin.sum_univ_two, Fin.sum_univ_three, t00, t01, Finset.sum_singleton, Finset.sum_pair h12, add_assoc]
  · simp only [Fin.mk_one, Fin.sum_univ_two, Fin.sum_univ_three, t10, t11, Finset.sum_singleton, Finset.sum_pair h01]

/-- A finite factor goes into a sum of finite terms. -/
theorem mul_sum_coe {ι : Type*} (s : Finset ι) (y : ℝ) (f : ι → ℝ) :
    (y : EReal) * ∑ i ∈ s, (f i : EReal) = ∑ i ∈ s, (y : EReal) * (f i : EReal) := by
  classical
  have hs : ∀ (s : Finset ι) (g : ι → ℝ), ∑ i ∈ s, (g i : EReal) = ((∑ i ∈ s, g i : ℝ) : EReal) := by
    intro s g
    induction s using Finset.induction_on with
    | empty => simp
    | insert a s ha ih => rw [Finset.sum_insert ha, Finset.sum_insert ha, ih, EReal.coe_add]
  rw [hs, ← EReal.coe_mul, Finset.mul_sum, ← hs]
  simp only [EReal.coe_mul]

/-- A pixel of the image is the bordered image's, one row and one column on. -/
theorem edge_pixel (x : (⟨4, ![N, H, W, C]⟩ : Shape).Idx → EReal) (n : Fin N) (r : Fin H) (c : Fin W) (k : Fin C) :
    edge x n (r + 1) (c + 1) k = x (ix4 n r c k) := by
  have hr := r.isLt
  have hc := c.isLt
  have h : (1 ≤ r.val + 1 ∧ r.val + 1 ≤ H) ∧ (1 ≤ c.val + 1 ∧ c.val + 1 ≤ W) := by omega
  exact dif_pos h

/-- A block of `B` rows, the `i`-th of `T`, with its halo: the row above (none above the image), the block's rows, the
    row below (none below the image), and a column of zeros on either side. -/
def halo {B : ℕ} (T i : ℕ) (top bot : (⟨4, ![1, 1, W, C]⟩ : Shape).Idx → EReal) (mid : (⟨4, ![1, B, W, C]⟩ : Shape).Idx → EReal)
    (r c : ℕ) (k : Fin C) : EReal :=
  if h : 1 ≤ c ∧ c ≤ W then
    if h0 : r = 0 then (if 0 < i then top (ix4 0 0 ⟨c - 1, by omega⟩ k) else 0)
    else if hr : r ≤ B then mid (ix4 0 ⟨r - 1, by omega⟩ ⟨c - 1, by omega⟩ k)
    else if i < T - 1 then bot (ix4 0 0 ⟨c - 1, by omega⟩ k) else 0
  else 0

/-- The haloed block as zeros and rows put side by side: a column of zeros, the row above, the rows, the row below, a
    column of zeros. -/
theorem halo_of_cases {B : ℕ} (T i : ℕ) (top bot : (⟨4, ![1, 1, W, C]⟩ : Shape).Idx → EReal)
    (mid : (⟨4, ![1, B, W, C]⟩ : Shape).Idx → EReal) (r c : ℕ) (k : Fin C) :
    (if _ : c < 1 then 0
      else if h : c - 1 < W then
        if _ : r < 1 then if 0 < i then top (ix4 0 0 ⟨c - 1, h⟩ k) else 0
        else if h' : r - 1 < B then mid (ix4 0 ⟨r - 1, h'⟩ ⟨c - 1, h⟩ k)
        else if i < T - 1 then bot (ix4 0 0 ⟨c - 1, h⟩ k) else 0
      else 0) = halo T i top bot mid r c k := by
  unfold halo
  by_cases h1 : c < 1
  · rw [dif_pos h1, dif_neg (show ¬(1 ≤ c ∧ c ≤ W) by omega)]
  rw [dif_neg h1]
  by_cases h2 : c - 1 < W
  · rw [dif_pos h2, dif_pos (show 1 ≤ c ∧ c ≤ W by omega)]
    by_cases h3 : r < 1
    · rw [dif_pos h3, dif_pos (show r = 0 by omega)]
    rw [dif_neg h3, dif_neg (show ¬r = 0 by omega)]
    by_cases h4 : r - 1 < B
    · rw [dif_pos h4, dif_pos (show r ≤ B by omega)]
    · rw [dif_neg h4, dif_neg (show ¬r ≤ B by omega)]
  · rw [dif_neg h2, dif_neg (show ¬(1 ≤ c ∧ c ≤ W) by omega)]

/-- A block whose three pieces are rows of an image is, with its halo, rows of the bordered image. -/
theorem halo_eq_edge {B T i q : ℕ} {top bot : (⟨4, ![1, 1, W, C]⟩ : Shape).Idx → EReal}
    {mid : (⟨4, ![1, B, W, C]⟩ : Shape).Idx → EReal} {x : (⟨4, ![N, H, W, C]⟩ : Shape).Idx → EReal} {n : Fin N}
    (hq : q + B ≤ H) (hfirst : 0 < i → 0 < q) (hzero : ¬0 < i → q = 0) (hnext : i < T - 1 → q + B < H) (hlast : ¬i < T - 1 → q + B = H)
    (htop : ∀ v k (h : q - 1 < H), top (ix4 0 0 v k) = x (ix4 n ⟨q - 1, h⟩ v k))
    (hmid : ∀ (r : Fin B) v k (h : q + r.val < H), mid (ix4 0 r v k) = x (ix4 n ⟨q + r.val, h⟩ v k))
    (hbot : ∀ v k (h : min (q + B) (H - 1) < H), bot (ix4 0 0 v k) = x (ix4 n ⟨min (q + B) (H - 1), h⟩ v k))
    (r v : ℕ) (k : Fin C) (hr : r ≤ B + 1) :
    halo T i top bot mid r v k = edge x n (q + r) v k := by
  have hx : ∀ (a a' : ℕ) (b : Fin W) (ha : a < H) (ha' : a' < H), a = a' → x (ix4 n ⟨a, ha⟩ b k) = x (ix4 n ⟨a', ha'⟩ b k) := by
    intro a a' b _ _ h
    subst h
    rfl
  unfold halo edge
  by_cases hv : 1 ≤ v ∧ v ≤ W
  · rw [dif_pos hv]
    by_cases h0 : r = 0
    · rw [dif_pos h0]
      by_cases hp : 0 < i
      · have h2 := hfirst hp
        have h1 : (1 ≤ q + r ∧ q + r ≤ H) ∧ (1 ≤ v ∧ v ≤ W) := ⟨⟨by omega, by omega⟩, hv⟩
        rw [if_pos hp, dif_pos h1, htop _ _ (by omega)]
        exact hx _ _ _ _ _ (by omega)
      · have h2 := hzero hp
        have h1 : ¬((1 ≤ q + r ∧ q + r ≤ H) ∧ (1 ≤ v ∧ v ≤ W)) := fun h => by omega
        rw [if_neg hp, dif_neg h1]
    · rw [dif_neg h0]
      by_cases h1 : r ≤ B
      · have h2 : (1 ≤ q + r ∧ q + r ≤ H) ∧ (1 ≤ v ∧ v ≤ W) := ⟨⟨by omega, by omega⟩, hv⟩
        rw [dif_pos h1, dif_pos h2]
        have h3 : q + (r - 1) < H := by omega
        exact (hmid ⟨r - 1, by omega⟩ _ _ h3).trans (hx _ _ _ _ _ (show q + (r - 1) = q + r - 1 by omega))
      · rw [dif_neg h1]
        by_cases hp : i < T - 1
        · have h3 := hnext hp
          have h2 : (1 ≤ q + r ∧ q + r ≤ H) ∧ (1 ≤ v ∧ v ≤ W) := ⟨⟨by omega, by omega⟩, hv⟩
          have h4 : min (q + B) (H - 1) < H := by omega
          rw [if_pos hp, dif_pos h2, hbot _ _ h4]
          exact hx _ _ _ _ _ (by omega)
        · have h3 := hlast hp
          have h2 : ¬((1 ≤ q + r ∧ q + r ≤ H) ∧ (1 ≤ v ∧ v ≤ W)) := fun h => by omega
          rw [if_neg hp, dif_neg h2]
  · have h2 : ¬((1 ≤ q + r ∧ q + r ≤ H) ∧ (1 ≤ v ∧ v ≤ W)) := fun h => hv h.2
    rw [dif_neg hv, dif_neg h2]

/-- Every entry of an array is a real number. -/
def Real {s : Shape} (x : s.Idx → EReal) : Prop := ∃ y : s.Idx → ℝ, ∀ i, x i = (y i : EReal)

/-- The bordered image of a real image is real. -/
theorem edge_real {x : (⟨4, ![N, H, W, C]⟩ : Shape).Idx → EReal} (hx : Real x) (n : Fin N) :
    ∃ Y : ℕ → ℕ → Fin C → ℝ, ∀ r c k, edge x n r c k = (Y r c k : EReal) := by
  obtain ⟨y, hy⟩ := hx
  refine ⟨fun r c k => if h : (1 ≤ r ∧ r ≤ H) ∧ (1 ≤ c ∧ c ≤ W) then y (ix4 n ⟨r - 1, by omega⟩ ⟨c - 1, by omega⟩ k) else 0, ?_⟩
  intro r c k
  beta_reduce
  unfold edge
  by_cases h : (1 ≤ r ∧ r ≤ H) ∧ (1 ≤ c ∧ c ≤ W)
  · rw [dif_pos h, dif_pos h]
    exact hy _
  · rw [dif_neg h, dif_neg h, EReal.coe_zero]

/-- One tap of a phase is the taps of the full stencil that fall there. -/
theorem tap_phase {X : ℕ → ℕ → Fin C → EReal} (hX : ∃ Y : ℕ → ℕ → Fin C → ℝ, ∀ r c k, X r c k = (Y r c k : EReal))
    {w : (⟨4, ![O, C, 3, 3]⟩ : Shape).Idx → EReal} (hw : Real w)
    {W : (⟨3, ![16, C, O]⟩ : Shape).Idx → EReal} (p q a b : Fin 2) (t : Fin 16) (o : Fin O)
    (hW : ∀ k, W (ix3 t k o) = phase w p q a b k o) (r c : ℕ) :
    tap X W r c t o = ∑ d ∈ taps p a, ∑ e ∈ taps q b, ∑ k, X r c k * w (ix4 o k d e) := by
  obtain ⟨Y, hY⟩ := hX
  obtain ⟨u, hu⟩ := hw
  have hp : ∀ k, X r c k * W (ix3 t k o) = ∑ d ∈ taps p a, ∑ e ∈ taps q b, X r c k * w (ix4 o k d e) := by
    intro k
    rw [hW]
    simp only [phase, hY, hu, ← Finset.sum_product']
    exact mul_sum_coe _ _ _
  simp only [tap, hp]
  rw [Finset.sum_comm]
  exact Finset.sum_congr rfl fun d _ => Finset.sum_comm

/-- Four phases of two by two taps over the image are the three by three taps over the upsampled image. -/
theorem upAt_eq_convAt {X : ℕ → ℕ → Fin C → EReal} (hX : ∃ Y : ℕ → ℕ → Fin C → ℝ, ∀ r c k, X r c k = (Y r c k : EReal))
    {w : (⟨4, ![O, C, 3, 3]⟩ : Shape).Idx → EReal} (hw : Real w)
    {W : (⟨3, ![16, C, O]⟩ : Shape).Idx → EReal} {b' : (⟨2, ![1, O]⟩ : Shape).Idx → EReal}
    {b : (⟨1, ![O]⟩ : Shape).Idx → EReal} (o : Fin O)
    (hW : ∀ (p q a b : Fin 2) k, W (ix3 ⟨8 * p + 4 * q + 2 * a + b, by omega⟩ k o) = phase w p q a b k o)
    (hb : b' (ix2 0 o) = b (ix1 o)) (h v : ℕ) (p q : Fin 2) :
    upAt X W b' h v p q o
      = convAt (fun r c k => X ((r + 1) / 2) ((c + 1) / 2) k) w b (2 * h + p) (2 * v + q) o := by
  have key : ∀ a b : Fin 2, tap X W (h + p + a) (v + q + b) ⟨8 * p + 4 * q + 2 * a + b, by omega⟩ o
      = ∑ d ∈ taps p a, ∑ e ∈ taps q b, ∑ k, X ((2 * h + p + d + 1) / 2) ((2 * v + q + e + 1) / 2) k * w (ix4 o k d e) := by
    intro a b
    rw [tap_phase hX hw p q a b _ o (hW p q a b)]
    refine Finset.sum_congr rfl fun d hd => Finset.sum_congr rfl fun e he => Finset.sum_congr rfl fun k _ => ?_
    have hd : (p.val + d.val + 1) / 2 = p.val + a.val := (Finset.mem_filter.mp hd).2
    have he : (q.val + e.val + 1) / 2 = q.val + b.val := (Finset.mem_filter.mp he).2
    rw [show (2 * h + p.val + d.val + 1) / 2 = h + p.val + a.val by omega,
      show (2 * v + q.val + e.val + 1) / 2 = v + q.val + b.val by omega]
  have k00 := key 0 0
  have k01 := key 0 1
  have k10 := key 1 0
  have k11 := key 1 1
  simp only [Fin.val_zero, Fin.val_one, Nat.mul_zero, Nat.mul_one, Nat.add_zero] at k00 k01 k10 k11
  unfold upAt convAt
  rw [k00, k01, k10, k11, hb]
  congr 2
  rw [sum_taps p]
  simp only [sum_taps q, Fin.sum_univ_two, Finset.sum_add_distrib]
  abel

end Cert.Upsample

end
-- ==== Proof.Block2.lean ====
/- What one block of the last up-convolution computes. -/
module

public import proofs.«01_k».proof.Proof.Gen.Kernel2Ideal.Skeleton
public import proofs.«01_k».proof.Proof.Gen.Kernel2Ideal.Frame
public import proofs.«01_k».proof.Proof.Spec
public import Idealize.ShloMosaic.Lib.Pointwise

@[expose] public section

set_option maxRecDepth 16384

noncomputable section

namespace Cert.Kernel2Ideal.Block

open Cert.Upsample Cert.Kernel2Ideal Cert.Kernel2Ideal.Gen Idealize.ShloMosaic

/-- The haloed block the kernel builds, read at an index. -/
theorem pay2_apply (i : grid0.Coords) (v1 v6 : Vec Ideal S1x1x112x128 .bf16) (v10 : Vec Ideal S1x28x112x128 .bf16)
    (r : Fin 30) (c : Fin 114) (k : Fin 128) :
    k0_pay2 i v1 v6 v10 (ix3 r c k) = halo (W := 112) (C := 128) (B := 28) 4 (i 1).val v1 v6 v10 r c k := by
  have hi : (i 1).val < 4 := (i 1).isLt
  have hr := r.isLt
  have hc := c.isLt
  have e0 : ∀ x : EReal, Scalar.select (Scalar.cmpi CmpIPredicate.sgt (BitVec.ofNat 32 (i 1).val) 0#32) x 0
      = if 0 < (i 1).val then x else 0 := by
    intro x
    generalize (i 1).val = a at hi
    interval_cases a <;> rfl
  have e3 : ∀ x : EReal, Scalar.select (Scalar.cmpi CmpIPredicate.slt (BitVec.ofNat 32 (i 1).val) 3#32) x 0
      = if (i 1).val < 4 - 1 then x else 0 := by
    intro x
    generalize (i 1).val = a at hi
    interval_cases a <;> rfl
  pointwise [k0_pay2]
  simp only [e0, e3]
  exact halo_of_cases 4 _ v1 v6 v10 r c k

/-- A whole-block load of a neighbouring row is that row. -/
theorem ld_top (x : Vec Ideal S1x1x112x128 .bf16) : View.ld x r0_0 = x := by
  funext y
  idx_vars y
  obtain rfl : y0 = 0 := Subsingleton.elim _ _
  obtain rfl : y1 = 0 := Subsingleton.elim _ _
  pointwise []

/-- A whole-block load of the block is the block. -/
theorem ld_main (x : Vec Ideal S1x28x112x128 .bf16) : View.ld x r0_1 = x := by
  funext y
  idx_vars y
  obtain rfl : y0 = 0 := Subsingleton.elim _ _
  pointwise []

/-- An index of one slab is a row, a column and a lane. -/
theorem slab_index (x : S1x28x1x112x128.Idx) : ∃ (r : Fin 28) (c : Fin 112) (l : Fin 128), x = ix5 0 r 0 c l := by
  idx_vars x
  obtain rfl : x0 = 0 := Subsingleton.elim _ _
  obtain rfl : x2 = 0 := Subsingleton.elim _ _
  exact ⟨x1, x3, x4, rfl⟩

/-- A lane is in the left half or in the right half. -/
theorem lanes (l : Fin 128) :
    (∃ o : Fin 64, l = ⟨o.val, by omega⟩ ∧ ((⟨l.val / 64, by omega⟩ : Fin 2) = 0 ∧ (⟨l.val % 64, by omega⟩ : Fin 64) = o)) ∨
    (∃ o : Fin 64, l = ⟨64 + o.val, by omega⟩ ∧ ((⟨l.val / 64, by omega⟩ : Fin 2) = 1 ∧ (⟨l.val % 64, by omega⟩ : Fin 64) = o)) := by
  by_cases h : l.val < 64
  · exact .inl ⟨⟨l.val, h⟩, rfl, Fin.ext (by simp; omega), Fin.ext (by simp; omega)⟩
  · exact .inr ⟨⟨l.val - 64, by omega⟩, Fin.ext (by simp; omega), Fin.ext (by simp; omega), Fin.ext (by simp; omega)⟩

/-- What the block's pixel holds: output row `2 h + p` of the block, output column pair `v`, both phases in the lanes. -/
def block (i : grid0.Coords) (x0 x2 : Vec Ideal S1x1x112x128 .bf16) (x1 : Vec Ideal S1x28x112x128 .bf16)
    (x3 : Vec Ideal S16x128x64 .f32) (x4 : Vec Ideal S1x64 .f32) : Vec Ideal S1x28x2x112x128 .bf16 := fun y =>
  upAt (halo (W := 112) (C := 128) (B := 28) 4 (i 1).val x0 x2 x1) x3 x4 (y 1) (y 3) ⟨(y 2).val, (y 2).isLt⟩
    ⟨(y 4).val / 64, by have h : (y 4).val < 128 := (y 4).isLt; omega⟩ ⟨(y 4).val % 64, by omega⟩

/-- The block's first slab holds the even output rows. -/
theorem block_even (i : grid0.Coords) (x0 x2 : Vec Ideal S1x1x112x128 .bf16) (x1 : Vec Ideal S1x28x112x128 .bf16)
    (x3 : Vec Ideal S16x128x64 .f32) (x4 : Vec Ideal S1x64 .f32) (r : Fin 28) (c : Fin 112) (l : Fin 128) :
    block i x0 x2 x1 x3 x4 (r0_11.emb (ix5 0 r 0 c l)) = upAt (halo (W := 112) (C := 128) (B := 28) 4 (i 1).val x0 x2 x1) x3 x4 r c 0 ⟨l.val / 64, by omega⟩ ⟨l.val % 64, by omega⟩ := by
  have h1 : ((r0_11.emb (ix5 0 r 0 c l)) 1).val = r.val := by simp [Rect.emb_apply, r0_11]
  have h2 : ((r0_11.emb (ix5 0 r 0 c l)) 2).val = 0 := by simp [Rect.emb_apply, r0_11]
  have h3 : ((r0_11.emb (ix5 0 r 0 c l)) 3).val = c.val := by simp [Rect.emb_apply, r0_11]
  have h4 : ((r0_11.emb (ix5 0 r 0 c l)) 4).val = l.val := by simp [Rect.emb_apply, r0_11]
  simp only [block, h1, h2, h3, h4]
  rfl

/-- The block's second slab holds the odd output rows. -/
theorem block_odd (i : grid0.Coords) (x0 x2 : Vec Ideal S1x1x112x128 .bf16) (x1 : Vec Ideal S1x28x112x128 .bf16)
    (x3 : Vec Ideal S16x128x64 .f32) (x4 : Vec Ideal S1x64 .f32) (r : Fin 28) (c : Fin 112) (l : Fin 128) :
    block i x0 x2 x1 x3 x4 (r0_20.emb (ix5 0 r 0 c l)) = upAt (halo (W := 112) (C := 128) (B := 28) 4 (i 1).val x0 x2 x1) x3 x4 r c 1 ⟨l.val / 64, by omega⟩ ⟨l.val % 64, by omega⟩ := by
  have h1 : ((r0_20.emb (ix5 0 r 0 c l)) 1).val = r.val := by simp [Rect.emb_apply, r0_20]
  have h2 : ((r0_20.emb (ix5 0 r 0 c l)) 2).val = 1 := by simp [Rect.emb_apply, r0_20]
  have h3 : ((r0_20.emb (ix5 0 r 0 c l)) 3).val = c.val := by simp [Rect.emb_apply, r0_20]
  have h4 : ((r0_20.emb (ix5 0 r 0 c l)) 4).val = l.val := by simp [Rect.emb_apply, r0_20]
  simp only [block, h1, h2, h3, h4]
  rfl

/-- The block the kernel leaves is that, at every index. -/
theorem out_apply (i : grid0.Coords) (x0 x2 : Vec Ideal S1x1x112x128 .bf16) (x1 : Vec Ideal S1x28x112x128 .bf16)
    (x3 : Vec Ideal S16x128x64 .f32) (x4 : Vec Ideal S1x64 .f32) (y : S1x28x2x112x128.Idx) :
    out0_5 i x0 x1 x2 x3 x4 y = block i x0 x2 x1 x3 x4 y := by
  unfold out0_5
  refine View.canon_apply_of_pieces (block i x0 x2 x1 x3 x4) _ ?_ y (cover0_5 _ _ y)
  intro p hp x
  simp only [List.mem_cons, List.not_mem_nil, or_false] at hp
  rcases hp with rfl | rfl <;> obtain ⟨r, c, l, rfl⟩ := slab_index x
  · rw [block_odd]
    rcases lanes l with ⟨o, rfl, h⟩ | ⟨o, rfl, h⟩ <;> simp only [h]
    all_goals
      pointwise [k0_pay1, k0_pay3, k0_pay4, k0_pay5, k0_pay6, k0_pay7, k0_pay8, k0_pay9, k0_pay10, k0_pay11, k0_pay12, k0_pay13, k0_pay14, k0_pay15, k0_pay16, k0_pay17, k0_pay18]
      simp only [pay2_apply, ld_top, ld_main]
      simp [upAt, tap, Nat.add_comm, Nat.add_left_comm]
  · rw [block_even]
    rcases lanes l with ⟨o, rfl, h⟩ | ⟨o, rfl, h⟩ <;> simp only [h]
    all_goals
      pointwise [k0_pay1, k0_pay3, k0_pay4, k0_pay5, k0_pay6, k0_pay7, k0_pay8, k0_pay9, k0_pay10, k0_pay11, k0_pay12, k0_pay13, k0_pay14, k0_pay15, k0_pay16, k0_pay17, k0_pay18]
      simp only [pay2_apply, ld_top, ld_main]
      simp [upAt, tap, Nat.add_comm, Nat.add_left_comm]

end Cert.Kernel2Ideal.Block

end
-- ==== Proof.Host2.lean ====
/- What the program does to its weights before the kernel call. -/
module

public import proofs.«01_k».proof.Proof.Gen.Kernel2Ideal.Frame
public import proofs.«01_k».proof.Proof.Spec
public import Idealize.ShloMosaic.Lib.Pointwise
public import Idealize.ShloMosaic.Lib.StableHlo.ReadAt

@[expose] public section

set_option maxRecDepth 16384

noncomputable section

namespace Cert.Kernel2Ideal.Host

open Cert.Upsample Cert.Kernel2Ideal Cert.Kernel2Ideal.Gen Idealize.ShloMosaic Idealize.ShloMosaic.StableHlo

set_option maxHeartbeats 4000000 in
/-- The sixteen matrices the region reads are the four phases' stencils. -/
theorem weights (m : (ℓ : Loc nD τ sig) → Buf (Elt Ideal) ℓ) (c : Dev nD) (p q a b : Fin 2) (k : Fin 128) (o : Fin 64) :
    (V m c main_v176 : Vec Ideal S16x128x64 .f32) (ix3 ⟨8 * p + 4 * q + 2 * a + b, by omega⟩ k o)
      = phase (O := 64) (C := 128) (m ((c.tc : Thread nD τ).loc main_arg1)) p q a b k o := by
  obtain ⟨t00, t01, t10, t11⟩ := taps_eq
  have h12 : (1 : Fin 3) ≠ 2 := by decide
  have h01 : (0 : Fin 3) ≠ 1 := by decide
  show (after hostOps0 (fun b => m (c, b)) (Proc.devRef .tc main_v176) : Vec Ideal S16x128x64 .f32) _ = _
  after_reads_simp
  clean_types
  fin_cases p <;> fin_cases q <;> fin_cases a <;> fin_cases b
  all_goals
    pointwise
    after_reads_simp
    clean_types
    pointwise
    simp only [phase, Fin.zero_eta, Fin.mk_one, t00, t01, t10, t11, Finset.sum_singleton, Finset.sum_pair h12, Finset.sum_pair h01]
    try abel

/-- The bias the region reads is the argument, as one row. -/
theorem bias (m : (ℓ : Loc nD τ sig) → Buf (Elt Ideal) ℓ) (c : Dev nD) (o : Fin 64) :
    (V m c main_v177 : Vec Ideal S1x64 .f32) (ix2 0 o) = (m ((c.tc : Thread nD τ).loc main_arg2) : Vec Ideal S64 .f32) (ix1 o) := by
  show (after hostOps0 (fun b => m (c, b)) (Proc.devRef .tc main_v177) : Vec Ideal S1x64 .f32) _ = _
  after_reads_simp
  clean_types
  pointwise

end Cert.Kernel2Ideal.Host

end
-- ==== Proof.Region2.lean ====
/- What the kernel call leaves in its result array. -/
module

public import proofs.«01_k».proof.Proof.Block2
public import proofs.«01_k».proof.Proof.Host2
public import Idealize.ShloMosaic.Lib.Pipeline.Value
public import Idealize.ShloMosaic.Lib.Pipeline.ValueKit.Point

@[expose] public section

set_option maxRecDepth 16384

noncomputable section

namespace Cert.Kernel2Ideal.Region

open Cert.Upsample Cert.Kernel2Ideal Cert.Kernel2Ideal.Gen Cert.Kernel2Ideal.Block Idealize.ShloMosaic
open Idealize.ShloMosaic.Pipeline (Dat)

variable (m : (ℓ : Loc nD τ sig) → Buf (Elt Ideal) ℓ) (c : Dev nD)

/-- The window on the row above the block `t % 4` of image `t / 4`. -/
theorem idx_top : ∀ t : Fin grid0.N, win0_0.index t 0 = t.val / 4 ∧ win0_0.index t 1 = 28 * (t.val % 4) - 1
    ∧ win0_0.index t 2 = 0 ∧ win0_0.index t 3 = 0 := by decide +kernel
/-- The window on the block's own rows. -/
theorem idx_main : ∀ t : Fin grid0.N, win0_1.index t 0 = t.val / 4 ∧ win0_1.index t 1 = t.val % 4
    ∧ win0_1.index t 2 = 0 ∧ win0_1.index t 3 = 0 := by decide +kernel
/-- The window on the row below the block. -/
theorem idx_bottom : ∀ t : Fin grid0.N, win0_2.index t 0 = t.val / 4 ∧ win0_2.index t 1 = min (28 * (t.val % 4) + 28) 111
    ∧ win0_2.index t 2 = 0 ∧ win0_2.index t 3 = 0 := by decide +kernel
/-- The window on the weights is the whole array. -/
theorem idx_weights : ∀ t : Fin grid0.N, win0_3.index t 0 = 0 ∧ win0_3.index t 1 = 0 ∧ win0_3.index t 2 = 0 := by decide +kernel
/-- The window on the bias is the whole array. -/
theorem idx_bias : ∀ t : Fin grid0.N, win0_4.index t 0 = 0 ∧ win0_4.index t 1 = 0 := by decide +kernel
/-- The window on the result: row block `t % 4` of image `t / 4`. -/
theorem idx_out : ∀ t : Fin grid0.N, win0_5.index t 0 = t.val / 4 ∧ win0_5.index t 1 = t.val % 4
    ∧ win0_5.index t 2 = 0 ∧ win0_5.index t 3 = 0 ∧ win0_5.index t 4 = 0 := by decide +kernel
/-- The second grid coordinate is the row block. -/
theorem coord : ∀ t : Fin grid0.N, (grid0.coords t 1).val = t.val % 4 := by decide +kernel

/-- The image a grid point works on, and the row block it makes. -/
def img (t : Fin cfg0.N) : Fin 8 := ⟨t.val / 4, by have h : t.val < 32 := t.isLt; omega⟩

/-- The row above the block. -/
theorem top_apply (t : Fin cfg0.N) (v : Fin 112) (k : Fin 128) :
    (iblk m c 0 t : Vec Ideal S1x1x112x128 .bf16) (ix4 0 0 v k)
      = (m ((c.tc : Thread nD τ).loc main_arg0) : Vec Ideal S8x112x112x128 .bf16)
          (ix4 (img t) ⟨28 * (t.val % 4) - 1, by omega⟩ v k) := by
  rw [← V_main_arg0 m c]
  blk_ext [iblk, idx_top t, img]

/-- The block's rows. -/
theorem main_apply (t : Fin cfg0.N) (r : Fin 28) (v : Fin 112) (k : Fin 128) :
    (iblk m c 1 t : Vec Ideal S1x28x112x128 .bf16) (ix4 0 r v k)
      = (m ((c.tc : Thread nD τ).loc main_arg0) : Vec Ideal S8x112x112x128 .bf16)
          (ix4 (img t) ⟨28 * (t.val % 4) + r, by omega⟩ v k) := by
  rw [← V_main_arg0 m c]
  blk_ext [iblk, idx_main t, img]

/-- The row below the block. -/
theorem bottom_apply (t : Fin cfg0.N) (v : Fin 112) (k : Fin 128) :
    (iblk m c 2 t : Vec Ideal S1x1x112x128 .bf16) (ix4 0 0 v k)
      = (m ((c.tc : Thread nD τ).loc main_arg0) : Vec Ideal S8x112x112x128 .bf16)
          (ix4 (img t) ⟨min (28 * (t.val % 4) + 28) 111, by omega⟩ v k) := by
  rw [← V_main_arg0 m c]
  blk_ext [iblk, idx_bottom t, img]

/-- The weights' block is the whole array of weights. -/
theorem weights_apply (t : Fin cfg0.N) : (iblk m c 3 t : Vec Ideal S16x128x64 .f32) = V m c main_v176 := by
  funext y
  blk_ext [iblk, idx_weights t]

/-- The bias's block is the whole bias. -/
theorem bias_apply (t : Fin cfg0.N) : (iblk m c 4 t : Vec Ideal S1x64 .f32) = V m c main_v177 := by
  funext y
  blk_ext [iblk, idx_bias t]

/-- The block with its halo is the bordered image from the block's first row on. -/
theorem halo_eq (t : Fin cfg0.N) (r v : ℕ) (k : Fin 128) (hr : r ≤ 29) :
    halo (W := 112) (C := 128) (B := 28) 4 (grid0.coords t 1).val (iblk m c 0 t) (iblk m c 2 t) (iblk m c 1 t) r v k
      = edge (N := 8) (H := 112) (W := 112) (C := 128) (m ((c.tc : Thread nD τ).loc main_arg0)) (img t)
          (28 * (t.val % 4) + r) v k := by
  have hc := coord t
  rw [hc]
  exact halo_eq_edge (by omega) (by omega) (by omega) (by omega) (by omega) (fun v k h => top_apply m c t v k)
    (fun r v k h => main_apply m c t r v k) (fun v k h => bottom_apply m c t v k) r v k hr

/-- What the result array holds: every pixel of every image, two rows and two columns to a row pair and a lane pair. -/
def image : Vec Ideal S8x112x2x112x128 .bf16 := fun y =>
  upAt (edge (N := 8) (H := 112) (W := 112) (C := 128) (m ((c.tc : Thread nD τ).loc main_arg0)) ⟨(y 0).val, (y 0).isLt⟩)
    (V m c main_v176) (V m c main_v177) (y 1) (y 3) ⟨(y 2).val, (y 2).isLt⟩
    ⟨(y 4).val / 64, by have h : (y 4).val < 128 := (y 4).isLt; omega⟩ ⟨(y 4).val % 64, by omega⟩

/-- After the run the result array holds that. -/
theorem final : (dats m 0 c).arrAt 5 cfg0.N = image m c := by
  refine (dats m 0 c).arrAt_eq_of_covers 5 (image m c) (by decide +kernel) fun t _ y => ?_
  blk_simp
  rw [after0_5, out_apply]
  have y0 : (y 0).val < 1 := (y 0).isLt
  have y1 : (y 1).val < 28 := (y 1).isLt
  have e0 : (((win0_5.blk t).view.emb y) 0).val = t.val / 4 := by blk_simp [idx_out t] <;> try omega
  have e1 : (((win0_5.blk t).view.emb y) 1).val = 28 * (t.val % 4) + (y 1).val := by blk_simp [idx_out t] <;> try omega
  have e2 : (((win0_5.blk t).view.emb y) 2).val = (y 2).val := by blk_simp [idx_out t] <;> try omega
  have e3 : (((win0_5.blk t).view.emb y) 3).val = (y 3).val := by blk_simp [idx_out t] <;> try omega
  have e4 : (((win0_5.blk t).view.emb y) 4).val = (y 4).val := by blk_simp [idx_out t] <;> try omega
  unfold block image
  rw [weights_apply, bias_apply]
  simp only [e0, e1, e2, e3, e4]
  exact upAt_congr (fun a v k ha => (halo_eq m c t ((y 1).val + a) v k (by omega)).trans (by rw [Nat.add_assoc]; rfl)) _ _ _ _ _

end Cert.Kernel2Ideal.Region

end
-- ==== Proof.Ref2.lean ====
/- What the reference computes: at each pixel, nine taps of the upsampled image. -/
module

public import proofs.«01_k».proof.Proof.Gen.Reference2Ideal.Run
public import proofs.«01_k».proof.Proof.Spec
public import Idealize.ShloMosaic.Lib.Pointwise

@[expose] public section

set_option maxRecDepth 16384

noncomputable section

namespace Cert.Reference2Ideal.Layer

open Cert.Upsample Cert.Reference2Ideal Cert.Reference2Ideal.Gen Idealize.ShloMosaic

variable {F : FTy → Type} [FloatOps F]

/-- The upsampled image inside its border of zeros. -/
def padded (g : (⟨S8x112x112x128, .bf16⟩ : BufTy).Contents (Elt F)) : (⟨S8x226x226x128, .f32⟩ : BufTy).Contents (Elt F) :=
  pad S8x226x226x128 ![0, 1, 1, 0] ![0, 1, 1, 0] ![0, 0, 0, 0] (shapeCast _ (broadcastInDim S8x224x112x2x128 ![0, 1, 2, 4] bcast_S8x224x112x128_S8x224x112x2x128_0_1_2_4 (shapeCast _ (broadcastInDim S8x112x2x112x128 ![0, 1, 3, 4] bcast_S8x112x112x128_S8x112x2x112x128_0_1_3_4 (extf .f32 g bitsLt_bf16_f32)) shapeCasts_S8x112x2x112x128_S8x224x112x128)) shapeCasts_S8x224x112x2x128_S8x224x224x128) (sitofp .f32 (constantI S_ 32 0#32)) pads_S8x224x224x128_S8x226x226x128_000_110_110_000 h_S_

/-- The nine shifted images side by side. -/
def cat (P : (⟨S8x226x226x128, .f32⟩ : BufTy).Contents (Elt F)) : (⟨S8x224x224x1152, .f32⟩ : BufTy).Contents (Elt F) :=
  (concatenate S8x224x224x1152 3 [⟨S8x224x224x128, ((extractStridedSlice S8x224x224x128 ![0, 0, 0, 0] P slices_S8x226x226x128_S8x224x224x128_0_0_0_0) : (⟨S8x224x224x128, .f32⟩ : BufTy).Contents (Elt F))⟩, ⟨S8x224x224x128, ((extractStridedSlice S8x224x224x128 ![0, 0, 1, 0] P slices_S8x226x226x128_S8x224x224x128_0_0_1_0) : (⟨S8x224x224x128, .f32⟩ : BufTy).Contents (Elt F))⟩, ⟨S8x224x224x128, ((extractStridedSlice S8x224x224x128 ![0, 0, 2, 0] P slices_S8x226x226x128_S8x224x224x128_0_0_2_0) : (⟨S8x224x224x128, .f32⟩ : BufTy).Contents (Elt F))⟩, ⟨S8x224x224x128, ((extractStridedSlice S8x224x224x128 ![0, 1, 0, 0] P slices_S8x226x226x128_S8x224x224x128_0_1_0_0) : (⟨S8x224x224x128, .f32⟩ : BufTy).Contents (Elt F))⟩, ⟨S8x224x224x128, ((extractStridedSlice S8x224x224x128 ![0, 1, 1, 0] P slices_S8x226x226x128_S8x224x224x128_0_1_1_0) : (⟨S8x224x224x128, .f32⟩ : BufTy).Contents (Elt F))⟩, ⟨S8x224x224x128, ((extractStridedSlice S8x224x224x128 ![0, 1, 2, 0] P slices_S8x226x226x128_S8x224x224x128_0_1_2_0) : (⟨S8x224x224x128, .f32⟩ : BufTy).Contents (Elt F))⟩, ⟨S8x224x224x128, ((extractStridedSlice S8x224x224x128 ![0, 2, 0, 0] P slices_S8x226x226x128_S8x224x224x128_0_2_0_0) : (⟨S8x224x224x128, .f32⟩ : BufTy).Contents (Elt F))⟩, ⟨S8x224x224x128, ((extractStridedSlice S8x224x224x128 ![0, 2, 1, 0] P slices_S8x226x226x128_S8x224x224x128_0_2_1_0) : (⟨S8x224x224x128, .f32⟩ : BufTy).Contents (Elt F))⟩, ⟨S8x224x224x128, ((extractStridedSlice S8x224x224x128 ![0, 2, 2, 0] P slices_S8x226x226x128_S8x224x224x128_0_2_2_0) : (⟨S8x224x224x128, .f32⟩ : BufTy).Contents (Elt F))⟩] concatenates_S8x224x224x128_S8x224x224x128_S8x224x224x128_S8x224x224x128_S8x224x224x128_S8x224x224x128_S8x224x224x128_S8x224x224x128_S8x224x224x128_S8x224x224x1152_d3 : (⟨S8x224x224x1152, .f32⟩ : BufTy).Contents (Elt F))

/-- The convolution over the nine images, with its bias and its cut at zero. -/
def conv (K : (⟨S8x224x224x1152, .f32⟩ : BufTy).Contents (Elt F)) (w : (⟨S64x128x3x3, .f32⟩ : BufTy).Contents (Elt F))
    (b : (⟨S64, .f32⟩ : BufTy).Contents (Elt F)) : (⟨S8x224x224x64, .bf16⟩ : BufTy).Contents (Elt F) :=
  truncf .bf16 (shapeCast _ (maximumf (addf (Host.dotGeneral dot_S8x50176x1152_S1152x64_S8x50176x64_2_0_01_1_n_n none (shapeCast _ K shapeCasts_S8x224x224x1152_S8x50176x1152) (shapeCast _ (transpose S3x3x128x64 [2, 3, 1, 0] w transposes_S64x128x3x3_S3x3x128x64_2_3_1_0) shapeCasts_S3x3x128x64_S1152x64)) (broadcastInDim S8x50176x64 ![0, 1, 2] bcast_S1x1x64_S8x50176x64_0_1_2 (broadcastInDim S1x1x64 ![2] bcast_S64_S1x1x64_2 b))) (broadcastInDim S8x50176x64 ![] bcast_S_S8x50176x64 (constant S_ .f32 0x00000000#32))) shapeCasts_S8x50176x64_S8x224x224x64) bitsLt_bf16_f32

/-- The reference's result is those three in turn. -/
theorem res_eq (m : (ℓ : Loc nD τ sig) → Buf (Elt F) ℓ) (c : Dev nD) :
    Value.res_main_v25 m c = conv (cat (padded (m ((c.tc : Thread nD τ).loc main_arg0))))
      (m ((c.tc : Thread nD τ).loc main_arg1)) (m ((c.tc : Thread nD τ).loc main_arg2)) := rfl

/-- The padded image, read at a pixel: the input's pixel at half the position. -/
theorem padded_apply (g : (⟨S8x112x112x128, .bf16⟩ : BufTy).Contents (Elt Ideal)) (n : Fin 8) (r c : Fin 226) (k : Fin 128) :
    padded g (ix4 n r c k) = edge (N := 8) (H := 112) (W := 112) (C := 128) g n ((r + 1) / 2) ((c + 1) / 2) k := by
  have hr := r.isLt
  have hc := c.isLt
  have hz : (FloatOps.sitofp (F := Ideal) FTy.f32 0#32 : EReal) = 0 := by
    show (((0#32 : BitVec 32).toInt : ℝ) : EReal) = 0
    simp
  pointwise [padded]
  rw [hz]
  unfold edge
  by_cases h : (1 ≤ r.val ∧ r.val - 1 < 224) ∧ 1 ≤ c.val ∧ c.val - 1 < 224
  · rw [dif_pos h, dif_pos (by omega)]
    congr 2 <;> (ext; simp; omega)
  · rw [dif_neg h, dif_neg (by omega)]

/-- The nine images, read in the `t`-th: the padded image shifted by `t / 3` rows and `t % 3` columns. -/
theorem cat_apply (P : (⟨S8x226x226x128, .f32⟩ : BufTy).Contents (Elt Ideal)) (n : Fin 8) (i j : Fin 224) (t : Fin 9) (k : Fin 128) :
    cat P (ix4 n i j ⟨t.val * 128 + k.val, by omega⟩) = P (ix4 n ⟨i + t / 3, by omega⟩ ⟨j + t % 3, by omega⟩ k) := by
  have ht := t.isLt
  have hk := k.isLt
  have hi := i.isLt
  have hj := j.isLt
  have hP : ∀ (a a' b b' x x' : ℕ) (ha hb hx ha' hb' hx'), a = a' → b = b' → x = x' →
      P (ix4 n ⟨a, ha⟩ ⟨b, hb⟩ ⟨x, hx⟩) = P (ix4 n ⟨a', ha'⟩ ⟨b', hb'⟩ ⟨x', hx'⟩) := by
    intro a a' b b' x x' _ _ _ _ _ _ h h' h''
    subst h h' h''
    rfl
  pointwise [cat]
  split_ifs <;> exact hP _ _ _ _ _ _ _ _ _ _ _ _ (by omega) (by omega) (by omega)

/-- The convolution at a pixel: one sum over the nine images' channels. -/
theorem conv_apply (K : (⟨S8x224x224x1152, .f32⟩ : BufTy).Contents (Elt Ideal)) (w : (⟨S64x128x3x3, .f32⟩ : BufTy).Contents (Elt Ideal))
    (b : (⟨S64, .f32⟩ : BufTy).Contents (Elt Ideal)) (n : Fin 8) (i j : Fin 224) (o : Fin 64) :
    conv K w b (ix4 n i j o) = max (∑ x : Fin 1152, K (ix4 n i j x) * w (ix4 o ⟨x % 128, by omega⟩ ⟨x / 384, by omega⟩ ⟨x / 128 % 3, by omega⟩) + b (ix1 o)) (0 : EReal) := by
  pointwise [conv]

/-- The reference's result at a pixel: nine taps of the upsampled image. -/
theorem res_apply (m : (ℓ : Loc nD τ sig) → Buf (Elt Ideal) ℓ) (c : Dev nD) (n : Fin 8) (i j : Fin 224) (o : Fin 64) :
    (Value.res_main_v25 m c : Vec Ideal S8x224x224x64 .bf16) (ix4 n i j o)
      = convAt (C := 128) (O := 64)
          (fun r v k => edge (N := 8) (H := 112) (W := 112) (C := 128) (m ((c.tc : Thread nD τ).loc main_arg0)) n ((r + 1) / 2) ((v + 1) / 2) k)
          (m ((c.tc : Thread nD τ).loc main_arg1)) (m ((c.tc : Thread nD τ).loc main_arg2)) i j o := by
  rw [res_eq, conv_apply]
  unfold convAt
  congr 2
  rw [Fin.sum_univ_tiles 9 128 rfl, Fin.sum_univ_tiles 3 3 rfl]
  refine Finset.sum_congr rfl fun d _ => Finset.sum_congr rfl fun e _ => Finset.sum_congr rfl fun k _ => ?_
  have hd := d.isLt
  have he := e.isLt
  have hk := k.isLt
  rw [cat_apply _ n i j ⟨d.val * 3 + e.val, by omega⟩ k, padded_apply]
  have h1 : (d.val * 3 + e.val) / 3 = d.val := by omega
  have h2 : (d.val * 3 + e.val) % 3 = e.val := by omega
  have h3 : ((d.val * 3 + e.val) * 128 + k.val) % 128 = k.val := by omega
  have h4 : ((d.val * 3 + e.val) * 128 + k.val) / 384 = d.val := by omega
  have h5 : ((d.val * 3 + e.val) * 128 + k.val) / 128 % 3 = e.val := by omega
  simp only [h1, h2, h3, h4, h5]

end Cert.Reference2Ideal.Layer

end
-- ==== Proof.Finite.lean ====
/- Finite arrays at the ideal instance. -/
module

public import proofs.«01_k».proof.Proof.Spec
public import Idealize.ShloMosaic.PureOps

@[expose] public section

noncomputable section

namespace Cert.Upsample

open Idealize.ShloMosaic

/-- The single-precision word of infinity is the top element. -/
theorem inf_f32 : (FloatOps.ofBits (F := Ideal) FTy.f32 0x7F800000#32 : EReal) = ⊤ := by
  show Ideal.ofBits .f32 0x7F800000#32 = ⊤
  simp [Ideal.ofBits, Ideal.ieee]

/-- The half-width word of infinity is the top element. -/
theorem inf_bf16 : (FloatOps.ofBits (F := Ideal) FTy.bf16 0x7F80#16 : EReal) = ⊤ := by
  show Ideal.ofBits .bf16 0x7F80#16 = ⊤
  simp [Ideal.ofBits, Ideal.ieee]

/-- An entry whose magnitude is below infinity is a real number. -/
theorem real_of_lt {f : FTy} (x u : Ideal f) (hu : (u : EReal) = ⊤)
    (h : FloatOps.cmpf (F := Ideal) .olt (FloatOps.absf x) u = 1#1) : ∃ y : ℝ, (x : EReal) = y := by
  rw [Ideal.cmpf_def, Ideal.absf_def, hu] at h
  have hlt : max (x : EReal) (-x) < ⊤ := by
    by_contra hn
    exact absurd h (by simp [Ideal.cmp, hn])
  induction x using EReal.rec with
  | bot => simp at hlt
  | coe y => exact ⟨y, rfl⟩
  | top => simp at hlt

/-- An array all of whose magnitudes are below infinity is real. -/
theorem real_of_all {f : FTy} {s : Shape} {x : FVec Ideal s f} {u : Ideal f} (hu : (u : EReal) = ⊤)
    (h : ∀ i, FloatOps.cmpf (F := Ideal) .olt (FloatOps.absf (x i)) u = 1#1) : Real (s := s) x := by
  choose y hy using fun i => real_of_lt (x i) u hu (h i)
  exact ⟨y, hy⟩

end Cert.Upsample

end
-- ==== Proof.Value2.lean ====
/- The kernel call's run, and why its result is the reference's. -/
module

public import proofs.«01_k».proof.Defs
public import proofs.«01_k».proof.Proof.Region2
public import proofs.«01_k».proof.Proof.Ref2
public import proofs.«01_k».proof.Proof.Gen.Pre_finite2
public import proofs.«01_k».proof.Proof.Finite
public import Idealize.ShloMosaic.Lib.ReduceAll
public import Idealize.ShloMosaic.Lib.StableHlo.ReadAt

@[expose] public section

set_option maxRecDepth 16384

noncomputable section

namespace Cert.Kernel2Ideal.Result

open Cert.Upsample Cert.Kernel2Ideal Cert.Kernel2Ideal.Gen Idealize.ShloMosaic Idealize.SL.Sem
open Idealize.ShloMosaic.Pipeline (Dat)

variable (m : (ℓ : Loc nD τ sig) → Buf (Elt Ideal) ℓ) (c : Dev nD)

/-- What the program leaves in its result: the region's array, its row pairs and lane pairs opened. -/
def result : Vec Ideal S8x224x224x64 .bf16 :=
  StableHlo.after hostOps1 (Pipeline.withArrays spec0 c (V0 m c) fun w => (dats m 0 c).arrAt w cfg0.N) (Proc.devRef .tc main_v179)

/-- The result at a pixel. -/
theorem result_apply (n : Fin 8) (i j : Fin 224) (o : Fin 64) :
    result m c (ix4 n i j o)
      = Region.image m c (ix5 n ⟨i / 2, by omega⟩ ⟨i % 2, by omega⟩ ⟨j / 2, by omega⟩ ⟨j % 2 * 64 + o, by omega⟩) := by
  have hr : (Pipeline.withArrays spec0 c (V0 m c) (fun w => (dats m 0 c).arrAt w cfg0.N) (Proc.devRef .tc main_v178)
      : Vec Ideal S8x112x2x112x128 .bf16) = Region.image m c :=
    ((dats m 0 c).withArrays_arrAt (by decide) (V0 m c) (A_eq m c) 5).trans (Region.final m c)
  rw [← hr]
  unfold result
  show (StableHlo.after hostOps1 (Pipeline.withArrays spec0 c (V0 m c) fun w => (dats m 0 c).arrAt w cfg0.N) (Proc.devRef .tc main_v179)
    : Vec Ideal S8x224x224x64 .bf16) _ = _
  after_reads_simp
  clean_types
  pointwise

/-- The run: the result ends at that, the arguments as launched. -/
theorem run (ρ : Dev nD → PrngReg) : θ_run defs (onTc (τ := τ) (main (F := Ideal))) ⟨m, fun _ => 0, ρ⟩ (fun r => ∀ c : Dev nD,
    r.2.mem ((c.tc : Thread nD τ).loc main_v179) = result m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c => ⟨(h.1 c).2 main_v179 (Pipeline.mem_restRefs_of main_v179 (by decide) (by decide)), h.2 c⟩)
    (θ_run_and (run_main m ρ) (unchanged m ρ))

/-- On real images and weights the result at a pixel is the convolution of the upsampled image. -/
theorem result_conv (hx : Real (s := S8x112x112x128) (m ((c.tc : Thread nD τ).loc main_arg0)))
    (hw : Real (s := S64x128x3x3) (m ((c.tc : Thread nD τ).loc main_arg1))) (n : Fin 8) (i j : Fin 224) (o : Fin 64) :
    result m c (ix4 n i j o)
      = convAt (C := 128) (O := 64)
          (fun r v k => edge (N := 8) (H := 112) (W := 112) (C := 128) (m ((c.tc : Thread nD τ).loc main_arg0)) n ((r + 1) / 2) ((v + 1) / 2) k)
          (m ((c.tc : Thread nD τ).loc main_arg1)) (m ((c.tc : Thread nD τ).loc main_arg2)) i j o := by
  have ho := o.isLt
  have h1 : (j.val % 2 * 64 + o.val) / 64 = j.val % 2 := by omega
  have h2 : (j.val % 2 * 64 + o.val) % 64 = o.val := by omega
  have h3 : 2 * (i.val / 2) + i.val % 2 = i.val := by omega
  have h4 : 2 * (j.val / 2) + j.val % 2 = j.val := by omega
  have key := upAt_eq_convAt (edge_real (N := 8) (H := 112) (W := 112) (C := 128) hx n) hw (W := V m c main_v176)
    (b' := V m c main_v177) (b := m ((c.tc : Thread nD τ).loc main_arg2)) o
    (fun p q a b k => Host.weights m c p q a b k o) (Host.bias m c o) (i / 2) (j / 2) ⟨i % 2, by omega⟩ ⟨j % 2, by omega⟩
  simp only [h3, h4] at key
  rw [result_apply, ← key]
  show upAt _ _ _ _ _ _ ⟨(j.val % 2 * 64 + o.val) / 64, _⟩ ⟨(j.val % 2 * 64 + o.val) % 64, _⟩ = _
  simp only [h1, h2]
  rfl

end Cert.Kernel2Ideal.Result

namespace Cert.Pre_finite2

open Cert.Upsample Idealize.ShloMosaic

/-- The predicate says that the first two arrays hold real numbers. -/
theorem real_of_fn [Facts] (x : FVec Ideal S8x112x112x128 .bf16) (w : FVec Ideal S64x128x3x3 .f32) (b : FVec Ideal S64 .f32)
    (h : fn (F := Ideal) x w b = fun _ => 1#1) : Real x ∧ Real w := by
  have h0 := congrFun h ix0
  unfold fn at h0
  obtain ⟨h1, h2⟩ := IntOp.andi_eq_one.mp h0
  haveI : Subsingleton S_.Idx := ⟨fun a b => funext fun i => i.elim0⟩
  exact ⟨real_of_all inf_bf16 fun i => Host.reduce_andi_all _ _ _ _ _ h1 i,
    real_of_all inf_f32 fun i => Host.reduce_andi_all _ _ _ _ _ h2 i⟩

end Cert.Pre_finite2

namespace Cert.Kernel2Ideal.Result

open Cert.Upsample Cert.Kernel2Ideal Cert.Kernel2Ideal.Gen Idealize.ShloMosaic Idealize.SL.Sem

/-- From finite images and weights the kernel call and its reference end with the same result. -/
theorem algebraic : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hp hm
  refine ⟨fun c => result m c, run m g, (θ_run _ _ _).mono (fun _ h c => ⟨?_, (h c).2⟩) (Cert.Reference2Ideal.Value.run m' g')⟩
  rw [(h c).1]
  obtain ⟨hx, hw⟩ := Cert.Pre_finite2.real_of_fn _ _ _ (hp c)
  obtain ⟨e0, e1, e2⟩ := hm c
  funext y
  obtain ⟨n, i, j, o, rfl⟩ : ∃ n i j o, y = ix4 n i j o := ⟨y 0, y 1, y 2, y 3, by funext a; fin_cases a <;> rfl⟩
  refine (Cert.Reference2Ideal.Layer.res_apply m' c n i j o).trans (Eq.trans ?_ (result_conv m c hx hw n i j o).symm)
  rw [e0, e1, e2]

end Cert.Kernel2Ideal.Result

end
-- ==== Proof.Block3.lean ====
/- What one block of the first up-convolution computes. -/
module

public import proofs.«01_k».proof.Proof.Gen.Kernel3Ideal.Skeleton
public import proofs.«01_k».proof.Proof.Gen.Kernel3Ideal.Frame
public import proofs.«01_k».proof.Proof.Spec
public import Idealize.ShloMosaic.Lib.Pointwise

@[expose] public section

set_option maxRecDepth 16384

noncomputable section

namespace Cert.Kernel3Ideal.Block

open Cert.Upsample Cert.Kernel3Ideal Cert.Kernel3Ideal.Gen Idealize.ShloMosaic

/-- The haloed block the kernel builds, read at an index. -/
theorem pay2_apply (i : grid0.Coords) (v1 v6 : Vec Ideal S1x1x56x128 .f32) (v10 : Vec Ideal S1x28x56x128 .f32)
    (r : Fin 30) (c : Fin 58) (k : Fin 128) :
    k0_pay2 i v1 v6 v10 (ix3 r c k) = halo (W := 56) (C := 128) (B := 28) 2 (i 1).val v1 v6 v10 r c k := by
  have hi : (i 1).val < 2 := (i 1).isLt
  have hr := r.isLt
  have hc := c.isLt
  have e0 : ∀ x : EReal, Scalar.select (Scalar.cmpi CmpIPredicate.sgt (BitVec.ofNat 32 (i 1).val) 0#32) x 0
      = if 0 < (i 1).val then x else 0 := by
    intro x
    generalize (i 1).val = a at hi
    interval_cases a <;> rfl
  have e3 : ∀ x : EReal, Scalar.select (Scalar.cmpi CmpIPredicate.slt (BitVec.ofNat 32 (i 1).val) 1#32) x 0
      = if (i 1).val < 2 - 1 then x else 0 := by
    intro x
    generalize (i 1).val = a at hi
    interval_cases a <;> rfl
  pointwise [k0_pay2]
  simp only [e0, e3]
  exact halo_of_cases 2 _ v1 v6 v10 r c k

/-- A whole-block load of a neighbouring row is that row. -/
theorem ld_top (x : Vec Ideal S1x1x56x128 .f32) : View.ld x r0_0 = x := by
  funext y
  idx_vars y
  obtain rfl : y0 = 0 := Subsingleton.elim _ _
  obtain rfl : y1 = 0 := Subsingleton.elim _ _
  pointwise []

/-- A whole-block load of the block is the block. -/
theorem ld_main (x : Vec Ideal S1x28x56x128 .f32) : View.ld x r0_1 = x := by
  funext y
  idx_vars y
  obtain rfl : y0 = 0 := Subsingleton.elim _ _
  pointwise []

/-- An index of one slab is a row, a column and a lane. -/
theorem slab_index (x : S1x28x1x56x256.Idx) : ∃ (r : Fin 28) (c : Fin 56) (l : Fin 256), x = ix5 0 r 0 c l := by
  idx_vars x
  obtain rfl : x0 = 0 := Subsingleton.elim _ _
  obtain rfl : x2 = 0 := Subsingleton.elim _ _
  exact ⟨x1, x3, x4, rfl⟩

/-- A lane is in the left half or in the right half. -/
theorem lanes (l : Fin 256) :
    (∃ o : Fin 128, l = ⟨o.val, by omega⟩ ∧ ((⟨l.val / 128, by omega⟩ : Fin 2) = 0 ∧ (⟨l.val % 128, by omega⟩ : Fin 128) = o)) ∨
    (∃ o : Fin 128, l = ⟨128 + o.val, by omega⟩ ∧ ((⟨l.val / 128, by omega⟩ : Fin 2) = 1 ∧ (⟨l.val % 128, by omega⟩ : Fin 128) = o)) := by
  by_cases h : l.val < 128
  · exact .inl ⟨⟨l.val, h⟩, rfl, Fin.ext (by simp; omega), Fin.ext (by simp; omega)⟩
  · exact .inr ⟨⟨l.val - 128, by omega⟩, Fin.ext (by simp; omega), Fin.ext (by simp; omega), Fin.ext (by simp; omega)⟩

/-- What the block's pixel holds: output row `2 h + p` of the block, output column pair `v`, both phases in the lanes. -/
def block (i : grid0.Coords) (x0 x2 : Vec Ideal S1x1x56x128 .f32) (x1 : Vec Ideal S1x28x56x128 .f32)
    (x3 : Vec Ideal S16x128x128 .f32) (x4 : Vec Ideal S1x128 .f32) : Vec Ideal S1x28x2x56x256 .bf16 := fun y =>
  upAt (halo (W := 56) (C := 128) (B := 28) 2 (i 1).val x0 x2 x1) x3 x4 (y 1) (y 3) ⟨(y 2).val, (y 2).isLt⟩
    ⟨(y 4).val / 128, by have h : (y 4).val < 256 := (y 4).isLt; omega⟩ ⟨(y 4).val % 128, by omega⟩

/-- The block's first slab holds the even output rows. -/
theorem block_even (i : grid0.Coords) (x0 x2 : Vec Ideal S1x1x56x128 .f32) (x1 : Vec Ideal S1x28x56x128 .f32)
    (x3 : Vec Ideal S16x128x128 .f32) (x4 : Vec Ideal S1x128 .f32) (r : Fin 28) (c : Fin 56) (l : Fin 256) :
    block i x0 x2 x1 x3 x4 (r0_11.emb (ix5 0 r 0 c l)) = upAt (halo (W := 56) (C := 128) (B := 28) 2 (i 1).val x0 x2 x1) x3 x4 r c 0 ⟨l.val / 128, by omega⟩ ⟨l.val % 128, by omega⟩ := by
  have h1 : ((r0_11.emb (ix5 0 r 0 c l)) 1).val = r.val := by simp [Rect.emb_apply, r0_11]
  have h2 : ((r0_11.emb (ix5 0 r 0 c l)) 2).val = 0 := by simp [Rect.emb_apply, r0_11]
  have h3 : ((r0_11.emb (ix5 0 r 0 c l)) 3).val = c.val := by simp [Rect.emb_apply, r0_11]
  have h4 : ((r0_11.emb (ix5 0 r 0 c l)) 4).val = l.val := by simp [Rect.emb_apply, r0_11]
  simp only [block, h1, h2, h3, h4]
  rfl

/-- The block's second slab holds the odd output rows. -/
theorem block_odd (i : grid0.Coords) (x0 x2 : Vec Ideal S1x1x56x128 .f32) (x1 : Vec Ideal S1x28x56x128 .f32)
    (x3 : Vec Ideal S16x128x128 .f32) (x4 : Vec Ideal S1x128 .f32) (r : Fin 28) (c : Fin 56) (l : Fin 256) :
    block i x0 x2 x1 x3 x4 (r0_20.emb (ix5 0 r 0 c l)) = upAt (halo (W := 56) (C := 128) (B := 28) 2 (i 1).val x0 x2 x1) x3 x4 r c 1 ⟨l.val / 128, by omega⟩ ⟨l.val % 128, by omega⟩ := by
  have h1 : ((r0_20.emb (ix5 0 r 0 c l)) 1).val = r.val := by simp [Rect.emb_apply, r0_20]
  have h2 : ((r0_20.emb (ix5 0 r 0 c l)) 2).val = 1 := by simp [Rect.emb_apply, r0_20]
  have h3 : ((r0_20.emb (ix5 0 r 0 c l)) 3).val = c.val := by simp [Rect.emb_apply, r0_20]
  have h4 : ((r0_20.emb (ix5 0 r 0 c l)) 4).val = l.val := by simp [Rect.emb_apply, r0_20]
  simp only [block, h1, h2, h3, h4]
  rfl

/-- The block the kernel leaves is that, at every index. -/
theorem out_apply (i : grid0.Coords) (x0 x2 : Vec Ideal S1x1x56x128 .f32) (x1 : Vec Ideal S1x28x56x128 .f32)
    (x3 : Vec Ideal S16x128x128 .f32) (x4 : Vec Ideal S1x128 .f32) (y : S1x28x2x56x256.Idx) :
    out0_5 i x0 x1 x2 x3 x4 y = block i x0 x2 x1 x3 x4 y := by
  unfold out0_5
  refine View.canon_apply_of_pieces (block i x0 x2 x1 x3 x4) _ ?_ y (cover0_5 _ _ y)
  intro p hp x
  simp only [List.mem_cons, List.not_mem_nil, or_false] at hp
  rcases hp with rfl | rfl <;> obtain ⟨r, c, l, rfl⟩ := slab_index x
  · rw [block_odd]
    rcases lanes l with ⟨o, rfl, h⟩ | ⟨o, rfl, h⟩ <;> simp only [h]
    all_goals
      pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
      simp only [pay2_apply, ld_top, ld_main]
      simp [upAt, tap, Nat.add_comm, Nat.add_left_comm]
  · rw [block_even]
    rcases lanes l with ⟨o, rfl, h⟩ | ⟨o, rfl, h⟩ <;> simp only [h]
    all_goals
      pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20]
      simp only [pay2_apply, ld_top, ld_main]
      simp [upAt, tap, Nat.add_comm, Nat.add_left_comm]

end Cert.Kernel3Ideal.Block

end
-- ==== Proof.Host3.lean ====
/- What the program does to its weights before the kernel call. -/
module

public import proofs.«01_k».proof.Proof.Gen.Kernel3Ideal.Frame
public import proofs.«01_k».proof.Proof.Spec
public import Idealize.ShloMosaic.Lib.Pointwise
public import Idealize.ShloMosaic.Lib.StableHlo.ReadAt

@[expose] public section

set_option maxRecDepth 16384

noncomputable section

namespace Cert.Kernel3Ideal.Host

open Cert.Upsample Cert.Kernel3Ideal Cert.Kernel3Ideal.Gen Idealize.ShloMosaic Idealize.ShloMosaic.StableHlo

set_option maxHeartbeats 4000000 in
/-- The sixteen matrices the region reads are the four phases' stencils. -/
theorem weights (m : (ℓ : Loc nD τ sig) → Buf (Elt Ideal) ℓ) (c : Dev nD) (p q a b : Fin 2) (k : Fin 128) (o : Fin 128) :
    (V m c main_v176 : Vec Ideal S16x128x128 .f32) (ix3 ⟨8 * p + 4 * q + 2 * a + b, by omega⟩ k o)
      = phase (O := 128) (C := 128) (m ((c.tc : Thread nD τ).loc main_arg1)) p q a b k o := by
  obtain ⟨t00, t01, t10, t11⟩ := taps_eq
  have h12 : (1 : Fin 3) ≠ 2 := by decide
  have h01 : (0 : Fin 3) ≠ 1 := by decide
  show (after hostOps0 (fun b => m (c, b)) (Proc.devRef .tc main_v176) : Vec Ideal S16x128x128 .f32) _ = _
  after_reads_simp
  clean_types
  fin_cases p <;> fin_cases q <;> fin_cases a <;> fin_cases b
  all_goals
    pointwise
    after_reads_simp
    clean_types
    pointwise
    simp only [phase, Fin.zero_eta, Fin.mk_one, t00, t01, t10, t11, Finset.sum_singleton, Finset.sum_pair h12, Finset.sum_pair h01]
    try abel

/-- The bias the region reads is the argument, as one row. -/
theorem bias (m : (ℓ : Loc nD τ sig) → Buf (Elt Ideal) ℓ) (c : Dev nD) (o : Fin 128) :
    (V m c main_v177 : Vec Ideal S1x128 .f32) (ix2 0 o) = (m ((c.tc : Thread nD τ).loc main_arg2) : Vec Ideal S128 .f32) (ix1 o) := by
  show (after hostOps0 (fun b => m (c, b)) (Proc.devRef .tc main_v177) : Vec Ideal S1x128 .f32) _ = _
  after_reads_simp
  clean_types
  pointwise

end Cert.Kernel3Ideal.Host

end
-- ==== Proof.Region3.lean ====
/- What the kernel call leaves in its result array. -/
module

public import proofs.«01_k».proof.Proof.Block3
public import proofs.«01_k».proof.Proof.Host3
public import Idealize.ShloMosaic.Lib.Pipeline.Value
public import Idealize.ShloMosaic.Lib.Pipeline.ValueKit.Point

@[expose] public section

set_option maxRecDepth 16384

noncomputable section

namespace Cert.Kernel3Ideal.Region

open Cert.Upsample Cert.Kernel3Ideal Cert.Kernel3Ideal.Gen Cert.Kernel3Ideal.Block Idealize.ShloMosaic
open Idealize.ShloMosaic.Pipeline (Dat)

variable (m : (ℓ : Loc nD τ sig) → Buf (Elt Ideal) ℓ) (c : Dev nD)

/-- The window on the row above the block `t % 2` of image `t / 2`. -/
theorem idx_top : ∀ t : Fin grid0.N, win0_0.index t 0 = t.val / 2 ∧ win0_0.index t 1 = 28 * (t.val % 2) - 1
    ∧ win0_0.index t 2 = 0 ∧ win0_0.index t 3 = 0 := by decide +kernel
/-- The window on the block's own rows. -/
theorem idx_main : ∀ t : Fin grid0.N, win0_1.index t 0 = t.val / 2 ∧ win0_1.index t 1 = t.val % 2
    ∧ win0_1.index t 2 = 0 ∧ win0_1.index t 3 = 0 := by decide +kernel
/-- The window on the row below the block. -/
theorem idx_bottom : ∀ t : Fin grid0.N, win0_2.index t 0 = t.val / 2 ∧ win0_2.index t 1 = min (28 * (t.val % 2) + 28) 55
    ∧ win0_2.index t 2 = 0 ∧ win0_2.index t 3 = 0 := by decide +kernel
/-- The window on the weights is the whole array. -/
theorem idx_weights : ∀ t : Fin grid0.N, win0_3.index t 0 = 0 ∧ win0_3.index t 1 = 0 ∧ win0_3.index t 2 = 0 := by decide +kernel
/-- The window on the bias is the whole array. -/
theorem idx_bias : ∀ t : Fin grid0.N, win0_4.index t 0 = 0 ∧ win0_4.index t 1 = 0 := by decide +kernel
/-- The window on the result: row block `t % 2` of image `t / 2`. -/
theorem idx_out : ∀ t : Fin grid0.N, win0_5.index t 0 = t.val / 2 ∧ win0_5.index t 1 = t.val % 2
    ∧ win0_5.index t 2 = 0 ∧ win0_5.index t 3 = 0 ∧ win0_5.index t 4 = 0 := by decide +kernel
/-- The second grid coordinate is the row block. -/
theorem coord : ∀ t : Fin grid0.N, (grid0.coords t 1).val = t.val % 2 := by decide +kernel

/-- The image a grid point works on, and the row block it makes. -/
def img (t : Fin cfg0.N) : Fin 8 := ⟨t.val / 2, by have h : t.val < 16 := t.isLt; omega⟩

/-- The row above the block. -/
theorem top_apply (t : Fin cfg0.N) (v : Fin 56) (k : Fin 128) :
    (iblk m c 0 t : Vec Ideal S1x1x56x128 .f32) (ix4 0 0 v k)
      = (m ((c.tc : Thread nD τ).loc main_arg0) : Vec Ideal S8x56x56x128 .f32)
          (ix4 (img t) ⟨28 * (t.val % 2) - 1, by omega⟩ v k) := by
  rw [← V_main_arg0 m c]
  blk_ext [iblk, idx_top t, img]

/-- The block's rows. -/
theorem main_apply (t : Fin cfg0.N) (r : Fin 28) (v : Fin 56) (k : Fin 128) :
    (iblk m c 1 t : Vec Ideal S1x28x56x128 .f32) (ix4 0 r v k)
      = (m ((c.tc : Thread nD τ).loc main_arg0) : Vec Ideal S8x56x56x128 .f32)
          (ix4 (img t) ⟨28 * (t.val % 2) + r, by omega⟩ v k) := by
  rw [← V_main_arg0 m c]
  blk_ext [iblk, idx_main t, img]

/-- The row below the block. -/
theorem bottom_apply (t : Fin cfg0.N) (v : Fin 56) (k : Fin 128) :
    (iblk m c 2 t : Vec Ideal S1x1x56x128 .f32) (ix4 0 0 v k)
      = (m ((c.tc : Thread nD τ).loc main_arg0) : Vec Ideal S8x56x56x128 .f32)
          (ix4 (img t) ⟨min (28 * (t.val % 2) + 28) 55, by omega⟩ v k) := by
  rw [← V_main_arg0 m c]
  blk_ext [iblk, idx_bottom t, img]

/-- The weights' block is the whole array of weights. -/
theorem weights_apply (t : Fin cfg0.N) : (iblk m c 3 t : Vec Ideal S16x128x128 .f32) = V m c main_v176 := by
  funext y
  blk_ext [iblk, idx_weights t]

/-- The bias's block is the whole bias. -/
theorem bias_apply (t : Fin cfg0.N) : (iblk m c 4 t : Vec Ideal S1x128 .f32) = V m c main_v177 := by
  funext y
  blk_ext [iblk, idx_bias t]

/-- The block with its halo is the bordered image from the block's first row on. -/
theorem halo_eq (t : Fin cfg0.N) (r v : ℕ) (k : Fin 128) (hr : r ≤ 29) :
    halo (W := 56) (C := 128) (B := 28) 2 (grid0.coords t 1).val (iblk m c 0 t) (iblk m c 2 t) (iblk m c 1 t) r v k
      = edge (N := 8) (H := 56) (W := 56) (C := 128) (m ((c.tc : Thread nD τ).loc main_arg0)) (img t)
          (28 * (t.val % 2) + r) v k := by
  have hc := coord t
  rw [hc]
  exact halo_eq_edge (by omega) (by omega) (by omega) (by omega) (by omega) (fun v k h => top_apply m c t v k)
    (fun r v k h => main_apply m c t r v k) (fun v k h => bottom_apply m c t v k) r v k hr

/-- What the result array holds: every pixel of every image, two rows and two columns to a row pair and a lane pair. -/
def image : Vec Ideal S8x56x2x56x256 .bf16 := fun y =>
  upAt (edge (N := 8) (H := 56) (W := 56) (C := 128) (m ((c.tc : Thread nD τ).loc main_arg0)) ⟨(y 0).val, (y 0).isLt⟩)
    (V m c main_v176) (V m c main_v177) (y 1) (y 3) ⟨(y 2).val, (y 2).isLt⟩
    ⟨(y 4).val / 128, by have h : (y 4).val < 256 := (y 4).isLt; omega⟩ ⟨(y 4).val % 128, by omega⟩

/-- After the run the result array holds that. -/
theorem final : (dats m 0 c).arrAt 5 cfg0.N = image m c := by
  refine (dats m 0 c).arrAt_eq_of_covers 5 (image m c) (by decide +kernel) fun t _ y => ?_
  blk_simp
  rw [after0_5, out_apply]
  have y0 : (y 0).val < 1 := (y 0).isLt
  have y1 : (y 1).val < 28 := (y 1).isLt
  have e0 : (((win0_5.blk t).view.emb y) 0).val = t.val / 2 := by blk_simp [idx_out t] <;> try omega
  have e1 : (((win0_5.blk t).view.emb y) 1).val = 28 * (t.val % 2) + (y 1).val := by blk_simp [idx_out t] <;> try omega
  have e2 : (((win0_5.blk t).view.emb y) 2).val = (y 2).val := by blk_simp [idx_out t] <;> try omega
  have e3 : (((win0_5.blk t).view.emb y) 3).val = (y 3).val := by blk_simp [idx_out t] <;> try omega
  have e4 : (((win0_5.blk t).view.emb y) 4).val = (y 4).val := by blk_simp [idx_out t] <;> try omega
  unfold block image
  rw [weights_apply, bias_apply]
  simp only [e0, e1, e2, e3, e4]
  exact upAt_congr (fun a v k ha => (halo_eq m c t ((y 1).val + a) v k (by omega)).trans (by rw [Nat.add_assoc]; rfl)) _ _ _ _ _

end Cert.Kernel3Ideal.Region

end
-- ==== Proof.Ref3.lean ====
/- What the reference computes: at each pixel, nine taps of the upsampled image. -/
module

public import proofs.«01_k».proof.Proof.Gen.Reference3Ideal.Run
public import proofs.«01_k».proof.Proof.Spec
public import Idealize.ShloMosaic.Lib.Pointwise

@[expose] public section

set_option maxRecDepth 16384

noncomputable section

namespace Cert.Reference3Ideal.Layer

open Cert.Upsample Cert.Reference3Ideal Cert.Reference3Ideal.Gen Idealize.ShloMosaic

variable {F : FTy → Type} [FloatOps F]

/-- The upsampled image inside its border of zeros. -/
def padded (g : (⟨S8x56x56x128, .f32⟩ : BufTy).Contents (Elt F)) : (⟨S8x114x114x128, .f32⟩ : BufTy).Contents (Elt F) :=
  pad S8x114x114x128 ![0, 1, 1, 0] ![0, 1, 1, 0] ![0, 0, 0, 0] (shapeCast _ (broadcastInDim S8x112x56x2x128 ![0, 1, 2, 4] bcast_S8x112x56x128_S8x112x56x2x128_0_1_2_4 (shapeCast _ (broadcastInDim S8x56x2x56x128 ![0, 1, 3, 4] bcast_S8x56x56x128_S8x56x2x56x128_0_1_3_4 g) shapeCasts_S8x56x2x56x128_S8x112x56x128)) shapeCasts_S8x112x56x2x128_S8x112x112x128) (sitofp .f32 (constantI S_ 32 0#32)) pads_S8x112x112x128_S8x114x114x128_000_110_110_000 h_S_

/-- The nine shifted images side by side. -/
def cat (P : (⟨S8x114x114x128, .f32⟩ : BufTy).Contents (Elt F)) : (⟨S8x112x112x1152, .f32⟩ : BufTy).Contents (Elt F) :=
  (concatenate S8x112x112x1152 3 [⟨S8x112x112x128, ((extractStridedSlice S8x112x112x128 ![0, 0, 0, 0] P slices_S8x114x114x128_S8x112x112x128_0_0_0_0) : (⟨S8x112x112x128, .f32⟩ : BufTy).Contents (Elt F))⟩, ⟨S8x112x112x128, ((extractStridedSlice S8x112x112x128 ![0, 0, 1, 0] P slices_S8x114x114x128_S8x112x112x128_0_0_1_0) : (⟨S8x112x112x128, .f32⟩ : BufTy).Contents (Elt F))⟩, ⟨S8x112x112x128, ((extractStridedSlice S8x112x112x128 ![0, 0, 2, 0] P slices_S8x114x114x128_S8x112x112x128_0_0_2_0) : (⟨S8x112x112x128, .f32⟩ : BufTy).Contents (Elt F))⟩, ⟨S8x112x112x128, ((extractStridedSlice S8x112x112x128 ![0, 1, 0, 0] P slices_S8x114x114x128_S8x112x112x128_0_1_0_0) : (⟨S8x112x112x128, .f32⟩ : BufTy).Contents (Elt F))⟩, ⟨S8x112x112x128, ((extractStridedSlice S8x112x112x128 ![0, 1, 1, 0] P slices_S8x114x114x128_S8x112x112x128_0_1_1_0) : (⟨S8x112x112x128, .f32⟩ : BufTy).Contents (Elt F))⟩, ⟨S8x112x112x128, ((extractStridedSlice S8x112x112x128 ![0, 1, 2, 0] P slices_S8x114x114x128_S8x112x112x128_0_1_2_0) : (⟨S8x112x112x128, .f32⟩ : BufTy).Contents (Elt F))⟩, ⟨S8x112x112x128, ((extractStridedSlice S8x112x112x128 ![0, 2, 0, 0] P slices_S8x114x114x128_S8x112x112x128_0_2_0_0) : (⟨S8x112x112x128, .f32⟩ : BufTy).Contents (Elt F))⟩, ⟨S8x112x112x128, ((extractStridedSlice S8x112x112x128 ![0, 2, 1, 0] P slices_S8x114x114x128_S8x112x112x128_0_2_1_0) : (⟨S8x112x112x128, .f32⟩ : BufTy).Contents (Elt F))⟩, ⟨S8x112x112x128, ((extractStridedSlice S8x112x112x128 ![0, 2, 2, 0] P slices_S8x114x114x128_S8x112x112x128_0_2_2_0) : (⟨S8x112x112x128, .f32⟩ : BufTy).Contents (Elt F))⟩] concatenates_S8x112x112x128_S8x112x112x128_S8x112x112x128_S8x112x112x128_S8x112x112x128_S8x112x112x128_S8x112x112x128_S8x112x112x128_S8x112x112x128_S8x112x112x1152_d3 : (⟨S8x112x112x1152, .f32⟩ : BufTy).Contents (Elt F))

/-- The convolution over the nine images, with its bias and its cut at zero. -/
def conv (K : (⟨S8x112x112x1152, .f32⟩ : BufTy).Contents (Elt F)) (w : (⟨S128x128x3x3, .f32⟩ : BufTy).Contents (Elt F))
    (b : (⟨S128, .f32⟩ : BufTy).Contents (Elt F)) : (⟨S8x112x112x128, .bf16⟩ : BufTy).Contents (Elt F) :=
  truncf .bf16 (shapeCast _ (maximumf (addf (Host.dotGeneral dot_S8x12544x1152_S1152x128_S8x12544x128_2_0_01_1_n_n none (shapeCast _ K shapeCasts_S8x112x112x1152_S8x12544x1152) (shapeCast _ (transpose S3x3x128x128 [2, 3, 1, 0] w transposes_S128x128x3x3_S3x3x128x128_2_3_1_0) shapeCasts_S3x3x128x128_S1152x128)) (broadcastInDim S8x12544x128 ![0, 1, 2] bcast_S1x1x128_S8x12544x128_0_1_2 (broadcastInDim S1x1x128 ![2] bcast_S128_S1x1x128_2 b))) (broadcastInDim S8x12544x128 ![] bcast_S_S8x12544x128 (constant S_ .f32 0x00000000#32))) shapeCasts_S8x12544x128_S8x112x112x128) bitsLt_bf16_f32

/-- The reference's result is those three in turn. -/
theorem res_eq (m : (ℓ : Loc nD τ sig) → Buf (Elt F) ℓ) (c : Dev nD) :
    Value.res_main_v24 m c = conv (cat (padded (m ((c.tc : Thread nD τ).loc main_arg0))))
      (m ((c.tc : Thread nD τ).loc main_arg1)) (m ((c.tc : Thread nD τ).loc main_arg2)) := rfl

/-- The padded image, read at a pixel: the input's pixel at half the position. -/
theorem padded_apply (g : (⟨S8x56x56x128, .f32⟩ : BufTy).Contents (Elt Ideal)) (n : Fin 8) (r c : Fin 114) (k : Fin 128) :
    padded g (ix4 n r c k) = edge (N := 8) (H := 56) (W := 56) (C := 128) g n ((r + 1) / 2) ((c + 1) / 2) k := by
  have hr := r.isLt
  have hc := c.isLt
  have hz : (FloatOps.sitofp (F := Ideal) FTy.f32 0#32 : EReal) = 0 := by
    show (((0#32 : BitVec 32).toInt : ℝ) : EReal) = 0
    simp
  pointwise [padded]
  rw [hz]
  unfold edge
  by_cases h : (1 ≤ r.val ∧ r.val - 1 < 112) ∧ 1 ≤ c.val ∧ c.val - 1 < 112
  · rw [dif_pos h, dif_pos (by omega)]
    congr 2 <;> (ext; simp; omega)
  · rw [dif_neg h, dif_neg (by omega)]

/-- The nine images, read in the `t`-th: the padded image shifted by `t / 3` rows and `t % 3` columns. -/
theorem cat_apply (P : (⟨S8x114x114x128, .f32⟩ : BufTy).Contents (Elt Ideal)) (n : Fin 8) (i j : Fin 112) (t : Fin 9) (k : Fin 128) :
    cat P (ix4 n i j ⟨t.val * 128 + k.val, by omega⟩) = P (ix4 n ⟨i + t / 3, by omega⟩ ⟨j + t % 3, by omega⟩ k) := by
  have ht := t.isLt
  have hk := k.isLt
  have hi := i.isLt
  have hj := j.isLt
  have hP : ∀ (a a' b b' x x' : ℕ) (ha hb hx ha' hb' hx'), a = a' → b = b' → x = x' →
      P (ix4 n ⟨a, ha⟩ ⟨b, hb⟩ ⟨x, hx⟩) = P (ix4 n ⟨a', ha'⟩ ⟨b', hb'⟩ ⟨x', hx'⟩) := by
    intro a a' b b' x x' _ _ _ _ _ _ h h' h''
    subst h h' h''
    rfl
  pointwise [cat]
  split_ifs <;> exact hP _ _ _ _ _ _ _ _ _ _ _ _ (by omega) (by omega) (by omega)

/-- The convolution at a pixel: one sum over the nine images' channels. -/
theorem conv_apply (K : (⟨S8x112x112x1152, .f32⟩ : BufTy).Contents (Elt Ideal)) (w : (⟨S128x128x3x3, .f32⟩ : BufTy).Contents (Elt Ideal))
    (b : (⟨S128, .f32⟩ : BufTy).Contents (Elt Ideal)) (n : Fin 8) (i j : Fin 112) (o : Fin 128) :
    conv K w b (ix4 n i j o) = max (∑ x : Fin 1152, K (ix4 n i j x) * w (ix4 o ⟨x % 128, by omega⟩ ⟨x / 384, by omega⟩ ⟨x / 128 % 3, by omega⟩) + b (ix1 o)) (0 : EReal) := by
  pointwise [conv]

/-- The reference's result at a pixel: nine taps of the upsampled image. -/
theorem res_apply (m : (ℓ : Loc nD τ sig) → Buf (Elt Ideal) ℓ) (c : Dev nD) (n : Fin 8) (i j : Fin 112) (o : Fin 128) :
    (Value.res_main_v24 m c : Vec Ideal S8x112x112x128 .bf16) (ix4 n i j o)
      = convAt (C := 128) (O := 128)
          (fun r v k => edge (N := 8) (H := 56) (W := 56) (C := 128) (m ((c.tc : Thread nD τ).loc main_arg0)) n ((r + 1) / 2) ((v + 1) / 2) k)
          (m ((c.tc : Thread nD τ).loc main_arg1)) (m ((c.tc : Thread nD τ).loc main_arg2)) i j o := by
  rw [res_eq, conv_apply]
  unfold convAt
  congr 2
  rw [Fin.sum_univ_tiles 9 128 rfl, Fin.sum_univ_tiles 3 3 rfl]
  refine Finset.sum_congr rfl fun d _ => Finset.sum_congr rfl fun e _ => Finset.sum_congr rfl fun k _ => ?_
  have hd := d.isLt
  have he := e.isLt
  have hk := k.isLt
  rw [cat_apply _ n i j ⟨d.val * 3 + e.val, by omega⟩ k, padded_apply]
  have h1 : (d.val * 3 + e.val) / 3 = d.val := by omega
  have h2 : (d.val * 3 + e.val) % 3 = e.val := by omega
  have h3 : ((d.val * 3 + e.val) * 128 + k.val) % 128 = k.val := by omega
  have h4 : ((d.val * 3 + e.val) * 128 + k.val) / 384 = d.val := by omega
  have h5 : ((d.val * 3 + e.val) * 128 + k.val) / 128 % 3 = e.val := by omega
  simp only [h1, h2, h3, h4, h5]

end Cert.Reference3Ideal.Layer

end
-- ==== Proof.Value3.lean ====
/- The kernel call's run, and why its result is the reference's. -/
module

public import proofs.«01_k».proof.Defs
public import proofs.«01_k».proof.Proof.Region3
public import proofs.«01_k».proof.Proof.Ref3
public import proofs.«01_k».proof.Proof.Gen.Pre_finite3
public import proofs.«01_k».proof.Proof.Finite
public import Idealize.ShloMosaic.Lib.ReduceAll
public import Idealize.ShloMosaic.Lib.StableHlo.ReadAt

@[expose] public section

set_option maxRecDepth 16384

noncomputable section

namespace Cert.Kernel3Ideal.Result

open Cert.Upsample Cert.Kernel3Ideal Cert.Kernel3Ideal.Gen Idealize.ShloMosaic Idealize.SL.Sem
open Idealize.ShloMosaic.Pipeline (Dat)

variable (m : (ℓ : Loc nD τ sig) → Buf (Elt Ideal) ℓ) (c : Dev nD)

/-- What the program leaves in its result: the region's array, its row pairs and lane pairs opened. -/
def result : Vec Ideal S8x112x112x128 .bf16 :=
  StableHlo.after hostOps1 (Pipeline.withArrays spec0 c (V0 m c) fun w => (dats m 0 c).arrAt w cfg0.N) (Proc.devRef .tc main_v179)

/-- The result at a pixel. -/
theorem result_apply (n : Fin 8) (i j : Fin 112) (o : Fin 128) :
    result m c (ix4 n i j o)
      = Region.image m c (ix5 n ⟨i / 2, by omega⟩ ⟨i % 2, by omega⟩ ⟨j / 2, by omega⟩ ⟨j % 2 * 128 + o, by omega⟩) := by
  have hr : (Pipeline.withArrays spec0 c (V0 m c) (fun w => (dats m 0 c).arrAt w cfg0.N) (Proc.devRef .tc main_v178)
      : Vec Ideal S8x56x2x56x256 .bf16) = Region.image m c :=
    ((dats m 0 c).withArrays_arrAt (by decide) (V0 m c) (A_eq m c) 5).trans (Region.final m c)
  rw [← hr]
  unfold result
  show (StableHlo.after hostOps1 (Pipeline.withArrays spec0 c (V0 m c) fun w => (dats m 0 c).arrAt w cfg0.N) (Proc.devRef .tc main_v179)
    : Vec Ideal S8x112x112x128 .bf16) _ = _
  after_reads_simp
  clean_types
  pointwise

/-- The run: the result ends at that, the arguments as launched. -/
theorem run (ρ : Dev nD → PrngReg) : θ_run defs (onTc (τ := τ) (main (F := Ideal))) ⟨m, fun _ => 0, ρ⟩ (fun r => ∀ c : Dev nD,
    r.2.mem ((c.tc : Thread nD τ).loc main_v179) = result m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c => ⟨(h.1 c).2 main_v179 (Pipeline.mem_restRefs_of main_v179 (by decide) (by decide)), h.2 c⟩)
    (θ_run_and (run_main m ρ) (unchanged m ρ))

/-- On real images and weights the result at a pixel is the convolution of the upsampled image. -/
theorem result_conv (hx : Real (s := S8x56x56x128) (m ((c.tc : Thread nD τ).loc main_arg0)))
    (hw : Real (s := S128x128x3x3) (m ((c.tc : Thread nD τ).loc main_arg1))) (n : Fin 8) (i j : Fin 112) (o : Fin 128) :
    result m c (ix4 n i j o)
      = convAt (C := 128) (O := 128)
          (fun r v k => edge (N := 8) (H := 56) (W := 56) (C := 128) (m ((c.tc : Thread nD τ).loc main_arg0)) n ((r + 1) / 2) ((v + 1) / 2) k)
          (m ((c.tc : Thread nD τ).loc main_arg1)) (m ((c.tc : Thread nD τ).loc main_arg2)) i j o := by
  have ho := o.isLt
  have h1 : (j.val % 2 * 128 + o.val) / 128 = j.val % 2 := by omega
  have h2 : (j.val % 2 * 128 + o.val) % 128 = o.val := by omega
  have h3 : 2 * (i.val / 2) + i.val % 2 = i.val := by omega
  have h4 : 2 * (j.val / 2) + j.val % 2 = j.val := by omega
  have key := upAt_eq_convAt (edge_real (N := 8) (H := 56) (W := 56) (C := 128) hx n) hw (W := V m c main_v176)
    (b' := V m c main_v177) (b := m ((c.tc : Thread nD τ).loc main_arg2)) o
    (fun p q a b k => Host.weights m c p q a b k o) (Host.bias m c o) (i / 2) (j / 2) ⟨i % 2, by omega⟩ ⟨j % 2, by omega⟩
  simp only [h3, h4] at key
  rw [result_apply, ← key]
  show upAt _ _ _ _ _ _ ⟨(j.val % 2 * 128 + o.val) / 128, _⟩ ⟨(j.val % 2 * 128 + o.val) % 128, _⟩ = _
  simp only [h1, h2]
  rfl

end Cert.Kernel3Ideal.Result

namespace Cert.Pre_finite3

open Cert.Upsample Idealize.ShloMosaic

/-- The predicate says that the first two arrays hold real numbers. -/
theorem real_of_fn [Facts] (x : FVec Ideal S8x56x56x128 .f32) (w : FVec Ideal S128x128x3x3 .f32) (b : FVec Ideal S128 .f32)
    (h : fn (F := Ideal) x w b = fun _ => 1#1) : Real x ∧ Real w := by
  have h0 := congrFun h ix0
  unfold fn at h0
  obtain ⟨h1, h2⟩ := IntOp.andi_eq_one.mp h0
  haveI : Subsingleton S_.Idx := ⟨fun a b => funext fun i => i.elim0⟩
  exact ⟨real_of_all inf_f32 fun i => Host.reduce_andi_all _ _ _ _ _ h1 i,
    real_of_all inf_f32 fun i => Host.reduce_andi_all _ _ _ _ _ h2 i⟩

end Cert.Pre_finite3

namespace Cert.Kernel3Ideal.Result

open Cert.Upsample Cert.Kernel3Ideal Cert.Kernel3Ideal.Gen Idealize.ShloMosaic Idealize.SL.Sem

/-- From finite images and weights the kernel call and its reference end with the same result. -/
theorem algebraic : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m g m' g' hp hm
  refine ⟨fun c => result m c, run m g, (θ_run _ _ _).mono (fun _ h c => ⟨?_, (h c).2⟩) (Cert.Reference3Ideal.Value.run m' g')⟩
  rw [(h c).1]
  obtain ⟨hx, hw⟩ := Cert.Pre_finite3.real_of_fn _ _ _ (hp c)
  obtain ⟨e0, e1, e2⟩ := hm c
  funext y
  obtain ⟨n, i, j, o, rfl⟩ : ∃ n i j o, y = ix4 n i j o := ⟨y 0, y 1, y 2, y 3, by funext a; fin_cases a <;> rfl⟩
  refine (Cert.Reference3Ideal.Layer.res_apply m' c n i j o).trans (Eq.trans ?_ (result_conv m c hx hw n i j o).symm)
  rw [e0, e1, e2]

end Cert.Kernel3Ideal.Result

end
-- ==== Proof.Block4.lean ====
/- What one block of the last convolution computes: its pixels, and the sum of its squared distances. -/
module

public import proofs.«01_k».proof.Proof.Gen.Kernel4Ideal.Skeleton
public import proofs.«01_k».proof.Proof.Gen.Kernel4Ideal.Frame
public import proofs.«01_k».proof.Proof.Spec
public import Idealize.ShloMosaic.Lib.Pointwise

@[expose] public section

set_option maxRecDepth 16384

noncomputable section

namespace Cert.Kernel4Ideal.Block

open Cert.Upsample Cert.Kernel4Ideal Cert.Kernel4Ideal.Gen Idealize.ShloMosaic

/-- The haloed block the kernel builds, read at an index. -/
theorem pay4_apply (i : grid0.Coords) (v1 v6 : Vec Ideal S1x1x224x64 .bf16) (v10 : Vec Ideal S1x32x224x64 .bf16)
    (r : Fin 34) (c : Fin 226) (k : Fin 64) :
    k0_pay4 i v1 v6 v10 (ix3 r c k) = halo (W := 224) (C := 64) (B := 32) 7 (i 1).val v1 v6 v10 r c k := by
  have hi : (i 1).val < 7 := (i 1).isLt
  have hr := r.isLt
  have hc := c.isLt
  have e0 : ∀ x : EReal, Scalar.select (Scalar.cmpi CmpIPredicate.sgt (BitVec.ofNat 32 (i 1).val) 0#32) x 0
      = if 0 < (i 1).val then x else 0 := by
    intro x
    generalize (i 1).val = a at hi
    interval_cases a <;> rfl
  have e3 : ∀ x : EReal, Scalar.select (Scalar.cmpi CmpIPredicate.slt (BitVec.ofNat 32 (i 1).val) 6#32) x 0
      = if (i 1).val < 7 - 1 then x else 0 := by
    intro x
    generalize (i 1).val = a at hi
    interval_cases a <;> rfl
  pointwise [k0_pay4]
  simp only [e0, e3]
  exact halo_of_cases 7 (i 1).val v1 v6 v10 r.val c.val k

/-- A whole-block load of a neighbouring row is that row. -/
theorem ld_top (x : Vec Ideal S1x1x224x64 .bf16) : View.ld x r0_0 = x := by
  funext y
  idx_vars y
  obtain rfl : y0 = 0 := Subsingleton.elim _ _
  obtain rfl : y1 = 0 := Subsingleton.elim _ _
  pointwise []

/-- A whole-block load of the block is the block. -/
theorem ld_main (x : Vec Ideal S1x32x224x64 .bf16) : View.ld x r0_1 = x := by
  funext y
  idx_vars y
  obtain rfl : y0 = 0 := Subsingleton.elim _ _
  pointwise []

/-- The block's pixels before they are stored are nine taps of the haloed block. -/
theorem pixels_apply (i : grid0.Coords) (x0 x2 : Vec Ideal S1x1x224x64 .bf16) (x1 : Vec Ideal S1x32x224x64 .bf16)
    (x3 : Vec Ideal S9x64x8 .f32) (x4 : Vec Ideal S1x8 .f32) (x5 : Vec Ideal S1x3x32x224 .f32) (o : Fin 3) (r : Fin 32) (v : Fin 224) :
    k0_pay1 (k0_pay10 i x0 x1 x2 x3 x4 x5) (k0_pay11 i x0 x1 x2 x3 x4 x5) (View.ld x3 r0_10) (View.ld x4 r0_11) (ix3 o r v)
      = nineAt (halo (W := 224) (C := 64) (B := 32) 7 (i 1).val x0 x2 x1) x3 x4 r.val v.val ⟨o.val, by omega⟩ := by
  have ho := o.isLt
  have hr := r.isLt
  have hv := v.isLt
  pointwise [k0_pay1, k0_pay5, k0_pay6, k0_pay7, k0_pay8, k0_pay9, k0_pay10, k0_pay11]
  simp only [pay4_apply, ld_top, ld_main]
  generalize halo (W := 224) (C := 64) (B := 32) 7 (i 1).val x0 x2 x1 = X
  simp only [nineAt, Fin.sum_univ_three]
  simp [Nat.add_comm, add_assoc]

/-- The block the kernel leaves of the image. -/
def block (i : grid0.Coords) (x0 x2 : Vec Ideal S1x1x224x64 .bf16) (x1 : Vec Ideal S1x32x224x64 .bf16)
    (x3 : Vec Ideal S9x64x8 .f32) (x4 : Vec Ideal S1x8 .f32) : Vec Ideal S1x3x32x224 .f32 := fun y =>
  nineAt (halo (W := 224) (C := 64) (B := 32) 7 (i 1).val x0 x2 x1) x3 x4 (y 2).val (y 3).val
    ⟨(y 1).val, Nat.lt_of_lt_of_le (y 1).isLt (by decide)⟩

/-- The image block is that, at every index. -/
theorem out_apply (i : grid0.Coords) (x0 x2 : Vec Ideal S1x1x224x64 .bf16) (x1 : Vec Ideal S1x32x224x64 .bf16)
    (x3 : Vec Ideal S9x64x8 .f32) (x4 : Vec Ideal S1x8 .f32) (x5 : Vec Ideal S1x3x32x224 .f32) (y : S1x3x32x224.Idx) :
    out0_6 i x0 x1 x2 x3 x4 x5 y = block i x0 x2 x1 x3 x4 y := by
  unfold out0_6
  refine View.canon_apply_of_pieces (block i x0 x2 x1 x3 x4) _ ?_ y (cover0_6 _ y)
  intro p hp z
  simp only [List.mem_cons, List.not_mem_nil, or_false] at hp
  subst hp
  idx_vars z
  obtain rfl : z0 = 0 := Subsingleton.elim _ _
  pointwise [k0_pay2]
  rw [pixels_apply]
  have g1 : ((r0_12.emb (ix4 0 z1 z2 z3)) 1).val = z1.val := by simp [Rect.emb_apply, r0_12]
  have g2 : ((r0_12.emb (ix4 0 z1 z2 z3)) 2).val = z2.val := by simp [Rect.emb_apply, r0_12]
  have g3 : ((r0_12.emb (ix4 0 z1 z2 z3)) 3).val = z3.val := by simp [Rect.emb_apply, r0_12]
  simp only [block, g1, g2, g3]

/-- The sum of a block's squared distances to the block `x` it is to reproduce. -/
def squares (B x : Vec Ideal S1x3x32x224 .f32) : EReal := ∑ y : S1x3x32x224.Idx, (B y - x y) * (B y - x y)

/-- The second output as the kernel leaves it: the same sum at every entry. -/
def sums (B x : Vec Ideal S1x3x32x224 .f32) : Vec Ideal S1x1x8x128 .f32 := fun _ => squares B x

/-- A whole-block load of the block to reproduce is that block. -/
theorem ld_target (x : Vec Ideal S1x3x32x224 .f32) : View.ld x r0_12 = x := by
  funext y
  idx_vars y
  obtain rfl : y0 = 0 := Subsingleton.elim _ _
  pointwise []

/-- Every entry of the block's second output is that sum. -/
theorem loss_apply (i : grid0.Coords) (x0 x2 : Vec Ideal S1x1x224x64 .bf16) (x1 : Vec Ideal S1x32x224x64 .bf16)
    (x3 : Vec Ideal S9x64x8 .f32) (x4 : Vec Ideal S1x8 .f32) (x5 : Vec Ideal S1x3x32x224 .f32) (y : S1x1x8x128.Idx) :
    out0_7 i x0 x1 x2 x3 x4 x5 y = sums (block i x0 x2 x1 x3 x4) x5 y := by
  unfold out0_7
  refine View.canon_apply_of_pieces (sums (block i x0 x2 x1 x3 x4) x5) _ ?_ y (cover0_7 _ y)
  intro p hp z
  simp only [List.mem_cons, List.not_mem_nil, or_false] at hp
  subst hp
  have hp := pixels_apply i x0 x2 x1 x3 x4 x5
  rw [ld_target]
  have hs : ∀ (A : Vec Ideal S1x3x32x224 .f32) (h : S1x3x32x224.Reduces [1, 2, 3] S1) j,
      multiReduction (F := Ideal) (φ := .f32) .add [1, 2, 3] S1 A 0x00000000#32 h (.inl rfl) rfl j = ∑ y : S1x3x32x224.Idx, A y :=
    fun A h j => Ideal.multiReduction_add_total A _ h (by decide) _ rfl j
  have hb : (block i x0 x2 x1 x3 x4 : Vec Ideal S1x3x32x224 .f32) = shapeCast S1x3x32x224
      (k0_pay1 (k0_pay10 i x0 x1 x2 x3 x4 x5) (k0_pay11 i x0 x1 x2 x3 x4 x5) (View.ld x3 r0_10) (View.ld x4 r0_11)) shapeCasts_S3x32x224_S1x3x32x224 := by
    funext y
    idx_vars y
    obtain rfl : y0 = 0 := Subsingleton.elim _ _
    pointwise []
    rw [hp]
    rfl
  rw [hb]
  unfold k0_pay3
  generalize k0_pay1 (k0_pay10 i x0 x1 x2 x3 x4 x5) (k0_pay11 i x0 x1 x2 x3 x4 x5) (View.ld x3 r0_10) (View.ld x4 r0_11) = Q
  refine (hs _ reduces_S1x3x32x224_S1 _).trans ?_
  unfold sums squares
  refine Finset.sum_congr rfl fun y _ => ?_
  idx_vars y
  obtain rfl : y0 = 0 := Subsingleton.elim _ _
  pointwise []

end Cert.Kernel4Ideal.Block

end
-- ==== Proof.Host4.lean ====
/- What the program does to its weights before the last convolution: three channels of output padded to eight. -/
module

public import proofs.«01_k».proof.Proof.Gen.Kernel4Ideal.Frame
public import proofs.«01_k».proof.Proof.Spec
public import Idealize.ShloMosaic.Lib.Pointwise
public import Idealize.ShloMosaic.Lib.StableHlo.ReadAt

@[expose] public section

set_option maxRecDepth 16384

noncomputable section

namespace Cert.Kernel4Ideal.Host

open Cert.Upsample Cert.Kernel4Ideal Cert.Kernel4Ideal.Gen Idealize.ShloMosaic Idealize.ShloMosaic.StableHlo

set_option maxHeartbeats 4000000 in
/-- The nine matrices the region reads are the nine taps, in their first three columns. -/
theorem weights (m : (ℓ : Loc nD τ sig) → Buf (Elt Ideal) ℓ) (c : Dev nD) (d e : Fin 3) (k : Fin 64) (o : Fin 3) :
    (V m c main_v37 : Vec Ideal S9x64x8 .f32) (ix3 ⟨3 * d + e, by omega⟩ k ⟨o.val, by omega⟩)
      = (m ((c.tc : Thread nD τ).loc main_arg1) : Vec Ideal S3x64x3x3 .f32) (ix4 o k d e) := by
  have ho := o.isLt
  show (after (List.flatten [hostOps0, hostOps0_1, hostOps0_2, hostOps0_3, hostOps0_4]) (fun b => m (c, b)) (Proc.devRef .tc main_v37) : Vec Ideal S9x64x8 .f32) _ = _
  after_reads_simp
  clean_types
  fin_cases d <;> fin_cases e
  all_goals
    pointwise
    after_reads_simp
    simp only [TRef.toBuf, TRef.ofBuf, cast_eq]
    clean_types
    pointwise

/-- The bias the region reads is the argument, as one row, in its first three columns. -/
theorem bias (m : (ℓ : Loc nD τ sig) → Buf (Elt Ideal) ℓ) (c : Dev nD) (o : Fin 3) :
    (V m c main_v39 : Vec Ideal S1x8 .f32) (ix2 0 ⟨o.val, by omega⟩) = (m ((c.tc : Thread nD τ).loc main_arg2) : Vec Ideal S3 .f32) (ix1 o) := by
  have ho := o.isLt
  show (after (List.flatten [hostOps0, hostOps0_1, hostOps0_2, hostOps0_3, hostOps0_4]) (fun b => m (c, b)) (Proc.devRef .tc main_v39) : Vec Ideal S1x8 .f32) _ = _
  after_reads_simp
  simp only [TRef.toBuf, TRef.ofBuf, cast_eq]
  clean_types
  pointwise

end Cert.Kernel4Ideal.Host

end
-- ==== Proof.Region4.lean ====
/- What the last convolution leaves in its two arrays: the image, and each block's sum of squared distances. -/
module

public import proofs.«01_k».proof.Proof.Block4
public import proofs.«01_k».proof.Proof.Host4
public import Idealize.ShloMosaic.Lib.Pipeline.Value
public import Idealize.ShloMosaic.Lib.Pipeline.ValueKit.Point

@[expose] public section

set_option maxRecDepth 16384

noncomputable section

namespace Cert.Kernel4Ideal.Region

open Cert.Upsample Cert.Kernel4Ideal Cert.Kernel4Ideal.Gen Cert.Kernel4Ideal.Block Idealize.ShloMosaic
open Idealize.ShloMosaic.Pipeline (Dat)

variable (m : (ℓ : Loc nD τ sig) → Buf (Elt Ideal) ℓ) (c : Dev nD)

/-- The window on the row above the block `t % 7` of image `t / 7`. -/
theorem idx_top : ∀ t : Fin grid0.N, win0_0.index t 0 = t.val / 7 ∧ win0_0.index t 1 = 32 * (t.val % 7) - 1
    ∧ win0_0.index t 2 = 0 ∧ win0_0.index t 3 = 0 := by decide +kernel
/-- The window on the block's own rows. -/
theorem idx_main : ∀ t : Fin grid0.N, win0_1.index t 0 = t.val / 7 ∧ win0_1.index t 1 = t.val % 7
    ∧ win0_1.index t 2 = 0 ∧ win0_1.index t 3 = 0 := by decide +kernel
/-- The window on the row below the block. -/
theorem idx_bottom : ∀ t : Fin grid0.N, win0_2.index t 0 = t.val / 7 ∧ win0_2.index t 1 = min (32 * (t.val % 7) + 32) 223
    ∧ win0_2.index t 2 = 0 ∧ win0_2.index t 3 = 0 := by decide +kernel
/-- The window on the weights is the whole array. -/
theorem idx_weights : ∀ t : Fin grid0.N, win0_3.index t 0 = 0 ∧ win0_3.index t 1 = 0 ∧ win0_3.index t 2 = 0 := by decide +kernel
/-- The window on the bias is the whole array. -/
theorem idx_bias : ∀ t : Fin grid0.N, win0_4.index t 0 = 0 ∧ win0_4.index t 1 = 0 := by decide +kernel
/-- The window on the image to reproduce: the same rows. -/
theorem idx_target : ∀ t : Fin grid0.N, win0_5.index t 0 = t.val / 7 ∧ win0_5.index t 1 = 0
    ∧ win0_5.index t 2 = t.val % 7 ∧ win0_5.index t 3 = 0 := by decide +kernel
/-- The window on the result: row block `t % 7` of image `t / 7`. -/
theorem idx_out : ∀ t : Fin grid0.N, win0_6.index t 0 = t.val / 7 ∧ win0_6.index t 1 = 0
    ∧ win0_6.index t 2 = t.val % 7 ∧ win0_6.index t 3 = 0 := by decide +kernel
/-- The window on the sums: entry `t % 7` of image `t / 7`. -/
theorem idx_sums : ∀ t : Fin grid0.N, win0_7.index t 0 = t.val / 7 ∧ win0_7.index t 1 = t.val % 7
    ∧ win0_7.index t 2 = 0 ∧ win0_7.index t 3 = 0 := by decide +kernel
/-- The second grid coordinate is the row block. -/
theorem coord : ∀ t : Fin grid0.N, (grid0.coords t 1).val = t.val % 7 := by decide +kernel

/-- The image a grid point works on. -/
def img (t : Fin cfg0.N) : Fin 8 := ⟨t.val / 7, by have h : t.val < 56 := t.isLt; omega⟩

/-- The row above the block. -/
theorem top_apply (t : Fin cfg0.N) (v : Fin 224) (k : Fin 64) :
    (iblk m c 0 t : Vec Ideal S1x1x224x64 .bf16) (ix4 0 0 v k)
      = (m ((c.tc : Thread nD τ).loc main_arg0) : Vec Ideal S8x224x224x64 .bf16)
          (ix4 (img t) ⟨32 * (t.val % 7) - 1, by omega⟩ v k) := by
  rw [← V_main_arg0 m c]
  blk_ext [iblk, idx_top t, img]

/-- The block's rows. -/
theorem main_apply (t : Fin cfg0.N) (r : Fin 32) (v : Fin 224) (k : Fin 64) :
    (iblk m c 1 t : Vec Ideal S1x32x224x64 .bf16) (ix4 0 r v k)
      = (m ((c.tc : Thread nD τ).loc main_arg0) : Vec Ideal S8x224x224x64 .bf16)
          (ix4 (img t) ⟨32 * (t.val % 7) + r, by omega⟩ v k) := by
  rw [← V_main_arg0 m c]
  blk_ext [iblk, idx_main t, img]

/-- The row below the block. -/
theorem bottom_apply (t : Fin cfg0.N) (v : Fin 224) (k : Fin 64) :
    (iblk m c 2 t : Vec Ideal S1x1x224x64 .bf16) (ix4 0 0 v k)
      = (m ((c.tc : Thread nD τ).loc main_arg0) : Vec Ideal S8x224x224x64 .bf16)
          (ix4 (img t) ⟨min (32 * (t.val % 7) + 32) 223, by omega⟩ v k) := by
  rw [← V_main_arg0 m c]
  blk_ext [iblk, idx_bottom t, img]

/-- The rows of the image to reproduce. -/
theorem target_apply (t : Fin cfg0.N) (o : Fin 3) (r : Fin 32) (v : Fin 224) :
    (iblk m c 5 t : Vec Ideal S1x3x32x224 .f32) (ix4 0 o r v)
      = (m ((c.tc : Thread nD τ).loc main_arg3) : Vec Ideal S8x3x224x224 .f32)
          (ix4 (img t) o ⟨32 * (t.val % 7) + r, by omega⟩ v) := by
  rw [← V_main_arg3 m c]
  blk_ext [iblk, idx_target t, img]

/-- The weights' block is the whole array of weights. -/
theorem weights_apply (t : Fin cfg0.N) : (iblk m c 3 t : Vec Ideal S9x64x8 .f32) = V m c main_v37 := by
  funext y
  blk_ext [iblk, idx_weights t]

/-- The bias's block is the whole bias. -/
theorem bias_apply (t : Fin cfg0.N) : (iblk m c 4 t : Vec Ideal S1x8 .f32) = V m c main_v39 := by
  funext y
  blk_ext [iblk, idx_bias t]

/-- The block with its halo is the bordered image from the block's first row on. -/
theorem halo_eq (t : Fin cfg0.N) (r v : ℕ) (k : Fin 64) (hr : r ≤ 33) :
    halo (W := 224) (C := 64) (B := 32) 7 (grid0.coords t 1).val (iblk m c 0 t) (iblk m c 2 t) (iblk m c 1 t) r v k
      = edge (N := 8) (H := 224) (W := 224) (C := 64) (m ((c.tc : Thread nD τ).loc main_arg0)) (img t)
          (32 * (t.val % 7) + r) v k := by
  have hc := coord t
  rw [hc]
  exact halo_eq_edge (by omega) (by omega) (by omega) (by omega) (by omega) (fun v k h => top_apply m c t v k)
    (fun r v k h => main_apply m c t r v k) (fun v k h => bottom_apply m c t v k) r v k hr

/-- What the first array holds: the convolution of every image, channels first. -/
def image : Vec Ideal S8x3x224x224 .f32 := fun y =>
  linAt (C := 64) (O := 3)
    (edge (N := 8) (H := 224) (W := 224) (C := 64) (m ((c.tc : Thread nD τ).loc main_arg0)) ⟨(y 0).val, (y 0).isLt⟩)
    (m ((c.tc : Thread nD τ).loc main_arg1)) (m ((c.tc : Thread nD τ).loc main_arg2)) (y 2).val (y 3).val ⟨(y 1).val, (y 1).isLt⟩

/-- The block of pixels a grid point computes is its part of the image. -/
theorem block_eq (t : Fin cfg0.N) (o : Fin 3) (r : Fin 32) (v : Fin 224) :
    block (grid0.coords t) (iblk m c 0 t) (iblk m c 2 t) (iblk m c 1 t) (iblk m c 3 t) (iblk m c 4 t) (ix4 0 o r v)
      = image m c (ix4 (img t) o ⟨32 * (t.val % 7) + r, by omega⟩ v) := by
  have hr := r.isLt
  have ho := o.isLt
  unfold block image
  rw [weights_apply, bias_apply]
  have hW := fun d e k => Host.weights m c d e k o
  have hb := Host.bias m c o
  have key : ∀ X : ℕ → ℕ → Fin 64 → EReal, ∀ i j : ℕ,
      nineAt (C := 64) (O := 8) X (V m c main_v37) (V m c main_v39) i j ⟨o.val, by omega⟩
        = linAt (C := 64) (O := 3) X (m ((c.tc : Thread nD τ).loc main_arg1)) (m ((c.tc : Thread nD τ).loc main_arg2)) i j o := by
    intro X i j
    simp only [nineAt, linAt, hW, hb]
  refine Eq.trans ?_ (key _ _ _)
  exact nineAt_congr (fun a v k ha => (halo_eq m c t (r.val + a) v k (by omega)).trans
    (by rw [show 32 * (t.val % 7) + (r.val + a) = 32 * (t.val % 7) + r.val + a by omega]; rfl)) _ _ _

/-- After the run the first array holds the image. -/
theorem final : (dats m 0 c).arrAt 6 cfg0.N = image m c := by
  refine (dats m 0 c).arrAt_eq_of_covers 6 (image m c) (by decide +kernel) fun t _ y => ?_
  blk_simp
  rw [after0_6, out_apply]
  have y0 : (y 0).val < 1 := (y 0).isLt
  have y2 : (y 2).val < 32 := (y 2).isLt
  obtain ⟨o, r, v, rfl⟩ : ∃ (o : Fin 3) (r : Fin 32) (v : Fin 224), y = ix4 0 o r v :=
    ⟨y 1, y 2, y 3, by funext a; fin_cases a <;> first | rfl | exact Fin.ext (by show (y 0).val = 0; omega)⟩
  refine (block_eq m c t o r v).trans (congrArg (image m c) ?_)
  funext a
  refine Fin.ext ?_
  fin_cases a <;> blk_simp [idx_out t, img]
  · rfl
  · rfl
  · show 32 * (t.val % 7) + r.val = t.val % 7 * 32 + r.val
    omega
  · rfl

/-- One block's sum of squared distances between its pixels and those of the image to reproduce. -/
def blockLoss (n : Fin 8) (t : Fin 7) : EReal :=
  ∑ o : Fin 3, ∑ r : Fin 32, ∑ v : Fin 224,
    (image m c (ix4 n o ⟨t.val * 32 + r.val, by omega⟩ v)
        - (m ((c.tc : Thread nD τ).loc main_arg3) : Vec Ideal S8x3x224x224 .f32) (ix4 n o ⟨t.val * 32 + r.val, by omega⟩ v))
      * (image m c (ix4 n o ⟨t.val * 32 + r.val, by omega⟩ v)
        - (m ((c.tc : Thread nD τ).loc main_arg3) : Vec Ideal S8x3x224x224 .f32) (ix4 n o ⟨t.val * 32 + r.val, by omega⟩ v))

/-- What the second array holds: each block's sum, at every entry of its tile. -/
def losses : Vec Ideal S8x7x8x128 .f32 := fun y => blockLoss m c ⟨(y 0).val, (y 0).isLt⟩ ⟨(y 1).val, (y 1).isLt⟩

/-- The sum a grid point computes is its block's. -/
theorem squares_eq (t : Fin cfg0.N) :
    squares (block (grid0.coords t) (iblk m c 0 t) (iblk m c 2 t) (iblk m c 1 t) (iblk m c 3 t) (iblk m c 4 t)) (iblk m c 5 t)
      = blockLoss m c (img t) ⟨t.val % 7, by omega⟩ := by
  unfold squares blockLoss
  refine (sum_idx4 (n0 := 1) (n1 := 3) (n2 := 32) (n3 := 224) _).trans ?_
  rw [Fin.sum_univ_one]
  refine Finset.sum_congr rfl fun o _ => Finset.sum_congr rfl fun r _ => Finset.sum_congr rfl fun v _ => ?_
  have hb := block_eq m c t o r v
  have ht := target_apply m c t o r v
  have e : (⟨32 * (t.val % 7) + r.val, by omega⟩ : Fin 224) = ⟨t.val % 7 * 32 + r.val, by omega⟩ := Fin.ext (by show 32 * (t.val % 7) + r.val = t.val % 7 * 32 + r.val; omega)
  rw [e] at hb ht
  exact congrArg₂ (fun a b : EReal => (a - b) * (a - b)) hb ht

/-- After the run the second array holds the sums. -/
theorem final_losses : (dats m 0 c).arrAt 7 cfg0.N = losses m c := by
  refine (dats m 0 c).arrAt_eq_of_covers 7 (losses m c) (by decide +kernel) fun t _ y => ?_
  blk_simp
  rw [after0_7, loss_apply]
  have y0 : (y 0).val < 1 := (y 0).isLt
  have y1 : (y 1).val < 1 := (y 1).isLt
  have e0 : (((win0_7.blk t).view.emb y) 0).val = t.val / 7 := by blk_simp [idx_sums t] <;> try omega
  have e1 : (((win0_7.blk t).view.emb y) 1).val = t.val % 7 := by blk_simp [idx_sums t] <;> try omega
  refine (squares_eq m c t).trans ?_
  unfold losses
  simp only [e0, e1]
  rfl

end Cert.Kernel4Ideal.Region

end
-- ==== Proof.Ref4.lean ====
/- What the reference of the last convolution computes: at each pixel nine taps of the image, and the mean of the squares. -/
module

public import proofs.«01_k».proof.Proof.Gen.Reference4Ideal.Run
public import proofs.«01_k».proof.Proof.Spec
public import Idealize.ShloMosaic.Lib.Pointwise

@[expose] public section

set_option maxRecDepth 16384

noncomputable section

namespace Cert.Reference4Ideal.Layer

open Cert.Upsample Cert.Reference4Ideal Cert.Reference4Ideal.Gen Idealize.ShloMosaic

variable {F : FTy → Type} [FloatOps F]

/-- The image inside its border of zeros. -/
def padded (g : (⟨S8x224x224x64, .bf16⟩ : BufTy).Contents (Elt F)) : (⟨S8x226x226x64, .f32⟩ : BufTy).Contents (Elt F) :=
  pad S8x226x226x64 ![0, 1, 1, 0] ![0, 1, 1, 0] ![0, 0, 0, 0] (extf .f32 g bitsLt_bf16_f32) (sitofp .f32 (constantI S_ 32 0#32)) pads_S8x224x224x64_S8x226x226x64_000_110_110_000 h_S_

/-- The nine shifted images side by side. -/
def cat (P : (⟨S8x226x226x64, .f32⟩ : BufTy).Contents (Elt F)) : (⟨S8x224x224x576, .f32⟩ : BufTy).Contents (Elt F) :=
  (concatenate S8x224x224x576 3 [⟨S8x224x224x64, ((extractStridedSlice S8x224x224x64 ![0, 0, 0, 0] P slices_S8x226x226x64_S8x224x224x64_0_0_0_0) : (⟨S8x224x224x64, .f32⟩ : BufTy).Contents (Elt F))⟩, ⟨S8x224x224x64, ((extractStridedSlice S8x224x224x64 ![0, 0, 1, 0] P slices_S8x226x226x64_S8x224x224x64_0_0_1_0) : (⟨S8x224x224x64, .f32⟩ : BufTy).Contents (Elt F))⟩, ⟨S8x224x224x64, ((extractStridedSlice S8x224x224x64 ![0, 0, 2, 0] P slices_S8x226x226x64_S8x224x224x64_0_0_2_0) : (⟨S8x224x224x64, .f32⟩ : BufTy).Contents (Elt F))⟩, ⟨S8x224x224x64, ((extractStridedSlice S8x224x224x64 ![0, 1, 0, 0] P slices_S8x226x226x64_S8x224x224x64_0_1_0_0) : (⟨S8x224x224x64, .f32⟩ : BufTy).Contents (Elt F))⟩, ⟨S8x224x224x64, ((extractStridedSlice S8x224x224x64 ![0, 1, 1, 0] P slices_S8x226x226x64_S8x224x224x64_0_1_1_0) : (⟨S8x224x224x64, .f32⟩ : BufTy).Contents (Elt F))⟩, ⟨S8x224x224x64, ((extractStridedSlice S8x224x224x64 ![0, 1, 2, 0] P slices_S8x226x226x64_S8x224x224x64_0_1_2_0) : (⟨S8x224x224x64, .f32⟩ : BufTy).Contents (Elt F))⟩, ⟨S8x224x224x64, ((extractStridedSlice S8x224x224x64 ![0, 2, 0, 0] P slices_S8x226x226x64_S8x224x224x64_0_2_0_0) : (⟨S8x224x224x64, .f32⟩ : BufTy).Contents (Elt F))⟩, ⟨S8x224x224x64, ((extractStridedSlice S8x224x224x64 ![0, 2, 1, 0] P slices_S8x226x226x64_S8x224x224x64_0_2_1_0) : (⟨S8x224x224x64, .f32⟩ : BufTy).Contents (Elt F))⟩, ⟨S8x224x224x64, ((extractStridedSlice S8x224x224x64 ![0, 2, 2, 0] P slices_S8x226x226x64_S8x224x224x64_0_2_2_0) : (⟨S8x224x224x64, .f32⟩ : BufTy).Contents (Elt F))⟩] concatenates_S8x224x224x64_S8x224x224x64_S8x224x224x64_S8x224x224x64_S8x224x224x64_S8x224x224x64_S8x224x224x64_S8x224x224x64_S8x224x224x64_S8x224x224x576_d3 : (⟨S8x224x224x576, .f32⟩ : BufTy).Contents (Elt F))

/-- The convolution over the nine images with its bias, channels first. -/
def conv (K : (⟨S8x224x224x576, .f32⟩ : BufTy).Contents (Elt F)) (w : (⟨S3x64x3x3, .f32⟩ : BufTy).Contents (Elt F))
    (b : (⟨S3, .f32⟩ : BufTy).Contents (Elt F)) : (⟨S8x3x224x224, .f32⟩ : BufTy).Contents (Elt F) :=
  shapeCast _ (transpose S8x3x50176 [0, 2, 1] (addf (Host.dotGeneral dot_S8x50176x576_S576x3_S8x50176x3_2_0_01_1_n_n none (shapeCast _ (K) shapeCasts_S8x224x224x576_S8x50176x576) (shapeCast _ (transpose S3x3x64x3 [2, 3, 1, 0] w transposes_S3x64x3x3_S3x3x64x3_2_3_1_0) shapeCasts_S3x3x64x3_S576x3)) (broadcastInDim S8x50176x3 ![0, 1, 2] bcast_S1x1x3_S8x50176x3_0_1_2 (broadcastInDim S1x1x3 ![2] bcast_S3_S1x1x3_2 b))) transposes_S8x50176x3_S8x3x50176_0_2_1) shapeCasts_S8x3x50176_S8x3x224x224

/-- The mean of the squared distances of two images. -/
def mean (r x : (⟨S8x3x224x224, .f32⟩ : BufTy).Contents (Elt F)) : (⟨S_, .f32⟩ : BufTy).Contents (Elt F) :=
  Host.divf (Host.reduceAdd (mulf (subf r x) (subf r x)) (constant S_ .f32 0x00000000#32) reducesTo_S8x3x224x224_S_d0_1_2_3 h_S_) (constant S_ .f32 0x49930000#32)

/-- The reference's first result is those three in turn. -/
theorem res_eq (m : (ℓ : Loc nD τ sig) → Buf (Elt F) ℓ) (c : Dev nD) :
    Value.res_main_v20 m c = conv (cat (padded (m ((c.tc : Thread nD τ).loc main_arg0))))
      (m ((c.tc : Thread nD τ).loc main_arg1)) (m ((c.tc : Thread nD τ).loc main_arg2)) := rfl

/-- Its second is the mean of the squared distances. -/
theorem loss_eq (m : (ℓ : Loc nD τ sig) → Buf (Elt F) ℓ) (c : Dev nD) :
    Value.res_main_v28 m c = mean (Value.res_main_v20 m c) (m ((c.tc : Thread nD τ).loc main_arg3)) := rfl

/-- Its third is a quarter of the second. -/
theorem scaled_eq (m : (ℓ : Loc nD τ sig) → Buf (Elt F) ℓ) (c : Dev nD) :
    Value.res_main_v29 m c = mulf (constant S_ .f32 0x3E800000#32) (Value.res_main_v28 m c) := rfl

/-- The padded image, read at a pixel. -/
theorem padded_apply (g : (⟨S8x224x224x64, .bf16⟩ : BufTy).Contents (Elt Ideal)) (n : Fin 8) (r c : Fin 226) (k : Fin 64) :
    padded g (ix4 n r c k) = edge (N := 8) (H := 224) (W := 224) (C := 64) g n r c k := by
  have hr := r.isLt
  have hc := c.isLt
  have hz : (FloatOps.sitofp (F := Ideal) FTy.f32 0#32 : EReal) = 0 := by
    show (((0#32 : BitVec 32).toInt : ℝ) : EReal) = 0
    simp
  pointwise [padded]
  rw [hz]
  unfold edge
  by_cases h : (1 ≤ r.val ∧ r.val - 1 < 224) ∧ 1 ≤ c.val ∧ c.val - 1 < 224
  · rw [dif_pos h, dif_pos (by omega)]
  · rw [dif_neg h, dif_neg (by omega)]

/-- The nine images, read in the `t`-th: the padded image shifted by `t / 3` rows and `t % 3` columns. -/
theorem cat_apply (P : (⟨S8x226x226x64, .f32⟩ : BufTy).Contents (Elt Ideal)) (n : Fin 8) (i j : Fin 224) (t : Fin 9) (k : Fin 64) :
    cat P (ix4 n i j ⟨t.val * 64 + k.val, by omega⟩) = P (ix4 n ⟨i + t / 3, by omega⟩ ⟨j + t % 3, by omega⟩ k) := by
  have ht := t.isLt
  have hk := k.isLt
  have hi := i.isLt
  have hj := j.isLt
  have hP : ∀ (a a' b b' x x' : ℕ) (ha hb hx ha' hb' hx'), a = a' → b = b' → x = x' →
      P (ix4 n ⟨a, ha⟩ ⟨b, hb⟩ ⟨x, hx⟩) = P (ix4 n ⟨a', ha'⟩ ⟨b', hb'⟩ ⟨x', hx'⟩) := by
    intro a a' b b' x x' _ _ _ _ _ _ h h' h''
    subst h h' h''
    rfl
  pointwise [cat]
  split_ifs <;> exact hP _ _ _ _ _ _ _ _ _ _ _ _ (by omega) (by omega) (by omega)

/-- The convolution at a pixel: one sum over the nine images' channels. -/
theorem conv_apply (K : (⟨S8x224x224x576, .f32⟩ : BufTy).Contents (Elt Ideal)) (w : (⟨S3x64x3x3, .f32⟩ : BufTy).Contents (Elt Ideal))
    (b : (⟨S3, .f32⟩ : BufTy).Contents (Elt Ideal)) (n : Fin 8) (o : Fin 3) (i j : Fin 224) :
    conv K w b (ix4 n o i j) = ∑ x : Fin 576, K (ix4 n i j x) * w (ix4 o ⟨x % 64, by omega⟩ ⟨x / 192, by omega⟩ ⟨x / 64 % 3, by omega⟩) + b (ix1 o) := by
  have hi := i.isLt
  have hj := j.isLt
  pointwise [conv]

/-- The reference's first result at a pixel: nine taps of the image. -/
theorem res_apply (m : (ℓ : Loc nD τ sig) → Buf (Elt Ideal) ℓ) (c : Dev nD) (n : Fin 8) (o : Fin 3) (i j : Fin 224) :
    (Value.res_main_v20 m c : Vec Ideal S8x3x224x224 .f32) (ix4 n o i j)
      = linAt (C := 64) (O := 3) (edge (N := 8) (H := 224) (W := 224) (C := 64) (m ((c.tc : Thread nD τ).loc main_arg0)) n)
          (m ((c.tc : Thread nD τ).loc main_arg1)) (m ((c.tc : Thread nD τ).loc main_arg2)) i.val j.val o := by
  rw [res_eq, conv_apply]
  unfold linAt
  congr 1
  rw [Fin.sum_univ_tiles 9 64 rfl, Fin.sum_univ_tiles 3 3 rfl]
  refine Finset.sum_congr rfl fun d _ => Finset.sum_congr rfl fun e _ => Finset.sum_congr rfl fun k _ => ?_
  have hd := d.isLt
  have he := e.isLt
  have hk := k.isLt
  rw [cat_apply _ n i j ⟨d.val * 3 + e.val, by omega⟩ k, padded_apply]
  have h1 : (d.val * 3 + e.val) / 3 = d.val := by omega
  have h2 : (d.val * 3 + e.val) % 3 = e.val := by omega
  have h3 : ((d.val * 3 + e.val) * 64 + k.val) % 64 = k.val := by omega
  have h4 : ((d.val * 3 + e.val) * 64 + k.val) / 192 = d.val := by omega
  have h5 : ((d.val * 3 + e.val) * 64 + k.val) / 64 % 3 = e.val := by omega
  simp only [h1, h2, h3, h4, h5]

end Cert.Reference4Ideal.Layer

end
-- ==== Proof.Value4.lean ====
/- The last convolution's run, and why its three results are the reference's. -/
module

public import proofs.«01_k».proof.Defs
public import proofs.«01_k».proof.Proof.Region4
public import proofs.«01_k».proof.Proof.Ref4
public import Idealize.ShloMosaic.Lib.StableHlo.ReadAt

@[expose] public section

set_option maxRecDepth 16384

noncomputable section

namespace Cert.Kernel4Ideal.Result

open Cert.Upsample Cert.Kernel4Ideal Cert.Kernel4Ideal.Gen Idealize.ShloMosaic Idealize.SL.Sem Idealize.ShloMosaic.StableHlo
open Idealize.ShloMosaic.Pipeline (Dat)

variable (m : (ℓ : Loc nD τ sig) → Buf (Elt Ideal) ℓ) (c : Dev nD)

/-- The program's values after the region. -/
def ended : Valuation τ sig (Elt Ideal) := Pipeline.withArrays spec0 c (V0 m c) fun w => (dats m 0 c).arrAt w cfg0.N

/-- What the program leaves in its second result. -/
def loss : Vec Ideal S_ .f32 := after hostOps1 (ended m c) (Proc.devRef .tc main_v43)

/-- What the program leaves in its third result. -/
def scaled : Vec Ideal S_ .f32 := after hostOps1 (ended m c) (Proc.devRef .tc main_v44)

/-- The second result from the blocks' sums: their sum, divided by the entries of a tile and by those of an image. -/
theorem loss_eq : loss m c = Host.divf (F := Ideal) (Host.divf (F := Ideal) (Host.reduceAdd (F := Ideal) (Region.losses m c) (constant S_ .f32 0x00000000#32)
    reducesTo_S8x7x8x128_S_d0_1_2_3 h_S_) (constant S_ .f32 0x44800000#32)) (constant S_ .f32 0x49930000#32) := by
  have hr : (ended m c (Proc.devRef .tc main_v40_1) : Vec Ideal S8x7x8x128 .f32) = Region.losses m c :=
    ((dats m 0 c).withArrays_arrAt (by decide) (V0 m c) (A_eq m c) 7).trans (Region.final_losses m c)
  rw [← hr]
  unfold loss
  show (after hostOps1 (ended m c) (Proc.devRef .tc main_v43) : Vec Ideal S_ .f32) = _
  after_reads_simp

/-- The third result is a quarter of the second. -/
theorem scaled_eq : scaled m c = mulf (F := Ideal) (constant S_ .f32 0x3E800000#32) (loss m c) := by
  unfold scaled loss
  show (after hostOps1 (ended m c) (Proc.devRef .tc main_v44) : Vec Ideal S_ .f32)
    = mulf (F := Ideal) (constant S_ .f32 0x3E800000#32) (after hostOps1 (ended m c) (Proc.devRef .tc main_v43) : Vec Ideal S_ .f32)
  after_reads_simp

/-- The tiles' entries add up to each block's sum as often as a tile has entries. -/
theorem losses_sum : ∑ z : S8x7x8x128.Idx, Region.losses m c z = 1024 • ∑ n : Fin 8, ∑ t : Fin 7, Region.blockLoss m c n t := by
  refine (sum_idx4 (n0 := 8) (n1 := 7) (n2 := 8) (n3 := 128) (Region.losses m c)).trans ?_
  rw [Finset.smul_sum]
  refine Finset.sum_congr rfl fun n _ => ?_
  rw [Finset.smul_sum]
  refine Finset.sum_congr rfl fun t _ => ?_
  show ∑ _ : Fin 8, ∑ _ : Fin 128, Region.blockLoss m c n t = _
  simp only [Finset.sum_const, Finset.card_univ, Fintype.card_fin, smul_smul]
  rfl

/-- The squared distance of two images at an index. -/
def distance (r x : Vec Ideal S8x3x224x224 .f32) (y : S8x3x224x224.Idx) : EReal := (r y - x y) * (r y - x y)

/-- The blocks' sums add up to the sum over the images. -/
theorem blocks_sum : ∑ n : Fin 8, ∑ t : Fin 7, Region.blockLoss m c n t
    = ∑ y : S8x3x224x224.Idx, distance (Region.image m c) (m ((c.tc : Thread nD τ).loc main_arg3)) y := by
  symm
  refine (sum_idx4 (n0 := 8) (n1 := 3) (n2 := 224) (n3 := 224) (distance (Region.image m c) (m ((c.tc : Thread nD τ).loc main_arg3)))).trans ?_
  refine Finset.sum_congr rfl fun n _ => ?_
  unfold Region.blockLoss
  refine Eq.trans ?_ Finset.sum_comm
  refine Finset.sum_congr rfl fun o _ => ?_
  rw [Fin.sum_univ_tiles 7 32 rfl]
  rfl

/-- A sum taken 1024 times over, divided by 1024, is the sum. -/
theorem div_copies (s : EReal) : Ideal.div (1024 • s) (Ideal.ofBits .f32 0x44800000#32) = s := by
  have h : Ideal.ofBits .f32 0x44800000#32 = ((1024 : ℝ) : EReal) := by
    simp [Ideal.ofBits, Ideal.ieee]
    rw [← EReal.coe_mul]
    norm_num
  have h0 : ((1024 : ℝ) : EReal) ≠ 0 := by
    rw [← EReal.coe_zero, Ne, EReal.coe_eq_coe_iff]
    norm_num
  have h1 : (1024 • s : EReal) = s * ((1024 : ℝ) : EReal) := by
    rw [EReal.nsmul_eq_mul, mul_comm]
    rfl
  unfold Ideal.div
  rw [h, if_neg h0, h1, mul_assoc, ← EReal.coe_inv, ← EReal.coe_mul]
  norm_num

/-- The kernel's second result is the reference's mean of the image it leaves. -/
theorem loss_mean : loss m c = Cert.Reference4Ideal.Layer.mean (Region.image m c) (m ((c.tc : Thread nD τ).loc main_arg3)) := by
  rw [loss_eq]
  funext y
  have hz : Ideal.ofBits .f32 0x00000000#32 = 0 := Ideal.ofBits_zero_f32
  show Ideal.div (Ideal.div (Ideal.hostReduceAdd reducesTo_S8x7x8x128_S_d0_1_2_3 (Region.losses m c) (Ideal.ofBits .f32 0x00000000#32) y)
      (Ideal.ofBits .f32 0x44800000#32)) (Ideal.ofBits .f32 0x49930000#32)
    = Ideal.div (Ideal.hostReduceAdd (by decide : S8x3x224x224.ReducesTo [0, 1, 2, 3] S_)
        (distance (Region.image m c) (m ((c.tc : Thread nD τ).loc main_arg3))) (Ideal.ofBits .f32 0x00000000#32) y) (Ideal.ofBits .f32 0x49930000#32)
  rw [Ideal.hostReduceAdd_total _ (fun b => b.elim0), Ideal.hostReduceAdd_total _ (fun b => b.elim0), hz, zero_add, zero_add,
    losses_sum, blocks_sum, div_copies]

/-- The run: the three results end at those, the arguments as launched. -/
theorem run (ρ : Dev nD → PrngReg) : θ_run defs (onTc (τ := τ) (main (F := Ideal))) ⟨m, fun _ => 0, ρ⟩ (fun r => ∀ c : Dev nD,
    r.2.mem ((c.tc : Thread nD τ).loc main_v40_0) = Region.image m c
    ∧ r.2.mem ((c.tc : Thread nD τ).loc main_v43) = loss m c
    ∧ r.2.mem ((c.tc : Thread nD τ).loc main_v44) = scaled m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c => ⟨((h.1 c).1 6).trans (Region.final m c),
      (h.1 c).2 main_v43 (Pipeline.mem_restRefs_of main_v43 (by decide) (by decide)),
      (h.1 c).2 main_v44 (Pipeline.mem_restRefs_of main_v44 (by decide) (by decide)), h.2 c⟩)
    (θ_run_and (run_main m ρ) (unchanged m ρ))

/-- The kernel call and its reference end with the same three results. -/
theorem algebraic : Cert.algebraic_Kernel4Ideal_Reference4Ideal (hKernel4Ideal := Cert.Kernel4Ideal.Gen.facts)
    (hReference4Ideal := Cert.Reference4Ideal.Gen.facts) := by
  intro m g m' g' _ hm
  have hi : ∀ c, Cert.Reference4Ideal.Value.res_main_v20 m' c = Region.image m c := by
    intro c
    obtain ⟨e0, e1, e2, _⟩ := hm c
    funext y
    obtain ⟨n, o, i, j, rfl⟩ : ∃ n o i j, y = ix4 n o i j := ⟨y 0, y 1, y 2, y 3, by funext a; fin_cases a <;> rfl⟩
    refine (Cert.Reference4Ideal.Layer.res_apply m' c n o i j).trans ?_
    rw [e0, e1, e2]
    rfl
  have hl : ∀ c, Cert.Reference4Ideal.Value.res_main_v28 m' c = loss m c := by
    intro c
    obtain ⟨_, _, _, e3⟩ := hm c
    rw [Cert.Reference4Ideal.Layer.loss_eq, hi, e3]
    exact (loss_mean m c).symm
  have hs : ∀ c, Cert.Reference4Ideal.Value.res_main_v29 m' c = scaled m c := by
    intro c
    rw [Cert.Reference4Ideal.Layer.scaled_eq, hl]
    exact (scaled_eq m c).symm
  exact ⟨fun c => Region.image m c, fun c => loss m c, fun c => scaled m c, run m g,
    (θ_run _ _ _).mono (fun _ h c => ⟨(h c).1.trans (hi c), (h c).2.1.trans (hl c), (h c).2.2.1.trans (hs c), (h c).2.2.2⟩)
      (Cert.Reference4Ideal.Value.run m' g')⟩

end Cert.Kernel4Ideal.Result

end
-- ==== Proof.Block5.lean ====
/- What one block of the second strided convolution computes. -/
module

public import proofs.«01_k».proof.Proof.Gen.Kernel5Ideal.Skeleton
public import proofs.«01_k».proof.Proof.Gen.Kernel5Ideal.Frame
public import proofs.«01_k».proof.Proof.Spec
public import Idealize.ShloMosaic.Lib.Pointwise

@[expose] public section

set_option maxRecDepth 16384

noncomputable section

namespace Cert.Kernel5Ideal.Block

open Cert.Upsample Cert.Kernel5Ideal Cert.Kernel5Ideal.Gen Idealize.ShloMosaic

/-- The haloed block the kernel builds, its rows in pairs and its columns in pairs of lanes, read at an index. -/
theorem pay2_apply (i : grid0.Coords) (v1 v6 : Vec Ideal S1x1x112x128 .f32) (v10 : Vec Ideal S1x56x112x128 .f32)
    (r : Fin 29) (p : Fin 2) (c : Fin 57) (l : Fin 256) :
    k0_pay2 i v1 v6 v10 (ix4 r p c l)
      = halo (W := 112) (C := 128) (B := 56) 2 (i 1).val v1 v6 v10 (r * 2 + p) (c * 2 + l / 128) ⟨l % 128, by omega⟩ := by
  have hi : (i 1).val < 2 := (i 1).isLt
  have hr := r.isLt
  have hp := p.isLt
  have hc := c.isLt
  have hl := l.isLt
  have e0 : ∀ x : EReal, Scalar.select (Scalar.cmpi CmpIPredicate.sgt (BitVec.ofNat 32 (i 1).val) 0#32) x 0
      = if 0 < (i 1).val then x else 0 := by
    intro x
    generalize (i 1).val = a at hi
    interval_cases a <;> rfl
  have e3 : ∀ x : EReal, Scalar.select (Scalar.cmpi CmpIPredicate.slt (BitVec.ofNat 32 (i 1).val) 1#32) x 0
      = if (i 1).val < 2 - 1 then x else 0 := by
    intro x
    generalize (i 1).val = a at hi
    interval_cases a <;> rfl
  pointwise [k0_pay2]
  simp only [e0, e3]
  exact halo_of_cases 2 (i 1).val v1 v6 v10 (r.val * 2 + p.val) (c.val * 2 + l.val / 128) ⟨l.val % 128, by omega⟩

/-- A whole-block load of a neighbouring row is that row. -/
theorem ld_top (x : Vec Ideal S1x1x112x128 .f32) : View.ld x r0_0 = x := by
  funext y
  idx_vars y
  obtain rfl : y0 = 0 := Subsingleton.elim _ _
  obtain rfl : y1 = 0 := Subsingleton.elim _ _
  pointwise []

/-- A whole-block load of the block is the block. -/
theorem ld_main (x : Vec Ideal S1x56x112x128 .f32) : View.ld x r0_1 = x := by
  funext y
  idx_vars y
  obtain rfl : y0 = 0 := Subsingleton.elim _ _
  pointwise []

/-- The block's pixels: every other row and column of the haloed block. -/
def block (i : grid0.Coords) (x0 x2 : Vec Ideal S1x1x112x128 .f32) (x1 : Vec Ideal S1x56x112x128 .f32)
    (x3 : Vec Ideal S9x128x128 .f32) (x4 : Vec Ideal S1x128 .f32) : Vec Ideal S1x28x56x128 .f32 := fun y =>
  max (nineAt (halo (W := 112) (C := 128) (B := 56) 2 (i 1).val x0 x2 x1) x3 x4 (2 * (y 1).val) (2 * (y 2).val) ⟨(y 3).val, (y 3).isLt⟩) 0

/-- The block the kernel leaves is that, at every index. -/
theorem out_apply (i : grid0.Coords) (x0 x2 : Vec Ideal S1x1x112x128 .f32) (x1 : Vec Ideal S1x56x112x128 .f32)
    (x3 : Vec Ideal S9x128x128 .f32) (x4 : Vec Ideal S1x128 .f32) (y : S1x28x56x128.Idx) :
    out0_5 i x0 x1 x2 x3 x4 y = block i x0 x2 x1 x3 x4 y := by
  unfold out0_5
  refine View.canon_apply_of_pieces (block i x0 x2 x1 x3 x4) _ ?_ y (cover0_5 _ y)
  intro p hp z
  simp only [List.mem_cons, List.not_mem_nil, or_false] at hp
  subst hp
  idx_vars z
  obtain rfl : z0 = 0 := Subsingleton.elim _ _
  pointwise [k0_pay1, k0_pay3, k0_pay4, k0_pay5, k0_pay6, k0_pay7, k0_pay8, k0_pay9, k0_pay10]
  simp only [pay2_apply, ld_top, ld_main]
  generalize hX : halo (W := 112) (C := 128) (B := 56) 2 (i 1).val x0 x2 x1 = X
  have hl : ∀ r c (x : Fin 128) (h : x.val % 128 < 128), X r (c + x.val / 128) ⟨x.val % 128, h⟩ = X r c x := by
    intro r c x h
    have h1 : x.val / 128 = 0 := by omega
    have h2 : (⟨x.val % 128, h⟩ : Fin 128) = x := Fin.ext (by show x.val % 128 = x.val; omega)
    rw [h1, h2, Nat.add_zero]
  have hr : ∀ r c (x : Fin 128) (h : (128 + x.val) % 128 < 128), X r (c + (128 + x.val) / 128) ⟨(128 + x.val) % 128, h⟩ = X r (c + 1) x := by
    intro r c x h
    have h1 : (128 + x.val) / 128 = 1 := by omega
    have h2 : (⟨(128 + x.val) % 128, h⟩ : Fin 128) = x := Fin.ext (by show (128 + x.val) % 128 = x.val; omega)
    rw [h1, h2]
  simp only [hl, hr]
  have g1 : ((r0_12.emb (ix4 0 z1 z2 z3)) 1).val = z1.val := by simp [Rect.emb_apply, r0_12]
  have g2 : ((r0_12.emb (ix4 0 z1 z2 z3)) 2).val = z2.val := by simp [Rect.emb_apply, r0_12]
  have g3 : ((r0_12.emb (ix4 0 z1 z2 z3)) 3).val = z3.val := by simp [Rect.emb_apply, r0_12]
  simp only [block, hX, g1, g2, g3, nineAt, Fin.sum_univ_three]
  simp [Nat.add_mul, Nat.mul_comm, Nat.add_comm, Nat.add_left_comm, add_assoc]

end Cert.Kernel5Ideal.Block

end
-- ==== Proof.Host5.lean ====
/- What the program does to its weights before the second strided convolution. -/
module

public import proofs.«01_k».proof.Proof.Gen.Kernel5Ideal.Frame
public import proofs.«01_k».proof.Proof.Spec
public import Idealize.ShloMosaic.Lib.Pointwise
public import Idealize.ShloMosaic.Lib.StableHlo.ReadAt

@[expose] public section

set_option maxRecDepth 16384

noncomputable section

namespace Cert.Kernel5Ideal.Host

open Cert.Upsample Cert.Kernel5Ideal Cert.Kernel5Ideal.Gen Idealize.ShloMosaic Idealize.ShloMosaic.StableHlo

set_option maxHeartbeats 4000000 in
/-- The nine matrices the region reads are the nine taps. -/
theorem weights (m : (ℓ : Loc nD τ sig) → Buf (Elt Ideal) ℓ) (c : Dev nD) (d e : Fin 3) (k o : Fin 128) :
    (V m c main_v36 : Vec Ideal S9x128x128 .f32) (ix3 ⟨3 * d + e, by omega⟩ k o)
      = (m ((c.tc : Thread nD τ).loc main_arg1) : Vec Ideal S128x128x3x3 .f32) (ix4 o k d e) := by
  show (after hostOps0 (fun b => m (c, b)) (Proc.devRef .tc main_v36) : Vec Ideal S9x128x128 .f32) _ = _
  after_reads_simp
  clean_types
  fin_cases d <;> fin_cases e
  all_goals
    pointwise
    after_reads_simp
    clean_types
    pointwise

/-- The bias the region reads is the argument, as one row. -/
theorem bias (m : (ℓ : Loc nD τ sig) → Buf (Elt Ideal) ℓ) (c : Dev nD) (o : Fin 128) :
    (V m c main_v37 : Vec Ideal S1x128 .f32) (ix2 0 o) = (m ((c.tc : Thread nD τ).loc main_arg2) : Vec Ideal S128 .f32) (ix1 o) := by
  show (after hostOps0 (fun b => m (c, b)) (Proc.devRef .tc main_v37) : Vec Ideal S1x128 .f32) _ = _
  after_reads_simp
  clean_types
  pointwise

end Cert.Kernel5Ideal.Host

end
-- ==== Proof.Region5.lean ====
/- What the second strided convolution leaves in its result array. -/
module

public import proofs.«01_k».proof.Proof.Block5
public import proofs.«01_k».proof.Proof.Host5
public import Idealize.ShloMosaic.Lib.Pipeline.Value
public import Idealize.ShloMosaic.Lib.Pipeline.ValueKit.Point

@[expose] public section

set_option maxRecDepth 16384

noncomputable section

namespace Cert.Kernel5Ideal.Region

open Cert.Upsample Cert.Kernel5Ideal Cert.Kernel5Ideal.Gen Cert.Kernel5Ideal.Block Idealize.ShloMosaic
open Idealize.ShloMosaic.Pipeline (Dat)

variable (m : (ℓ : Loc nD τ sig) → Buf (Elt Ideal) ℓ) (c : Dev nD)

/-- The window on the row above the block `t % 2` of image `t / 2`. -/
theorem idx_top : ∀ t : Fin grid0.N, win0_0.index t 0 = t.val / 2 ∧ win0_0.index t 1 = 56 * (t.val % 2) - 1
    ∧ win0_0.index t 2 = 0 ∧ win0_0.index t 3 = 0 := by decide +kernel
/-- The window on the block's own rows. -/
theorem idx_main : ∀ t : Fin grid0.N, win0_1.index t 0 = t.val / 2 ∧ win0_1.index t 1 = t.val % 2
    ∧ win0_1.index t 2 = 0 ∧ win0_1.index t 3 = 0 := by decide +kernel
/-- The window on the row below the block. -/
theorem idx_bottom : ∀ t : Fin grid0.N, win0_2.index t 0 = t.val / 2 ∧ win0_2.index t 1 = min (56 * (t.val % 2) + 56) 111
    ∧ win0_2.index t 2 = 0 ∧ win0_2.index t 3 = 0 := by decide +kernel
/-- The window on the weights is the whole array. -/
theorem idx_weights : ∀ t : Fin grid0.N, win0_3.index t 0 = 0 ∧ win0_3.index t 1 = 0 ∧ win0_3.index t 2 = 0 := by decide +kernel
/-- The window on the bias is the whole array. -/
theorem idx_bias : ∀ t : Fin grid0.N, win0_4.index t 0 = 0 ∧ win0_4.index t 1 = 0 := by decide +kernel
/-- The window on the result: row block `t % 2` of image `t / 2`. -/
theorem idx_out : ∀ t : Fin grid0.N, win0_5.index t 0 = t.val / 2 ∧ win0_5.index t 1 = t.val % 2
    ∧ win0_5.index t 2 = 0 ∧ win0_5.index t 3 = 0 := by decide +kernel
/-- The second grid coordinate is the row block. -/
theorem coord : ∀ t : Fin grid0.N, (grid0.coords t 1).val = t.val % 2 := by decide +kernel

/-- The image a grid point works on. -/
def img (t : Fin cfg0.N) : Fin 8 := ⟨t.val / 2, by have h : t.val < 16 := t.isLt; omega⟩

/-- The row above the block. -/
theorem top_apply (t : Fin cfg0.N) (v : Fin 112) (k : Fin 128) :
    (iblk m c 0 t : Vec Ideal S1x1x112x128 .f32) (ix4 0 0 v k)
      = (m ((c.tc : Thread nD τ).loc main_arg0) : Vec Ideal S8x112x112x128 .f32)
          (ix4 (img t) ⟨56 * (t.val % 2) - 1, by omega⟩ v k) := by
  rw [← V_main_arg0 m c]
  blk_ext [iblk, idx_top t, img]

/-- The block's rows. -/
theorem main_apply (t : Fin cfg0.N) (r : Fin 56) (v : Fin 112) (k : Fin 128) :
    (iblk m c 1 t : Vec Ideal S1x56x112x128 .f32) (ix4 0 r v k)
      = (m ((c.tc : Thread nD τ).loc main_arg0) : Vec Ideal S8x112x112x128 .f32)
          (ix4 (img t) ⟨56 * (t.val % 2) + r, by omega⟩ v k) := by
  rw [← V_main_arg0 m c]
  blk_ext [iblk, idx_main t, img]

/-- The row below the block. -/
theorem bottom_apply (t : Fin cfg0.N) (v : Fin 112) (k : Fin 128) :
    (iblk m c 2 t : Vec Ideal S1x1x112x128 .f32) (ix4 0 0 v k)
      = (m ((c.tc : Thread nD τ).loc main_arg0) : Vec Ideal S8x112x112x128 .f32)
          (ix4 (img t) ⟨min (56 * (t.val % 2) + 56) 111, by omega⟩ v k) := by
  rw [← V_main_arg0 m c]
  blk_ext [iblk, idx_bottom t, img]

/-- The weights' block is the whole array of weights. -/
theorem weights_apply (t : Fin cfg0.N) : (iblk m c 3 t : Vec Ideal S9x128x128 .f32) = V m c main_v36 := by
  funext y
  blk_ext [iblk, idx_weights t]

/-- The bias's block is the whole bias. -/
theorem bias_apply (t : Fin cfg0.N) : (iblk m c 4 t : Vec Ideal S1x128 .f32) = V m c main_v37 := by
  funext y
  blk_ext [iblk, idx_bias t]

/-- The block with its halo is the bordered image from the block's first row on. -/
theorem halo_eq (t : Fin cfg0.N) (r v : ℕ) (k : Fin 128) (hr : r ≤ 57) :
    halo (W := 112) (C := 128) (B := 56) 2 (grid0.coords t 1).val (iblk m c 0 t) (iblk m c 2 t) (iblk m c 1 t) r v k
      = edge (N := 8) (H := 112) (W := 112) (C := 128) (m ((c.tc : Thread nD τ).loc main_arg0)) (img t)
          (56 * (t.val % 2) + r) v k := by
  have hc := coord t
  rw [hc]
  exact halo_eq_edge (by omega) (by omega) (by omega) (by omega) (by omega) (fun v k h => top_apply m c t v k)
    (fun r v k h => main_apply m c t r v k) (fun v k h => bottom_apply m c t v k) r v k hr

/-- What the result array holds: the convolution at every other row and column of every image. -/
def image : Vec Ideal S8x56x56x128 .f32 := fun y =>
  max (linAt (C := 128) (O := 128)
    (edge (N := 8) (H := 112) (W := 112) (C := 128) (m ((c.tc : Thread nD τ).loc main_arg0)) ⟨(y 0).val, (y 0).isLt⟩)
    (m ((c.tc : Thread nD τ).loc main_arg1)) (m ((c.tc : Thread nD τ).loc main_arg2)) (2 * (y 1).val) (2 * (y 2).val) ⟨(y 3).val, (y 3).isLt⟩) 0

/-- After the run the result array holds that. -/
theorem final : (dats m 0 c).arrAt 5 cfg0.N = image m c := by
  refine (dats m 0 c).arrAt_eq_of_covers 5 (image m c) (by decide +kernel) fun t _ y => ?_
  blk_simp
  rw [after0_5, out_apply]
  have y0 : (y 0).val < 1 := (y 0).isLt
  have y1 : (y 1).val < 28 := (y 1).isLt
  have e0 : (((win0_5.blk t).view.emb y) 0).val = t.val / 2 := by blk_simp [idx_out t] <;> try omega
  have e1 : (((win0_5.blk t).view.emb y) 1).val = 28 * (t.val % 2) + (y 1).val := by blk_simp [idx_out t] <;> try omega
  have e2 : (((win0_5.blk t).view.emb y) 2).val = (y 2).val := by blk_simp [idx_out t] <;> try omega
  have e3 : (((win0_5.blk t).view.emb y) 3).val = (y 3).val := by blk_simp [idx_out t] <;> try omega
  unfold block image
  rw [weights_apply, bias_apply]
  simp only [e0, e1, e2, e3]
  congr 1
  rw [← nineAt_eq_linAt (W := V m c main_v36) (b' := V m c main_v37) _ (fun d e k => Host.weights m c d e k _) (Host.bias m c _)]
  exact nineAt_congr (fun a v k ha => (halo_eq m c t (2 * (y 1).val + a) v k (by omega)).trans
    (by rw [show 56 * (t.val % 2) + (2 * (y 1).val + a) = 2 * (28 * (t.val % 2) + (y 1).val) + a by omega]; rfl)) _ _ _

end Cert.Kernel5Ideal.Region

end
-- ==== Proof.Ref5.lean ====
/- What the reference of the second strided convolution computes: at each pixel, nine taps of the image. -/
module

public import proofs.«01_k».proof.Proof.Gen.Reference5Ideal.Run
public import proofs.«01_k».proof.Proof.Spec
public import Idealize.ShloMosaic.Lib.Pointwise

@[expose] public section

set_option maxRecDepth 16384

noncomputable section

namespace Cert.Reference5Ideal.Layer

open Cert.Upsample Cert.Reference5Ideal Cert.Reference5Ideal.Gen Idealize.ShloMosaic

variable {F : FTy → Type} [FloatOps F]

/-- The image inside its border of zeros. -/
def padded (g : (⟨S8x112x112x128, .f32⟩ : BufTy).Contents (Elt F)) : (⟨S8x114x114x128, .f32⟩ : BufTy).Contents (Elt F) :=
  pad S8x114x114x128 ![0, 1, 1, 0] ![0, 1, 1, 0] ![0, 0, 0, 0] g (sitofp .f32 (constantI S_ 32 0#32)) pads_S8x112x112x128_S8x114x114x128_000_110_110_000 h_S_

/-- The nine shifted images side by side, every other row and column of each. -/
def cat (P : (⟨S8x114x114x128, .f32⟩ : BufTy).Contents (Elt F)) : (⟨S8x56x56x1152, .f32⟩ : BufTy).Contents (Elt F) :=
  (concatenate S8x56x56x1152 3 [⟨S8x56x56x128, ((Host.slice S8x56x56x128 ![0, 0, 0, 0] ![1, 2, 2, 1] P slicesBy_S8x114x114x128_S8x56x56x128_0s1_0s2_0s2_0s1) : (⟨S8x56x56x128, .f32⟩ : BufTy).Contents (Elt F))⟩, ⟨S8x56x56x128, ((Host.slice S8x56x56x128 ![0, 0, 1, 0] ![1, 2, 2, 1] P slicesBy_S8x114x114x128_S8x56x56x128_0s1_0s2_1s2_0s1) : (⟨S8x56x56x128, .f32⟩ : BufTy).Contents (Elt F))⟩, ⟨S8x56x56x128, ((Host.slice S8x56x56x128 ![0, 0, 2, 0] ![1, 2, 2, 1] P slicesBy_S8x114x114x128_S8x56x56x128_0s1_0s2_2s2_0s1) : (⟨S8x56x56x128, .f32⟩ : BufTy).Contents (Elt F))⟩, ⟨S8x56x56x128, ((Host.slice S8x56x56x128 ![0, 1, 0, 0] ![1, 2, 2, 1] P slicesBy_S8x114x114x128_S8x56x56x128_0s1_1s2_0s2_0s1) : (⟨S8x56x56x128, .f32⟩ : BufTy).Contents (Elt F))⟩, ⟨S8x56x56x128, ((Host.slice S8x56x56x128 ![0, 1, 1, 0] ![1, 2, 2, 1] P slicesBy_S8x114x114x128_S8x56x56x128_0s1_1s2_1s2_0s1) : (⟨S8x56x56x128, .f32⟩ : BufTy).Contents (Elt F))⟩, ⟨S8x56x56x128, ((Host.slice S8x56x56x128 ![0, 1, 2, 0] ![1, 2, 2, 1] P slicesBy_S8x114x114x128_S8x56x56x128_0s1_1s2_2s2_0s1) : (⟨S8x56x56x128, .f32⟩ : BufTy).Contents (Elt F))⟩, ⟨S8x56x56x128, ((Host.slice S8x56x56x128 ![0, 2, 0, 0] ![1, 2, 2, 1] P slicesBy_S8x114x114x128_S8x56x56x128_0s1_2s2_0s2_0s1) : (⟨S8x56x56x128, .f32⟩ : BufTy).Contents (Elt F))⟩, ⟨S8x56x56x128, ((Host.slice S8x56x56x128 ![0, 2, 1, 0] ![1, 2, 2, 1] P slicesBy_S8x114x114x128_S8x56x56x128_0s1_2s2_1s2_0s1) : (⟨S8x56x56x128, .f32⟩ : BufTy).Contents (Elt F))⟩, ⟨S8x56x56x128, ((Host.slice S8x56x56x128 ![0, 2, 2, 0] ![1, 2, 2, 1] P slicesBy_S8x114x114x128_S8x56x56x128_0s1_2s2_2s2_0s1) : (⟨S8x56x56x128, .f32⟩ : BufTy).Contents (Elt F))⟩] concatenates_S8x56x56x128_S8x56x56x128_S8x56x56x128_S8x56x56x128_S8x56x56x128_S8x56x56x128_S8x56x56x128_S8x56x56x128_S8x56x56x128_S8x56x56x1152_d3 : (⟨S8x56x56x1152, .f32⟩ : BufTy).Contents (Elt F))

/-- The convolution over the nine images, with its bias and its cut at zero. -/
def conv (K : (⟨S8x56x56x1152, .f32⟩ : BufTy).Contents (Elt F)) (w : (⟨S128x128x3x3, .f32⟩ : BufTy).Contents (Elt F))
    (b : (⟨S128, .f32⟩ : BufTy).Contents (Elt F)) : (⟨S8x56x56x128, .f32⟩ : BufTy).Contents (Elt F) :=
  shapeCast _ (maximumf (addf (Host.dotGeneral dot_S8x3136x1152_S1152x128_S8x3136x128_2_0_01_1_n_n none (shapeCast _ (K) shapeCasts_S8x56x56x1152_S8x3136x1152) (shapeCast _ (transpose S3x3x128x128 [2, 3, 1, 0] w transposes_S128x128x3x3_S3x3x128x128_2_3_1_0) shapeCasts_S3x3x128x128_S1152x128)) (broadcastInDim S8x3136x128 ![0, 1, 2] bcast_S1x1x128_S8x3136x128_0_1_2 (broadcastInDim S1x1x128 ![2] bcast_S128_S1x1x128_2 b))) (broadcastInDim S8x3136x128 ![] bcast_S_S8x3136x128 (constant S_ .f32 0x00000000#32))) shapeCasts_S8x3136x128_S8x56x56x128

/-- The reference's result is those three in turn. -/
theorem res_eq (m : (ℓ : Loc nD τ sig) → Buf (Elt F) ℓ) (c : Dev nD) :
    Value.res_main_v19 m c = conv (cat (padded (m ((c.tc : Thread nD τ).loc main_arg0))))
      (m ((c.tc : Thread nD τ).loc main_arg1)) (m ((c.tc : Thread nD τ).loc main_arg2)) := rfl

/-- The padded image, read at a pixel. -/
theorem padded_apply (g : (⟨S8x112x112x128, .f32⟩ : BufTy).Contents (Elt Ideal)) (n : Fin 8) (r c : Fin 114) (k : Fin 128) :
    padded g (ix4 n r c k) = edge (N := 8) (H := 112) (W := 112) (C := 128) g n r c k := by
  have hr := r.isLt
  have hc := c.isLt
  have hz : (FloatOps.sitofp (F := Ideal) FTy.f32 0#32 : EReal) = 0 := by
    show (((0#32 : BitVec 32).toInt : ℝ) : EReal) = 0
    simp
  pointwise [padded]
  rw [hz]
  unfold edge
  by_cases h : (1 ≤ r.val ∧ r.val - 1 < 112) ∧ 1 ≤ c.val ∧ c.val - 1 < 112
  · rw [dif_pos h, dif_pos (by omega)]
  · rw [dif_neg h, dif_neg (by omega)]

/-- The nine images, read in the `t`-th: the padded image shifted by `t / 3` rows and `t % 3` columns. -/
theorem cat_apply (P : (⟨S8x114x114x128, .f32⟩ : BufTy).Contents (Elt Ideal)) (n : Fin 8) (i j : Fin 56) (t : Fin 9) (k : Fin 128) :
    cat P (ix4 n i j ⟨t.val * 128 + k.val, by omega⟩) = P (ix4 n ⟨2 * i + t / 3, by omega⟩ ⟨2 * j + t % 3, by omega⟩ k) := by
  have ht := t.isLt
  have hk := k.isLt
  have hi := i.isLt
  have hj := j.isLt
  have hP : ∀ (a a' b b' x x' : ℕ) (ha hb hx ha' hb' hx'), a = a' → b = b' → x = x' →
      P (ix4 n ⟨a, ha⟩ ⟨b, hb⟩ ⟨x, hx⟩) = P (ix4 n ⟨a', ha'⟩ ⟨b', hb'⟩ ⟨x', hx'⟩) := by
    intro a a' b b' x x' _ _ _ _ _ _ h h' h''
    subst h h' h''
    rfl
  pointwise [cat]
  split_ifs <;> exact hP _ _ _ _ _ _ _ _ _ _ _ _ (by omega) (by omega) (by omega)

/-- The convolution at a pixel: one sum over the nine images' channels. -/
theorem conv_apply (K : (⟨S8x56x56x1152, .f32⟩ : BufTy).Contents (Elt Ideal)) (w : (⟨S128x128x3x3, .f32⟩ : BufTy).Contents (Elt Ideal))
    (b : (⟨S128, .f32⟩ : BufTy).Contents (Elt Ideal)) (n : Fin 8) (i j : Fin 56) (o : Fin 128) :
    conv K w b (ix4 n i j o) = max (∑ x : Fin 1152, K (ix4 n i j x) * w (ix4 o ⟨x % 128, by omega⟩ ⟨x / 384, by omega⟩ ⟨x / 128 % 3, by omega⟩) + b (ix1 o)) (0 : EReal) := by
  pointwise [conv]

/-- The reference's result at a pixel: nine taps of the image. -/
theorem res_apply (m : (ℓ : Loc nD τ sig) → Buf (Elt Ideal) ℓ) (c : Dev nD) (n : Fin 8) (i j : Fin 56) (o : Fin 128) :
    (Value.res_main_v19 m c : Vec Ideal S8x56x56x128 .f32) (ix4 n i j o)
      = max (linAt (C := 128) (O := 128) (edge (N := 8) (H := 112) (W := 112) (C := 128) (m ((c.tc : Thread nD τ).loc main_arg0)) n)
          (m ((c.tc : Thread nD τ).loc main_arg1)) (m ((c.tc : Thread nD τ).loc main_arg2)) (2 * i.val) (2 * j.val) o) 0 := by
  rw [res_eq, conv_apply]
  unfold linAt
  congr 2
  rw [Fin.sum_univ_tiles 9 128 rfl, Fin.sum_univ_tiles 3 3 rfl]
  refine Finset.sum_congr rfl fun d _ => Finset.sum_congr rfl fun e _ => Finset.sum_congr rfl fun k _ => ?_
  have hd := d.isLt
  have he := e.isLt
  have hk := k.isLt
  rw [cat_apply _ n i j ⟨d.val * 3 + e.val, by omega⟩ k, padded_apply]
  have h1 : (d.val * 3 + e.val) / 3 = d.val := by omega
  have h2 : (d.val * 3 + e.val) % 3 = e.val := by omega
  have h3 : ((d.val * 3 + e.val) * 128 + k.val) % 128 = k.val := by omega
  have h4 : ((d.val * 3 + e.val) * 128 + k.val) / 384 = d.val := by omega
  have h5 : ((d.val * 3 + e.val) * 128 + k.val) / 128 % 3 = e.val := by omega
  simp only [h1, h2, h3, h4, h5]

end Cert.Reference5Ideal.Layer

end
-- ==== Proof.Value5.lean ====
/- The second strided convolution's run, and why its result is the reference's. -/
module

public import proofs.«01_k».proof.Defs
public import proofs.«01_k».proof.Proof.Region5
public import proofs.«01_k».proof.Proof.Ref5

@[expose] public section

set_option maxRecDepth 16384

noncomputable section

namespace Cert.Kernel5Ideal.Result

open Cert.Upsample Cert.Kernel5Ideal Cert.Kernel5Ideal.Gen Idealize.ShloMosaic Idealize.SL.Sem

/-- The run: the result ends at the convolution, the arguments as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v38) = Region.image m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 5).trans (Region.final m c), h.2 c⟩)
    (θ_run_and (run_main m ρ) (unchanged m ρ))

/-- The kernel call and its reference end with the same result. -/
theorem algebraic : Cert.algebraic_Kernel5Ideal_Reference5Ideal (hKernel5Ideal := Cert.Kernel5Ideal.Gen.facts)
    (hReference5Ideal := Cert.Reference5Ideal.Gen.facts) := by
  intro m g m' g' _ hm
  refine ⟨fun c => Region.image m c, run m g, (θ_run _ _ _).mono (fun _ h c => ⟨?_, (h c).2⟩) (Cert.Reference5Ideal.Value.run m' g')⟩
  rw [(h c).1]
  obtain ⟨e0, e1, e2⟩ := hm c
  funext y
  obtain ⟨n, i, j, o, rfl⟩ : ∃ n i j o, y = ix4 n i j o := ⟨y 0, y 1, y 2, y 3, by funext a; fin_cases a <;> rfl⟩
  refine (Cert.Reference5Ideal.Layer.res_apply m' c n i j o).trans ?_
  rw [e0, e1, e2]
  rfl

end Cert.Kernel5Ideal.Result

end
-- ==== Proof.First.lean ====
/- The nearest row of a table: the first index at which a list of distances is least, as a fold finds it and as a scan finds it. -/
module

public import Idealize.ShloMosaic.Lib.Pointwise
public import Idealize.ShloMosaic.Lib.WordArith

@[expose] public section

noncomputable section

namespace Cert.Quantise

open Idealize.ShloMosaic

/-- The first index at which `d` is least. -/
def IsFirst (d : Fin 128 → EReal) (j : Fin 128) : Prop := (∀ i, d j ≤ d i) ∧ ∀ i, i < j → d j < d i

/-- There is one. -/
theorem exists_first (d : Fin 128 → EReal) : ∃ j, IsFirst d j := by
  obtain ⟨a, ha⟩ := Finite.exists_min d
  have hne : (Finset.univ.filter fun j => ∀ i, d j ≤ d i).Nonempty := ⟨a, by simpa using ha⟩
  refine ⟨Finset.min' _ hne, ?_⟩
  have hm := Finset.min'_mem _ hne
  simp only [Finset.mem_filter, Finset.mem_univ, true_and] at hm
  refine ⟨hm, fun i hi => lt_of_not_ge fun hge => ?_⟩
  have := Finset.min'_le (Finset.univ.filter fun j => ∀ i, d j ≤ d i) i
    (by simp only [Finset.mem_filter, Finset.mem_univ, true_and]; exact fun k => hge.trans (hm k))
  exact absurd hi (not_lt.mpr this)

/-- The first index at which `d` is least. -/
def first (d : Fin 128 → EReal) : Fin 128 := (exists_first d).choose

/-- It is that. -/
theorem first_spec (d : Fin 128 → EReal) : IsFirst d (first d) := (exists_first d).choose_spec

/-- The fold of the lesser of two, from the greatest value on, is the least distance. -/
theorem fold_min (d : Fin 128 → EReal) : Finset.univ.fold min ⊤ d = d (first d) :=
  le_antisymm ((Finset.fold_min_le _).mpr (.inr ⟨first d, Finset.mem_univ _, le_rfl⟩))
    ((Finset.le_fold_min _).mpr ⟨le_top, fun i _ => (first_spec d).1 i⟩)

/-- The lesser of two words, as integers. -/
theorem toInt_minsi (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.mp h)]

/-- The least among the indices at which the distance is the least one, any other index counting as 128. -/
theorem fold_minsi (d : Fin 128 → EReal) (g : Fin 128 → BitVec 32)
    (hg : ∀ k, g k = if d k = d (first d) then BitVec.ofNat 32 k.val else 128#32) :
    Finset.univ.fold IntOp.minsi 2147483647#32 g = BitVec.ofNat 32 (first d).val := by
  apply BitVec.eq_of_toInt_eq
  have hj := (first d).isLt
  have hw : ∀ k : Fin 128, (BitVec.ofNat 32 k.val).toInt = (k.val : ℤ) := fun k =>
    WordArith.toInt_ofNat_small _ (by omega)
  rw [← Finset.fold_hom (op' := min) (m := BitVec.toInt) toInt_minsi, hw]
  refine le_antisymm ((Finset.fold_min_le _).mpr (.inr ⟨first d, Finset.mem_univ _, ?_⟩))
    ((Finset.le_fold_min _).mpr ⟨?_, fun i _ => ?_⟩)
  · rw [hg, if_pos rfl, hw]
  · have : (2147483647#32).toInt = 2147483647 := by decide
    rw [this]; omega
  · rw [hg]
    split_ifs with h
    · rw [hw]
      have : ¬ i < first d := fun hlt => absurd ((first_spec d).2 i hlt) (by rw [h]; exact lt_irrefl _)
      have h2 : (first d).val ≤ i.val := not_lt.mp this
      exact_mod_cast h2
    · have : (128#32).toInt = 128 := by decide
      rw [this]; omega

/-- A row picked by a vector that is one at it and zero elsewhere. -/
theorem sum_pick (j : Fin 128) (g e : Fin 128 → EReal) (hg : ∀ k, g k = if k = j then 1 else 0) :
    ∑ k, g k * e k = e j := by
  rw [Finset.sum_eq_single j]
  · rw [hg, if_pos rfl, one_mul]
  · intro k _ h
    rw [hg, if_neg h, zero_mul]
  · exact fun h => absurd (Finset.mem_univ j) h

/-- Two comes out of a sum of products. -/
theorem sum_two_mul (t : EReal) (h0 : 0 ≤ t) (ht : t ≠ ⊤) (a b : Fin 128 → EReal) : ∑ k, t * a k * b k = t * ∑ k, a k * b k := by
  have aux : ∀ s : Finset (Fin 128), ∑ k ∈ s, t * a k * b k = t * ∑ k ∈ s, a k * b k := fun s => by
    induction s using Finset.induction_on with
    | empty => simp
    | insert k s hk ih =>
      rw [Finset.sum_insert hk, Finset.sum_insert hk, ih, EReal.left_distrib_of_nonneg_of_ne_top h0 ht, mul_assoc]
  exact aux _

/-- One pair comes before another: a lesser value, or the same value and an index no greater. -/
def Before (p q : EReal × BitVec 32) : Prop := p.1 < q.1 ∨ (p.1 = q.1 ∧ p.2.toInt ≤ q.2.toInt)

/-- Coming before is transitive. -/
theorem Before.trans {p q r : EReal × BitVec 32} (h : Before p q) (h' : Before q r) : Before p r := by
  rcases h with h | ⟨h, k⟩ <;> rcases h' with h' | ⟨h', k'⟩
  · exact .inl (h.trans h')
  · exact .inl (h' ▸ h)
  · exact .inl (h ▸ h')
  · exact .inr ⟨h.trans h', k.trans k'⟩

/-- A scan that keeps, of two pairs, one that comes before both, ends at the start or a member of the list, before all of them. -/
theorem scan (f : EReal × BitVec 32 → EReal × BitVec 32 → EReal × BitVec 32)
    (hf : ∀ a b, (f a b = a ∨ f a b = b) ∧ Before (f a b) a ∧ Before (f a b) b) (l : List (EReal × BitVec 32)) :
    ∀ a, (l.foldl f a = a ∨ l.foldl f a ∈ l) ∧ Before (l.foldl f a) a ∧ ∀ p ∈ l, Before (l.foldl f a) p := by
  induction l with
  | nil => exact fun a => ⟨.inl rfl, .inr ⟨rfl, le_rfl⟩, fun p h => absurd h List.not_mem_nil⟩
  | cons b l ih =>
    intro a
    obtain ⟨h1, h2, h3⟩ := ih (f a b)
    obtain ⟨g1, g2, g3⟩ := hf a b
    refine ⟨?_, h2.trans g2, fun p hp => ?_⟩
    · simp only [List.foldl_cons, List.mem_cons]
      rcases h1 with h1 | h1
      · rcases g1 with g1 | g1
        · exact .inl (h1.trans g1)
        · exact .inr (.inl (h1.trans g1))
      · exact .inr (.inr h1)
    · rcases List.mem_cons.mp hp with rfl | hp
      · exact h2.trans g3
      · exact h3 p hp

/-- A scan of the distances paired with their indices, from the greatest value and index zero on, ends at the first least. -/
theorem scan_first (d : Fin 128 → EReal) (f : EReal × BitVec 32 → EReal × BitVec 32 → EReal × BitVec 32)
    (hf : ∀ a b, (f a b = a ∨ f a b = b) ∧ Before (f a b) a ∧ Before (f a b) b) (l : List (EReal × BitVec 32))
    (hl : ∀ p, p ∈ l ↔ ∃ k : Fin 128, p = (d k, BitVec.ofNat 32 k.val)) :
    (l.foldl f (⊤, 0#32)).2 = BitVec.ofNat 32 (first d).val := by
  obtain ⟨h1, -, h3⟩ := scan f hf l (⊤, 0#32)
  have hj := first_spec d
  have hw : ∀ k : Fin 128, (BitVec.ofNat 32 k.val).toInt = (k.val : ℤ) := fun k =>
    WordArith.toInt_ofNat_small _ (by omega)
  have hb := h3 _ ((hl _).mpr ⟨first d, rfl⟩)
  rcases h1 with h1 | h1
  · rw [h1] at hb ⊢
    have ht : d (first d) = ⊤ := by
      rcases hb with hb | ⟨hb, -⟩
      · exact absurd hb not_top_lt
      · exact hb.symm
    have h0 : ¬ (0 : Fin 128) < first d := fun h => by
      have := hj.2 0 h
      rw [ht] at this
      exact not_top_lt this
    have : first d = 0 := le_antisymm (not_lt.mp h0) (Fin.zero_le _)
    rw [this]; rfl
  · obtain ⟨k, hk⟩ := (hl _).mp h1
    rw [hk] at hb ⊢
    have : k = first d := by
      rcases hb with hb | ⟨hb, hi⟩
      · exact absurd (hj.1 k) (not_le.mpr hb)
      · have hb' : d k = d (first d) := hb
        have hi' : (BitVec.ofNat 32 k.val).toInt ≤ (BitVec.ofNat 32 (first d).val).toInt := hi
        rw [hw, hw] at hi'
        have hle : k ≤ first d := by
          show k.val ≤ (first d).val
          exact_mod_cast hi'
        rcases hle.lt_or_eq with h | h
        · exact absurd (hj.2 k h) (by rw [hb']; exact lt_irrefl _)
        · exact h
    rw [this]

/-- The squared distance of a row `z` from row `j` of the table `e`. -/
def dist (z : Fin 128 → EReal) (e : Fin 128 → Fin 128 → EReal) (j : Fin 128) : EReal :=
  (∑ k, z k * z k - (FloatOps.ofBits (F := Ideal) FTy.f32 0x40000000#32 : EReal) * ∑ k, z k * e j k) + ∑ k, e j k * e j k

/-- The row a vector is carried to: itself plus what separates it from the nearest row of the table. -/
def snap (z : Fin 128 → EReal) (e : Fin 128 → Fin 128 → EReal) (k : Fin 128) : EReal :=
  z k + (e (first (dist z e)) k - z k)

/-- A row of channels against a matrix, and a bias. -/
def affine (x : Fin 128 → EReal) (w : Fin 128 → Fin 128 → EReal) (b : Fin 128 → EReal) (o : Fin 128) : EReal :=
  ∑ k, x k * w o k + b o

/-- One pixel of the layer: the channels mixed, carried to the nearest row of the table, mixed again, and no less than zero. -/
def pixel (x : Fin 128 → EReal) (w : Fin 128 → Fin 128 → EReal) (b : Fin 128 → EReal) (e : Fin 128 → Fin 128 → EReal)
    (w' : Fin 128 → Fin 128 → EReal) (b' : Fin 128 → EReal) (o : Fin 128) : EReal :=
  max (affine (snap (affine x w b) e) w' b' o) 0

/-- A pixel depends on its inputs' entries only. -/
theorem pixel_congr {x y : Fin 128 → EReal} {w v w' v' : Fin 128 → Fin 128 → EReal} {b a b' a' : Fin 128 → EReal}
    (hx : ∀ k, x k = y k) (hw : ∀ o k, w o k = v o k) (hb : ∀ o, b o = a o) (hw' : ∀ o k, w' o k = v' o k) (hb' : ∀ o, b' o = a' o)
    (e : Fin 128 → Fin 128 → EReal) (o : Fin 128) : pixel x w b e w' b' o = pixel y v a e v' a' o := by
  obtain rfl := funext hx
  obtain rfl := funext fun o => funext (hw o)
  obtain rfl := funext hb
  obtain rfl := funext fun o => funext (hw' o)
  obtain rfl := funext hb'
  rfl

/-- A comparison of two words for equality, as a number. -/
theorem number_of_eq (a b : BitVec 32) :
    (FloatOps.sitofp (F := Ideal) FTy.f32 (BitVec.setWidth 32 (IntOp.cmpi CmpIPredicate.eq a b)) : EReal) = if a = b then 1 else 0 := by
  show (((BitVec.setWidth 32 (IntOp.cmpi CmpIPredicate.eq a b)).toInt : ℝ) : EReal) = _
  by_cases h : a = b
  · subst h
    simp [IntOp.cmpi]
  · have hb : (a == b) = false := by simpa using h
    simp [IntOp.cmpi, h, hb]

/-- The row the first least index picks, found by folds, is the nearest row. -/
theorem snap_of_folds (z : Fin 128 → EReal) (e : Fin 128 → Fin 128 → EReal) (k : Fin 128) (u : EReal) (hu : u = ⊤) :
    z k + ((∑ x : Fin 128, (FloatOps.sitofp (F := Ideal) FTy.f32 (BitVec.setWidth 32 (IntOp.cmpi CmpIPredicate.eq (BitVec.ofNat 32 x.val)
      (Finset.univ.fold IntOp.minsi 2147483647#32 fun x : Fin 128 =>
        if dist z e x = Finset.univ.fold min u (dist z e) then BitVec.ofNat 32 x.val else 128#32))) : EReal) * e x k) - z k)
      = snap z e k := by
  subst hu
  have hx : ∀ x : Fin 128, (BitVec.ofNat 32 x.val = BitVec.ofNat 32 (first (dist z e)).val) ↔ x = first (dist z e) := fun x =>
    ⟨fun h => by
      have h1 := congrArg BitVec.toNat h
      have := x.isLt
      have := (first (dist z e)).isLt
      simp only [BitVec.toNat_ofNat] at h1
      exact Fin.ext (by omega), fun h => by rw [h]⟩
  rw [fold_minsi (dist z e) _ fun x => by rw [fold_min]]
  rw [sum_pick (first (dist z e)) _ (fun x => e x k) fun x => by rw [number_of_eq]; simp only [hx]]
  rfl

/-- The constant two. -/
theorem two_f32 : (FloatOps.ofBits (F := Ideal) FTy.f32 0x40000000#32 : EReal) = 2 := by
  show Ideal.ofBits .f32 0x40000000#32 = 2
  simp [Ideal.ofBits, Ideal.ieee]
  rw [← EReal.coe_mul]
  norm_num
  rfl

/-- Two is not below zero. -/
theorem two_nonneg : (0 : EReal) ≤ 2 := EReal.coe_nonneg.mpr (by norm_num : (0 : ℝ) ≤ 2)

/-- Two is not the greatest value. -/
theorem two_ne_top : (2 : EReal) ≠ ⊤ := EReal.coe_ne_top 2

/-- The squared distance with the doubling inside the sum. -/
theorem dist_of_doubled (z : Fin 128 → EReal) (e : Fin 128 → Fin 128 → EReal) (j : Fin 128) :
    (∑ k, z k * z k - ∑ k, (FloatOps.ofBits (F := Ideal) FTy.f32 0x40000000#32 : EReal) * z k * e j k) + ∑ k, e j k * e j k = dist z e j := by
  rw [sum_two_mul _ (two_nonneg.trans_eq two_f32.symm) fun h => two_ne_top (two_f32.symm.trans h)]
  rfl

end Cert.Quantise

end
-- ==== Proof.Block6.lean ====
/- What one block of the quantisation computes. -/
module

public import proofs.«01_k».proof.Proof.Gen.Kernel6Ideal.Skeleton
public import proofs.«01_k».proof.Proof.Gen.Kernel6Ideal.Frame
public import proofs.«01_k».proof.Proof.First
public import proofs.«01_k».proof.Proof.Finite
public import Idealize.ShloMosaic.Lib.Pointwise

@[expose] public section

set_option maxRecDepth 16384

noncomputable section

namespace Cert.Kernel6Ideal.Block

open Cert.Quantise Cert.Kernel6Ideal Cert.Kernel6Ideal.Gen Idealize.ShloMosaic

set_option maxHeartbeats 4000000 in
/-- The row a row of the block is carried to. -/
theorem pay2_apply (v0 : Vec Ideal S3136x128 .f32) (v2 : Vec Ideal S128x128 .f32) (v5 : Vec Ideal S1x128 .f32)
    (v10 : Vec Ideal S128x128 .f32) (n : Fin 3136) (k : Fin 128) :
    k0_pay2 v0 v2 v5 v10 (ix2 n k)
      = snap (affine (fun k => v0 (ix2 n k)) (fun o k => v2 (ix2 k o)) (fun o => v5 (ix2 0 o))) (fun j k => v10 (ix2 j k)) k := by
  pointwise [k0_pay2]
  exact snap_of_folds (affine (fun k => v0 (ix2 n k)) (fun o k => v2 (ix2 k o)) fun o => v5 (ix2 0 o)) (fun j k => v10 (ix2 j k)) k _ Cert.Upsample.inf_f32

/-- A pixel of the block, from the block's row and the whole weights, biases and table. -/
def block (x0 : Vec Ideal S3136x128 .f32) (x1 : Vec Ideal S128x128 .f32) (x2 : Vec Ideal S1x128 .f32) (x3 x4 : Vec Ideal S128x128 .f32)
    (x5 : Vec Ideal S1x128 .f32) : Vec Ideal S3136x128 .f32 := fun y =>
  pixel (fun k => x0 (ix2 ⟨(y 0).val, (y 0).isLt⟩ k)) (fun o k => x1 (ix2 k o)) (fun o => x2 (ix2 0 o)) (fun j k => x3 (ix2 j k))
    (fun o k => x4 (ix2 k o)) (fun o => x5 (ix2 0 o)) ⟨(y 1).val, (y 1).isLt⟩

/-- A whole-block load of the rows is the block of rows. -/
theorem ld_rows (x : Vec Ideal S3136x128 .f32) : View.ld x r0_0 = x := by
  funext y
  idx_vars y
  pointwise []

/-- A whole-block load of a matrix is the matrix. -/
theorem ld_matrix (x : Vec Ideal S128x128 .f32) : View.ld x r0_1 = x := by
  funext y
  idx_vars y
  pointwise []

/-- A whole-block load of a bias is the bias. -/
theorem ld_bias (x : Vec Ideal S1x128 .f32) : View.ld x r0_2 = x := by
  funext y
  idx_vars y
  obtain rfl : y0 = 0 := Subsingleton.elim _ _
  pointwise []

/-- The block's result is that, at every index. -/
theorem out_apply (x0 : Vec Ideal S3136x128 .f32) (x1 : Vec Ideal S128x128 .f32) (x2 : Vec Ideal S1x128 .f32) (x3 x4 : Vec Ideal S128x128 .f32)
    (x5 : Vec Ideal S1x128 .f32) (y : S3136x128.Idx) : out0_6 x0 x1 x2 x3 x4 x5 y = block x0 x1 x2 x3 x4 x5 y := by
  unfold out0_6
  refine View.canon_apply_of_pieces (block x0 x1 x2 x3 x4 x5) _ ?_ y (cover0_6 _ y)
  intro p hp z
  simp only [List.mem_cons, List.not_mem_nil, or_false] at hp
  subst hp
  idx_vars z
  rw [ld_rows, ld_matrix, ld_matrix, ld_matrix, ld_bias, ld_bias]
  have g0 : ((r0_0.emb (ix2 z0 z1)) 0).val = z0.val := by simp [Rect.emb_apply, r0_0]
  have g1 : ((r0_0.emb (ix2 z0 z1)) 1).val = z1.val := by simp [Rect.emb_apply, r0_0]
  simp only [block, g0, g1]
  pointwise [k0_pay1]
  simp only [pay2_apply]
  rfl

end Cert.Kernel6Ideal.Block

end
-- ==== Proof.Host6.lean ====
/- What the program does to its input, weights and biases before the quantisation. -/
module

public import proofs.«01_k».proof.Proof.Gen.Kernel6Ideal.Frame
public import Idealize.ShloMosaic.Lib.Pointwise
public import Idealize.ShloMosaic.Lib.StableHlo.ReadAt

@[expose] public section

set_option maxRecDepth 16384

noncomputable section

namespace Cert.Kernel6Ideal.Host

open Cert.Kernel6Ideal Cert.Kernel6Ideal.Gen Idealize.ShloMosaic Idealize.ShloMosaic.StableHlo

variable (m : (ℓ : Loc nD τ sig) → Buf (Elt Ideal) ℓ) (c : Dev nD)

/-- The rows the region reads are the pixels of the images, one after another. -/
theorem rows (n : Fin 25088) (k : Fin 128) :
    (V m c main_v0 : Vec Ideal S25088x128 .f32) (ix2 n k)
      = (m ((c.tc : Thread nD τ).loc main_arg0) : Vec Ideal S8x56x56x128 .f32)
          (ix4 ⟨n.val / 3136, by omega⟩ ⟨n.val / 56 % 56, by omega⟩ ⟨n.val % 56, by omega⟩ k) := by
  have hn := n.isLt
  show (after hostOps0 (fun b => m (c, b)) (Proc.devRef .tc main_v0) : Vec Ideal S25088x128 .f32) _ = _
  after_reads_simp
  clean_types
  pointwise

/-- The first matrix, its inputs first. -/
theorem before_apply (k o : Fin 128) :
    (V m c main_v2 : Vec Ideal S128x128 .f32) (ix2 k o)
      = (m ((c.tc : Thread nD τ).loc main_arg1) : Vec Ideal S128x128x1x1 .f32) (ix4 o k 0 0) := by
  show (after hostOps0 (fun b => m (c, b)) (Proc.devRef .tc main_v2) : Vec Ideal S128x128 .f32) _ = _
  after_reads_simp
  clean_types
  pointwise

/-- The second matrix, its inputs first. -/
theorem after_apply (k o : Fin 128) :
    (V m c main_v4 : Vec Ideal S128x128 .f32) (ix2 k o)
      = (m ((c.tc : Thread nD τ).loc main_arg4) : Vec Ideal S128x128x1x1 .f32) (ix4 o k 0 0) := by
  show (after hostOps0 (fun b => m (c, b)) (Proc.devRef .tc main_v4) : Vec Ideal S128x128 .f32) _ = _
  after_reads_simp
  clean_types
  pointwise

/-- The first bias, as one row. -/
theorem bias_before (o : Fin 128) :
    (V m c main_v5 : Vec Ideal S1x128 .f32) (ix2 0 o) = (m ((c.tc : Thread nD τ).loc main_arg2) : Vec Ideal S128 .f32) (ix1 o) := by
  show (after hostOps0 (fun b => m (c, b)) (Proc.devRef .tc main_v5) : Vec Ideal S1x128 .f32) _ = _
  after_reads_simp
  clean_types
  pointwise

/-- The second bias, as one row. -/
theorem bias_after (o : Fin 128) :
    (V m c main_v6 : Vec Ideal S1x128 .f32) (ix2 0 o) = (m ((c.tc : Thread nD τ).loc main_arg5) : Vec Ideal S128 .f32) (ix1 o) := by
  show (after hostOps0 (fun b => m (c, b)) (Proc.devRef .tc main_v6) : Vec Ideal S1x128 .f32) _ = _
  after_reads_simp
  clean_types
  pointwise

end Cert.Kernel6Ideal.Host

end
-- ==== Proof.Region6.lean ====
/- What the quantisation leaves in its result array. -/
module

public import proofs.«01_k».proof.Proof.Block6
public import proofs.«01_k».proof.Proof.Host6
public import Idealize.ShloMosaic.Lib.Pipeline.Value
public import Idealize.ShloMosaic.Lib.Pipeline.ValueKit.Point

@[expose] public section

set_option maxRecDepth 16384

noncomputable section

namespace Cert.Kernel6Ideal.Region

open Cert.Quantise Cert.Kernel6Ideal Cert.Kernel6Ideal.Gen Cert.Kernel6Ideal.Block Idealize.ShloMosaic
open Idealize.ShloMosaic.Pipeline (Dat)

variable (m : (ℓ : Loc nD τ sig) → Buf (Elt Ideal) ℓ) (c : Dev nD)

/-- The window on the rows: block `t`. -/
theorem idx_rows : ∀ t : Fin grid0.N, win0_0.index t 0 = t.val ∧ win0_0.index t 1 = 0 := by decide +kernel
/-- The window on the first matrix is the whole array. -/
theorem idx_before : ∀ t : Fin grid0.N, win0_1.index t 0 = 0 ∧ win0_1.index t 1 = 0 := by decide +kernel
/-- The window on the first bias is the whole array. -/
theorem idx_bias : ∀ t : Fin grid0.N, win0_2.index t 0 = 0 ∧ win0_2.index t 1 = 0 := by decide +kernel
/-- The window on the table is the whole array. -/
theorem idx_table : ∀ t : Fin grid0.N, win0_3.index t 0 = 0 ∧ win0_3.index t 1 = 0 := by decide +kernel
/-- The window on the second matrix is the whole array. -/
theorem idx_after : ∀ t : Fin grid0.N, win0_4.index t 0 = 0 ∧ win0_4.index t 1 = 0 := by decide +kernel
/-- The window on the second bias is the whole array. -/
theorem idx_bias_after : ∀ t : Fin grid0.N, win0_5.index t 0 = 0 ∧ win0_5.index t 1 = 0 := by decide +kernel
/-- The window on the result: block `t`. -/
theorem idx_out : ∀ t : Fin grid0.N, win0_6.index t 0 = t.val ∧ win0_6.index t 1 = 0 := by decide +kernel

/-- The block's rows. -/
theorem rows_apply (t : Fin cfg0.N) (r : Fin 3136) (k : Fin 128) :
    (iblk m c 0 t : Vec Ideal S3136x128 .f32) (ix2 r k)
      = (V m c main_v0 : Vec Ideal S25088x128 .f32) (ix2 ⟨3136 * t.val + r.val, by have h : t.val < 8 := t.isLt; omega⟩ k) := by
  blk_ext [iblk, idx_rows t]

/-- The first matrix's block is the whole of it. -/
theorem before_eq (t : Fin cfg0.N) : (iblk m c 1 t : Vec Ideal S128x128 .f32) = V m c main_v2 := by
  funext y
  blk_ext [iblk, idx_before t]

/-- The first bias's block is the whole of it. -/
theorem bias_eq (t : Fin cfg0.N) : (iblk m c 2 t : Vec Ideal S1x128 .f32) = V m c main_v5 := by
  funext y
  blk_ext [iblk, idx_bias t]

/-- The table's block is the whole of it. -/
theorem table_eq (t : Fin cfg0.N) :
    (iblk m c 3 t : Vec Ideal S128x128 .f32) = (m ((c.tc : Thread nD τ).loc main_arg3) : Vec Ideal S128x128 .f32) := by
  rw [← V_main_arg3 m c]
  funext y
  blk_ext [iblk, idx_table t]

/-- The second matrix's block is the whole of it. -/
theorem after_eq (t : Fin cfg0.N) : (iblk m c 4 t : Vec Ideal S128x128 .f32) = V m c main_v4 := by
  funext y
  blk_ext [iblk, idx_after t]

/-- The second bias's block is the whole of it. -/
theorem bias_after_eq (t : Fin cfg0.N) : (iblk m c 5 t : Vec Ideal S1x128 .f32) = V m c main_v6 := by
  funext y
  blk_ext [iblk, idx_bias_after t]

/-- What the result array holds: every pixel of every image through the layer. -/
def image : Vec Ideal S25088x128 .f32 := fun y =>
  pixel (fun k => (m ((c.tc : Thread nD τ).loc main_arg0) : Vec Ideal S8x56x56x128 .f32)
      (ix4 ⟨(y 0).val / 3136, by have h : (y 0).val < 25088 := (y 0).isLt; omega⟩ ⟨(y 0).val / 56 % 56, by omega⟩ ⟨(y 0).val % 56, by omega⟩ k))
    (fun o k => (m ((c.tc : Thread nD τ).loc main_arg1) : Vec Ideal S128x128x1x1 .f32) (ix4 o k 0 0))
    (fun o => (m ((c.tc : Thread nD τ).loc main_arg2) : Vec Ideal S128 .f32) (ix1 o))
    (fun j k => (m ((c.tc : Thread nD τ).loc main_arg3) : Vec Ideal S128x128 .f32) (ix2 j k))
    (fun o k => (m ((c.tc : Thread nD τ).loc main_arg4) : Vec Ideal S128x128x1x1 .f32) (ix4 o k 0 0))
    (fun o => (m ((c.tc : Thread nD τ).loc main_arg5) : Vec Ideal S128 .f32) (ix1 o)) ⟨(y 1).val, (y 1).isLt⟩

/-- After the run the result array holds that. -/
theorem final : (dats m 0 c).arrAt 6 cfg0.N = image m c := by
  refine (dats m 0 c).arrAt_eq_of_covers 6 (image m c) (by decide +kernel) fun t _ y => ?_
  blk_simp
  rw [after0_6, out_apply]
  have y0 : (y 0).val < 3136 := (y 0).isLt
  have y1 : (y 1).val < 128 := (y 1).isLt
  have e0 : (((win0_6.blk t).view.emb y) 0).val = 3136 * t.val + (y 0).val := by blk_simp [idx_out t] <;> try omega
  have e1 : (((win0_6.blk t).view.emb y) 1).val = (y 1).val := by blk_simp [idx_out t] <;> try omega
  unfold block image
  rw [before_eq, bias_eq, table_eq, after_eq, bias_after_eq]
  simp only [e0, e1, rows_apply]
  exact pixel_congr (fun k => Host.rows m c ⟨3136 * t.val + (y 0).val, by have h : t.val < 8 := t.isLt; omega⟩ k)
    (fun o k => Host.before_apply m c k o) (fun o => Host.bias_before m c o) (fun o k => Host.after_apply m c k o) (fun o => Host.bias_after m c o) _ _

end Cert.Kernel6Ideal.Region

end
-- ==== Proof.Dist6.lean ====
/- The quantisation's reference, read at an index. -/
module

public import proofs.«01_k».proof.Proof.RefRun6
public import proofs.«01_k».proof.Proof.First
public import proofs.«01_k».proof.Proof.Finite
public import Idealize.ShloMosaic.Lib.Pointwise
public import Idealize.ShloMosaic.Lib.StableHlo.ReadAt
public import Idealize.ShloMosaic.Lib.Routing.Ops

@[expose] public section

set_option maxRecDepth 16384

noncomputable section

namespace Cert.Reference6Ideal.Layers

open Cert.Quantise Cert.Upsample Cert.Reference6Ideal Cert.Reference6Ideal.Gen Idealize.ShloMosaic Idealize.ShloMosaic.StableHlo

variable (V : Valuation τ sig (Elt Ideal))

/-- The row the layer looks up, before it is looked up. -/
def row (n : Fin 25088) : Fin 128 → EReal :=
  affine (fun k => (V (Proc.devRef .tc main_arg0) : Vec Ideal S8x56x56x128 .f32)
      (ix4 ⟨n.val / 3136, by omega⟩ ⟨n.val / 56 % 56, by omega⟩ ⟨n.val % 56, by omega⟩ k))
    (fun o k => (V (Proc.devRef .tc main_arg1) : Vec Ideal S128x128x1x1 .f32) (ix4 o k 0 0))
    (fun o => (V (Proc.devRef .tc main_arg2) : Vec Ideal S128 .f32) (ix1 o))

/-- The table. -/
def table (j k : Fin 128) : EReal := (V (Proc.devRef .tc main_arg3) : Vec Ideal S128x128 .f32) (ix2 j k)

set_option maxHeartbeats 4000000 in
/-- The rows. -/
theorem rows_apply (n : Fin 25088) (k : Fin 128) :
    (after layer1 V (Proc.devRef .tc main_v6) : Vec Ideal S25088x128 .f32) (ix2 n k) = row V n k := by
  have hn := n.isLt
  after_reads_simp
  clean_types
  pointwise
  rfl

set_option maxHeartbeats 4000000 in
/-- The distances. -/
theorem dist_apply (n : Fin 25088) (j : Fin 128) :
    (after layer1 V (Proc.devRef .tc main_v20) : Vec Ideal S25088x128 .f32) (ix2 n j) = dist (row V n) (table V) j := by
  have hn := n.isLt
  after_reads_simp
  clean_types
  pointwise
  exact dist_of_doubled (row V n) (table V) j

end Cert.Reference6Ideal.Layers

end
-- ==== Proof.Scan6.lean ====
/- The quantisation's reference, read at an index. -/
module

public import proofs.«01_k».proof.Proof.RefRun6
public import proofs.«01_k».proof.Proof.First
public import proofs.«01_k».proof.Proof.Finite
public import Idealize.ShloMosaic.Lib.Pointwise
public import Idealize.ShloMosaic.Lib.StableHlo.ReadAt
public import Idealize.ShloMosaic.Lib.Routing.Ops

@[expose] public section

set_option maxRecDepth 16384

noncomputable section

namespace Cert.Reference6Ideal.Layers

open Cert.Quantise Cert.Upsample Cert.Reference6Ideal Cert.Reference6Ideal.Gen Idealize.ShloMosaic Idealize.ShloMosaic.StableHlo

/-- One step of the scan keeps the pair that comes first. -/
theorem step (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨x, i⟩ := a
  obtain ⟨y, j⟩ := b
  have e : reducer_argmin_f32_i32 (F := Ideal) (x, i) (y, j)
      = (if x < y then x else y, if x < y ∨ (x = y ∧ i.toInt < j.toInt) then i else j) := by
    unfold reducer_argmin_f32_i32
    simp only [Ideal.cmpf_def, Ideal.cmp, Scalar.select, IntOp.ori, IntOp.andi, IntOp.cmpi, BitVec.slt]
    by_cases h1 : x < y <;> by_cases h2 : x = y <;> by_cases h3 : i.toInt < j.toInt <;> simp [h1, h2, h3]
  rw [e]
  rcases lt_trichotomy x y with h | h | h
  · rw [if_pos h, if_pos (.inl h)]
    exact ⟨.inl rfl, .inr ⟨rfl, le_rfl⟩, .inl h⟩
  · subst h
    rw [if_neg (lt_irrefl x)]
    by_cases hi : i.toInt < j.toInt
    · rw [if_pos (.inr ⟨rfl, hi⟩)]
      exact ⟨.inl rfl, .inr ⟨rfl, le_rfl⟩, .inr ⟨rfl, hi.le⟩⟩
    · rw [if_neg (by simp [hi])]
      exact ⟨.inr rfl, .inr ⟨rfl, not_lt.mp hi⟩, .inr ⟨rfl, le_rfl⟩⟩
  · rw [if_neg h.not_gt, if_neg (by rintro (h' | ⟨h', -⟩); exacts [h.not_gt h', h.ne' h'])]
    exact ⟨.inr rfl, .inl h, .inr ⟨rfl, le_rfl⟩⟩

/-- The scan of a row ends at the first least. -/
theorem argmin_apply (x : Vec Ideal S25088x128 .f32) (d : Fin 128 → EReal) (n : Fin 25088) (hx : ∀ k, x (ix2 n k) = d k) :
    (Host.argReduce (F := Ideal) reducer_argmin_f32_i32 x (iotaInDim S25088x128 32 1) (constant S_ .f32 0x7F800000#32) (constantI S_ 32 0#32)
      reducesTo_S25088x128_S25088_d1 h_S_ (ix1 n)).2 = BitVec.ofNat 32 (first d).val := by
  rw [Ideal.argReduce_eq_reduce2, Host.reduce2_eq_foldl_fiber]
  have hinit : ((constant S_ .f32 0x7F800000#32 : FVec Ideal S_ .f32) (Shape.Idx.first h_S_), (constantI S_ 32 0#32) (Shape.Idx.first h_S_))
      = ((⊤ : EReal), 0#32) := Prod.ext inf_f32 rfl
  rw [hinit]
  refine scan_first d _ step _ fun p => ?_
  simp only [Host.argReduceFiber, List.mem_map, List.mem_filter, List.mem_finRange, true_and, decide_eq_true_eq]
  have hdrop : ∀ i : S25088x128.Idx, reducesTo_S25088x128_S25088_d1.drop i = ix1 n ↔ (i 0).val = n.val := fun i => by
    simp [funext_iff, Fin.ext_iff, Fin.forall_fin_one, reducesTo_S25088x128_S25088_d1.drop_apply_val_of_eq i 0 0]
  constructor
  · rintro ⟨q, hq, rfl⟩
    generalize S25088x128.rowMajor.symm q = i at hq ⊢
    idx_vars i
    have hi : i0 = n := Fin.ext ((hdrop _).mp hq)
    subst hi
    exact ⟨i1, Prod.ext (hx i1) (by pointwise)⟩
  · rintro ⟨k, rfl⟩
    refine ⟨S25088x128.rowMajor (ix2 n k), ?_, ?_⟩
    · rw [Equiv.symm_apply_apply]
      exact (hdrop _).mpr rfl
    · rw [Equiv.symm_apply_apply]
      exact Prod.ext (hx k) (by pointwise)

end Cert.Reference6Ideal.Layers

end
-- ==== Proof.Nearest6.lean ====
/- The quantisation's reference, read at an index. -/
module

public import proofs.«01_k».proof.Proof.RefRun6
public import proofs.«01_k».proof.Proof.Scan6
public import proofs.«01_k».proof.Proof.Finite
public import Idealize.ShloMosaic.Lib.Pointwise
public import Idealize.ShloMosaic.Lib.StableHlo.ReadAt
public import Idealize.ShloMosaic.Lib.Routing.Ops

@[expose] public section

set_option maxRecDepth 16384

noncomputable section

namespace Cert.Reference6Ideal.Layers

open Cert.Quantise Cert.Upsample Cert.Reference6Ideal Cert.Reference6Ideal.Gen Idealize.ShloMosaic Idealize.ShloMosaic.StableHlo

variable (V : Valuation τ sig (Elt Ideal))

/-- What two scans of the rows, whatever they scan for, leave in the second's array. -/
theorem scans (f : (⟨S25088x128, .f32⟩ : BufTy).Contents (Elt Ideal) → (⟨S25088x128, .i32⟩ : BufTy).Contents (Elt Ideal) → (⟨S_, .f32⟩ : BufTy).Contents (Elt Ideal) → (⟨S_, .i32⟩ : BufTy).Contents (Elt Ideal) → (⟨S25088, .f32⟩ : BufTy).Contents (Elt Ideal))
    (g : (⟨S25088x128, .f32⟩ : BufTy).Contents (Elt Ideal) → (⟨S25088x128, .i32⟩ : BufTy).Contents (Elt Ideal) → (⟨S_, .f32⟩ : BufTy).Contents (Elt Ideal) → (⟨S_, .i32⟩ : BufTy).Contents (Elt Ideal) → (⟨S25088, .i32⟩ : BufTy).Contents (Elt Ideal)) :
    after (
      [ TRef.nullary (TRef.of (T := ⟨S25088x128, .i32⟩) main_call0_v0) (iotaInDim S25088x128 32 1),
        TRef.nullary (TRef.of (T := ⟨S_, .f32⟩) main_call0_cst) (constant (F := Ideal) S_ .f32 0x7F800000#32),
        TRef.nullary (TRef.of (T := ⟨S_, .i32⟩) main_call0_c) (constantI S_ 32 0#32),
        TRef.quaternary (TRef.of (T := ⟨S25088x128, .f32⟩) main_v20) (TRef.of (T := ⟨S25088x128, .i32⟩) main_call0_v0) (TRef.of (T := ⟨S_, .f32⟩) main_call0_cst) (TRef.of (T := ⟨S_, .i32⟩) main_call0_c) (TRef.of (T := ⟨S25088, .f32⟩) main_call0_v1_0) f,
        TRef.quaternary (TRef.of (T := ⟨S25088x128, .f32⟩) main_v20) (TRef.of (T := ⟨S25088x128, .i32⟩) main_call0_v0) (TRef.of (T := ⟨S_, .f32⟩) main_call0_cst) (TRef.of (T := ⟨S_, .i32⟩) main_call0_c) (TRef.of (T := ⟨S25088, .i32⟩) main_v21) g ] : List (HloOp τ sig (Elt Ideal))) V (Proc.devRef .tc main_v21)
      = g (V (Proc.devRef .tc main_v20)) (iotaInDim S25088x128 32 1) (constant (F := Ideal) S_ .f32 0x7F800000#32) (constantI S_ 32 0#32) := by
  after_reads_simp
  simp only [TRef.toBuf, TRef.ofBuf, cast_eq]

/-- The nearest row's index. -/
theorem nearest_apply (d : Fin 128 → EReal) (n : Fin 25088)
    (hd : ∀ k, (V (Proc.devRef .tc main_v20) : Vec Ideal S25088x128 .f32) (ix2 n k) = d k) :
    (after layer2 V (Proc.devRef .tc main_v21) : IVec S25088 32) (ix1 n) = BitVec.ofNat 32 (first d).val :=
  (congrFun (scans V _ _) (ix1 n)).trans (argmin_apply (V (Proc.devRef .tc main_v20)) d n hd)

end Cert.Reference6Ideal.Layers

end
-- ==== Proof.Take6.lean ====
/- The quantisation's reference, read at an index. -/
module

public import proofs.«01_k».proof.Proof.RefRun6
public import proofs.«01_k».proof.Proof.First
public import proofs.«01_k».proof.Proof.Finite
public import Idealize.ShloMosaic.Lib.Pointwise
public import Idealize.ShloMosaic.Lib.StableHlo.ReadAt
public import Idealize.ShloMosaic.Lib.Routing.Ops

@[expose] public section

set_option maxRecDepth 16384

noncomputable section

namespace Cert.Reference6Ideal.Layers

open Cert.Quantise Cert.Upsample Cert.Reference6Ideal Cert.Reference6Ideal.Gen Idealize.ShloMosaic Idealize.ShloMosaic.StableHlo

/-- An index in range, counted from the end where negative, is itself. -/
theorem wrap_eq : ∀ j : Fin 128, Scalar.select (IntOp.cmpi CmpIPredicate.slt (BitVec.ofNat 32 j.val) 0#32)
    (IntOp.addi (BitVec.ofNat 32 j.val) 128#32) (BitVec.ofNat 32 j.val) = BitVec.ofNat 32 j.val := by decide

/-- An index in range is found in range. -/
theorem range_eq : ∀ j : Fin 128, IntOp.andi (IntOp.cmpi CmpIPredicate.sge (BitVec.ofNat 32 j.val) 0#32)
    (IntOp.cmpi CmpIPredicate.sle (BitVec.ofNat 32 j.val) 127#32) = 1#1 := by decide

variable (V : Valuation τ sig (Elt Ideal))

set_option maxHeartbeats 4000000 in
/-- The row of the table at an index in range. -/
theorem take_apply (n : Fin 25088) (k : Fin 128) (j : Fin 128)
    (hj : (V (Proc.devRef .tc main_v21) : IVec S25088 32) (ix1 n) = BitVec.ofNat 32 j.val) :
    (after layer3 V (Proc.devRef .tc main_v22) : Vec Ideal S25088x128 .f32) (ix2 n k)
      = (V (Proc.devRef .tc main_arg3) : Vec Ideal S128x128 .f32) (ix2 j k) := by
  after_reads_simp
  simp only [TRef.toBuf, TRef.ofBuf, cast_eq]
  clean_types
  pointwise
  have hi : ∀ (a : Fin 25088) (b : Fin 128), (ValueIdx.ix2 a b : S25088x128.Idx) = ix2 a b := fun a b => by
    funext z
    fin_cases z <;> rfl
  rw [← hi, Routing.gather_row (nb := 128) (B := 128) (n := 25088) gather_S128x128_S25088x1_S25088x128_1_0_n_n_0_1_1128 rfl rfl rfl rfl rfl _ _ n k j
    (by
      rw [show (ValueIdx.ix2 n (0 : Fin 1) : S25088x1.Idx) = ix2 n 0 by funext z; fin_cases z <;> rfl]
      pointwise
      rw [hj]
      exact wrap_eq j) (by norm_num)]
  rw [show (ValueIdx.ix2 j k : S128x128.Idx) = ix2 j k by funext z; fin_cases z <;> rfl]
  rw [hj]
  simp only [wrap_eq, range_eq]
  rfl

end Cert.Reference6Ideal.Layers

end
-- ==== Proof.Mixed6.lean ====
/- The quantisation's reference, read at an index. -/
module

public import proofs.«01_k».proof.Proof.RefRun6
public import proofs.«01_k».proof.Proof.First
public import proofs.«01_k».proof.Proof.Finite
public import Idealize.ShloMosaic.Lib.Pointwise
public import Idealize.ShloMosaic.Lib.StableHlo.ReadAt
public import Idealize.ShloMosaic.Lib.Routing.Ops

@[expose] public section

set_option maxRecDepth 16384

noncomputable section

namespace Cert.Reference6Ideal.Layers

open Cert.Quantise Cert.Upsample Cert.Reference6Ideal Cert.Reference6Ideal.Gen Idealize.ShloMosaic Idealize.ShloMosaic.StableHlo

variable (V : Valuation τ sig (Elt Ideal))

set_option maxHeartbeats 4000000 in
/-- The layer on the row. -/
theorem mixed_apply (n : Fin 25088) (o : Fin 128) (z q : Fin 128 → EReal)
    (hz : ∀ k, (V (Proc.devRef .tc main_v6) : Vec Ideal S25088x128 .f32) (ix2 n k) = z k)
    (hq : ∀ k, (V (Proc.devRef .tc main_v22) : Vec Ideal S25088x128 .f32) (ix2 n k) = q k) :
    (after layer4 V (Proc.devRef .tc main_v31) : Vec Ideal S25088x128 .f32) (ix2 n o)
      = max (affine (fun k => z k + (q k - z k))
        (fun o k => (V (Proc.devRef .tc main_arg4) : Vec Ideal S128x128x1x1 .f32) (ix4 o k 0 0))
        (fun o => (V (Proc.devRef .tc main_arg5) : Vec Ideal S128 .f32) (ix1 o)) o) 0 := by
  after_reads_simp
  simp only [TRef.toBuf, TRef.ofBuf, cast_eq]
  clean_types
  pointwise
  simp only [hz, hq]
  rfl

end Cert.Reference6Ideal.Layers

end
-- ==== Proof.Ref6.lean ====
/- The quantisation's reference, read at an index. -/
module

public import proofs.«01_k».proof.Proof.RefRun6
public import proofs.«01_k».proof.Proof.Dist6
public import proofs.«01_k».proof.Proof.Nearest6
public import proofs.«01_k».proof.Proof.Take6
public import proofs.«01_k».proof.Proof.Mixed6
public import proofs.«01_k».proof.Proof.Finite
public import Idealize.ShloMosaic.Lib.Pointwise
public import Idealize.ShloMosaic.Lib.StableHlo.ReadAt
public import Idealize.ShloMosaic.Lib.Routing.Ops

@[expose] public section

set_option maxRecDepth 16384

noncomputable section

namespace Cert.Reference6Ideal.Layers

open Cert.Quantise Cert.Upsample Cert.Reference6Ideal Cert.Reference6Ideal.Gen Idealize.ShloMosaic Idealize.ShloMosaic.StableHlo

variable (V : Valuation τ sig (Elt Ideal))

/-- The result at an index. -/
theorem res_apply (n : Fin 25088) (o : Fin 128) :
    (after ops V (Proc.devRef .tc main_v31) : Vec Ideal S25088x128 .f32) (ix2 n o)
      = pixel (fun k => (V (Proc.devRef .tc main_arg0) : Vec Ideal S8x56x56x128 .f32)
          (ix4 ⟨n.val / 3136, by omega⟩ ⟨n.val / 56 % 56, by omega⟩ ⟨n.val % 56, by omega⟩ k))
        (fun o k => (V (Proc.devRef .tc main_arg1) : Vec Ideal S128x128x1x1 .f32) (ix4 o k 0 0))
        (fun o => (V (Proc.devRef .tc main_arg2) : Vec Ideal S128 .f32) (ix1 o))
        (fun j k => (V (Proc.devRef .tc main_arg3) : Vec Ideal S128x128 .f32) (ix2 j k))
        (fun o k => (V (Proc.devRef .tc main_arg4) : Vec Ideal S128x128x1x1 .f32) (ix4 o k 0 0))
        (fun o => (V (Proc.devRef .tc main_arg5) : Vec Ideal S128 .f32) (ix1 o)) o := by
  have hn := nearest_apply (after layer1 V) (dist (row V n) (table V)) n (dist_apply V n)
  have hz : ∀ k, (after layer3 (after layer2 (after layer1 V)) (Proc.devRef .tc main_v6) : Vec Ideal S25088x128 .f32) (ix2 n k) = row V n k := fun k => by
    rw [keep3 _ main_v6 (by decide), keep2 _ main_v6 (by decide)]
    exact rows_apply V n k
  have hq : ∀ k, (after layer3 (after layer2 (after layer1 V)) (Proc.devRef .tc main_v22) : Vec Ideal S25088x128 .f32) (ix2 n k)
      = table V (first (dist (row V n) (table V))) k := fun k => by
    rw [take_apply (after layer2 (after layer1 V)) n k _ hn, keep2 _ main_arg3 (by decide), keep1 _ main_arg3 (by decide)]
    rfl
  rw [after_ops, mixed_apply _ n o _ _ hz hq]
  rw [keep3 _ main_arg4 (by decide), keep2 _ main_arg4 (by decide), keep1 _ main_arg4 (by decide)]
  rw [keep3 _ main_arg5 (by decide), keep2 _ main_arg5 (by decide), keep1 _ main_arg5 (by decide)]
  rfl

/-- The result at an index, from the memory the reference is launched in. -/
theorem launch_apply (m : (ℓ : Loc nD τ sig) → Buf (Elt Ideal) ℓ) (c : Dev nD) (n : Fin 25088) (o : Fin 128) :
    (after ops (fun b => m (c, b)) (Proc.devRef .tc main_v31) : Vec Ideal S25088x128 .f32) (ix2 n o)
      = pixel (fun k => (m ((c.tc : Thread nD τ).loc main_arg0) : Vec Ideal S8x56x56x128 .f32)
          (ix4 ⟨n.val / 3136, by omega⟩ ⟨n.val / 56 % 56, by omega⟩ ⟨n.val % 56, by omega⟩ k))
        (fun o k => (m ((c.tc : Thread nD τ).loc main_arg1) : Vec Ideal S128x128x1x1 .f32) (ix4 o k 0 0))
        (fun o => (m ((c.tc : Thread nD τ).loc main_arg2) : Vec Ideal S128 .f32) (ix1 o))
        (fun j k => (m ((c.tc : Thread nD τ).loc main_arg3) : Vec Ideal S128x128 .f32) (ix2 j k))
        (fun o k => (m ((c.tc : Thread nD τ).loc main_arg4) : Vec Ideal S128x128x1x1 .f32) (ix4 o k 0 0))
        (fun o => (m ((c.tc : Thread nD τ).loc main_arg5) : Vec Ideal S128 .f32) (ix1 o)) o := res_apply (fun b => m (c, b)) n o

end Cert.Reference6Ideal.Layers

end
-- ==== Proof.Value6.lean ====
/- The quantisation's run, and why its result is the reference's. -/
module

public import proofs.«01_k».proof.Defs
public import proofs.«01_k».proof.Proof.Region6
public import proofs.«01_k».proof.Proof.Ref6

@[expose] public section

set_option maxRecDepth 16384

noncomputable section

namespace Cert.Kernel6Ideal.Result

open Cert.Quantise Cert.Kernel6Ideal Cert.Kernel6Ideal.Gen Idealize.ShloMosaic Idealize.SL.Sem

/-- The run: the result ends at the layer, the arguments as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v7) = Region.image m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 6).trans (Region.final m c), h.2 c⟩)
    (θ_run_and (run_main m ρ) (unchanged m ρ))

/-- The kernel call and its reference end with the same result. -/
theorem algebraic : Cert.algebraic_Kernel6Ideal_Reference6Ideal (hKernel6Ideal := Cert.Kernel6Ideal.Gen.facts)
    (hReference6Ideal := Cert.Reference6Ideal.Gen.facts) := by
  intro m g m' g' _ hm
  refine ⟨fun c => Region.image m c, run m g, (θ_run _ _ _).mono (fun _ h c => ⟨?_, (h c).2⟩) (Cert.Reference6Ideal.Layers.run m' g')⟩
  rw [(h c).1]
  obtain ⟨e0, e1, e2, e3, e4, e5⟩ := hm c
  funext y
  obtain ⟨n, o, rfl⟩ : ∃ n o, y = ix2 n o := ⟨y 0, y 1, by funext a; fin_cases a <;> rfl⟩
  refine (Cert.Reference6Ideal.Layers.launch_apply m' c n o).trans ?_
  rw [e0, e1, e2, e3, e4, e5]
  rfl

end Cert.Kernel6Ideal.Result

end
-- ==== Proof.Block7.lean ====
/- What one block of the first strided convolution computes. -/
module

public import proofs.«01_k».proof.Proof.Gen.Kernel7Ideal.Skeleton
public import proofs.«01_k».proof.Proof.Gen.Kernel7Ideal.Frame
public import proofs.«01_k».proof.Proof.Spec
public import Idealize.ShloMosaic.Lib.Pointwise

@[expose] public section

set_option maxRecDepth 16384

noncomputable section

namespace Cert.Kernel7Ideal.Block

open Cert.Upsample Cert.Kernel7Ideal Cert.Kernel7Ideal.Gen Idealize.ShloMosaic

/-- The haloed block, its channels last and padded with zeros, its rows in pairs and its columns in pairs of lanes. -/
def paired {F : FTy → Type} [FloatOps F] (i : grid0.Coords) (v1 : Vec F S1x3x1x224 .f32) (v6 : Vec F S1x3x1x224 .f32) (v10 : Vec F S1x3x56x224 .f32) : FVec F S29x2x113x256 .f32 :=
  let arg1 : BitVec 32 := BitVec.ofNat 32 (i 1).val
  let v0 : BitVec 1 := Scalar.cmpi .sgt arg1 0#32
  have v2 : FVec F S3x1x224 .f32 := shapeCast S3x1x224 v1 shapeCasts_S1x3x1x224_S3x1x224
  have cst : F .f32 := Scalar.ofBits .f32 0x00000000#32
  have v3 : FVec F S3x1x224 .f32 := broadcast S3x1x224 cst
  have v4 : FVec F S3x1x224 .f32 := Scalar.select v0 v2 v3
  let v5 : BitVec 1 := Scalar.cmpi .slt arg1 3#32
  have v7 : FVec F S3x1x224 .f32 := shapeCast S3x1x224 v6 shapeCasts_S1x3x1x224_S3x1x224
  have cst_6 : F .f32 := Scalar.ofBits .f32 0x00000000#32
  have v8 : FVec F S3x1x224 .f32 := broadcast S3x1x224 cst_6
  have v9 : FVec F S3x1x224 .f32 := Scalar.select v5 v7 v8
  have v11 : FVec F S3x56x224 .f32 := shapeCast S3x56x224 v10 shapeCasts_S1x3x56x224_S3x56x224
  have v12 : FVec F S3x58x224 .f32 := concatenate S3x58x224 1 [⟨S3x1x224, v4⟩, ⟨S3x56x224, v11⟩, ⟨S3x1x224, v9⟩] concatenates_S3x1x224_S3x56x224_S3x1x224_S3x58x224_d1
  have cst_11 : F .f32 := Scalar.ofBits .f32 0x00000000#32
  have v13 : FVec F S3x58x1 .f32 := broadcast S3x58x1 cst_11
  have v14 : FVec F S3x58x226 .f32 := concatenate S3x58x226 2 [⟨S3x58x1, v13⟩, ⟨S3x58x224, v12⟩, ⟨S3x58x1, v13⟩] concatenates_S3x58x1_S3x58x224_S3x58x1_S3x58x226_d2
  have cst_12 : F .f32 := Scalar.ofBits .f32 0x00000000#32
  have v15 : FVec F S5x58x226 .f32 := broadcast S5x58x226 cst_12
  have v16 : FVec F S8x58x226 .f32 := concatenate S8x58x226 0 [⟨S3x58x226, v14⟩, ⟨S5x58x226, v15⟩] concatenates_S3x58x226_S5x58x226_S8x58x226_d0
  have v17 : FVec F S58x226x8 .f32 := transpose S58x226x8 [1, 2, 0] v16 transposes_S8x58x226_p1_2_0_S58x226x8
  have cst_13 : F .f32 := Scalar.ofBits .f32 0x00000000#32
  have v18 : FVec F S58x226x120 .f32 := broadcast S58x226x120 cst_13
  have v19 : FVec F S58x226x128 .f32 := concatenate S58x226x128 2 [⟨S58x226x8, v17⟩, ⟨S58x226x120, v18⟩] concatenates_S58x226x8_S58x226x120_S58x226x128_d2
  have v20 : FVec F S29x2x113x256 .f32 := shapeCast S29x2x113x256 v19 shapeCasts_S58x226x128_S29x2x113x256
  v20

/-- The nine taps of every pixel side by side. -/
def patches {F : FTy → Type} [FloatOps F] (v20 : FVec F S29x2x113x256 .f32) : FVec F S3136x72 .f32 :=
  have v21 : FVec F S28x1x113x256 .f32 := extractStridedSlice S28x1x113x256 ![0, 0, 0, 0] v20 slices_S29x2x113x256_o0_0_0_0_S28x1x113x256
  have v22 : FVec F S28x113x256 .f32 := shapeCast S28x113x256 v21 shapeCasts_S28x1x113x256_S28x113x256
  have v23 : FVec F S28x112x8 .f32 := extractStridedSlice S28x112x8 ![0, 0, 0] v22 slices_S28x113x256_o0_0_0_S28x112x8
  have v24 : FVec F S28x112x8 .f32 := extractStridedSlice S28x112x8 ![0, 0, 128] v22 slices_S28x113x256_o0_0_128_S28x112x8
  have v25 : FVec F S28x112x8 .f32 := extractStridedSlice S28x112x8 ![0, 1, 0] v22 slices_S28x113x256_o0_1_0_S28x112x8
  have v26 : FVec F S28x1x113x256 .f32 := extractStridedSlice S28x1x113x256 ![0, 1, 0, 0] v20 slices_S29x2x113x256_o0_1_0_0_S28x1x113x256
  have v27 : FVec F S28x113x256 .f32 := shapeCast S28x113x256 v26 shapeCasts_S28x1x113x256_S28x113x256
  have v28 : FVec F S28x112x8 .f32 := extractStridedSlice S28x112x8 ![0, 0, 0] v27 slices_S28x113x256_o0_0_0_S28x112x8
  have v29 : FVec F S28x112x8 .f32 := extractStridedSlice S28x112x8 ![0, 0, 128] v27 slices_S28x113x256_o0_0_128_S28x112x8
  have v30 : FVec F S28x112x8 .f32 := extractStridedSlice S28x112x8 ![0, 1, 0] v27 slices_S28x113x256_o0_1_0_S28x112x8
  have v31 : FVec F S28x1x113x256 .f32 := extractStridedSlice S28x1x113x256 ![1, 0, 0, 0] v20 slices_S29x2x113x256_o1_0_0_0_S28x1x113x256
  have v32 : FVec F S28x113x256 .f32 := shapeCast S28x113x256 v31 shapeCasts_S28x1x113x256_S28x113x256
  have v33 : FVec F S28x112x8 .f32 := extractStridedSlice S28x112x8 ![0, 0, 0] v32 slices_S28x113x256_o0_0_0_S28x112x8
  have v34 : FVec F S28x112x8 .f32 := extractStridedSlice S28x112x8 ![0, 0, 128] v32 slices_S28x113x256_o0_0_128_S28x112x8
  have v35 : FVec F S28x112x8 .f32 := extractStridedSlice S28x112x8 ![0, 1, 0] v32 slices_S28x113x256_o0_1_0_S28x112x8
  have v36 : FVec F S28x112x72 .f32 := concatenate S28x112x72 2 [⟨S28x112x8, v23⟩, ⟨S28x112x8, v24⟩, ⟨S28x112x8, v25⟩, ⟨S28x112x8, v28⟩, ⟨S28x112x8, v29⟩, ⟨S28x112x8, v30⟩, ⟨S28x112x8, v33⟩, ⟨S28x112x8, v34⟩, ⟨S28x112x8, v35⟩] concatenates_S28x112x8_S28x112x8_S28x112x8_S28x112x8_S28x112x8_S28x112x8_S28x112x8_S28x112x8_S28x112x8_S28x112x72_d2
  have v37 : FVec F S3136x72 .f32 := shapeCast S3136x72 v36 shapeCasts_S28x112x72_S3136x72
  v37

/-- What the kernel multiplies by its weights is those two in turn. -/
theorem pay2_eq {F : FTy → Type} [FloatOps F] (i : grid0.Coords) (v1 v6 : Vec F S1x3x1x224 .f32) (v10 : Vec F S1x3x56x224 .f32) :
    k0_pay2 i v1 v6 v10 = patches (paired i v1 v6 v10) := rfl

/-- One row of an image held channels first, as a row of one held channels last. -/
def rowLast (v : Vec Ideal S1x3x1x224 .f32) : (⟨4, ![1, 1, 224, 3]⟩ : Shape).Idx → EReal :=
  fun y => v (ix4 0 ⟨(y 3).val, (y 3).isLt⟩ 0 ⟨(y 2).val, (y 2).isLt⟩)

/-- A block of rows likewise. -/
def rowsLast (v : Vec Ideal S1x3x56x224 .f32) : (⟨4, ![1, 56, 224, 3]⟩ : Shape).Idx → EReal :=
  fun y => v (ix4 0 ⟨(y 3).val, (y 3).isLt⟩ ⟨(y 1).val, (y 1).isLt⟩ ⟨(y 2).val, (y 2).isLt⟩)

/-- The haloed block read at an index: channels past the third are zero. -/
theorem paired_apply (i : grid0.Coords) (v1 v6 : Vec Ideal S1x3x1x224 .f32) (v10 : Vec Ideal S1x3x56x224 .f32)
    (r : Fin 29) (p : Fin 2) (c : Fin 113) (l : Fin 256) :
    paired i v1 v6 v10 (ix4 r p c l)
      = if h : l.val % 128 < 3 then halo (W := 224) (C := 3) (B := 56) 4 (i 1).val (rowLast v1) (rowLast v6) (rowsLast v10)
          (r * 2 + p) (c * 2 + l / 128) ⟨l % 128, h⟩ else 0 := by
  have hi : (i 1).val < 4 := (i 1).isLt
  have hr := r.isLt
  have hp := p.isLt
  have hc := c.isLt
  have hl := l.isLt
  have e0 : ∀ x : EReal, Scalar.select (Scalar.cmpi CmpIPredicate.sgt (BitVec.ofNat 32 (i 1).val) 0#32) x 0
      = if 0 < (i 1).val then x else 0 := by
    intro x
    generalize (i 1).val = a at hi
    interval_cases a <;> rfl
  have e3 : ∀ x : EReal, Scalar.select (Scalar.cmpi CmpIPredicate.slt (BitVec.ofNat 32 (i 1).val) 3#32) x 0
      = if (i 1).val < 4 - 1 then x else 0 := by
    intro x
    generalize (i 1).val = a at hi
    interval_cases a <;> rfl
  pointwise [paired]
  simp only [e0, e3]
  by_cases h : l.val % 128 < 3
  · have h8 : l.val % 128 < 8 := by omega
    simp only [h, h8, dif_pos, if_pos]
    exact halo_of_cases 4 (i 1).val (rowLast v1) (rowLast v6) (rowsLast v10) (r.val * 2 + p.val) (c.val * 2 + l.val / 128) ⟨l.val % 128, h⟩
  · simp only [h, dif_neg, not_false_eq_true]
    split_ifs <;> rfl

/-- The taps of a pixel, read in the `t`-th. -/
theorem patches_apply (A : FVec Ideal S29x2x113x256 .f32) (r : Fin 28) (c : Fin 112) (t : Fin 9) (k : Fin 8) :
    patches A (ix2 ⟨r.val * 112 + c.val, by omega⟩ ⟨t.val * 8 + k.val, by omega⟩)
      = A (ix4 ⟨r + t / 3 / 2, by omega⟩ ⟨t / 3 % 2, by omega⟩ ⟨c + t % 3 / 2, by omega⟩ ⟨t % 3 % 2 * 128 + k, by omega⟩) := by
  have ht := t.isLt
  have hk := k.isLt
  have hr := r.isLt
  have hc := c.isLt
  have hA : ∀ (b b' : Fin 2) (a a' x x' z z' : ℕ) (ha hx hz ha' hx' hz'), b.val = b'.val → a = a' → x = x' → z = z' →
      A (ix4 ⟨a, ha⟩ b ⟨x, hx⟩ ⟨z, hz⟩) = A (ix4 ⟨a', ha'⟩ b' ⟨x', hx'⟩ ⟨z', hz'⟩) := by
    intro b b' a a' x x' z z' _ _ _ _ _ _ h h' h'' h3
    obtain rfl := Fin.ext h
    subst h' h'' h3
    rfl
  pointwise [patches]
  split_ifs <;> refine hA _ _ _ _ _ _ _ _ _ _ _ _ _ _ ?_ (by omega) (by omega) (by omega)
  all_goals first
    | (show 0 = t.val / 3 % 2; omega)
    | (show 1 = t.val / 3 % 2; omega)

/-- The weights as nine matrices of three rows: every matrix is padded to eight rows. -/
def matrices (x3 : Vec Ideal S72x128 .f32) : (⟨3, ![9, 3, 128]⟩ : Shape).Idx → EReal :=
  fun y => x3 (ix2 ⟨(y 0).val * 8 + (y 1).val, by
    have h0 : (y 0).val < 9 := (y 0).isLt
    have h1 : (y 1).val < 3 := (y 1).isLt
    omega⟩ ⟨(y 2).val, (y 2).isLt⟩)

/-- The row above the block, of the eight the window holds. -/
def above (x : Vec Ideal S1x3x8x224 .f32) : Vec Ideal S1x3x1x224 .f32 := View.ld x r0_0

/-- The row below the block, of the eight the window holds. -/
def below (x : Vec Ideal S1x3x8x224 .f32) : Vec Ideal S1x3x1x224 .f32 := View.ld x r0_1

/-- A whole-block load of the block is the block. -/
theorem ld_main (x : Vec Ideal S1x3x56x224 .f32) : View.ld x r0_2 = x := by
  funext y
  idx_vars y
  obtain rfl : y0 = 0 := Subsingleton.elim _ _
  pointwise []

/-- The block's pixels: every other row and column of the haloed block. -/
def block (i : grid0.Coords) (x0 x2 : Vec Ideal S1x3x8x224 .f32) (x1 : Vec Ideal S1x3x56x224 .f32)
    (x3 : Vec Ideal S72x128 .f32) (x4 : Vec Ideal S1x128 .f32) : Vec Ideal S1x28x112x128 .f32 := fun y =>
  max (nineAt (halo (W := 224) (C := 3) (B := 56) 4 (i 1).val (rowLast (above x0)) (rowLast (below x2)) (rowsLast x1))
    (matrices x3) x4 (2 * (y 1).val) (2 * (y 2).val) ⟨(y 3).val, (y 3).isLt⟩) 0

/-- The product with the weights, the bias and the cut at zero, read at a pixel. -/
theorem pay1_apply (v37 : FVec Ideal S3136x72 .f32) (x3 : Vec Ideal S72x128 .f32) (x4 : Vec Ideal S1x128 .f32)
    (r : Fin 28) (c : Fin 112) (o : Fin 128) :
    k0_pay1 v37 (View.ld x3 r0_3) (View.ld x4 r0_4) (ix4 0 r c o)
      = max (∑ x : Fin 72, v37 (ix2 ⟨r.val * 112 + c.val, by omega⟩ x) * x3 (ix2 x o) + x4 (ix2 0 o)) (0 : EReal) := by
  have hr := r.isLt
  have hc := c.isLt
  pointwise [k0_pay1]

/-- Eight channels of which five are zero give the sum over three. -/
theorem sum_three (g : Fin 3 → EReal) (w : Fin 8 → EReal) :
    ∑ k : Fin 8, (if h : k.val < 3 then g ⟨k.val, h⟩ else 0) * w k = ∑ k : Fin 3, g k * w ⟨k.val, by omega⟩ := by
  rw [Fin.sum_univ_eight, Fin.sum_univ_three]
  simp

/-- The block the kernel leaves is that, at every index. -/
theorem out_apply (i : grid0.Coords) (x0 x2 : Vec Ideal S1x3x8x224 .f32) (x1 : Vec Ideal S1x3x56x224 .f32)
    (x3 : Vec Ideal S72x128 .f32) (x4 : Vec Ideal S1x128 .f32) (y : S1x28x112x128.Idx) :
    out0_5 i x0 x1 x2 x3 x4 y = block i x0 x2 x1 x3 x4 y := by
  unfold out0_5
  refine View.canon_apply_of_pieces (block i x0 x2 x1 x3 x4) _ ?_ y (cover0_5 _ y)
  intro p hp z
  simp only [List.mem_cons, List.not_mem_nil, or_false] at hp
  subst hp
  idx_vars z
  obtain rfl : z0 = 0 := Subsingleton.elim _ _
  have g1 : ((r0_5.emb (ix4 0 z1 z2 z3)) 1).val = z1.val := by simp [Rect.emb_apply, r0_5]
  have g2 : ((r0_5.emb (ix4 0 z1 z2 z3)) 2).val = z2.val := by simp [Rect.emb_apply, r0_5]
  have g3 : ((r0_5.emb (ix4 0 z1 z2 z3)) 3).val = z3.val := by simp [Rect.emb_apply, r0_5]
  have g4 : (⟨((r0_5.emb (ix4 0 z1 z2 z3)) 3).val, ((r0_5.emb (ix4 0 z1 z2 z3)) 3).isLt⟩ : Fin 128) = z3 := Fin.ext g3
  refine (pay1_apply _ x3 x4 z1 z2 z3).trans ?_
  unfold block
  rw [g1, g2, g4, pay2_eq, ld_main]
  unfold nineAt
  congr 2
  rw [Fin.sum_univ_tiles 9 8 rfl, Fin.sum_univ_tiles 3 3 rfl]
  refine Finset.sum_congr rfl fun d _ => Finset.sum_congr rfl fun e _ => ?_
  have hd := d.isLt
  have he := e.isLt
  have hz1 := z1.isLt
  have hz2 := z2.isLt
  have hk : ∀ k : Fin 8, patches (paired i (View.ld x0 r0_0) (View.ld x2 r0_1) x1)
      (ix2 ⟨z1.val * 112 + z2.val, by omega⟩ ⟨(d.val * 3 + e.val) * 8 + k.val, by omega⟩)
      = if h : k.val < 3 then halo (W := 224) (C := 3) (B := 56) 4 (i 1).val (rowLast (above x0)) (rowLast (below x2)) (rowsLast x1)
          (2 * z1.val + d.val) (2 * z2.val + e.val) ⟨k.val, h⟩ else 0 := by
    intro k
    have hk := k.isLt
    rw [patches_apply _ z1 z2 ⟨d.val * 3 + e.val, by omega⟩ k, paired_apply]
    have h0 : ((d.val * 3 + e.val) % 3 % 2 * 128 + k.val) % 128 = k.val := by omega
    have h1 : (z1.val + (d.val * 3 + e.val) / 3 / 2) * 2 + (d.val * 3 + e.val) / 3 % 2 = 2 * z1.val + d.val := by omega
    have h2 : (z2.val + (d.val * 3 + e.val) % 3 / 2) * 2 + ((d.val * 3 + e.val) % 3 % 2 * 128 + k.val) / 128 = 2 * z2.val + e.val := by omega
    simp only [h0, h1, h2]
    rfl
  refine (Finset.sum_congr rfl fun k _ => congrArg (· * _) (hk k)).trans ?_
  refine (sum_three _ (fun k => x3 (ix2 ⟨(d.val * 3 + e.val) * 8 + k.val, by omega⟩ z3))).trans ?_
  refine Finset.sum_congr rfl fun k _ => ?_
  unfold matrices
  simp only [Nat.mul_comm d.val 3]
  rfl

end Cert.Kernel7Ideal.Block

end
-- ==== Proof.Host7.lean ====
/- What the program does to its weights before the first strided convolution: three channels of input padded to eight. -/
module

public import proofs.«01_k».proof.Proof.Gen.Kernel7Ideal.Frame
public import proofs.«01_k».proof.Proof.Spec
public import Idealize.ShloMosaic.Lib.Pointwise
public import Idealize.ShloMosaic.Lib.StableHlo.ReadAt

@[expose] public section

set_option maxRecDepth 16384

noncomputable section

namespace Cert.Kernel7Ideal.Host

open Cert.Upsample Cert.Kernel7Ideal Cert.Kernel7Ideal.Gen Idealize.ShloMosaic Idealize.ShloMosaic.StableHlo

set_option maxHeartbeats 4000000 in
/-- The matrix the region reads holds the nine taps, eight rows each, of which the first three are the channels. -/
theorem weights (m : (ℓ : Loc nD τ sig) → Buf (Elt Ideal) ℓ) (c : Dev nD) (d e k : Fin 3) (o : Fin 128) :
    (V m c main_v2 : Vec Ideal S72x128 .f32) (ix2 ⟨(3 * d.val + e.val) * 8 + k.val, by omega⟩ o)
      = (m ((c.tc : Thread nD τ).loc main_arg1) : Vec Ideal S128x3x3x3 .f32) (ix4 o k d e) := by
  show (after ((List.flatten [hostOps0, hostOps0_1, hostOps0_2])) (fun b => m (c, b)) (Proc.devRef .tc main_v2) : Vec Ideal S72x128 .f32) _ = _
  after_reads_simp
  simp only [TRef.toBuf, TRef.ofBuf, cast_eq]
  clean_types
  fin_cases d <;> fin_cases e <;> fin_cases k
  all_goals
    pointwise

/-- The bias the region reads is the argument, as one row. -/
theorem bias (m : (ℓ : Loc nD τ sig) → Buf (Elt Ideal) ℓ) (c : Dev nD) (o : Fin 128) :
    (V m c main_v3 : Vec Ideal S1x128 .f32) (ix2 0 o) = (m ((c.tc : Thread nD τ).loc main_arg2) : Vec Ideal S128 .f32) (ix1 o) := by
  show (after ((List.flatten [hostOps0, hostOps0_1, hostOps0_2])) (fun b => m (c, b)) (Proc.devRef .tc main_v3) : Vec Ideal S1x128 .f32) _ = _
  after_reads_simp
  clean_types
  pointwise

end Cert.Kernel7Ideal.Host

end
-- ==== Proof.Region7.lean ====
/- What the first strided convolution leaves in its result array. -/
module

public import proofs.«01_k».proof.Proof.Block7
public import proofs.«01_k».proof.Proof.Host7
public import Idealize.ShloMosaic.Lib.Pipeline.Value
public import Idealize.ShloMosaic.Lib.Pipeline.ValueKit.Point

@[expose] public section

set_option maxRecDepth 16384

noncomputable section

namespace Cert.Kernel7Ideal.Region

open Cert.Upsample Cert.Kernel7Ideal Cert.Kernel7Ideal.Gen Cert.Kernel7Ideal.Block Idealize.ShloMosaic
open Idealize.ShloMosaic.Pipeline (Dat)

variable (m : (ℓ : Loc nD τ sig) → Buf (Elt Ideal) ℓ) (c : Dev nD)

/-- The window on the eight rows that end above the block `t % 4` of image `t / 4`. -/
theorem idx_top : ∀ t : Fin grid0.N, win0_0.index t 0 = t.val / 4 ∧ win0_0.index t 1 = 0
    ∧ win0_0.index t 2 = (56 * (t.val % 4) - 1) / 8 ∧ win0_0.index t 3 = 0 := by decide +kernel
/-- The window on the block's own rows. -/
theorem idx_main : ∀ t : Fin grid0.N, win0_1.index t 0 = t.val / 4 ∧ win0_1.index t 1 = 0
    ∧ win0_1.index t 2 = t.val % 4 ∧ win0_1.index t 3 = 0 := by decide +kernel
/-- The window on the eight rows that begin below the block. -/
theorem idx_bottom : ∀ t : Fin grid0.N, win0_2.index t 0 = t.val / 4 ∧ win0_2.index t 1 = 0
    ∧ win0_2.index t 2 = min (7 * (t.val % 4) + 7) 27 ∧ win0_2.index t 3 = 0 := by decide +kernel
/-- The window on the weights is the whole array. -/
theorem idx_weights : ∀ t : Fin grid0.N, win0_3.index t 0 = 0 ∧ win0_3.index t 1 = 0 := by decide +kernel
/-- The window on the bias is the whole array. -/
theorem idx_bias : ∀ t : Fin grid0.N, win0_4.index t 0 = 0 ∧ win0_4.index t 1 = 0 := by decide +kernel
/-- The window on the result: row block `t % 4` of image `t / 4`. -/
theorem idx_out : ∀ t : Fin grid0.N, win0_5.index t 0 = t.val / 4 ∧ win0_5.index t 1 = t.val % 4
    ∧ win0_5.index t 2 = 0 ∧ win0_5.index t 3 = 0 := by decide +kernel
/-- The second grid coordinate is the row block. -/
theorem coord : ∀ t : Fin grid0.N, (grid0.coords t 1).val = t.val % 4 := by decide +kernel

/-- The image a grid point works on. -/
def img (t : Fin cfg0.N) : Fin 8 := ⟨t.val / 4, by have h : t.val < 32 := t.isLt; omega⟩

/-- The images, channels last. -/
def last : (⟨4, ![8, 224, 224, 3]⟩ : Shape).Idx → EReal := fun y =>
  (m ((c.tc : Thread nD τ).loc main_arg0) : Vec Ideal S8x3x224x224 .f32)
    (ix4 ⟨(y 0).val, (y 0).isLt⟩ ⟨(y 3).val, (y 3).isLt⟩ ⟨(y 1).val, (y 1).isLt⟩ ⟨(y 2).val, (y 2).isLt⟩)

/-- The eight rows above. -/
theorem top_apply (t : Fin cfg0.N) (k : Fin 3) (r : Fin 8) (v : Fin 224) :
    (iblk m c 0 t : Vec Ideal S1x3x8x224 .f32) (ix4 0 k r v)
      = (m ((c.tc : Thread nD τ).loc main_arg0) : Vec Ideal S8x3x224x224 .f32)
          (ix4 (img t) k ⟨8 * ((56 * (t.val % 4) - 1) / 8) + r.val, by omega⟩ v) := by
  rw [← V_main_arg0 m c]
  blk_ext [iblk, idx_top t, img]

/-- The block's rows. -/
theorem main_apply (t : Fin cfg0.N) (k : Fin 3) (r : Fin 56) (v : Fin 224) :
    (iblk m c 1 t : Vec Ideal S1x3x56x224 .f32) (ix4 0 k r v)
      = (m ((c.tc : Thread nD τ).loc main_arg0) : Vec Ideal S8x3x224x224 .f32)
          (ix4 (img t) k ⟨56 * (t.val % 4) + r.val, by omega⟩ v) := by
  rw [← V_main_arg0 m c]
  blk_ext [iblk, idx_main t, img]

/-- The eight rows below. -/
theorem bottom_apply (t : Fin cfg0.N) (k : Fin 3) (r : Fin 8) (v : Fin 224) :
    (iblk m c 2 t : Vec Ideal S1x3x8x224 .f32) (ix4 0 k r v)
      = (m ((c.tc : Thread nD τ).loc main_arg0) : Vec Ideal S8x3x224x224 .f32)
          (ix4 (img t) k ⟨8 * min (7 * (t.val % 4) + 7) 27 + r.val, by omega⟩ v) := by
  rw [← V_main_arg0 m c]
  blk_ext [iblk, idx_bottom t, img]

/-- The weights' block is the whole array of weights. -/
theorem weights_apply (t : Fin cfg0.N) : (iblk m c 3 t : Vec Ideal S72x128 .f32) = V m c main_v2 := by
  funext y
  blk_ext [iblk, idx_weights t]

/-- The bias's block is the whole bias. -/
theorem bias_apply (t : Fin cfg0.N) : (iblk m c 4 t : Vec Ideal S1x128 .f32) = V m c main_v3 := by
  funext y
  blk_ext [iblk, idx_bias t]

/-- The halo reads the row above only where there is one, and the row below likewise. -/
theorem halo_congr {W C B T i : ℕ} {top top' bot bot' : (⟨4, ![1, 1, W, C]⟩ : Shape).Idx → EReal}
    {mid : (⟨4, ![1, B, W, C]⟩ : Shape).Idx → EReal} (ht : 0 < i → top = top') (hb : i < T - 1 → bot = bot') (r v : ℕ) (k : Fin C) :
    halo T i top bot mid r v k = halo T i top' bot' mid r v k := by
  unfold halo
  by_cases h1 : 0 < i <;> by_cases h2 : i < T - 1
  · rw [ht h1, hb h2]
  · rw [ht h1]
    simp only [h2, if_false]
  · rw [hb h2]
    simp only [h1, if_false]
  · simp only [h1, h2, if_false]

/-- Row `q` of the image a grid point works on. -/
def rowAt (t : Fin cfg0.N) (q : Fin 224) : (⟨4, ![1, 1, 224, 3]⟩ : Shape).Idx → EReal :=
  fun y => last m c (ix4 (img t) q ⟨(y 2).val, (y 2).isLt⟩ ⟨(y 3).val, (y 3).isLt⟩)

/-- Below the first block the window's last row is the row above. -/
theorem above_eq (t : Fin cfg0.N) (h : 0 < t.val % 4) :
    rowLast (above (iblk m c 0 t)) = rowAt m c t ⟨56 * (t.val % 4) - 1, by omega⟩ := by
  funext y
  have e : (⟨8 * ((56 * (t.val % 4) - 1) / 8) + 7, by omega⟩ : Fin 224) = ⟨56 * (t.val % 4) - 1, by omega⟩ :=
    Fin.ext (by show 8 * ((56 * (t.val % 4) - 1) / 8) + 7 = 56 * (t.val % 4) - 1; omega)
  have key := top_apply m c t ⟨(y 3).val, (y 3).isLt⟩ 7 ⟨(y 2).val, (y 2).isLt⟩
  unfold rowLast above rowAt last
  refine Eq.trans ?_ (key.trans ?_)
  · pointwise []
  · exact congrArg (fun q : Fin 224 => (m ((c.tc : Thread nD τ).loc main_arg0) : Vec Ideal S8x3x224x224 .f32)
      (ix4 (img t) ⟨(y 3).val, (y 3).isLt⟩ q ⟨(y 2).val, (y 2).isLt⟩)) e

/-- Above the last block the window's first row is the row below. -/
theorem below_eq (t : Fin cfg0.N) (h : t.val % 4 < 4 - 1) :
    rowLast (below (iblk m c 2 t)) = rowAt m c t ⟨min (56 * (t.val % 4) + 56) (224 - 1), by omega⟩ := by
  funext y
  have e : (⟨8 * min (7 * (t.val % 4) + 7) 27 + 0, by omega⟩ : Fin 224) = ⟨min (56 * (t.val % 4) + 56) (224 - 1), by omega⟩ :=
    Fin.ext (by show 8 * min (7 * (t.val % 4) + 7) 27 + 0 = min (56 * (t.val % 4) + 56) (224 - 1); omega)
  have key := bottom_apply m c t ⟨(y 3).val, (y 3).isLt⟩ 0 ⟨(y 2).val, (y 2).isLt⟩
  unfold rowLast below rowAt last
  refine Eq.trans ?_ (key.trans ?_)
  · pointwise []
  · exact congrArg (fun q : Fin 224 => (m ((c.tc : Thread nD τ).loc main_arg0) : Vec Ideal S8x3x224x224 .f32)
      (ix4 (img t) ⟨(y 3).val, (y 3).isLt⟩ q ⟨(y 2).val, (y 2).isLt⟩)) e

/-- The block with its halo is the bordered image from the block's first row on. -/
theorem halo_eq (t : Fin cfg0.N) (r v : ℕ) (k : Fin 3) (hr : r ≤ 57) :
    halo (W := 224) (C := 3) (B := 56) 4 (grid0.coords t 1).val (rowLast (above (iblk m c 0 t))) (rowLast (below (iblk m c 2 t)))
        (rowsLast (iblk m c 1 t)) r v k
      = edge (N := 8) (H := 224) (W := 224) (C := 3) (last m c) (img t) (56 * (t.val % 4) + r) v k := by
  have hc := coord t
  rw [hc, halo_congr (top' := rowAt m c t ⟨56 * (t.val % 4) - 1, by omega⟩)
    (bot' := rowAt m c t ⟨min (56 * (t.val % 4) + 56) (224 - 1), by omega⟩) (above_eq m c t) (below_eq m c t)]
  exact halo_eq_edge (N := 8) (H := 224) (B := 56) (T := 4) (i := t.val % 4) (q := 56 * (t.val % 4)) (x := last m c) (n := img t) (by omega) (by omega) (by omega) (by omega) (by omega) (fun v k h => rfl)
    (fun r v k h => main_apply m c t k r v) (fun v k h => rfl) r v k hr

/-- The nine matrices hold the weights. -/
theorem matrices_apply (d e k : Fin 3) (o : Fin 128) :
    matrices (V m c main_v2) (ix3 ⟨3 * d + e, by omega⟩ k o)
      = (m ((c.tc : Thread nD τ).loc main_arg1) : Vec Ideal S128x3x3x3 .f32) (ix4 o k d e) :=
  Host.weights m c d e k o

/-- What the result array holds: the convolution at every other row and column of every image. -/
def image : Vec Ideal S8x112x112x128 .f32 := fun y =>
  max (linAt (C := 3) (O := 128)
    (edge (N := 8) (H := 224) (W := 224) (C := 3) (last m c) ⟨(y 0).val, (y 0).isLt⟩)
    (m ((c.tc : Thread nD τ).loc main_arg1)) (m ((c.tc : Thread nD τ).loc main_arg2)) (2 * (y 1).val) (2 * (y 2).val) ⟨(y 3).val, (y 3).isLt⟩) 0

/-- After the run the result array holds that. -/
theorem final : (dats m 0 c).arrAt 5 cfg0.N = image m c := by
  refine (dats m 0 c).arrAt_eq_of_covers 5 (image m c) (by decide +kernel) fun t _ y => ?_
  blk_simp
  rw [after0_5, out_apply]
  have y0 : (y 0).val < 1 := (y 0).isLt
  have y1 : (y 1).val < 28 := (y 1).isLt
  have e0 : (((win0_5.blk t).view.emb y) 0).val = t.val / 4 := by blk_simp [idx_out t] <;> try omega
  have e1 : (((win0_5.blk t).view.emb y) 1).val = 28 * (t.val % 4) + (y 1).val := by blk_simp [idx_out t] <;> try omega
  have e2 : (((win0_5.blk t).view.emb y) 2).val = (y 2).val := by blk_simp [idx_out t] <;> try omega
  have e3 : (((win0_5.blk t).view.emb y) 3).val = (y 3).val := by blk_simp [idx_out t] <;> try omega
  unfold block image
  rw [weights_apply, bias_apply]
  simp only [e0, e1, e2, e3]
  congr 1
  rw [← nineAt_eq_linAt (W := matrices (V m c main_v2)) (b' := V m c main_v3) _ (fun d e k => matrices_apply m c d e k _) (Host.bias m c _)]
  exact nineAt_congr (fun a v k ha => (halo_eq m c t (2 * (y 1).val + a) v k (by omega)).trans
    (by rw [show 56 * (t.val % 4) + (2 * (y 1).val + a) = 2 * (28 * (t.val % 4) + (y 1).val) + a by omega]; rfl)) _ _ _

end Cert.Kernel7Ideal.Region

end
-- ==== Proof.Ref7.lean ====
/- What the reference of the first strided convolution computes: at each pixel, nine taps of the image. -/
module

public import proofs.«01_k».proof.Proof.Gen.Reference7Ideal.Run
public import proofs.«01_k».proof.Proof.Spec
public import Idealize.ShloMosaic.Lib.Pointwise

@[expose] public section

set_option maxRecDepth 16384

noncomputable section

namespace Cert.Reference7Ideal.Layer

open Cert.Upsample Cert.Reference7Ideal Cert.Reference7Ideal.Gen Idealize.ShloMosaic

variable {F : FTy → Type} [FloatOps F]

/-- The image, channels last, inside its border of zeros. -/
def padded (g : (⟨S8x3x224x224, .f32⟩ : BufTy).Contents (Elt F)) : (⟨S8x226x226x3, .f32⟩ : BufTy).Contents (Elt F) :=
  pad S8x226x226x3 ![0, 1, 1, 0] ![0, 1, 1, 0] ![0, 0, 0, 0] (transpose S8x224x224x3 [0, 2, 3, 1] g transposes_S8x3x224x224_S8x224x224x3_0_2_3_1) (sitofp .f32 (constantI S_ 32 0#32)) pads_S8x224x224x3_S8x226x226x3_000_110_110_000 h_S_

/-- The nine shifted images side by side, every other row and column of each. -/
def cat (P : (⟨S8x226x226x3, .f32⟩ : BufTy).Contents (Elt F)) : (⟨S8x112x112x27, .f32⟩ : BufTy).Contents (Elt F) :=
  (concatenate S8x112x112x27 3 [⟨S8x112x112x3, ((Host.slice S8x112x112x3 ![0, 0, 0, 0] ![1, 2, 2, 1] P slicesBy_S8x226x226x3_S8x112x112x3_0s1_0s2_0s2_0s1) : (⟨S8x112x112x3, .f32⟩ : BufTy).Contents (Elt F))⟩, ⟨S8x112x112x3, ((Host.slice S8x112x112x3 ![0, 0, 1, 0] ![1, 2, 2, 1] P slicesBy_S8x226x226x3_S8x112x112x3_0s1_0s2_1s2_0s1) : (⟨S8x112x112x3, .f32⟩ : BufTy).Contents (Elt F))⟩, ⟨S8x112x112x3, ((Host.slice S8x112x112x3 ![0, 0, 2, 0] ![1, 2, 2, 1] P slicesBy_S8x226x226x3_S8x112x112x3_0s1_0s2_2s2_0s1) : (⟨S8x112x112x3, .f32⟩ : BufTy).Contents (Elt F))⟩, ⟨S8x112x112x3, ((Host.slice S8x112x112x3 ![0, 1, 0, 0] ![1, 2, 2, 1] P slicesBy_S8x226x226x3_S8x112x112x3_0s1_1s2_0s2_0s1) : (⟨S8x112x112x3, .f32⟩ : BufTy).Contents (Elt F))⟩, ⟨S8x112x112x3, ((Host.slice S8x112x112x3 ![0, 1, 1, 0] ![1, 2, 2, 1] P slicesBy_S8x226x226x3_S8x112x112x3_0s1_1s2_1s2_0s1) : (⟨S8x112x112x3, .f32⟩ : BufTy).Contents (Elt F))⟩, ⟨S8x112x112x3, ((Host.slice S8x112x112x3 ![0, 1, 2, 0] ![1, 2, 2, 1] P slicesBy_S8x226x226x3_S8x112x112x3_0s1_1s2_2s2_0s1) : (⟨S8x112x112x3, .f32⟩ : BufTy).Contents (Elt F))⟩, ⟨S8x112x112x3, ((Host.slice S8x112x112x3 ![0, 2, 0, 0] ![1, 2, 2, 1] P slicesBy_S8x226x226x3_S8x112x112x3_0s1_2s2_0s2_0s1) : (⟨S8x112x112x3, .f32⟩ : BufTy).Contents (Elt F))⟩, ⟨S8x112x112x3, ((Host.slice S8x112x112x3 ![0, 2, 1, 0] ![1, 2, 2, 1] P slicesBy_S8x226x226x3_S8x112x112x3_0s1_2s2_1s2_0s1) : (⟨S8x112x112x3, .f32⟩ : BufTy).Contents (Elt F))⟩, ⟨S8x112x112x3, ((Host.slice S8x112x112x3 ![0, 2, 2, 0] ![1, 2, 2, 1] P slicesBy_S8x226x226x3_S8x112x112x3_0s1_2s2_2s2_0s1) : (⟨S8x112x112x3, .f32⟩ : BufTy).Contents (Elt F))⟩] concatenates_S8x112x112x3_S8x112x112x3_S8x112x112x3_S8x112x112x3_S8x112x112x3_S8x112x112x3_S8x112x112x3_S8x112x112x3_S8x112x112x3_S8x112x112x27_d3 : (⟨S8x112x112x27, .f32⟩ : BufTy).Contents (Elt F))

/-- The convolution over the nine images, with its bias and its cut at zero. -/
def conv (K : (⟨S8x112x112x27, .f32⟩ : BufTy).Contents (Elt F)) (w : (⟨S128x3x3x3, .f32⟩ : BufTy).Contents (Elt F))
    (b : (⟨S128, .f32⟩ : BufTy).Contents (Elt F)) : (⟨S8x112x112x128, .f32⟩ : BufTy).Contents (Elt F) :=
  shapeCast _ (maximumf (addf (Host.dotGeneral dot_S8x12544x27_S27x128_S8x12544x128_2_0_01_1_n_n none (shapeCast _ (K) shapeCasts_S8x112x112x27_S8x12544x27) (shapeCast _ (transpose S3x3x3x128 [2, 3, 1, 0] w transposes_S128x3x3x3_S3x3x3x128_2_3_1_0) shapeCasts_S3x3x3x128_S27x128)) (broadcastInDim S8x12544x128 ![0, 1, 2] bcast_S1x1x128_S8x12544x128_0_1_2 (broadcastInDim S1x1x128 ![2] bcast_S128_S1x1x128_2 b))) (broadcastInDim S8x12544x128 ![] bcast_S_S8x12544x128 (constant S_ .f32 0x00000000#32))) shapeCasts_S8x12544x128_S8x112x112x128

/-- The reference's result is those three in turn. -/
theorem res_eq (m : (ℓ : Loc nD τ sig) → Buf (Elt F) ℓ) (c : Dev nD) :
    Value.res_main_v20 m c = conv (cat (padded (m ((c.tc : Thread nD τ).loc main_arg0))))
      (m ((c.tc : Thread nD τ).loc main_arg1)) (m ((c.tc : Thread nD τ).loc main_arg2)) := rfl

/-- Images held channels first, read channels last. -/
def last (g : Vec Ideal S8x3x224x224 .f32) : (⟨4, ![8, 224, 224, 3]⟩ : Shape).Idx → EReal := fun y =>
  g (ix4 ⟨(y 0).val, (y 0).isLt⟩ ⟨(y 3).val, (y 3).isLt⟩ ⟨(y 1).val, (y 1).isLt⟩ ⟨(y 2).val, (y 2).isLt⟩)

/-- The padded image, read at a pixel. -/
theorem padded_apply (g : (⟨S8x3x224x224, .f32⟩ : BufTy).Contents (Elt Ideal)) (n : Fin 8) (r c : Fin 226) (k : Fin 3) :
    padded g (ix4 n r c k) = edge (N := 8) (H := 224) (W := 224) (C := 3) (last g) n r c k := by
  have hr := r.isLt
  have hc := c.isLt
  have hz : (FloatOps.sitofp (F := Ideal) FTy.f32 0#32 : EReal) = 0 := by
    show (((0#32 : BitVec 32).toInt : ℝ) : EReal) = 0
    simp
  pointwise [padded]
  rw [hz]
  unfold edge
  by_cases h : (1 ≤ r.val ∧ r.val - 1 < 224) ∧ 1 ≤ c.val ∧ c.val - 1 < 224
  · rw [dif_pos h, dif_pos (by omega)]
    rfl
  · rw [dif_neg h, dif_neg (by omega)]

/-- The nine images, read in the `t`-th: the padded image shifted by `t / 3` rows and `t % 3` columns. -/
theorem cat_apply (P : (⟨S8x226x226x3, .f32⟩ : BufTy).Contents (Elt Ideal)) (n : Fin 8) (i j : Fin 112) (t : Fin 9) (k : Fin 3) :
    cat P (ix4 n i j ⟨t.val * 3 + k.val, by omega⟩) = P (ix4 n ⟨2 * i + t / 3, by omega⟩ ⟨2 * j + t % 3, by omega⟩ k) := by
  have ht := t.isLt
  have hk := k.isLt
  have hi := i.isLt
  have hj := j.isLt
  have hP : ∀ (a a' b b' x x' : ℕ) (ha hb hx ha' hb' hx'), a = a' → b = b' → x = x' →
      P (ix4 n ⟨a, ha⟩ ⟨b, hb⟩ ⟨x, hx⟩) = P (ix4 n ⟨a', ha'⟩ ⟨b', hb'⟩ ⟨x', hx'⟩) := by
    intro a a' b b' x x' _ _ _ _ _ _ h h' h''
    subst h h' h''
    rfl
  pointwise [cat]
  split_ifs <;> exact hP _ _ _ _ _ _ _ _ _ _ _ _ (by omega) (by omega) (by omega)

/-- The convolution at a pixel: one sum over the nine images' channels. -/
theorem conv_apply (K : (⟨S8x112x112x27, .f32⟩ : BufTy).Contents (Elt Ideal)) (w : (⟨S128x3x3x3, .f32⟩ : BufTy).Contents (Elt Ideal))
    (b : (⟨S128, .f32⟩ : BufTy).Contents (Elt Ideal)) (n : Fin 8) (i j : Fin 112) (o : Fin 128) :
    conv K w b (ix4 n i j o) = max (∑ x : Fin 27, K (ix4 n i j x) * w (ix4 o ⟨x % 3, by omega⟩ ⟨x / 9, by omega⟩ ⟨x / 3 % 3, by omega⟩) + b (ix1 o)) (0 : EReal) := by
  pointwise [conv]

/-- The reference's result at a pixel: nine taps of the image. -/
theorem res_apply (m : (ℓ : Loc nD τ sig) → Buf (Elt Ideal) ℓ) (c : Dev nD) (n : Fin 8) (i j : Fin 112) (o : Fin 128) :
    (Value.res_main_v20 m c : Vec Ideal S8x112x112x128 .f32) (ix4 n i j o)
      = max (linAt (C := 3) (O := 128) (edge (N := 8) (H := 224) (W := 224) (C := 3) (last (m ((c.tc : Thread nD τ).loc main_arg0))) n)
          (m ((c.tc : Thread nD τ).loc main_arg1)) (m ((c.tc : Thread nD τ).loc main_arg2)) (2 * i.val) (2 * j.val) o) 0 := by
  rw [res_eq, conv_apply]
  unfold linAt
  congr 2
  rw [Fin.sum_univ_tiles 9 3 rfl, Fin.sum_univ_tiles 3 3 rfl]
  refine Finset.sum_congr rfl fun d _ => Finset.sum_congr rfl fun e _ => Finset.sum_congr rfl fun k _ => ?_
  have hd := d.isLt
  have he := e.isLt
  have hk := k.isLt
  rw [cat_apply _ n i j ⟨d.val * 3 + e.val, by omega⟩ k, padded_apply]
  have h1 : (d.val * 3 + e.val) / 3 = d.val := by omega
  have h2 : (d.val * 3 + e.val) % 3 = e.val := by omega
  have h3 : ((d.val * 3 + e.val) * 3 + k.val) % 3 = k.val := by omega
  have h4 : ((d.val * 3 + e.val) * 3 + k.val) / 9 = d.val := by omega
  have h5 : ((d.val * 3 + e.val) * 3 + k.val) / 3 % 3 = e.val := by omega
  simp only [h1, h2, h3, h4, h5]

end Cert.Reference7Ideal.Layer

end
-- ==== Proof.Value7.lean ====
/- The first strided convolution's run, and why its result is the reference's. -/
module

public import proofs.«01_k».proof.Defs
public import proofs.«01_k».proof.Proof.Region7
public import proofs.«01_k».proof.Proof.Ref7

@[expose] public section

set_option maxRecDepth 16384

noncomputable section

namespace Cert.Kernel7Ideal.Result

open Cert.Upsample Cert.Kernel7Ideal Cert.Kernel7Ideal.Gen Idealize.ShloMosaic Idealize.SL.Sem

/-- The run: the result ends at the convolution, the arguments as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v4) = Region.image m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 5).trans (Region.final m c), h.2 c⟩)
    (θ_run_and (run_main m ρ) (unchanged m ρ))

/-- The kernel call and its reference end with the same result. -/
theorem algebraic : Cert.algebraic_Kernel7Ideal_Reference7Ideal (hKernel7Ideal := Cert.Kernel7Ideal.Gen.facts)
    (hReference7Ideal := Cert.Reference7Ideal.Gen.facts) := by
  intro m g m' g' _ hm
  refine ⟨fun c => Region.image m c, run m g, (θ_run _ _ _).mono (fun _ h c => ⟨?_, (h c).2⟩) (Cert.Reference7Ideal.Value.run m' g')⟩
  rw [(h c).1]
  obtain ⟨e0, e1, e2⟩ := hm c
  funext y
  obtain ⟨n, i, j, o, rfl⟩ : ∃ n i j o, y = ix4 n i j o := ⟨y 0, y 1, y 2, y 3, by funext a; fin_cases a <;> rfl⟩
  refine (Cert.Reference7Ideal.Layer.res_apply m' c n i j o).trans ?_
  rw [e0, e1, e2]
  rfl

end Cert.Kernel7Ideal.Result

end
-- ==== Proof.lean ====
/- The claims, each from the theorem that proves it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Pre_finite2
public import proofs.«01_k».proof.Proof.Gen.Pre_finite3
public import proofs.«01_k».proof.Proof.RefFrame
public import proofs.«01_k».proof.Proof.RefRun6
public import proofs.«01_k».proof.Proof.Value2
public import proofs.«01_k».proof.Proof.Value3
public import proofs.«01_k».proof.Proof.Value4
public import proofs.«01_k».proof.Proof.Value5
public import proofs.«01_k».proof.Proof.Value6
public import proofs.«01_k».proof.Proof.Value7
public import Idealize.ShloMosaic.Adequacy
public import Idealize.ShloMosaic.Init

@[expose] public section

noncomputable section

namespace Cert.Proof

open Idealize.ShloMosaic Idealize.SL.Sem Cert.Kernel

/-- The reference of the last up-convolution keeps its arguments and leaves no semaphore raised. -/
theorem reference2_frame : Cert.quiescent_Reference2Ideal (hReference2Ideal := Cert.Reference2Ideal.Gen.facts) := fun m ρ _ =>
  (θ_run _ _ _).mono (fun r h => ⟨fun c => (h c).2, sem_eq_zero_of_no_sems (by decide) r.2⟩) (Cert.Reference2Ideal.Value.run m ρ)

/-- The reference of the first up-convolution keeps its arguments and leaves no semaphore raised. -/
theorem reference3_frame : Cert.quiescent_Reference3Ideal (hReference3Ideal := Cert.Reference3Ideal.Gen.facts) := fun m ρ _ =>
  (θ_run _ _ _).mono (fun r h => ⟨fun c => (h c).2, sem_eq_zero_of_no_sems (by decide) r.2⟩) (Cert.Reference3Ideal.Value.run m ρ)

/-- The reference of the last convolution and the losses keeps its arguments and leaves no semaphore raised. -/
theorem reference4_frame : Cert.quiescent_Reference4Ideal (hReference4Ideal := Cert.Reference4Ideal.Gen.facts) := fun m ρ _ =>
  (θ_run _ _ _).mono (fun r h => ⟨fun c => (h c).2.2.2, sem_eq_zero_of_no_sems (by decide) r.2⟩) (Cert.Reference4Ideal.Value.run m ρ)

/-- The reference of the second strided convolution keeps its arguments and leaves no semaphore raised. -/
theorem reference5_frame : Cert.quiescent_Reference5Ideal (hReference5Ideal := Cert.Reference5Ideal.Gen.facts) := fun m ρ _ =>
  (θ_run _ _ _).mono (fun r h => ⟨fun c => (h c).2, sem_eq_zero_of_no_sems (by decide) r.2⟩) (Cert.Reference5Ideal.Value.run m ρ)

/-- The reference of the first strided convolution keeps its arguments and leaves no semaphore raised. -/
theorem reference7_frame : Cert.quiescent_Reference7Ideal (hReference7Ideal := Cert.Reference7Ideal.Gen.facts) := fun m ρ _ =>
  (θ_run _ _ _).mono (fun r h => ⟨fun c => (h c).2, sem_eq_zero_of_no_sems (by decide) r.2⟩) (Cert.Reference7Ideal.Value.run m ρ)

/-- The frames of the whole kernel, of its ideal and of the reference; then, for each call taken on its own, the frames,
    the ideal form and the value claim. -/
theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Pre_finite2.Gen.facts,
  Cert.Pre_finite3.Gen.facts,
  fun m ρ _ => Cert.Kernel.Gen.frame m ρ,
  fun m ρ _ => Cert.KernelIdeal.Gen.frame m ρ,
  fun m ρ _ => Cert.ReferenceIdeal.Layers.frame m ρ,
  fun m ρ _ => Cert.Kernel2.Gen.frame m ρ,
  fun m ρ _ => Cert.Kernel2Ideal.Gen.frame m ρ,
  fun m ρ _ => Cert.Kernel2Ideal.Gen.frame m ρ,
  reference2_frame,
  fun m ρ _ => reference2_frame m ρ trivial,
  fun m ρ _ => Cert.Kernel3.Gen.frame m ρ,
  fun m ρ _ => Cert.Kernel3Ideal.Gen.frame m ρ,
  fun m ρ _ => Cert.Kernel3Ideal.Gen.frame m ρ,
  reference3_frame,
  fun m ρ _ => reference3_frame m ρ trivial,
  fun m ρ _ => Cert.Kernel4.Gen.frame m ρ,
  fun m ρ _ => Cert.Kernel4Ideal.Gen.frame m ρ,
  reference4_frame,
  fun m ρ _ => Cert.Kernel5.Gen.frame m ρ,
  fun m ρ _ => Cert.Kernel5Ideal.Gen.frame m ρ,
  reference5_frame,
  fun m ρ _ => Cert.Kernel6.Gen.frame m ρ,
  fun m ρ _ => Cert.Kernel6Ideal.Gen.frame m ρ,
  fun m ρ _ => Cert.Reference6Ideal.Layers.frame m ρ,
  fun m ρ _ => Cert.Kernel7.Gen.frame m ρ,
  fun m ρ _ => Cert.Kernel7Ideal.Gen.frame m ρ,
  reference7_frame,
  trivial,
  trivial,
  Cert.Kernel2Ideal.Result.algebraic,
  trivial,
  Cert.Kernel3Ideal.Result.algebraic,
  trivial,
  Cert.Kernel4Ideal.Result.algebraic,
  trivial,
  Cert.Kernel5Ideal.Result.algebraic,
  trivial,
  Cert.Kernel6Ideal.Result.algebraic,
  trivial,
  Cert.Kernel7Ideal.Result.algebraic⟩

end Cert.Proof

end
